-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v54_0)) (v1 : (c : Dev Cert.Kernel4Ideal.nD) → Buf (Elt Ideal) ((c.tc : Thread Cert.Kernel4Ideal.nD Cert.Kernel4Ideal.τ).loc Cert.Kernel4Ideal.main_v54_1)) (v2 : (c : Dev Cert.Kernel4Ideal.nD) → Buf (Elt Ideal) ((c.tc : Thread Cert.Kernel4Ideal.nD Cert.Kernel4Ideal.τ).loc Cert.Kernel4Ideal.main_v54_2)) (v3 : (c : Dev Cert.Kernel4Ideal.nD) → Buf (Elt Ideal) ((c.tc : Thread Cert.Kernel4Ideal.nD Cert.Kernel4Ideal.τ).loc Cert.Kernel4Ideal.main_v54_3)) (v4 : (c : Dev Cert.Kernel4Ideal.nD) → Buf (Elt Ideal) ((c.tc : Thread Cert.Kernel4Ideal.nD Cert.Kernel4Ideal.τ).loc Cert.Kernel4Ideal.main_v54_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54_0) = v0 c
          ∧ r.2.mem ((c.tc : Thread Cert.Kernel4Ideal.nD Cert.Kernel4Ideal.τ).loc Cert.Kernel4Ideal.main_v54_1) = v1 c
          ∧ r.2.mem ((c.tc : Thread Cert.Kernel4Ideal.nD Cert.Kernel4Ideal.τ).loc Cert.Kernel4Ideal.main_v54_2) = v2 c
          ∧ r.2.mem ((c.tc : Thread Cert.Kernel4Ideal.nD Cert.Kernel4Ideal.τ).loc Cert.Kernel4Ideal.main_v54_3) = v3 c
          ∧ r.2.mem ((c.tc : Thread Cert.Kernel4Ideal.nD Cert.Kernel4Ideal.τ).loc Cert.Kernel4Ideal.main_v54_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v141) = v0 c
          ∧ r.2.mem ((c.tc : Thread Cert.Reference4Ideal.nD Cert.Reference4Ideal.τ).loc Cert.Reference4Ideal.main_v144) = v1 c
          ∧ r.2.mem ((c.tc : Thread Cert.Reference4Ideal.nD Cert.Reference4Ideal.τ).loc Cert.Reference4Ideal.main_v146) = v2 c
          ∧ r.2.mem ((c.tc : Thread Cert.Reference4Ideal.nD Cert.Reference4Ideal.τ).loc Cert.Reference4Ideal.main_v147) = v3 c
          ∧ r.2.mem ((c.tc : Thread Cert.Reference4Ideal.nD Cert.Reference4Ideal.τ).loc Cert.Reference4Ideal.main_v148) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v52_0)) (v1 : (c : Dev Cert.Kernel6Ideal.nD) → Buf (Elt Ideal) ((c.tc : Thread Cert.Kernel6Ideal.nD Cert.Kernel6Ideal.τ).loc Cert.Kernel6Ideal.main_v52_1)) (v2 : (c : Dev Cert.Kernel6Ideal.nD) → Buf (Elt Ideal) ((c.tc : Thread Cert.Kernel6Ideal.nD Cert.Kernel6Ideal.τ).loc Cert.Kernel6Ideal.main_v52_2)) (v3 : (c : Dev Cert.Kernel6Ideal.nD) → Buf (Elt Ideal) ((c.tc : Thread Cert.Kernel6Ideal.nD Cert.Kernel6Ideal.τ).loc Cert.Kernel6Ideal.main_v52_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v52_0) = v0 c
          ∧ r.2.mem ((c.tc : Thread Cert.Kernel6Ideal.nD Cert.Kernel6Ideal.τ).loc Cert.Kernel6Ideal.main_v52_1) = v1 c
          ∧ r.2.mem ((c.tc : Thread Cert.Kernel6Ideal.nD Cert.Kernel6Ideal.τ).loc Cert.Kernel6Ideal.main_v52_2) = v2 c
          ∧ r.2.mem ((c.tc : Thread Cert.Kernel6Ideal.nD Cert.Kernel6Ideal.τ).loc Cert.Kernel6Ideal.main_v52_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v136) = v0 c
          ∧ r.2.mem ((c.tc : Thread Cert.Reference6Ideal.nD Cert.Reference6Ideal.τ).loc Cert.Reference6Ideal.main_v140) = v1 c
          ∧ r.2.mem ((c.tc : Thread Cert.Reference6Ideal.nD Cert.Reference6Ideal.τ).loc Cert.Reference6Ideal.main_v141) = v2 c
          ∧ r.2.mem ((c.tc : Thread Cert.Reference6Ideal.nD Cert.Reference6Ideal.τ).loc Cert.Reference6Ideal.main_v142) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_v20) = v2 c
          ∧ r.2.mem ((c.tc : Thread Cert.Reference7Ideal.nD Cert.Reference7Ideal.τ).loc Cert.Reference7Ideal.main_v21) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "mask" .f32 0xF149F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v71) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2x16x8192x128 : Shape := ⟨4, ![2, 16, 8192, 128]⟩
abbrev S2x8192x16x64 : Shape := ⟨4, ![2, 8192, 16, 64]⟩
abbrev S2x16x512x16x64 : Shape := ⟨5, ![2, 16, 512, 16, 64]⟩
abbrev S2x16x16x64x512 : Shape := ⟨5, ![2, 16, 16, 64, 512]⟩
abbrev S_ : Shape := ⟨0, ![]⟩
abbrev S2x16x16x1x512 : Shape := ⟨5, ![2, 16, 16, 1, 512]⟩
abbrev S2x16x16x15x512 : Shape := ⟨5, ![2, 16, 16, 15, 512]⟩
abbrev S2x16x16x80x512 : Shape := ⟨5, ![2, 16, 16, 80, 512]⟩
abbrev S2x16x1280x512 : Shape := ⟨4, ![2, 16, 1280, 512]⟩
abbrev S2x8192x1024 : Shape := ⟨3, ![2, 8192, 1024]⟩
abbrev S1x8x1024x128 : Shape := ⟨4, ![1, 8, 1024, 128]⟩
abbrev S1x8x8192x128 : Shape := ⟨4, ![1, 8, 8192, 128]⟩
abbrev S1x16x640x512 : Shape := ⟨4, ![1, 16, 640, 512]⟩
abbrev S1x1024x512 : Shape := ⟨3, ![1, 1024, 512]⟩
abbrev S8x1x1024 : Shape := ⟨3, ![8, 1, 1024]⟩
abbrev S8x80x1024 : Shape := ⟨3, ![8, 80, 1024]⟩
abbrev S512x512 : Shape := ⟨2, ![512, 512]⟩
abbrev S1x1x512x128 : Shape := ⟨4, ![1, 1, 512, 128]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩
abbrev S1x1x80x512 : Shape := ⟨4, ![1, 1, 80, 512]⟩
abbrev S80x512 : Shape := ⟨2, ![80, 512]⟩
abbrev S1x80x512 : Shape := ⟨3, ![1, 80, 512]⟩
abbrev S1x80x1024 : Shape := ⟨3, ![1, 80, 1024]⟩
abbrev S80x1024 : Shape := ⟨2, ![80, 1024]⟩
abbrev S64x1024 : Shape := ⟨2, ![64, 1024]⟩
abbrev S1x1024 : Shape := ⟨2, ![1, 1024]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x16x8192x128, .bf16⟩
  | .hbm, ⟨1, _⟩ => ⟨S2x16x8192x128, .bf16⟩
  | .hbm, ⟨2, _⟩ => ⟨S2x8192x16x64, .bf16⟩
  | .hbm, ⟨3, _⟩ => ⟨S2x16x512x16x64, .bf16⟩
  | .hbm, ⟨4, _⟩ => ⟨S2x16x16x64x512, .bf16⟩
  | .hbm, ⟨5, _⟩ => ⟨S_, .bf16⟩
  | .hbm, ⟨6, _⟩ => ⟨S2x16x16x1x512, .bf16⟩
  | .hbm, ⟨7, _⟩ => ⟨S_, .bf16⟩
  | .hbm, ⟨8, _⟩ => ⟨S2x16x16x15x512, .bf16⟩
  | .hbm, ⟨9, _⟩ => ⟨S2x16x16x80x512, .bf16⟩
  | .hbm, ⟨10, _⟩ => ⟨S2x16x1280x512, .bf16⟩
  | .hbm, ⟨11, _⟩ => ⟨S2x8192x1024, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x8x8192x128, .bf16⟩
  | .local _ .vmem, ⟨3, _⟩ => ⟨S1x16x640x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S8x1x1024, .f32⟩
  | .local _ .vmem, ⟨7, _⟩ => ⟨S8x80x1024, .f32⟩
  | _, _ => ⟨S2x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_7 : BitVec 32 := 1#32
  ⟨c0_i32_6, v16, c1_i32_7⟩
def k0_mult1 (i : grid0.Coords) (k0_t1 : Fin (k0_t1_loop i).trips) : BitVec 32 :=
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  v897
def k0_off1 (i : grid0.Coords) (k0_t1 : Fin (k0_t1_loop i).trips) : Fin 4 → Nat :=
  let c0_649 : Index := 0#32
  let c0_650 : Index := 0#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v899 : Index := Scalar.indexCast v898
  let c0_651 : Index := 0#32
  ![0, 0, v899.toNat, 0]
def k0_off2 (i : grid0.Coords) (k0_t1 : Fin (k0_t1_loop i).trips) : Fin 4 → Nat :=
  let c0_672 : Index := 0#32
  let c1_673 : Index := 1#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v925 : Index := Scalar.indexCast v898
  let c0_674 : Index := 0#32
  ![0, 1, v925.toNat, 0]
def k0_off3 (i : grid0.Coords) (k0_t1 : Fin (k0_t1_loop i).trips) : Fin 4 → Nat :=
  let c0_687 : Index := 0#32
  let c0_i32_6 : BitVec 32 := 0#32
  let c1_i32_7 : BitVec 32 := 1#32
  let arg9 : BitVec 32 := Scf.iv c0_i32_6 c1_i32_7 k0_t1
  let v945 : Index := Scalar.indexCast arg9
  let c0_688 : Index := 0#32
  let c0_689 : Index := 0#32
  ![0, v945.toNat, 0, 0]
def k0_off4 (i : grid0.Coords) (k0_t1 : Fin (k0_t1_loop i).trips) : Fin 4 → Nat :=
  let c0_722 : Index := 0#32
  let c2_723 : Index := 2#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v989 : Index := Scalar.indexCast v898
  let c0_724 : Index := 0#32
  ![0, 2, v989.toNat, 0]
def k0_off5 (i : grid0.Coords) (k0_t1 : Fin (k0_t1_loop i).trips) : Fin 4 → Nat :=
  let c0_737 : Index := 0#32
  let c0_i32_6 : BitVec 32 := 0#32
  let c1_i32_7 : BitVec 32 := 1#32
  let arg9 : BitVec 32 := Scf.iv c0_i32_6 c1_i32_7 k0_t1
  let v1009 : Index := Scalar.indexCast arg9
  let c80_738 : Index := 80#32
  let c0_739 : Index := 0#32
  ![0, v1009.toNat, 80, 0]
def k0_off6 (i : grid0.Coords) (k0_t1 : Fin (k0_t1_loop i).trips) : Fin 4 → Nat :=
  let c0_772 : Index := 0#32
  let c3_773 : Index := 3#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v1053 : Index := Scalar.indexCast v898
  let c0_774 : Index := 0#32
  ![0, 3, v1053.toNat, 0]
def k0_off7 (i : grid0.Coords) (k0_t1 : Fin (k0_t1_loop i).trips) : Fin 4 → Nat :=
  let c0_787 : Index := 0#32
  let c0_i32_6 : BitVec 32 := 0#32
  let c1_i32_7 : BitVec 32 := 1#32
  let arg9 : BitVec 32 := Scf.iv c0_i32_6 c1_i32_7 k0_t1
  let v1073 : Index := Scalar.indexCast arg9
  let c160_788 : Index := 160#32
  let c0_789 : Index := 0#32
  ![0, v1073.toNat, 160, 0]
def k0_off8 (i : grid0.Coords) (k0_t1 : Fin (k0_t1_loop i).trips) : Fin 4 → Nat :=
  let c0_822 : Index := 0#32
  let c4_823 : Index := 4#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v1117 : Index := Scalar.indexCast v898
  let c0_824 : Index := 0#32
  ![0, 4, v1117.toNat, 0]
def k0_off9 (i : grid0.Coords) (k0_t1 : Fin (k0_t1_loop i).trips) : Fin 4 → Nat :=
  let c0_837 : Index := 0#32
  let c0_i32_6 : BitVec 32 := 0#32
  let c1_i32_7 : BitVec 32 := 1#32
  let arg9 : BitVec 32 := Scf.iv c0_i32_6 c1_i32_7 k0_t1
  let v1137 : Index := Scalar.indexCast arg9
  let c240_838 : Index := 240#32
  let c0_839 : Index := 0#32
  ![0, v1137.toNat, 240, 0]
def k0_off10 (i : grid0.Coords) (k0_t1 : Fin (k0_t1_loop i).trips) : Fin 4 → Nat :=
  let c0_872 : Index := 0#32
  let c5_873 : Index := 5#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v1181 : Index := Scalar.indexCast v898
  let c0_874 : Index := 0#32
  ![0, 5, v1181.toNat, 0]
def k0_off11 (i : grid0.Coords) (k0_t1 : Fin (k0_t1_loop i).trips) : Fin 4 → Nat :=
  let c0_887 : Index := 0#32
  let c0_i32_6 : BitVec 32 := 0#32
  let c1_i32_7 : BitVec 32 := 1#32
  let arg9 : BitVec 32 := Scf.iv c0_i32_6 c1_i32_7 k0_t1
  let v1201 : Index := Scalar.indexCast arg9
  let c320_888 : Index := 320#32
  let c0_889 : Index := 0#32
  ![0, v1201.toNat, 320, 0]
def k0_off12 (i : grid0.Coords) (k0_t1 : Fin (k0_t1_loop i).trips) : Fin 4 → Nat :=
  let c0_922 : Index := 0#32
  let c6_923 : Index := 6#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v1245 : Index := Scalar.indexCast v898
  let c0_924 : Index := 0#32
  ![0, 6, v1245.toNat, 0]
def k0_off13 (i : grid0.Coords) (k0_t1 : Fin (k0_t1_loop i).trips) : Fin 4 → Nat :=
  let c0_937 : Index := 0#32
  let c0_i32_6 : BitVec 32 := 0#32
  let c1_i32_7 : BitVec 32 := 1#32
  let arg9 : BitVec 32 := Scf.iv c0_i32_6 c1_i32_7 k0_t1
  let v1265 : Index := Scalar.indexCast arg9
  let c400_938 : Index := 400#32
  let c0_939 : Index := 0#32
  ![0, v1265.toNat, 400, 0]
def k0_off14 (i : grid0.Coords) (k0_t1 : Fin (k0_t1_loop i).trips) : Fin 4 → Nat :=
  let c0_972 : Index := 0#32
  let c7_973 : Index := 7#32
  let c0_i32_6 : BitVec 32 := 0#32
  let c1_i32_7 : BitVec 32 := 1#32
  let arg9 : BitVec 32 := Scf.iv c0_i32_6 c1_i32_7 k0_t1
  let c512_i32_648 : BitVec 32 := 512#32
  let v897 : BitVec 32 := Scalar.muli arg9 c512_i32_648
  let v898 : BitVec 32 := v897
  let v1309 : Index := Scalar.indexCast v898
  let c0_974 : Index := 0#32
  ![0, 7, v1309.toNat, 0]
def k0_off15 (i : grid0.Coords) (k0_t1 : Fin (k0_t1_loop i).trips) : Fin 4 → Nat :=
  let c0_987 : Index := 0#32
  let c0_i32_6 : BitVec 32 := 0#32
  let c1_i32_7 : BitVec 32 := 1#32
  let arg9 : BitVec 32 := Scf.iv c0_i32_6 c1_i32_7 k0_t1
  let v1329 : Index := Scalar.indexCast arg9
  let c480_988 : Index := 480#32
  let c0_989 : Index := 0#32
  ![0, v1329.toNat, 480, 0]
def k0_off16 (i : grid0.Coords) (k0_t1 : Fin (k0_t1_loop i).trips) : Fin 4 → Nat :=
  let c0_1029 : Index := 0#32
  let c0_i32_6 : BitVec 32 := 0#32
  let c1_i32_7 : BitVec 32 := 1#32
  let arg9 : BitVec 32 := Scf.iv c0_i32_6 c1_i32_7 k0_t1
  let v1387 : Index := Scalar.indexCast arg9
  let c560_1030 : Index := 560#32
  let c0_1031 : Index := 0#32
  ![0, v1387.toNat, 560, 0]
@[reducible] def k0_t2_loop (i : grid0.Coords) : Scf.Loop 32 :=
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let v13 : BitVec 32 := Scalar.addi c0_i32_6 v12
  let c1_i32_8 : BitVec 32 := 1#32
  ⟨v16, v13, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  v897
def k0_off17 (i : grid0.Coords) (k0_t2 : Fin (k0_t2_loop i).trips) : Fin 4 → Nat :=
  let c0_649 : Index := 0#32
  let c0_650 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v899 : Index := Scalar.indexCast v898
  let c0_651 : Index := 0#32
  ![0, 0, v899.toNat, 0]
def k0_off18 (i : grid0.Coords) (k0_t2 : Fin (k0_t2_loop i).trips) : Fin 4 → Nat :=
  let c0_672 : Index := 0#32
  let c1_673 : Index := 1#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v925 : Index := Scalar.indexCast v898
  let c0_674 : Index := 0#32
  ![0, 1, v925.toNat, 0]
def k0_off19 (i : grid0.Coords) (k0_t2 : Fin (k0_t2_loop i).trips) : Fin 4 → Nat :=
  let c0_687 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v945 : Index := Scalar.indexCast arg9
  let c0_688 : Index := 0#32
  let c0_689 : Index := 0#32
  ![0, v945.toNat, 0, 0]
def k0_off20 (i : grid0.Coords) (k0_t2 : Fin (k0_t2_loop i).trips) : Fin 4 → Nat :=
  let c0_722 : Index := 0#32
  let c2_723 : Index := 2#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v989 : Index := Scalar.indexCast v898
  let c0_724 : Index := 0#32
  ![0, 2, v989.toNat, 0]
def k0_off21 (i : grid0.Coords) (k0_t2 : Fin (k0_t2_loop i).trips) : Fin 4 → Nat :=
  let c0_737 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1009 : Index := Scalar.indexCast arg9
  let c80_738 : Index := 80#32
  let c0_739 : Index := 0#32
  ![0, v1009.toNat, 80, 0]
def k0_off22 (i : grid0.Coords) (k0_t2 : Fin (k0_t2_loop i).trips) : Fin 4 → Nat :=
  let c0_772 : Index := 0#32
  let c3_773 : Index := 3#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v1053 : Index := Scalar.indexCast v898
  let c0_774 : Index := 0#32
  ![0, 3, v1053.toNat, 0]
def k0_off23 (i : grid0.Coords) (k0_t2 : Fin (k0_t2_loop i).trips) : Fin 4 → Nat :=
  let c0_787 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1073 : Index := Scalar.indexCast arg9
  let c160_788 : Index := 160#32
  let c0_789 : Index := 0#32
  ![0, v1073.toNat, 160, 0]
def k0_off24 (i : grid0.Coords) (k0_t2 : Fin (k0_t2_loop i).trips) : Fin 4 → Nat :=
  let c0_822 : Index := 0#32
  let c4_823 : Index := 4#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v1117 : Index := Scalar.indexCast v898
  let c0_824 : Index := 0#32
  ![0, 4, v1117.toNat, 0]
def k0_off25 (i : grid0.Coords) (k0_t2 : Fin (k0_t2_loop i).trips) : Fin 4 → Nat :=
  let c0_837 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1137 : Index := Scalar.indexCast arg9
  let c240_838 : Index := 240#32
  let c0_839 : Index := 0#32
  ![0, v1137.toNat, 240, 0]
def k0_off26 (i : grid0.Coords) (k0_t2 : Fin (k0_t2_loop i).trips) : Fin 4 → Nat :=
  let c0_872 : Index := 0#32
  let c5_873 : Index := 5#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v1181 : Index := Scalar.indexCast v898
  let c0_874 : Index := 0#32
  ![0, 5, v1181.toNat, 0]
def k0_off27 (i : grid0.Coords) (k0_t2 : Fin (k0_t2_loop i).trips) : Fin 4 → Nat :=
  let c0_887 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1201 : Index := Scalar.indexCast arg9
  let c320_888 : Index := 320#32
  let c0_889 : Index := 0#32
  ![0, v1201.toNat, 320, 0]
def k0_off28 (i : grid0.Coords) (k0_t2 : Fin (k0_t2_loop i).trips) : Fin 4 → Nat :=
  let c0_922 : Index := 0#32
  let c6_923 : Index := 6#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v1245 : Index := Scalar.indexCast v898
  let c0_924 : Index := 0#32
  ![0, 6, v1245.toNat, 0]
def k0_off29 (i : grid0.Coords) (k0_t2 : Fin (k0_t2_loop i).trips) : Fin 4 → Nat :=
  let c0_937 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1265 : Index := Scalar.indexCast arg9
  let c400_938 : Index := 400#32
  let c0_939 : Index := 0#32
  ![0, v1265.toNat, 400, 0]
def k0_off30 (i : grid0.Coords) (k0_t2 : Fin (k0_t2_loop i).trips) : Fin 4 → Nat :=
  let c0_972 : Index := 0#32
  let c7_973 : Index := 7#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let c512_i32_648 : BitVec 32 := 512#32
  let v897 : BitVec 32 := Scalar.muli arg9 c512_i32_648
  let v898 : BitVec 32 := v897
  let v1309 : Index := Scalar.indexCast v898
  let c0_974 : Index := 0#32
  ![0, 7, v1309.toNat, 0]
def k0_off31 (i : grid0.Coords) (k0_t2 : Fin (k0_t2_loop i).trips) : Fin 4 → Nat :=
  let c0_987 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1329 : Index := Scalar.indexCast arg9
  let c480_988 : Index := 480#32
  let c0_989 : Index := 0#32
  ![0, v1329.toNat, 480, 0]
def k0_off32 (i : grid0.Coords) (k0_t2 : Fin (k0_t2_loop i).trips) : Fin 4 → Nat :=
  let c0_1029 : Index := 0#32
  let c0_i32_6 : BitVec 32 := 0#32
  let arg2 : BitVec 32 := BitVec.ofNat 32 (i 2).val
  let c2_i32 : BitVec 32 := 2#32
  let v11 : BitVec 32 := Scalar.muli arg2 c2_i32
  let v12 : BitVec 32 := Scalar.subi v11 c0_i32_6
  let c1_i32 : BitVec 32 := 1#32
  let v14 : BitVec 32 := Scalar.divsi v12 c1_i32
  let v15 : BitVec 32 := Scalar.muli v14 c1_i32
  let v16 : BitVec 32 := Scalar.addi c0_i32_6 v15
  let c1_i32_8 : BitVec 32 := 1#32
  let arg9 : BitVec 32 := Scf.iv v16 c1_i32_8 k0_t2
  let v1387 : Index := Scalar.indexCast arg9
  let c560_1030 : Index := 560#32
  let c0_1031 : Index := 0#32
  ![0, v1387.toNat, 560, 0]
def k0_mult3 (i : grid0.Coords) : BitVec 32 :=
  let arg2 : BitVec 32 := BitVec.ofNat 32 (i 2).val
  let c2_i32_9 : BitVec 32 := 2#32
  let v17 : BitVec 32 := Scalar.muli arg2 c2_i32_9
  let c0_i32_10 : BitVec 32 := 0#32
  let v18 : BitVec 32 := Scalar.addi v17 c0_i32_10
  let c512_i32 : BitVec 32 := 512#32
  let v19 : BitVec 32 := Scalar.muli v18 c512_i32
  v19
def k0_off33 (i : grid0.Coords) (c0_i32_10 : BitVec 32) : Fin 4 → Nat :=
  let c0_11 : Index := 0#32
  let c0_12 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v21 : Index := Scalar.indexCast v20
  let c0_13 : Index := 0#32
  ![0, 0, v21.toNat, 0]
def k0_off34 (i : grid0.Coords) (c0_i32_10 : BitVec 32) : Fin 4 → Nat :=
  let c0_34 : Index := 0#32
  let c1 : Index := 1#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v49 : Index := Scalar.indexCast v20
  let c0_35 : Index := 0#32
  ![0, 1, v49.toNat, 0]
def k0_off35 (i : grid0.Coords) (c0_i32_10 : BitVec 32) : Fin 4 → Nat :=
  let c0_49 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v71 : Index := Scalar.indexCast v18
  let c0_50 : Index := 0#32
  let c0_51 : Index := 0#32
  ![0, v71.toNat, 0, 0]
def k0_off36 (i : grid0.Coords) (c0_i32_10 : BitVec 32) : Fin 4 → Nat :=
  let c0_84 : Index := 0#32
  let c2 : Index := 2#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v115 : Index := Scalar.indexCast v20
  let c0_85 : Index := 0#32
  ![0, 2, v115.toNat, 0]
def k0_off37 (i : grid0.Coords) (c0_i32_10 : BitVec 32) : Fin 4 → Nat :=
  let c0_99 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v137 : Index := Scalar.indexCast v18
  let c80 : Index := 80#32
  let c0_100 : Index := 0#32
  ![0, v137.toNat, 80, 0]
def k0_off38 (i : grid0.Coords) (c0_i32_10 : BitVec 32) : Fin 4 → Nat :=
  let c0_133 : Index := 0#32
  let c3 : Index := 3#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v181 : Index := Scalar.indexCast v20
  let c0_134 : Index := 0#32
  ![0, 3, v181.toNat, 0]
def k0_off39 (i : grid0.Coords) (c0_i32_10 : BitVec 32) : Fin 4 → Nat :=
  let c0_148 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v203 : Index := Scalar.indexCast v18
  let c160 : Index := 160#32
  let c0_149 : Index := 0#32
  ![0, v203.toNat, 160, 0]
def k0_off40 (i : grid0.Coords) (c0_i32_10 : BitVec 32) : Fin 4 → Nat :=
  let c0_182 : Index := 0#32
  let c4 : Index := 4#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v247 : Index := Scalar.indexCast v20
  let c0_183 : Index := 0#32
  ![0, 4, v247.toNat, 0]
def k0_off41 (i : grid0.Coords) (c0_i32_10 : BitVec 32) : Fin 4 → Nat :=
  let c0_197 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v269 : Index := Scalar.indexCast v18
  let c240 : Index := 240#32
  let c0_198 : Index := 0#32
  ![0, v269.toNat, 240, 0]
def k0_off42 (i : grid0.Coords) (c0_i32_10 : BitVec 32) : Fin 4 → Nat :=
  let c0_231 : Index := 0#32
  let c5 : Index := 5#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v313 : Index := Scalar.indexCast v20
  let c0_232 : Index := 0#32
  ![0, 5, v313.toNat, 0]
def k0_off43 (i : grid0.Coords) (c0_i32_10 : BitVec 32) : Fin 4 → Nat :=
  let c0_246 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v335 : Index := Scalar.indexCast v18
  let c320 : Index := 320#32
  let c0_247 : Index := 0#32
  ![0, v335.toNat, 320, 0]
def k0_off44 (i : grid0.Coords) (c0_i32_10 : BitVec 32) : Fin 4 → Nat :=
  let c0_280 : Index := 0#32
  let c6 : Index := 6#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v379 : Index := Scalar.indexCast v20
  let c0_281 : Index := 0#32
  ![0, 6, v379.toNat, 0]
def k0_off45 (i : grid0.Coords) (c0_i32_10 : BitVec 32) : Fin 4 → Nat :=
  let c0_295 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v401 : Index := Scalar.indexCast v18
  let c400 : Index := 400#32
  let c0_296 : Index := 0#32
  ![0, v401.toNat, 400, 0]
def k0_off46 (i : grid0.Coords) (c0_i32_10 : BitVec 32) : Fin 4 → Nat :=
  let c0_329 : Index := 0#32
  let c7 : Index := 7#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let c512_i32 : BitVec 32 := 512#32
  let v19 : BitVec 32 := Scalar.muli v18 c512_i32
  let v20 : BitVec 32 := v19
  let v445 : Index := Scalar.indexCast v20
  let c0_330 : Index := 0#32
  ![0, 7, v445.toNat, 0]
def k0_off47 (i : grid0.Coords) (c0_i32_10 : BitVec 32) : Fin 4 → Nat :=
  let c0_344 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v467 : Index := Scalar.indexCast v18
  let c480 : Index := 480#32
  let c0_345 : Index := 0#32
  ![0, v467.toNat, 480, 0]
def k0_off48 (i : grid0.Coords) (c0_i32_10 : BitVec 32) : Fin 4 → Nat :=
  let c0_385 : Index := 0#32
  let arg2 : BitVec 32 := BitVec.ofNat 32 (i 2).val
  let c2_i32_9 : BitVec 32 := 2#32
  let v17 : BitVec 32 := Scalar.muli arg2 c2_i32_9
  let v18 : BitVec 32 := Scalar.addi v17 c0_i32_10
  let v525 : Index := Scalar.indexCast v18
  let c560 : Index := 560#32
  let c0_386 : Index := 0#32
  ![0, v525.toNat, 560, 0]
def k0_mult4 (i : grid0.Coords) : BitVec 32 :=
  let arg2 : BitVec 32 := BitVec.ofNat 32 (i 2).val
  let c2_i32_404 : BitVec 32 := 2#32
  let v549 : BitVec 32 := Scalar.muli arg2 c2_i32_404
  let c1_i32_405 : BitVec 32 := 1#32
  let v550 : BitVec 32 := Scalar.addi v549 c1_i32_405
  let c512_i32_406 : BitVec 32 := 512#32
  let v551 : BitVec 32 := Scalar.muli v550 c512_i32_406
  v551
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x16x640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x8192x128 : Shape := ⟨4, ![2, 16, 8192, 128]⟩
abbrev S2x8192x16x64 : Shape := ⟨4, ![2, 8192, 16, 64]⟩
abbrev S2x16x8192x8192 : Shape := ⟨4, ![2, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x16x8192 : Shape := ⟨3, ![2, 16, 8192]⟩
abbrev S2x16x8192x1 : Shape := ⟨4, ![2, 16, 8192, 1]⟩
abbrev S2x16x64x8192 : Shape := ⟨4, ![2, 16, 64, 8192]⟩
abbrev S2x8192x16 : Shape := ⟨3, ![2, 8192, 16]⟩
abbrev S2x8192x16x1 : Shape := ⟨4, ![2, 8192, 16, 1]⟩
abbrev S2x8192x1024 : Shape := ⟨3, ![2, 8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x16x8192x128, .bf16⟩
  | .hbm, ⟨1, _⟩ => ⟨S2x16x8192x128, .bf16⟩
  | .hbm, ⟨2, _⟩ => ⟨S2x8192x16x64, .bf16⟩
  | .hbm, ⟨3, _⟩ => ⟨S2x16x8192x128, .f32⟩
  | .hbm, ⟨4, _⟩ => ⟨S2x16x8192x128, .f32⟩
  | .hbm, ⟨5, _⟩ => ⟨S2x16x8192x8192, .f32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S_, .f32⟩
  | .hbm, ⟨13, _⟩ => ⟨S_, .f32⟩
  | .hbm, ⟨14, _⟩ => ⟨S2x16x8192x8192, .i1⟩
  | .hbm, ⟨15, _⟩ => ⟨S2x16x8192x8192, .f32⟩
  | .hbm, ⟨16, _⟩ => ⟨S2x16x8192x8192, .f32⟩
  | .hbm, ⟨17, _⟩ => ⟨S_, .f32⟩
  | .hbm, ⟨18, _⟩ => ⟨S2x16x8192, .f32⟩
  | .hbm, ⟨19, _⟩ => ⟨S2x16x8192x1, .f32⟩
  | .hbm, ⟨20, _⟩ => ⟨S2x16x8192x8192, .f32⟩
  | .hbm, ⟨21, _⟩ => ⟨S2x16x8192x8192, .f32⟩
  | .hbm, ⟨22, _⟩ => ⟨S_, .f32⟩
  | .hbm, ⟨23, _⟩ => ⟨S2x16x8192x8192, .f32⟩
  | .hbm, ⟨24, _⟩ => ⟨S2x16x8192x8192, .f32⟩
  | .hbm, ⟨25, _⟩ => ⟨S2x8192x16x64, .f32⟩
  | .hbm, ⟨26, _⟩ => ⟨S2x16x64x8192, .f32⟩
  | .hbm, ⟨27, _⟩ => ⟨S2x8192x16x64, .f32⟩
  | .hbm, ⟨28, _⟩ => ⟨S_, .f32⟩
  | .hbm, ⟨29, _⟩ => ⟨S2x16x8192, .f32⟩
  | .hbm, ⟨30, _⟩ => ⟨S2x8192x16, .f32⟩
  | .hbm, ⟨31, _⟩ => ⟨S2x8192x16x1, .f32⟩
  | .hbm, ⟨32, _⟩ => ⟨S2x8192x16x64, .f32⟩
  | .hbm, ⟨33, _⟩ => ⟨S2x8192x16x64, .f32⟩
  | .hbm, ⟨34, _⟩ => ⟨S2x8192x1024, .f32⟩
  | .hbm, ⟨35, _⟩ => ⟨S2x8192x1024, .bf16⟩
  | _, _ => ⟨S2x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel2.lean ====
abbrev S2x8192x1024 : Shape := ⟨3, ![2, 8192, 1024]⟩
abbrev S16384x1024 : Shape := ⟨2, ![16384, 1024]⟩
abbrev S2x2x8192x256 : Shape := ⟨4, ![2, 2, 8192, 256]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S2x16384x256 : Shape := ⟨3, ![2, 16384, 256]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x512x256 : Shape := ⟨3, ![1, 512, 256]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩
abbrev S512x256 : Shape := ⟨2, ![512, 256]⟩
abbrev S256x1024 : Shape := ⟨2, ![256, 1024]⟩

abbrev nBuf : Space → Nat
  | .hbm => 35
  | .vmem => 18
  | .smem => 0
  | _ => 0

abbrev bufTy : (tb : Table) → Fin (tcTables nBuf tb) → BufTy
  | .hbm, ⟨0, _⟩ => ⟨S2x8192x1024, .bf16⟩
  | .hbm, ⟨1, _⟩ => ⟨S16384x1024, .f32⟩
  | .hbm, ⟨2, _⟩ => ⟨S2x2x8192x256, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x256x1024, .f32⟩
  | .hbm, ⟨11, _⟩ => ⟨S2x1024x1024, .f32⟩
  | .hbm, ⟨12, _⟩ => ⟨S2x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S2x256x1024, .bf16⟩
  | .hbm, ⟨17, _⟩ => ⟨S2x1024x1024, .bf16⟩
  | .hbm, ⟨18, _⟩ => ⟨S16384x1024, .bf16⟩
  | .hbm, ⟨19, _⟩ => ⟨S2x16384x256, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x256x1024, .bf16⟩
  | .local _ .vmem, ⟨14, _⟩ => ⟨S1x1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S16384x1024 : Shape := ⟨2, ![16384, 1024]⟩
abbrev S2x2x8192x256 : Shape := ⟨4, ![2, 2, 8192, 256]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩

abbrev nBuf : Space → Nat
  | .hbm => 129
  | .vmem => 0
  | .smem => 0
  | _ => 0

abbrev hbmTy0_0 (i : Nat) : BufTy := match i % 128 with
  | 0 => ⟨S2x8192x1024, .bf16⟩
  | 1 => ⟨S16384x1024, .f32⟩
  | 2 => ⟨S2x2x8192x256, .f32⟩
  | 3 => ⟨S1x1024x1024, .f32⟩
  | 4 => ⟨S2x1024, .f32⟩
  | 5 => ⟨S2x1024, .f32⟩
  | 6 => ⟨S2x1024x2816, .f32⟩
  | 7 => ⟨S2x1024x2816, .f32⟩
  | 8 => ⟨S2x2816x1024, .f32⟩
  | 9 => ⟨S2x1024, .f32⟩
  | 10 => ⟨S2x256x1024, .f32⟩
  | 11 => ⟨S2x1024x1024, .f32⟩
  | 12 => ⟨S2x1024, .f32⟩
  | 13 => ⟨S2x8192x1024, .f32⟩
  | 14 => ⟨S2x8192x1024, .f32⟩
  | 15 => ⟨S1024x1024, .f32⟩
  | 16 => ⟨S2x8192x1024, .f32⟩
  | 17 => ⟨S1x1024, .f32⟩
  | 18 => ⟨S1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S2x8192x1024, .f32⟩
  | 36 => ⟨S1x1024, .f32⟩
  | 37 => ⟨S1024, .f32⟩
  | 38 => ⟨S2x8192x1024, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x1024, .f32⟩
  | 50 => ⟨S2x8192x1024, .f32⟩
  | 51 => ⟨S1x1x1024, .f32⟩
  | 52 => ⟨S2x8192x1024, .f32⟩
  | 53 => ⟨S2x8192x1024, .f32⟩
  | 54 => ⟨S1x1024x2816, .f32⟩
  | 55 => ⟨S1024x2816, .f32⟩
  | 56 => ⟨S2x8192x2816, .f32⟩
  | 57 => ⟨S2x8192x2816, .f32⟩
  | 58 => ⟨S2x8192x2816, .f32⟩
  | 59 => ⟨S_, .f32⟩
  | 60 => ⟨S2x8192x2816, .f32⟩
  | 61 => ⟨S2x8192x2816, .f32⟩
  | 62 => ⟨S_, .f32⟩
  | 63 => ⟨S2x8192x2816, .f32⟩
  | 64 => ⟨S2x8192x2816, .f32⟩
  | 65 => ⟨S2x8192x2816, .f32⟩
  | 66 => ⟨S1x1024x2816, .f32⟩
  | 67 => ⟨S1024x2816, .f32⟩
  | 68 => ⟨S2x8192x2816, .f32⟩
  | 69 => ⟨S2x8192x2816, .f32⟩
  | 70 => ⟨S1x2816x1024, .f32⟩
  | 71 => ⟨S2816x1024, .f32⟩
  | 72 => ⟨S2x8192x1024, .f32⟩
  | 73 => ⟨S1x1024, .f32⟩
  | 74 => ⟨S1024, .f32⟩
  | 75 => ⟨S2x8192x1024, .f32⟩
  | 76 => ⟨S_, .f32⟩
  | 77 => ⟨S2x8192, .f32⟩
  | 78 => ⟨S2x8192x1, .f32⟩
  | 79 => ⟨S_, .f32⟩
  | 80 => ⟨S2x8192x1, .f32⟩
  | 81 => ⟨S2x8192x1, .f32⟩
  | 82 => ⟨S_, .f32⟩
  | 83 => ⟨S2x8192x1, .f32⟩
  | 84 => ⟨S2x8192x1, .f32⟩
  | 85 => ⟨S2x8192x1, .f32⟩
  | 86 => ⟨S2x8192x1024, .f32⟩
  | 87 => ⟨S2x8192x1024, .f32⟩
  | 88 => ⟨S1x1x1024, .f32⟩
  | 89 => ⟨S2x8192x1024, .f32⟩
  | 90 => ⟨S2x8192x1024, .f32⟩
  | 91 => ⟨S2x8192x1024, .f32⟩
  | 92 => ⟨S1x2x8192x256, .f32⟩
  | 93 => ⟨S2x8192x256, .f32⟩
  | 94 => ⟨S1x256x1024, .f32⟩
  | 95 => ⟨S256x1024, .f32⟩
  | 96 => ⟨S2x8192x1024, .f32⟩
  | 97 => ⟨S1x1024x1024, .f32⟩
  | 98 => ⟨S1024x1024, .f32⟩
  | 99 => ⟨S2x8192x1024, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S_, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S2x8192x1024, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S_, .f32⟩
  | 119 => ⟨S2x8192x1, .f32⟩
  | 120 => ⟨S2x8192x1, .f32⟩
  | 121 => ⟨S2x8192x1, .f32⟩
  | 122 => ⟨S2x8192x1024, .f32⟩
  | 123 => ⟨S2x8192x1024, .f32⟩
  | 124 => ⟨S1x1x1024, .f32⟩
  | 125 => ⟨S2x8192x1024, .f32⟩
  | 126 => ⟨S2x8192x1024, .f32⟩
  | 127 => ⟨S2x8192x1024, .f32⟩
  | _ => ⟨S2x8192x1024, .bf16⟩

abbrev hbmTy0_1 (i : Nat) : BufTy := match i % 128 with
  | 0 => ⟨S16384x1024, .f32⟩
  | _ => ⟨S2x8192x1024, .bf16⟩

abbrev hbmTy (i : Nat) : BufTy := match i / 128 with
  | 0 => hbmTy0_0 i
  | 1 => hbmTy0_1 i
  | _ => ⟨S2x8192x1024, .bf16⟩

abbrev bufTy : (tb : Table) → Fin (tcTables nBuf tb) → BufTy
  | .hbm, ⟨i, _⟩ => hbmTy i
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_10 : Ref sig .tc := ⟨.hbm, 112, rfl⟩
abbrev main_v80 : Ref sig .tc := ⟨.hbm, 113, rfl⟩
abbrev main_v81 : Ref sig .tc := ⟨.hbm, 114, rfl⟩
abbrev main_cst_11 : Ref sig .tc := ⟨.hbm, 115, rfl⟩
abbrev main_v82 : Ref sig .tc := ⟨.hbm, 116, rfl⟩
abbrev main_v83 : Ref sig .tc := ⟨.hbm, 117, rfl⟩
abbrev main_cst_12 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024 : Shape := ⟨2, ![2, 1024]⟩
abbrev S1x1024x2816 : Shape := ⟨3, ![1, 1024, 2816]⟩
abbrev S16384x1024 : Shape := ⟨2, ![16384, 1024]⟩
abbrev S1x1024 : Shape := ⟨2, ![1, 1024]⟩
abbrev S1024 : Shape := ⟨1, ![1024]⟩
abbrev S1024x2816 : Shape := ⟨2, ![1024, 2816]⟩
abbrev S16384x512 : Shape := ⟨2, ![16384, 512]⟩
abbrev S16384x128 : Shape := ⟨2, ![16384, 128]⟩
abbrev S16384x2048 : Shape := ⟨2, ![16384, 2048]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩
abbrev S1024x2048 : Shape := ⟨2, ![1024, 2048]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x2816, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S16384x512, .bf16⟩
  | .hbm, ⟨10, _⟩ => ⟨S16384x128, .f32⟩
  | .hbm, ⟨11, _⟩ => ⟨S16384x128, .f32⟩
  | .hbm, ⟨12, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2x8192x2816 : Shape := ⟨3, ![2, 8192, 2816]⟩
abbrev S16384x2816 : Shape := ⟨2, ![16384, 2816]⟩
abbrev S16384x512 : Shape := ⟨2, ![16384, 512]⟩
abbrev S16384x128 : Shape := ⟨2, ![16384, 128]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x2816, .f32⟩
  | .hbm, ⟨22, _⟩ => ⟨S2x8192x2816, .f32⟩
  | .hbm, ⟨23, _⟩ => ⟨S16384x2816, .f32⟩
  | .hbm, ⟨24, _⟩ => ⟨S16384x512, .f32⟩
  | .hbm, ⟨25, _⟩ => ⟨S16384x128, .f32⟩
  | .hbm, ⟨26, _⟩ => ⟨S16384x128, .f32⟩
  | .hbm, ⟨27, _⟩ => ⟨S16384x2048, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S1x1024x512 : Shape := ⟨3, ![1, 1024, 512]⟩
abbrev S1x512 : Shape := ⟨2, ![1, 512]⟩
abbrev S1x512x1536 : Shape := ⟨3, ![1, 512, 1536]⟩
abbrev S1x1024x288 : Shape := ⟨3, ![1, 1024, 288]⟩
abbrev S1x256 : Shape := ⟨2, ![1, 256]⟩
abbrev S1x256x16x64 : Shape := ⟨4, ![1, 256, 16, 64]⟩
abbrev S512x1536 : Shape := ⟨2, ![512, 1536]⟩
abbrev S1024x288 : Shape := ⟨2, ![1024, 288]⟩
abbrev S256x16x64 : Shape := ⟨3, ![256, 16, 64]⟩
abbrev S512x16x96 : Shape := ⟨3, ![512, 16, 96]⟩
abbrev S_ : Shape := ⟨0, ![]⟩
abbrev S512x16x128 : Shape := ⟨3, ![512, 16, 128]⟩
abbrev S512x2048 : Shape := ⟨2, ![512, 2048]⟩
abbrev S1024x256 : Shape := ⟨2, ![1024, 256]⟩
abbrev S1024x32 : Shape := ⟨2, ![1024, 32]⟩
abbrev S1024x128 : Shape := ⟨2, ![1024, 128]⟩
abbrev S1024x384 : Shape := ⟨2, ![1024, 384]⟩
abbrev S256x16x128 : Shape := ⟨3, ![256, 16, 128]⟩
abbrev S256x2048 : Shape := ⟨2, ![256, 2048]⟩
abbrev S16x64x256 : Shape := ⟨3, ![16, 64, 256]⟩
abbrev S16x80x256 : Shape := ⟨3, ![16, 80, 256]⟩
abbrev S1280x256 : Shape := ⟨2, ![1280, 256]⟩
abbrev S80 : Shape := ⟨1, ![80]⟩
abbrev S1x80 : Shape := ⟨2, ![1, 80]⟩
abbrev S16x80 : Shape := ⟨2, ![16, 80]⟩
abbrev S1280 : Shape := ⟨1, ![1280]⟩
abbrev S1280x1 : Shape := ⟨2, ![1280, 1]⟩
abbrev S16 : Shape := ⟨1, ![16]⟩
abbrev S32 : Shape := ⟨1, ![32]⟩
abbrev S1x32 : Shape := ⟨2, ![1, 32]⟩
abbrev S1x128 : Shape := ⟨2, ![1, 128]⟩
abbrev S1x1024 : Shape := ⟨2, ![1, 1024]⟩
abbrev S1024 : Shape := ⟨1, ![1024]⟩
abbrev S1024x512 : Shape := ⟨2, ![1024, 512]⟩
abbrev S512 : Shape := ⟨1, ![512]⟩
abbrev S256 : Shape := ⟨1, ![256]⟩
abbrev S2x16x8192x128 : Shape := ⟨4, ![2, 16, 8192, 128]⟩
abbrev S2x16x1280x512 : Shape := ⟨4, ![2, 16, 1280, 512]⟩
abbrev S16384x256 : Shape := ⟨2, ![16384, 256]⟩
abbrev S16384x32 : Shape := ⟨2, ![16384, 32]⟩
abbrev S512x1024 : Shape := ⟨2, ![512, 1024]⟩
abbrev S1x16x512x128 : Shape := ⟨4, ![1, 16, 512, 128]⟩
abbrev S1x1x1280x512 : Shape := ⟨4, ![1, 1, 1280, 512]⟩
abbrev S512x256 : Shape := ⟨2, ![512, 256]⟩
abbrev S512x32 : Shape := ⟨2, ![512, 32]⟩
abbrev S512x1 : Shape := ⟨2, ![512, 1]⟩
abbrev S512x128 : Shape := ⟨2, ![512, 128]⟩
abbrev S512x512 : Shape := ⟨2, ![512, 512]⟩
abbrev S512x384 : Shape := ⟨2, ![512, 384]⟩
abbrev S1280x512 : Shape := ⟨2, ![1280, 512]⟩
abbrev S1x1x512x128 : Shape := ⟨4, ![1, 1, 512, 128]⟩
abbrev S256x128 : Shape := ⟨2, ![256, 128]⟩

abbrev nBuf : Space → Nat
  | .hbm => 86
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x512, .f32⟩
  | .hbm, ⟨3, _⟩ => ⟨S1x512, .f32⟩
  | .hbm, ⟨4, _⟩ => ⟨S1x512x1536, .f32⟩
  | .hbm, ⟨5, _⟩ => ⟨S1x1024x288, .f32⟩
  | .hbm, ⟨6, _⟩ => ⟨S1x256, .f32⟩
  | .hbm, ⟨7, _⟩ => ⟨S1x256x16x64, .f32⟩
  | .hbm, ⟨8, _⟩ => ⟨S1x256x16x64, .f32⟩
  | .hbm, ⟨9, _⟩ => ⟨S512x1536, .f32⟩
  | .hbm, ⟨10, _⟩ => ⟨S1024x288, .f32⟩
  | .hbm, ⟨11, _⟩ => ⟨S256x16x64, .f32⟩
  | .hbm, ⟨12, _⟩ => ⟨S256x16x64, .f32⟩
  | .hbm, ⟨13, _⟩ => ⟨S512x16x96, .f32⟩
  | .hbm, ⟨14, _⟩ => ⟨S_, .i32⟩
  | .hbm, ⟨15, _⟩ => ⟨S_, .f32⟩
  | .hbm, ⟨16, _⟩ => ⟨S512x16x128, .f32⟩
  | .hbm, ⟨17, _⟩ => ⟨S512x2048, .f32⟩
  | .hbm, ⟨18, _⟩ => ⟨S512x2048, .bf16⟩
  | .hbm, ⟨19, _⟩ => ⟨S1024x256, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x384, .f32⟩
  | .hbm, ⟨25, _⟩ => ⟨S1024x384, .bf16⟩
  | .hbm, ⟨26, _⟩ => ⟨S_, .i32⟩
  | .hbm, ⟨27, _⟩ => ⟨S_, .f32⟩
  | .hbm, ⟨28, _⟩ => ⟨S256x16x128, .f32⟩
  | .hbm, ⟨29, _⟩ => ⟨S256x2048, .f32⟩
  | .hbm, ⟨30, _⟩ => ⟨S256x2048, .bf16⟩
  | .hbm, ⟨31, _⟩ => ⟨S16x64x256, .f32⟩
  | .hbm, ⟨32, _⟩ => ⟨S_, .i32⟩
  | .hbm, ⟨33, _⟩ => ⟨S_, .f32⟩
  | .hbm, ⟨34, _⟩ => ⟨S16x80x256, .f32⟩
  | .hbm, ⟨35, _⟩ => ⟨S1280x256, .f32⟩
  | .hbm, ⟨36, _⟩ => ⟨S1280x256, .bf16⟩
  | .hbm, ⟨37, _⟩ => ⟨S80, .i32⟩
  | .hbm, ⟨38, _⟩ => ⟨S_, .i32⟩
  | .hbm, ⟨39, _⟩ => ⟨S80, .i32⟩
  | .hbm, ⟨40, _⟩ => ⟨S80, .i1⟩
  | .hbm, ⟨41, _⟩ => ⟨S80, .f32⟩
  | .hbm, ⟨42, _⟩ => ⟨S1x80, .f32⟩
  | .hbm, ⟨43, _⟩ => ⟨S16x80, .f32⟩
  | .hbm, ⟨44, _⟩ => ⟨S1280, .f32⟩
  | .hbm, ⟨45, _⟩ => ⟨S1280x1, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S32, .f32⟩
  | .hbm, ⟨58, _⟩ => ⟨S1x32, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S32, .f32⟩
  | .hbm, ⟨65, _⟩ => ⟨S1x32, .f32⟩
  | .hbm, ⟨66, _⟩ => ⟨S_, .i32⟩
  | .hbm, ⟨67, _⟩ => ⟨S_, .f32⟩
  | .hbm, ⟨68, _⟩ => ⟨S1x128, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1024x512, .f32⟩
  | .hbm, ⟨76, _⟩ => ⟨S1024x512, .bf16⟩
  | .hbm, ⟨77, _⟩ => ⟨S512, .f32⟩
  | .hbm, ⟨78, _⟩ => ⟨S1x512, .f32⟩
  | .hbm, ⟨79, _⟩ => ⟨S256, .f32⟩
  | .hbm, ⟨80, _⟩ => ⟨S1x256, .f32⟩
  | .hbm, ⟨81, _⟩ => ⟨S2x16x8192x128, .bf16⟩
  | .hbm, ⟨82, _⟩ => ⟨S2x16x8192x128, .bf16⟩
  | .hbm, ⟨83, _⟩ => ⟨S2x16x1280x512, .bf16⟩
  | .hbm, ⟨84, _⟩ => ⟨S16384x256, .f32⟩
  | .hbm, ⟨85, _⟩ => ⟨S16384x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S512x2048, .bf16⟩
  | .local _ .vmem, ⟨6, _⟩ => ⟨S1024x384, .bf16⟩
  | .local _ .vmem, ⟨7, _⟩ => ⟨S1x256, .f32⟩
  | .local _ .vmem, ⟨8, _⟩ => ⟨S256x2048, .bf16⟩
  | .local _ .vmem, ⟨9, _⟩ => ⟨S1280x256, .bf16⟩
  | .local _ .vmem, ⟨10, _⟩ => ⟨S1280x1, .f32⟩
  | .local _ .vmem, ⟨11, _⟩ => ⟨S1x128, .f32⟩
  | .local _ .vmem, ⟨12, _⟩ => ⟨S1x128, .f32⟩
  | .local _ .vmem, ⟨13, _⟩ => ⟨S1x16x512x128, .bf16⟩
  | .local _ .vmem, ⟨14, _⟩ => ⟨S1x16x512x128, .bf16⟩
  | .local _ .vmem, ⟨15, _⟩ => ⟨S1x16x512x128, .bf16⟩
  | .local _ .vmem, ⟨16, _⟩ => ⟨S1x16x512x128, .bf16⟩
  | .local _ .vmem, ⟨17, _⟩ => ⟨S1x1x1280x512, .bf16⟩
  | .local _ .vmem, ⟨18, _⟩ => ⟨S1x1x1280x512, .bf16⟩
  | .local _ .vmem, ⟨19, _⟩ => ⟨S512x256, .f32⟩
  | .local _ .vmem, ⟨20, _⟩ => ⟨S512x256, .f32⟩
  | .local _ .vmem, ⟨21, _⟩ => ⟨S512x32, .f32⟩
  | .local _ .vmem, ⟨22, _⟩ => ⟨S512x32, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call2_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_call4_v0 : Ref sig .tc := ⟨.hbm, 67, rfl⟩
abbrev main_v43 : Ref sig .tc := ⟨.hbm, 68, rfl⟩
abbrev main_c_9 : Ref sig .tc := ⟨.hbm, 69, rfl⟩
abbrev main_call5_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v54_2 : Ref sig .tc := ⟨.hbm, 83, rfl⟩
abbrev main_v54_3 : Ref sig .tc := ⟨.hbm, 84, rfl⟩
abbrev main_v54_4 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1280x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x16x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1280x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16384x1024 : Shape := ⟨2, ![16384, 1024]⟩
abbrev S2x1024 : Shape := ⟨2, ![2, 1024]⟩
abbrev S1x1024x512 : Shape := ⟨3, ![1, 1024, 512]⟩
abbrev S1x512 : Shape := ⟨2, ![1, 512]⟩
abbrev S1x512x1536 : Shape := ⟨3, ![1, 512, 1536]⟩
abbrev S1x1024x288 : Shape := ⟨3, ![1, 1024, 288]⟩
abbrev S1x256 : Shape := ⟨2, ![1, 256]⟩
abbrev S1x256x16x64 : Shape := ⟨4, ![1, 256, 16, 64]⟩
abbrev S2x8192x1024 : Shape := ⟨3, ![2, 8192, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x512 : Shape := ⟨2, ![1024, 512]⟩
abbrev S2x8192x512 : Shape := ⟨3, ![2, 8192, 512]⟩
abbrev S512 : Shape := ⟨1, ![512]⟩
abbrev S1x1x512 : Shape := ⟨3, ![1, 1, 512]⟩
abbrev S512x1536 : Shape := ⟨2, ![512, 1536]⟩
abbrev S2x8192x1536 : Shape := ⟨3, ![2, 8192, 1536]⟩
abbrev S2x8192x16x96 : Shape := ⟨4, ![2, 8192, 16, 96]⟩
abbrev S1024x288 : Shape := ⟨2, ![1024, 288]⟩
abbrev S2x8192x288 : Shape := ⟨3, ![2, 8192, 288]⟩
abbrev S2x8192x256 : Shape := ⟨3, ![2, 8192, 256]⟩
abbrev S256 : Shape := ⟨1, ![256]⟩
abbrev S1x1x256 : Shape := ⟨3, ![1, 1, 256]⟩
abbrev S2x8192x32 : Shape := ⟨3, ![2, 8192, 32]⟩
abbrev S2x8192x1x32 : Shape := ⟨4, ![2, 8192, 1, 32]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x1x16 : Shape := ⟨4, ![2, 8192, 1, 16]⟩
abbrev S1x8192x1x16 : Shape := ⟨4, ![1, 8192, 1, 16]⟩
abbrev S2x8192x16x64 : Shape := ⟨4, ![2, 8192, 16, 64]⟩
abbrev S2x8192x16x32 : Shape := ⟨4, ![2, 8192, 16, 32]⟩
abbrev S2x8192x16x16 : Shape := ⟨4, ![2, 8192, 16, 16]⟩
abbrev S256x16x64 : Shape := ⟨3, ![256, 16, 64]⟩
abbrev S2x8192x16x1 : Shape := ⟨4, ![2, 8192, 16, 1]⟩
abbrev S2x8192x16x15 : Shape := ⟨4, ![2, 8192, 16, 15]⟩
abbrev S2x8192x16x80 : Shape := ⟨4, ![2, 8192, 16, 80]⟩
abbrev S2x16x512x1280 : Shape := ⟨4, ![2, 16, 512, 1280]⟩
abbrev S2x8192x16x128 : Shape := ⟨4, ![2, 8192, 16, 128]⟩
abbrev S2x16x8192x128 : Shape := ⟨4, ![2, 16, 8192, 128]⟩
abbrev S2x16x1280x512 : Shape := ⟨4, ![2, 16, 1280, 512]⟩
abbrev S16384x256 : Shape := ⟨2, ![16384, 256]⟩
abbrev S16384x32 : Shape := ⟨2, ![16384, 32]⟩

abbrev nBuf : Space → Nat
  | .hbm => 180
  | .vmem => 0
  | .smem => 0
  | _ => 0

abbrev hbmTy0_0 (i : Nat) : BufTy := match i % 128 with
  | 0 => ⟨S16384x1024, .f32⟩
  | 1 => ⟨S2x1024, .f32⟩
  | 2 => ⟨S1x1024x512, .f32⟩
  | 3 => ⟨S1x512, .f32⟩
  | 4 => ⟨S1x512x1536, .f32⟩
  | 5 => ⟨S1x1024x288, .f32⟩
  | 6 => ⟨S1x256, .f32⟩
  | 7 => ⟨S1x256x16x64, .f32⟩
  | 8 => ⟨S1x256x16x64, .f32⟩
  | 9 => ⟨S2x8192x1024, .f32⟩
  | 10 => ⟨S1x1024, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S1024x512, .f32⟩
  | 29 => ⟨S2x8192x512, .f32⟩
  | 30 => ⟨S512, .f32⟩
  | 31 => ⟨S2x8192x512, .f32⟩
  | 32 => ⟨S_, .f32⟩
  | 33 => ⟨S2x8192, .f32⟩
  | 34 => ⟨S2x8192x1, .f32⟩
  | 35 => ⟨S_, .f32⟩
  | 36 => ⟨S2x8192x1, .f32⟩
  | 37 => ⟨S2x8192x1, .f32⟩
  | 38 => ⟨S_, .f32⟩
  | 39 => ⟨S2x8192x1, .f32⟩
  | 40 => ⟨S2x8192x1, .f32⟩
  | 41 => ⟨S2x8192x1, .f32⟩
  | 42 => ⟨S2x8192x512, .f32⟩
  | 43 => ⟨S2x8192x512, .f32⟩
  | 44 => ⟨S1x1x512, .f32⟩
  | 45 => ⟨S2x8192x512, .f32⟩
  | 46 => ⟨S2x8192x512, .f32⟩
  | 47 => ⟨S512x1536, .f32⟩
  | 48 => ⟨S2x8192x1536, .f32⟩
  | 49 => ⟨S2x8192x16x96, .f32⟩
  | 50 => ⟨S1024x288, .f32⟩
  | 51 => ⟨S2x8192x288, .f32⟩
  | 52 => ⟨S2x8192x256, .f32⟩
  | 53 => ⟨S256, .f32⟩
  | 54 => ⟨S2x8192x256, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S_, .f32⟩
  | 62 => ⟨S2x8192x1, .f32⟩
  | 63 => ⟨S2x8192x1, .f32⟩
  | 64 => ⟨S2x8192x1, .f32⟩
  | 65 => ⟨S2x8192x256, .f32⟩
  | 66 => ⟨S2x8192x256, .f32⟩
  | 67 => ⟨S1x1x256, .f32⟩
  | 68 => ⟨S2x8192x256, .f32⟩
  | 69 => ⟨S2x8192x256, .f32⟩
  | 70 => ⟨S2x8192x32, .f32⟩
  | 71 => ⟨S2x8192x1x32, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S8192, .i32⟩
  | 84 => ⟨S8192, .f32⟩
  | 85 => ⟨S8192x1, .f32⟩
  | 86 => ⟨S1x16, .f32⟩
  | 87 => ⟨S8192x16, .f32⟩
  | 88 => ⟨S8192x16, .f32⟩
  | 89 => ⟨S8192x16, .f32⟩
  | 90 => ⟨S8192x1x16, .f32⟩
  | 91 => ⟨S8192x1x16, .f32⟩
  | 92 => ⟨S8192x1x16, .f32⟩
  | 93 => ⟨S2x8192x1x16, .f32⟩
  | 94 => ⟨S2x8192x1x16, .f32⟩
  | 95 => ⟨S1x8192x1x16, .f32⟩
  | 96 => ⟨S2x8192x1x16, .f32⟩
  | 97 => ⟨S2x8192x1x16, .f32⟩
  | 98 => ⟨S1x8192x1x16, .f32⟩
  | 99 => ⟨S2x8192x1x16, .f32⟩
  | 100 => ⟨S2x8192x1x16, .f32⟩
  | 101 => ⟨S2x8192x1x16, .f32⟩
  | 102 => ⟨S1x8192x1x16, .f32⟩
  | 103 => ⟨S2x8192x1x16, .f32⟩
  | 104 => ⟨S2x8192x1x16, .f32⟩
  | 105 => ⟨S1x8192x1x16, .f32⟩
  | 106 => ⟨S2x8192x1x16, .f32⟩
  | 107 => ⟨S2x8192x1x16, .f32⟩
  | 108 => ⟨S2x8192x1x16, .f32⟩
  | 109 => ⟨S2x8192x1x32, .f32⟩
  | 110 => ⟨S2x8192x16x64, .f32⟩
  | 111 => ⟨S2x8192x16x32, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S8192, .i32⟩
  | 124 => ⟨S8192, .f32⟩
  | 125 => ⟨S8192x1, .f32⟩
  | 126 => ⟨S1x16, .f32⟩
  | 127 => ⟨S8192x16, .f32⟩
  | _ => ⟨S16384x1024, .f32⟩

abbrev hbmTy0_1 (i : Nat) : BufTy := match i % 128 with
  | 0 => ⟨S8192x16, .f32⟩
  | 1 => ⟨S8192x16, .f32⟩
  | 2 => ⟨S8192x1x16, .f32⟩
  | 3 => ⟨S8192x1x16, .f32⟩
  | 4 => ⟨S8192x1x16, .f32⟩
  | 5 => ⟨S2x8192x16x16, .f32⟩
  | 6 => ⟨S2x8192x16x16, .f32⟩
  | 7 => ⟨S1x8192x1x16, .f32⟩
  | 8 => ⟨S2x8192x16x16, .f32⟩
  | 9 => ⟨S2x8192x16x16, .f32⟩
  | 10 => ⟨S1x8192x1x16, .f32⟩
  | 11 => ⟨S2x8192x16x16, .f32⟩
  | 12 => ⟨S2x8192x16x16, .f32⟩
  | 13 => ⟨S2x8192x16x16, .f32⟩
  | 14 => ⟨S1x8192x1x16, .f32⟩
  | 15 => ⟨S2x8192x16x16, .f32⟩
  | 16 => ⟨S2x8192x16x16, .f32⟩
  | 17 => ⟨S1x8192x1x16, .f32⟩
  | 18 => ⟨S2x8192x16x16, .f32⟩
  | 19 => ⟨S2x8192x16x16, .f32⟩
  | 20 => ⟨S2x8192x16x16, .f32⟩
  | 21 => ⟨S2x8192x16x32, .f32⟩
  | 22 => ⟨S2x8192x16x96, .f32⟩
  | 23 => ⟨S_, .f32⟩
  | 24 => ⟨S2x8192x16x96, .f32⟩
  | 25 => ⟨S2x8192x16x96, .f32⟩
  | 26 => ⟨S256x16x64, .f32⟩
  | 27 => ⟨S2x8192x16x64, .f32⟩
  | 28 => ⟨S2x8192x16x32, .f32⟩
  | 29 => ⟨S2x8192x16x96, .f32⟩
  | 30 => ⟨S256x16x64, .f32⟩
  | 31 => ⟨S2x8192x16x64, .f32⟩
  | 32 => ⟨S_, .f32⟩
  | 33 => ⟨S2x8192x16x1, .f32⟩
  | 34 => ⟨S_, .f32⟩
  | 35 => ⟨S2x8192x16x15, .f32⟩
  | 36 => ⟨S2x8192x16x80, .f32⟩
  | 37 => ⟨S2x16x512x1280, .f32⟩
  | 38 => ⟨S_, .i32⟩
  | 39 => ⟨S_, .f32⟩
  | 40 => ⟨S2x8192x16x128, .f32⟩
  | 41 => ⟨S2x16x8192x128, .f32⟩
  | 42 => ⟨S2x16x8192x128, .bf16⟩
  | 43 => ⟨S_, .i32⟩
  | 44 => ⟨S_, .f32⟩
  | 45 => ⟨S2x8192x16x128, .f32⟩
  | 46 => ⟨S2x16x8192x128, .f32⟩
  | 47 => ⟨S2x16x8192x128, .bf16⟩
  | 48 => ⟨S2x16x1280x512, .f32⟩
  | 49 => ⟨S2x16x1280x512, .bf16⟩
  | 50 => ⟨S16384x256, .f32⟩
  | 51 => ⟨S16384x32, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_14 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_15 : Ref sig .tc := ⟨.hbm, 160, rfl⟩
abbrev main_v135 : Ref sig .tc := ⟨.hbm, 161, rfl⟩
abbrev main_cst_16 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_c : Ref sig .tc := ⟨.hbm, 166, rfl⟩
abbrev main_call0_v0 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_c_17 : Ref sig .tc := ⟨.hbm, 171, rfl⟩
abbrev main_call1_v0 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩

abbrev nD : Nat := 1
abbrev τ : Topo := Topo.v7x

variable {F : FTy → Type} [FloatOps F]
-- ==== Kernel5.lean ====
abbrev S1024x1024 : Shape := ⟨2, ![1024, 1024]⟩
abbrev S2x128x8x256 : Shape := ⟨4, ![2, 128, 8, 256]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S2x1024x256 : Shape := ⟨3, ![2, 1024, 256]⟩
abbrev S1x1024 : Shape := ⟨2, ![1, 1024]⟩
abbrev S1024 : Shape := ⟨1, ![1024]⟩
abbrev S512x1024 : Shape := ⟨2, ![512, 1024]⟩
abbrev S1x512x256 : Shape := ⟨3, ![1, 512, 256]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩
abbrev S512x256 : Shape := ⟨2, ![512, 256]⟩
abbrev S256x1024 : Shape := ⟨2, ![256, 1024]⟩

abbrev nBuf : Space → Nat
  | .hbm => 34
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S2x128x8x256, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x256x1024, .f32⟩
  | .hbm, ⟨11, _⟩ => ⟨S2x1024x1024, .f32⟩
  | .hbm, ⟨12, _⟩ => ⟨S2x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S2x256x1024, .bf16⟩
  | .hbm, ⟨17, _⟩ => ⟨S2x1024x1024, .bf16⟩
  | .hbm, ⟨18, _⟩ => ⟨S2x1024x256, .f32⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x256x1024, .bf16⟩
  | .local _ .vmem, ⟨14, _⟩ => ⟨S1x1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S1024x1024 : Shape := ⟨2, ![1024, 1024]⟩
abbrev S2x128x8x256 : Shape := ⟨4, ![2, 128, 8, 256]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x1024 : Shape := ⟨3, ![2, 1024, 1024]⟩
abbrev S128x8x1024 : Shape := ⟨3, ![128, 8, 1024]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S128x8x2816 : Shape := ⟨3, ![128, 8, 2816]⟩
abbrev S1x2816x1024 : Shape := ⟨3, ![1, 2816, 1024]⟩
abbrev S2816x1024 : Shape := ⟨2, ![2816, 1024]⟩
abbrev S1x128x8x256 : Shape := ⟨4, ![1, 128, 8, 256]⟩
abbrev S128x8x256 : Shape := ⟨3, ![128, 8, 256]⟩
abbrev S1x256x1024 : Shape := ⟨3, ![1, 256, 1024]⟩
abbrev S256x1024 : Shape := ⟨2, ![256, 1024]⟩

abbrev nBuf : Space → Nat
  | .hbm => 129
  | .vmem => 0
  | .smem => 0
  | _ => 0

abbrev hbmTy0_0 (i : Nat) : BufTy := match i % 128 with
  | 0 => ⟨S1024x1024, .f32⟩
  | 1 => ⟨S1024x1024, .f32⟩
  | 2 => ⟨S2x128x8x256, .f32⟩
  | 3 => ⟨S1x1024x1024, .f32⟩
  | 4 => ⟨S2x1024, .f32⟩
  | 5 => ⟨S2x1024, .f32⟩
  | 6 => ⟨S2x1024x2816, .f32⟩
  | 7 => ⟨S2x1024x2816, .f32⟩
  | 8 => ⟨S2x2816x1024, .f32⟩
  | 9 => ⟨S2x1024, .f32⟩
  | 10 => ⟨S2x256x1024, .f32⟩
  | 11 => ⟨S2x1024x1024, .f32⟩
  | 12 => ⟨S2x1024, .f32⟩
  | 13 => ⟨S128x8x1024, .f32⟩
  | 14 => ⟨S128x8x1024, .f32⟩
  | 15 => ⟨S1024x1024, .f32⟩
  | 16 => ⟨S128x8x1024, .f32⟩
  | 17 => ⟨S1x1024, .f32⟩
  | 18 => ⟨S1024, .f32⟩
  | 19 => ⟨S128x8x1024, .f32⟩
  | 20 => ⟨S_, .f32⟩
  | 21 => ⟨S128x8, .f32⟩
  | 22 => ⟨S128x8x1, .f32⟩
  | 23 => ⟨S_, .f32⟩
  | 24 => ⟨S128x8x1, .f32⟩
  | 25 => ⟨S128x8x1, .f32⟩
  | 26 => ⟨S_, .f32⟩
  | 27 => ⟨S128x8x1, .f32⟩
  | 28 => ⟨S128x8x1, .f32⟩
  | 29 => ⟨S128x8x1, .f32⟩
  | 30 => ⟨S128x8x1024, .f32⟩
  | 31 => ⟨S128x8x1024, .f32⟩
  | 32 => ⟨S1x1x1024, .f32⟩
  | 33 => ⟨S128x8x1024, .f32⟩
  | 34 => ⟨S128x8x1024, .f32⟩
  | 35 => ⟨S128x8x1024, .f32⟩
  | 36 => ⟨S1x1024, .f32⟩
  | 37 => ⟨S1024, .f32⟩
  | 38 => ⟨S128x8x1024, .f32⟩
  | 39 => ⟨S_, .f32⟩
  | 40 => ⟨S128x8, .f32⟩
  | 41 => ⟨S128x8x1, .f32⟩
  | 42 => ⟨S_, .f32⟩
  | 43 => ⟨S128x8x1, .f32⟩
  | 44 => ⟨S128x8x1, .f32⟩
  | 45 => ⟨S_, .f32⟩
  | 46 => ⟨S128x8x1, .f32⟩
  | 47 => ⟨S128x8x1, .f32⟩
  | 48 => ⟨S128x8x1, .f32⟩
  | 49 => ⟨S128x8x1024, .f32⟩
  | 50 => ⟨S128x8x1024, .f32⟩
  | 51 => ⟨S1x1x1024, .f32⟩
  | 52 => ⟨S128x8x1024, .f32⟩
  | 53 => ⟨S128x8x1024, .f32⟩
  | 54 => ⟨S1x1024x2816, .f32⟩
  | 55 => ⟨S1024x2816, .f32⟩
  | 56 => ⟨S128x8x2816, .f32⟩
  | 57 => ⟨S128x8x2816, .f32⟩
  | 58 => ⟨S128x8x2816, .f32⟩
  | 59 => ⟨S_, .f32⟩
  | 60 => ⟨S128x8x2816, .f32⟩
  | 61 => ⟨S128x8x2816, .f32⟩
  | 62 => ⟨S_, .f32⟩
  | 63 => ⟨S128x8x2816, .f32⟩
  | 64 => ⟨S128x8x2816, .f32⟩
  | 65 => ⟨S128x8x2816, .f32⟩
  | 66 => ⟨S1x1024x2816, .f32⟩
  | 67 => ⟨S1024x2816, .f32⟩
  | 68 => ⟨S128x8x2816, .f32⟩
  | 69 => ⟨S128x8x2816, .f32⟩
  | 70 => ⟨S1x2816x1024, .f32⟩
  | 71 => ⟨S2816x1024, .f32⟩
  | 72 => ⟨S128x8x1024, .f32⟩
  | 73 => ⟨S1x1024, .f32⟩
  | 74 => ⟨S1024, .f32⟩
  | 75 => ⟨S128x8x1024, .f32⟩
  | 76 => ⟨S_, .f32⟩
  | 77 => ⟨S128x8, .f32⟩
  | 78 => ⟨S128x8x1, .f32⟩
  | 79 => ⟨S_, .f32⟩
  | 80 => ⟨S128x8x1, .f32⟩
  | 81 => ⟨S128x8x1, .f32⟩
  | 82 => ⟨S_, .f32⟩
  | 83 => ⟨S128x8x1, .f32⟩
  | 84 => ⟨S128x8x1, .f32⟩
  | 85 => ⟨S128x8x1, .f32⟩
  | 86 => ⟨S128x8x1024, .f32⟩
  | 87 => ⟨S128x8x1024, .f32⟩
  | 88 => ⟨S1x1x1024, .f32⟩
  | 89 => ⟨S128x8x1024, .f32⟩
  | 90 => ⟨S128x8x1024, .f32⟩
  | 91 => ⟨S128x8x1024, .f32⟩
  | 92 => ⟨S1x128x8x256, .f32⟩
  | 93 => ⟨S128x8x256, .f32⟩
  | 94 => ⟨S1x256x1024, .f32⟩
  | 95 => ⟨S256x1024, .f32⟩
  | 96 => ⟨S128x8x1024, .f32⟩
  | 97 => ⟨S1x1024x1024, .f32⟩
  | 98 => ⟨S1024x1024, .f32⟩
  | 99 => ⟨S128x8x1024, .f32⟩
  | 100 => ⟨S128x8x1024, .f32⟩
  | 101 => ⟨S128x8x1024, .f32⟩
  | 102 => ⟨S_, .f32⟩
  | 103 => ⟨S128x8x1024, .f32⟩
  | 104 => ⟨S128x8x1024, .f32⟩
  | 105 => ⟨S_, .f32⟩
  | 106 => ⟨S128x8x1024, .f32⟩
  | 107 => ⟨S128x8x1024, .f32⟩
  | 108 => ⟨S128x8x1024, .f32⟩
  | 109 => ⟨S1x1024, .f32⟩
  | 110 => ⟨S1024, .f32⟩
  | 111 => ⟨S128x8x1024, .f32⟩
  | 112 => ⟨S_, .f32⟩
  | 113 => ⟨S128x8, .f32⟩
  | 114 => ⟨S128x8x1, .f32⟩
  | 115 => ⟨S_, .f32⟩
  | 116 => ⟨S128x8x1, .f32⟩
  | 117 => ⟨S128x8x1, .f32⟩
  | 118 => ⟨S_, .f32⟩
  | 119 => ⟨S128x8x1, .f32⟩
  | 120 => ⟨S128x8x1, .f32⟩
  | 121 => ⟨S128x8x1, .f32⟩
  | 122 => ⟨S128x8x1024, .f32⟩
  | 123 => ⟨S128x8x1024, .f32⟩
  | 124 => ⟨S1x1x1024, .f32⟩
  | 125 => ⟨S128x8x1024, .f32⟩
  | 126 => ⟨S128x8x1024, .f32⟩
  | 127 => ⟨S128x8x1024, .f32⟩
  | _ => ⟨S1024x1024, .f32⟩

abbrev hbmTy0_1 (i : Nat) : BufTy := match i % 128 with
  | 0 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_10 : Ref sig .tc := ⟨.hbm, 112, rfl⟩
abbrev main_v80 : Ref sig .tc := ⟨.hbm, 113, rfl⟩
abbrev main_v81 : Ref sig .tc := ⟨.hbm, 114, rfl⟩
abbrev main_cst_11 : Ref sig .tc := ⟨.hbm, 115, rfl⟩
abbrev main_v82 : Ref sig .tc := ⟨.hbm, 116, rfl⟩
abbrev main_v83 : Ref sig .tc := ⟨.hbm, 117, rfl⟩
abbrev main_cst_12 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel6.lean ====
abbrev S1024x1024 : Shape := ⟨2, ![1024, 1024]⟩
abbrev S2x1024 : Shape := ⟨2, ![2, 1024]⟩
abbrev S1x1024x512 : Shape := ⟨3, ![1, 1024, 512]⟩
abbrev S1x512 : Shape := ⟨2, ![1, 512]⟩
abbrev S1x512x1536 : Shape := ⟨3, ![1, 512, 1536]⟩
abbrev S1x1024x288 : Shape := ⟨3, ![1, 1024, 288]⟩
abbrev S1x256 : Shape := ⟨2, ![1, 256]⟩
abbrev S1x256x16x64 : Shape := ⟨4, ![1, 256, 16, 64]⟩
abbrev S512x1536 : Shape := ⟨2, ![512, 1536]⟩
abbrev S1024x288 : Shape := ⟨2, ![1024, 288]⟩
abbrev S256x16x64 : Shape := ⟨3, ![256, 16, 64]⟩
abbrev S512x16x96 : Shape := ⟨3, ![512, 16, 96]⟩
abbrev S512x16x64 : Shape := ⟨3, ![512, 16, 64]⟩
abbrev S512x16x32 : Shape := ⟨3, ![512, 16, 32]⟩
abbrev S16x512x64 : Shape := ⟨3, ![16, 512, 64]⟩
abbrev S16x512x32 : Shape := ⟨3, ![16, 512, 32]⟩
abbrev S512x16x16 : Shape := ⟨3, ![512, 16, 16]⟩
abbrev S16x64x256 : Shape := ⟨3, ![16, 64, 256]⟩
abbrev S1024x256 : Shape := ⟨2, ![1024, 256]⟩
abbrev S1024x32 : Shape := ⟨2, ![1024, 32]⟩
abbrev S1024x16 : Shape := ⟨2, ![1024, 16]⟩
abbrev S16 : Shape := ⟨1, ![16]⟩
abbrev S_ : Shape := ⟨0, ![]⟩
abbrev S32 : Shape := ⟨1, ![32]⟩
abbrev S1x32 : Shape := ⟨2, ![1, 32]⟩
abbrev S1x128 : Shape := ⟨2, ![1, 128]⟩
abbrev S1x1024 : Shape := ⟨2, ![1, 1024]⟩
abbrev S1024 : Shape := ⟨1, ![1024]⟩
abbrev S1024x512 : Shape := ⟨2, ![1024, 512]⟩
abbrev S512 : Shape := ⟨1, ![512]⟩
abbrev S256 : Shape := ⟨1, ![256]⟩
abbrev S128x128x256 : Shape := ⟨3, ![128, 128, 256]⟩
abbrev S128x128x32 : Shape := ⟨3, ![128, 128, 32]⟩
abbrev S512x1024 : Shape := ⟨2, ![512, 1024]⟩
abbrev S64x128x256 : Shape := ⟨3, ![64, 128, 256]⟩
abbrev S64x128x32 : Shape := ⟨3, ![64, 128, 32]⟩
abbrev S512x256 : Shape := ⟨2, ![512, 256]⟩
abbrev S512x32 : Shape := ⟨2, ![512, 32]⟩
abbrev S512x1 : Shape := ⟨2, ![512, 1]⟩
abbrev S512x512 : Shape := ⟨2, ![512, 512]⟩
abbrev S1x512x64 : Shape := ⟨3, ![1, 512, 64]⟩
abbrev S512x64 : Shape := ⟨2, ![512, 64]⟩
abbrev S1x64x256 : Shape := ⟨3, ![1, 64, 256]⟩
abbrev S64x256 : Shape := ⟨2, ![64, 256]⟩
abbrev S64x8x256 : Shape := ⟨3, ![64, 8, 256]⟩
abbrev S1x512x32 : Shape := ⟨3, ![1, 512, 32]⟩
abbrev S64x8x32 : Shape := ⟨3, ![64, 8, 32]⟩

abbrev nBuf : Space → Nat
  | .hbm => 73
  | .vmem => 23
  | .smem => 0
  | _ => 0

abbrev bufTy : (tb : Table) → Fin (tcTables nBuf tb) → BufTy
  | .hbm, ⟨0, _⟩ => ⟨S1024x1024, .f32⟩
  | .hbm, ⟨1, _⟩ => ⟨S2x1024, .f32⟩
  | .hbm, ⟨2, _⟩ => ⟨S1x1024x512, .f32⟩
  | .hbm, ⟨3, _⟩ => ⟨S1x512, .f32⟩
  | .hbm, ⟨4, _⟩ => ⟨S1x512x1536, .f32⟩
  | .hbm, ⟨5, _⟩ => ⟨S1x1024x288, .f32⟩
  | .hbm, ⟨6, _⟩ => ⟨S1x256, .f32⟩
  | .hbm, ⟨7, _⟩ => ⟨S1x256x16x64, .f32⟩
  | .hbm, ⟨8, _⟩ => ⟨S512x1536, .f32⟩
  | .hbm, ⟨9, _⟩ => ⟨S1024x288, .f32⟩
  | .hbm, ⟨10, _⟩ => ⟨S256x16x64, .f32⟩
  | .hbm, ⟨11, _⟩ => ⟨S512x16x96, .f32⟩
  | .hbm, ⟨12, _⟩ => ⟨S512x16x64, .f32⟩
  | .hbm, ⟨13, _⟩ => ⟨S512x16x32, .f32⟩
  | .hbm, ⟨14, _⟩ => ⟨S16x512x64, .f32⟩
  | .hbm, ⟨15, _⟩ => ⟨S16x512x64, .bf16⟩
  | .hbm, ⟨16, _⟩ => ⟨S16x512x32, .f32⟩
  | .hbm, ⟨17, _⟩ => ⟨S16x512x32, .bf16⟩
  | .hbm, ⟨18, _⟩ => ⟨S512x16x16, .f32⟩
  | .hbm, ⟨19, _⟩ => ⟨S512x16x16, .f32⟩
  | .hbm, ⟨20, _⟩ => ⟨S512x16x32, .f32⟩
  | .hbm, ⟨21, _⟩ => ⟨S16x512x32, .f32⟩
  | .hbm, ⟨22, _⟩ => ⟨S16x512x32, .bf16⟩
  | .hbm, ⟨23, _⟩ => ⟨S16x64x256, .f32⟩
  | .hbm, ⟨24, _⟩ => ⟨S16x64x256, .bf16⟩
  | .hbm, ⟨25, _⟩ => ⟨S1024x256, .f32⟩
  | .hbm, ⟨26, _⟩ => ⟨S1024x256, .bf16⟩
  | .hbm, ⟨27, _⟩ => ⟨S1024x32, .f32⟩
  | .hbm, ⟨28, _⟩ => ⟨S1024x32, .bf16⟩
  | .hbm, ⟨29, _⟩ => ⟨S1024x32, .f32⟩
  | .hbm, ⟨30, _⟩ => ⟨S1024x16, .f32⟩
  | .hbm, ⟨31, _⟩ => ⟨S1024x16, .f32⟩
  | .hbm, ⟨32, _⟩ => ⟨S1024x32, .f32⟩
  | .hbm, ⟨33, _⟩ => ⟨S1024x32, .bf16⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S32, .f32⟩
  | .hbm, ⟨46, _⟩ => ⟨S1x32, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S32, .f32⟩
  | .hbm, ⟨53, _⟩ => ⟨S1x32, .f32⟩
  | .hbm, ⟨54, _⟩ => ⟨S_, .i32⟩
  | .hbm, ⟨55, _⟩ => ⟨S_, .f32⟩
  | .hbm, ⟨56, _⟩ => ⟨S1x128, .f32⟩
  | .hbm, ⟨57, _⟩ => ⟨S_, .i32⟩
  | .hbm, ⟨58, _⟩ => ⟨S_, .f32⟩
  | .hbm, ⟨59, _⟩ => ⟨S1x128, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1024x512, .f32⟩
  | .hbm, ⟨64, _⟩ => ⟨S1024x512, .bf16⟩
  | .hbm, ⟨65, _⟩ => ⟨S512, .f32⟩
  | .hbm, ⟨66, _⟩ => ⟨S1x512, .f32⟩
  | .hbm, ⟨67, _⟩ => ⟨S256, .f32⟩
  | .hbm, ⟨68, _⟩ => ⟨S1x256, .f32⟩
  | .hbm, ⟨69, _⟩ => ⟨S128x128x256, .f32⟩
  | .hbm, ⟨70, _⟩ => ⟨S128x128x32, .f32⟩
  | .hbm, ⟨71, _⟩ => ⟨S1024x256, .f32⟩
  | .hbm, ⟨72, _⟩ => ⟨S1024x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S16x512x64, .bf16⟩
  | .local _ .vmem, ⟨6, _⟩ => ⟨S16x512x32, .bf16⟩
  | .local _ .vmem, ⟨7, _⟩ => ⟨S16x512x32, .bf16⟩
  | .local _ .vmem, ⟨8, _⟩ => ⟨S16x64x256, .bf16⟩
  | .local _ .vmem, ⟨9, _⟩ => ⟨S1024x256, .bf16⟩
  | .local _ .vmem, ⟨10, _⟩ => ⟨S1x256, .f32⟩
  | .local _ .vmem, ⟨11, _⟩ => ⟨S1024x32, .bf16⟩
  | .local _ .vmem, ⟨12, _⟩ => ⟨S1024x32, .bf16⟩
  | .local _ .vmem, ⟨13, _⟩ => ⟨S1x32, .f32⟩
  | .local _ .vmem, ⟨14, _⟩ => ⟨S1x32, .f32⟩
  | .local _ .vmem, ⟨15, _⟩ => ⟨S64x128x256, .f32⟩
  | .local _ .vmem, ⟨16, _⟩ => ⟨S64x128x256, .f32⟩
  | .local _ .vmem, ⟨17, _⟩ => ⟨S64x128x32, .f32⟩
  | .local _ .vmem, ⟨18, _⟩ => ⟨S64x128x32, .f32⟩
  | .local _ .vmem, ⟨19, _⟩ => ⟨S512x256, .f32⟩
  | .local _ .vmem, ⟨20, _⟩ => ⟨S512x256, .f32⟩
  | .local _ .vmem, ⟨21, _⟩ => ⟨S512x32, .f32⟩
  | .local _ .vmem, ⟨22, _⟩ => ⟨S512x32, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩
abbrev main_c_4 : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev main_v52_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x128x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S1024x1024 : Shape := ⟨2, ![1024, 1024]⟩
abbrev S2x1024 : Shape := ⟨2, ![2, 1024]⟩
abbrev S1x1024x512 : Shape := ⟨3, ![1, 1024, 512]⟩
abbrev S1x512 : Shape := ⟨2, ![1, 512]⟩
abbrev S1x512x1536 : Shape := ⟨3, ![1, 512, 1536]⟩
abbrev S1x1024x288 : Shape := ⟨3, ![1, 1024, 288]⟩
abbrev S1x256 : Shape := ⟨2, ![1, 256]⟩
abbrev S1x256x16x64 : Shape := ⟨4, ![1, 256, 16, 64]⟩
abbrev S128x8x1024 : Shape := ⟨3, ![128, 8, 1024]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x512 : Shape := ⟨2, ![1024, 512]⟩
abbrev S128x8x512 : Shape := ⟨3, ![128, 8, 512]⟩
abbrev S512 : Shape := ⟨1, ![512]⟩
abbrev S1x1x512 : Shape := ⟨3, ![1, 1, 512]⟩
abbrev S512x1536 : Shape := ⟨2, ![512, 1536]⟩
abbrev S128x8x1536 : Shape := ⟨3, ![128, 8, 1536]⟩
abbrev S128x8x16x96 : Shape := ⟨4, ![128, 8, 16, 96]⟩
abbrev S128x8x16x64 : Shape := ⟨4, ![128, 8, 16, 64]⟩
abbrev S256x16x64 : Shape := ⟨3, ![256, 16, 64]⟩
abbrev S16x256x128x8 : Shape := ⟨4, ![16, 256, 128, 8]⟩
abbrev S128x8x16x256 : Shape := ⟨4, ![128, 8, 16, 256]⟩
abbrev S128x8x16x32 : Shape := ⟨4, ![128, 8, 16, 32]⟩
abbrev S16 : Shape := ⟨1, ![16]⟩
abbrev S8 : Shape := ⟨1, ![8]⟩
abbrev S8x1 : Shape := ⟨2, ![8, 1]⟩
abbrev S1x16 : Shape := ⟨2, ![1, 16]⟩
abbrev S8x16 : Shape := ⟨2, ![8, 16]⟩
abbrev S8x1x16 : Shape := ⟨3, ![8, 1, 16]⟩
abbrev S128x8x16x16 : Shape := ⟨4, ![128, 8, 16, 16]⟩
abbrev S1x8x1x16 : Shape := ⟨4, ![1, 8, 1, 16]⟩
abbrev S1024x288 : Shape := ⟨2, ![1024, 288]⟩
abbrev S128x8x288 : Shape := ⟨3, ![128, 8, 288]⟩
abbrev S128x8x256 : Shape := ⟨3, ![128, 8, 256]⟩
abbrev S256 : Shape := ⟨1, ![256]⟩
abbrev S1x1x256 : Shape := ⟨3, ![1, 1, 256]⟩
abbrev S128x8x32 : Shape := ⟨3, ![128, 8, 32]⟩
abbrev S128x8x1x32 : Shape := ⟨4, ![128, 8, 1, 32]⟩
abbrev S128x8x1x16 : Shape := ⟨4, ![128, 8, 1, 16]⟩
abbrev S128x16x8x256 : Shape := ⟨4, ![128, 16, 8, 256]⟩
abbrev S128x128x256 : Shape := ⟨3, ![128, 128, 256]⟩
abbrev S128x16x8x32 : Shape := ⟨4, ![128, 16, 8, 32]⟩
abbrev S128x128x32 : Shape := ⟨3, ![128, 128, 32]⟩
abbrev S1024x256 : Shape := ⟨2, ![1024, 256]⟩
abbrev S1024x32 : Shape := ⟨2, ![1024, 32]⟩

abbrev nBuf : Space → Nat
  | .hbm => 170
  | .vmem => 0
  | .smem => 0
  | _ => 0

abbrev hbmTy0_0 (i : Nat) : BufTy := match i % 128 with
  | 0 => ⟨S1024x1024, .f32⟩
  | 1 => ⟨S2x1024, .f32⟩
  | 2 => ⟨S1x1024x512, .f32⟩
  | 3 => ⟨S1x512, .f32⟩
  | 4 => ⟨S1x512x1536, .f32⟩
  | 5 => ⟨S1x1024x288, .f32⟩
  | 6 => ⟨S1x256, .f32⟩
  | 7 => ⟨S1x256x16x64, .f32⟩
  | 8 => ⟨S128x8x1024, .f32⟩
  | 9 => ⟨S1x1024, .f32⟩
  | 10 => ⟨S1024, .f32⟩
  | 11 => ⟨S128x8x1024, .f32⟩
  | 12 => ⟨S_, .f32⟩
  | 13 => ⟨S128x8, .f32⟩
  | 14 => ⟨S128x8x1, .f32⟩
  | 15 => ⟨S_, .f32⟩
  | 16 => ⟨S128x8x1, .f32⟩
  | 17 => ⟨S128x8x1, .f32⟩
  | 18 => ⟨S_, .f32⟩
  | 19 => ⟨S128x8x1, .f32⟩
  | 20 => ⟨S128x8x1, .f32⟩
  | 21 => ⟨S128x8x1, .f32⟩
  | 22 => ⟨S128x8x1024, .f32⟩
  | 23 => ⟨S128x8x1024, .f32⟩
  | 24 => ⟨S1x1x1024, .f32⟩
  | 25 => ⟨S128x8x1024, .f32⟩
  | 26 => ⟨S128x8x1024, .f32⟩
  | 27 => ⟨S1024x512, .f32⟩
  | 28 => ⟨S128x8x512, .f32⟩
  | 29 => ⟨S512, .f32⟩
  | 30 => ⟨S128x8x512, .f32⟩
  | 31 => ⟨S_, .f32⟩
  | 32 => ⟨S128x8, .f32⟩
  | 33 => ⟨S128x8x1, .f32⟩
  | 34 => ⟨S_, .f32⟩
  | 35 => ⟨S128x8x1, .f32⟩
  | 36 => ⟨S128x8x1, .f32⟩
  | 37 => ⟨S_, .f32⟩
  | 38 => ⟨S128x8x1, .f32⟩
  | 39 => ⟨S128x8x1, .f32⟩
  | 40 => ⟨S128x8x1, .f32⟩
  | 41 => ⟨S128x8x512, .f32⟩
  | 42 => ⟨S128x8x512, .f32⟩
  | 43 => ⟨S1x1x512, .f32⟩
  | 44 => ⟨S128x8x512, .f32⟩
  | 45 => ⟨S128x8x512, .f32⟩
  | 46 => ⟨S512x1536, .f32⟩
  | 47 => ⟨S128x8x1536, .f32⟩
  | 48 => ⟨S128x8x16x96, .f32⟩
  | 49 => ⟨S128x8x16x64, .f32⟩
  | 50 => ⟨S256x16x64, .f32⟩
  | 51 => ⟨S16x256x128x8, .f32⟩
  | 52 => ⟨S128x8x16x256, .f32⟩
  | 53 => ⟨S128x8x16x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S8, .i32⟩
  | 66 => ⟨S_, .i32⟩
  | 67 => ⟨S8, .i32⟩
  | 68 => ⟨S8, .i32⟩
  | 69 => ⟨S8, .f32⟩
  | 70 => ⟨S8x1, .f32⟩
  | 71 => ⟨S1x16, .f32⟩
  | 72 => ⟨S8x16, .f32⟩
  | 73 => ⟨S8x16, .f32⟩
  | 74 => ⟨S8x16, .f32⟩
  | 75 => ⟨S8x1x16, .f32⟩
  | 76 => ⟨S8x1x16, .f32⟩
  | 77 => ⟨S8x1x16, .f32⟩
  | 78 => ⟨S128x8x16x16, .f32⟩
  | 79 => ⟨S128x8x16x16, .f32⟩
  | 80 => ⟨S1x8x1x16, .f32⟩
  | 81 => ⟨S128x8x16x16, .f32⟩
  | 82 => ⟨S128x8x16x16, .f32⟩
  | 83 => ⟨S1x8x1x16, .f32⟩
  | 84 => ⟨S128x8x16x16, .f32⟩
  | 85 => ⟨S128x8x16x16, .f32⟩
  | 86 => ⟨S128x8x16x16, .f32⟩
  | 87 => ⟨S1x8x1x16, .f32⟩
  | 88 => ⟨S128x8x16x16, .f32⟩
  | 89 => ⟨S128x8x16x16, .f32⟩
  | 90 => ⟨S1x8x1x16, .f32⟩
  | 91 => ⟨S128x8x16x16, .f32⟩
  | 92 => ⟨S128x8x16x16, .f32⟩
  | 93 => ⟨S128x8x16x16, .f32⟩
  | 94 => ⟨S128x8x16x32, .f32⟩
  | 95 => ⟨S1024x288, .f32⟩
  | 96 => ⟨S128x8x288, .f32⟩
  | 97 => ⟨S128x8x256, .f32⟩
  | 98 => ⟨S256, .f32⟩
  | 99 => ⟨S128x8x256, .f32⟩
  | 100 => ⟨S_, .f32⟩
  | 101 => ⟨S128x8, .f32⟩
  | 102 => ⟨S128x8x1, .f32⟩
  | 103 => ⟨S_, .f32⟩
  | 104 => ⟨S128x8x1, .f32⟩
  | 105 => ⟨S128x8x1, .f32⟩
  | 106 => ⟨S_, .f32⟩
  | 107 => ⟨S128x8x1, .f32⟩
  | 108 => ⟨S128x8x1, .f32⟩
  | 109 => ⟨S128x8x1, .f32⟩
  | 110 => ⟨S128x8x256, .f32⟩
  | 111 => ⟨S128x8x256, .f32⟩
  | 112 => ⟨S1x1x256, .f32⟩
  | 113 => ⟨S128x8x256, .f32⟩
  | 114 => ⟨S128x8x256, .f32⟩
  | 115 => ⟨S128x8x32, .f32⟩
  | 116 => ⟨S128x8x1x32, .f32⟩
  | 117 => ⟨S16, .f32⟩
  | 118 => ⟨S16, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S1024x1024, .f32⟩

abbrev hbmTy0_1 (i : Nat) : BufTy := match i % 128 with
  | 0 => ⟨S8, .i32⟩
  | 1 => ⟨S_, .i32⟩
  | 2 => ⟨S8, .i32⟩
  | 3 => ⟨S8, .i32⟩
  | 4 => ⟨S8, .f32⟩
  | 5 => ⟨S8x1, .f32⟩
  | 6 => ⟨S1x16, .f32⟩
  | 7 => ⟨S8x16, .f32⟩
  | 8 => ⟨S8x16, .f32⟩
  | 9 => ⟨S8x16, .f32⟩
  | 10 => ⟨S8x1x16, .f32⟩
  | 11 => ⟨S8x1x16, .f32⟩
  | 12 => ⟨S8x1x16, .f32⟩
  | 13 => ⟨S128x8x1x16, .f32⟩
  | 14 => ⟨S128x8x1x16, .f32⟩
  | 15 => ⟨S1x8x1x16, .f32⟩
  | 16 => ⟨S128x8x1x16, .f32⟩
  | 17 => ⟨S128x8x1x16, .f32⟩
  | 18 => ⟨S1x8x1x16, .f32⟩
  | 19 => ⟨S128x8x1x16, .f32⟩
  | 20 => ⟨S128x8x1x16, .f32⟩
  | 21 => ⟨S128x8x1x16, .f32⟩
  | 22 => ⟨S1x8x1x16, .f32⟩
  | 23 => ⟨S128x8x1x16, .f32⟩
  | 24 => ⟨S128x8x1x16, .f32⟩
  | 25 => ⟨S1x8x1x16, .f32⟩
  | 26 => ⟨S128x8x1x16, .f32⟩
  | 27 => ⟨S128x8x1x16, .f32⟩
  | 28 => ⟨S128x8x1x16, .f32⟩
  | 29 => ⟨S128x8x1x32, .f32⟩
  | 30 => ⟨S_, .f32⟩
  | 31 => ⟨S128x8x16x256, .f32⟩
  | 32 => ⟨S128x8x16x256, .f32⟩
  | 33 => ⟨S128x16x8x256, .f32⟩
  | 34 => ⟨S128x128x256, .f32⟩
  | 35 => ⟨S_, .f32⟩
  | 36 => ⟨S128x8x16x32, .f32⟩
  | 37 => ⟨S128x8x16x32, .f32⟩
  | 38 => ⟨S128x16x8x32, .f32⟩
  | 39 => ⟨S128x128x32, .f32⟩
  | 40 => ⟨S1024x256, .f32⟩
  | 41 => ⟨S1024x32, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_11 : Ref sig .tc := ⟨.hbm, 119, rfl⟩
abbrev main_v98 : Ref sig .tc := ⟨.hbm, 120, rfl⟩
abbrev main_v99 : Ref sig .tc := ⟨.hbm, 121, rfl⟩
abbrev main_cst_12 : Ref sig .tc := ⟨.hbm, 122, rfl⟩
abbrev main_v100 : Ref sig .tc := ⟨.hbm, 123, rfl⟩
abbrev main_v101 : Ref sig .tc := ⟨.hbm, 124, rfl⟩
abbrev main_cst_13 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_14 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_15 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_16 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩

abbrev nD : Nat := 1
abbrev τ : Topo := Topo.v7x

variable {F : FTy → Type} [FloatOps F]
-- ==== Kernel7.lean ====
abbrev S128x8x1024 : Shape := ⟨3, ![128, 8, 1024]⟩
abbrev S2x1024 : Shape := ⟨2, ![2, 1024]⟩
abbrev S1x1024x2816 : Shape := ⟨3, ![1, 1024, 2816]⟩
abbrev S1024x1024 : Shape := ⟨2, ![1024, 1024]⟩
abbrev S1x1024 : Shape := ⟨2, ![1, 1024]⟩
abbrev S1024 : Shape := ⟨1, ![1024]⟩
abbrev S1024x2816 : Shape := ⟨2, ![1024, 2816]⟩
abbrev S1024x512 : Shape := ⟨2, ![1024, 512]⟩
abbrev S1024x128 : Shape := ⟨2, ![1024, 128]⟩
abbrev S1024x2048 : Shape := ⟨2, ![1024, 2048]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x2816, .f32⟩
  | .hbm, ⟨3, _⟩ => ⟨S1024x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S128x8x1024 : Shape := ⟨3, ![128, 8, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x2816 : Shape := ⟨2, ![1024, 2816]⟩
abbrev S128x8x2816 : Shape := ⟨3, ![128, 8, 2816]⟩
abbrev S1024x512 : Shape := ⟨2, ![1024, 512]⟩
abbrev S1024x128 : Shape := ⟨2, ![1024, 128]⟩
abbrev S1024x2048 : Shape := ⟨2, ![1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S1024x2816, .f32⟩
  | .hbm, ⟨22, _⟩ => ⟨S128x8x2816, .f32⟩
  | .hbm, ⟨23, _⟩ => ⟨S1024x2816, .f32⟩
  | .hbm, ⟨24, _⟩ => ⟨S1024x512, .f32⟩
  | .hbm, ⟨25, _⟩ => ⟨S1024x128, .f32⟩
  | .hbm, ⟨26, _⟩ => ⟨S1024x128, .f32⟩
  | .hbm, ⟨27, _⟩ => ⟨S1024x2048, .f32⟩
  | .hbm, ⟨28, _⟩ => ⟨S_, .f32⟩
  | .hbm, ⟨29, _⟩ => ⟨S1024x512, .f32⟩
  | .hbm, ⟨30, _⟩ => ⟨S1024x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel8.lean ====
abbrev S1x8 : Shape := ⟨2, ![1, 8]⟩
abbrev S1024x512 : Shape := ⟨2, ![1024, 512]⟩
abbrev S1024x128 : Shape := ⟨2, ![1024, 128]⟩
abbrev S1x128x128x2x64 : Shape := ⟨5, ![1, 128, 128, 2, 64]⟩
abbrev S8 : Shape := ⟨1, ![8]⟩
abbrev S128x8x128 : Shape := ⟨3, ![128, 8, 128]⟩
abbrev S128x128x2x64 : Shape := ⟨4, ![128, 128, 2, 64]⟩
abbrev S128x128x128 : Shape := ⟨3, ![128, 128, 128]⟩
abbrev S128x512 : Shape := ⟨2, ![128, 512]⟩
abbrev S16x8x128 : Shape := ⟨3, ![16, 8, 128]⟩
abbrev S16x128x128 : Shape := ⟨3, ![16, 128, 128]⟩
abbrev S16x120x128 : Shape := ⟨3, ![16, 120, 128]⟩
abbrev S2048x128 : Shape := ⟨2, ![2048, 128]⟩
abbrev S128x128 : Shape := ⟨2, ![128, 128]⟩
abbrev S128x2048 : Shape := ⟨2, ![128, 2048]⟩
abbrev S128x64 : Shape := ⟨2, ![128, 64]⟩
abbrev S2048x64 : Shape := ⟨2, ![2048, 64]⟩
abbrev S1 : Shape := ⟨1, ![1]⟩
abbrev S128 : Shape := ⟨1, ![128]⟩
abbrev S128x1 : Shape := ⟨2, ![128, 1]⟩

abbrev nBuf : Space → Nat
  | .hbm => 16
  | .vmem => 16
  | .smem => 1
  | _ => 0

abbrev bufTy : (tb : Table) → Fin (tcTables nBuf tb) → BufTy
  | .hbm, ⟨0, _⟩ => ⟨S1x8, .f32⟩
  | .hbm, ⟨1, _⟩ => ⟨S1024x512, .f32⟩
  | .hbm, ⟨2, _⟩ => ⟨S1024x128, .f32⟩
  | .hbm, ⟨3, _⟩ => ⟨S1024x128, .f32⟩
  | .hbm, ⟨4, _⟩ => ⟨S1x128x128x2x64, .f32⟩
  | .hbm, ⟨5, _⟩ => ⟨S1x128x128x2x64, .f32⟩
  | .hbm, ⟨6, _⟩ => ⟨S8, .f32⟩
  | .hbm, ⟨7, _⟩ => ⟨S128x8x128, .f32⟩
  | .hbm, ⟨8, _⟩ => ⟨S128x8x128, .f32⟩
  | .hbm, ⟨9, _⟩ => ⟨S128x128x2x64, .f32⟩
  | .hbm, ⟨10, _⟩ => ⟨S128x128x128, .f32⟩
  | .hbm, ⟨11, _⟩ => ⟨S128x128x2x64, .f32⟩
  | .hbm, ⟨12, _⟩ => ⟨S128x128x128, .f32⟩
  | .hbm, ⟨13, _⟩ => ⟨S1024x512, .f32⟩
  | .hbm, ⟨14, _⟩ => ⟨S128x128x128, .f32⟩
  | .hbm, ⟨15, _⟩ => ⟨S128x128x128, .f32⟩
  | .local _ .vmem, ⟨0, _⟩ => ⟨S128x512, .f32⟩
  | .local _ .vmem, ⟨1, _⟩ => ⟨S128x512, .f32⟩
  | .local _ .vmem, ⟨2, _⟩ => ⟨S16x8x128, .f32⟩
  | .local _ .vmem, ⟨3, _⟩ => ⟨S16x8x128, .f32⟩
  | .local _ .vmem, ⟨4, _⟩ => ⟨S16x8x128, .f32⟩
  | .local _ .vmem, ⟨5, _⟩ => ⟨S16x8x128, .f32⟩
  | .local _ .vmem, ⟨6, _⟩ => ⟨S16x128x128, .f32⟩
  | .local _ .vmem, ⟨7, _⟩ => ⟨S16x128x128, .f32⟩
  | .local _ .vmem, ⟨8, _⟩ => ⟨S16x128x128, .f32⟩
  | .local _ .vmem, ⟨9, _⟩ => ⟨S16x128x128, .f32⟩
  | .local _ .vmem, ⟨10, _⟩ => ⟨S128x512, .f32⟩
  | .local _ .vmem, ⟨11, _⟩ => ⟨S128x512, .f32⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
variable {F : FTy → Type} [FloatOps F] [Named F]
def κ : String → Option EReal := fun
  | "mask" => some ⊥
  | _ => none
-- ==== Reference8Ideal.lean ====
abbrev S1x8 : Shape := ⟨2, ![1, 8]⟩
abbrev S1024x512 : Shape := ⟨2, ![1024, 512]⟩
abbrev S1024x128 : Shape := ⟨2, ![1024, 128]⟩
abbrev S1x128x128x2x64 : Shape := ⟨5, ![1, 128, 128, 2, 64]⟩
abbrev S128x128x2x64 : Shape := ⟨4, ![128, 128, 2, 64]⟩
abbrev S128x8x2x64 : Shape := ⟨4, ![128, 8, 2, 64]⟩
abbrev S128x136x2x64 : Shape := ⟨4, ![128, 136, 2, 64]⟩
abbrev S8 : Shape := ⟨1, ![8]⟩
abbrev S_ : Shape := ⟨0, ![]⟩
abbrev S136 : Shape := ⟨1, ![136]⟩
abbrev S8x1 : Shape := ⟨2, ![8, 1]⟩
abbrev S1x136 : Shape := ⟨2, ![1, 136]⟩
abbrev S8x136 : Shape := ⟨2, ![8, 136]⟩
abbrev S2x4 : Shape := ⟨2, ![2, 4]⟩
abbrev S2x4x1x1 : Shape := ⟨4, ![2, 4, 1, 1]⟩
abbrev S128x8x2x4x64 : Shape := ⟨5, ![128, 8, 2, 4, 64]⟩
abbrev S128x2x136x8x4 : Shape := ⟨5, ![128, 2, 136, 8, 4]⟩
abbrev S128x2x4x8x136 : Shape := ⟨5, ![128, 2, 4, 8, 136]⟩
abbrev S1x1x8x136 : Shape := ⟨4, ![1, 1, 8, 136]⟩
abbrev S2x4x8x136 : Shape := ⟨4, ![2, 4, 8, 136]⟩
abbrev S1x2x4x8x136 : Shape := ⟨5, ![1, 2, 4, 8, 136]⟩
abbrev S128x2x4x8 : Shape := ⟨4, ![128, 2, 4, 8]⟩
abbrev S128x2x4x8x1 : Shape := ⟨5, ![128, 2, 4, 8, 1]⟩
abbrev S1x2x4x1x1 : Shape := ⟨5, ![1, 2, 4, 1, 1]⟩
abbrev S128x2x4x8x64 : Shape := ⟨5, ![128, 2, 4, 8, 64]⟩
abbrev S128x128x128 : Shape := ⟨3, ![128, 128, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1024x512, .f32⟩
  | .hbm, ⟨2, _⟩ => ⟨S1024x128, .f32⟩
  | .hbm, ⟨3, _⟩ => ⟨S1024x128, .f32⟩
  | .hbm, ⟨4, _⟩ => ⟨S1x128x128x2x64, .f32⟩
  | .hbm, ⟨5, _⟩ => ⟨S1x128x128x2x64, .f32⟩
  | .hbm, ⟨6, _⟩ => ⟨S128x128x2x64, .f32⟩
  | .hbm, ⟨7, _⟩ => ⟨S128x8x2x64, .f32⟩
  | .hbm, ⟨8, _⟩ => ⟨S128x136x2x64, .f32⟩
  | .hbm, ⟨9, _⟩ => ⟨S128x128x2x64, .f32⟩
  | .hbm, ⟨10, _⟩ => ⟨S128x8x2x64, .f32⟩
  | .hbm, ⟨11, _⟩ => ⟨S128x136x2x64, .f32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S136, .i32⟩
  | .hbm, ⟨17, _⟩ => ⟨S_, .i32⟩
  | .hbm, ⟨18, _⟩ => ⟨S136, .i32⟩
  | .hbm, ⟨19, _⟩ => ⟨S136, .i32⟩
  | .hbm, ⟨20, _⟩ => ⟨S8x1, .i32⟩
  | .hbm, ⟨21, _⟩ => ⟨S1x136, .i32⟩
  | .hbm, ⟨22, _⟩ => ⟨S8x136, .i32⟩
  | .hbm, ⟨23, _⟩ => ⟨S8x136, .i32⟩
  | .hbm, ⟨24, _⟩ => ⟨S8x136, .i32⟩
  | .hbm, ⟨25, _⟩ => ⟨S_, .i32⟩
  | .hbm, ⟨26, _⟩ => ⟨S8x136, .i32⟩
  | .hbm, ⟨27, _⟩ => ⟨S8x136, .i1⟩
  | .hbm, ⟨28, _⟩ => ⟨S_, .i32⟩
  | .hbm, ⟨29, _⟩ => ⟨S8x136, .i32⟩
  | .hbm, ⟨30, _⟩ => ⟨S8x136, .i1⟩
  | .hbm, ⟨31, _⟩ => ⟨S8x136, .i1⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S2x4, .f32⟩
  | .hbm, ⟨46, _⟩ => ⟨S2x4x1x1, .f32⟩
  | .hbm, ⟨47, _⟩ => ⟨S8, .f32⟩
  | .hbm, ⟨48, _⟩ => ⟨S2x4, .f32⟩
  | .hbm, ⟨49, _⟩ => ⟨S2x4x1x1, .f32⟩
  | .hbm, ⟨50, _⟩ => ⟨S128x8x2x4x64, .f32⟩
  | .hbm, ⟨51, _⟩ => ⟨S128x2x136x8x4, .f32⟩
  | .hbm, ⟨52, _⟩ => ⟨S128x2x4x8x136, .f32⟩
  | .hbm, ⟨53, _⟩ => ⟨S8x136, .f32⟩
  | .hbm, ⟨54, _⟩ => ⟨S1x1x8x136, .f32⟩
  | .hbm, ⟨55, _⟩ => ⟨S2x4x8x136, .f32⟩
  | .hbm, ⟨56, _⟩ => ⟨S2x4x8x136, .f32⟩
  | .hbm, ⟨57, _⟩ => ⟨S2x4x8x136, .f32⟩
  | .hbm, ⟨58, _⟩ => ⟨S1x2x4x8x136, .f32⟩
  | .hbm, ⟨59, _⟩ => ⟨S128x2x4x8x136, .f32⟩
  | .hbm, ⟨60, _⟩ => ⟨S128x2x4x8x136, .f32⟩
  | .hbm, ⟨61, _⟩ => ⟨S_, .f32⟩
  | .hbm, ⟨62, _⟩ => ⟨S_, .f32⟩
  | .hbm, ⟨63, _⟩ => ⟨S128x2x4x8x136, .i1⟩
  | .hbm, ⟨64, _⟩ => ⟨S128x2x4x8x136, .f32⟩
  | .hbm, ⟨65, _⟩ => ⟨S128x2x4x8x136, .f32⟩
  | .hbm, ⟨66, _⟩ => ⟨S_, .f32⟩
  | .hbm, ⟨67, _⟩ => ⟨S128x2x4x8, .f32⟩
  | .hbm, ⟨68, _⟩ => ⟨S128x2x4x8x1, .f32⟩
  | .hbm, ⟨69, _⟩ => ⟨S1x2x4x1x1, .f32⟩
  | .hbm, ⟨70, _⟩ => ⟨S128x2x4x8x1, .f32⟩
  | .hbm, ⟨71, _⟩ => ⟨S128x2x4x8x1, .f32⟩
  | .hbm, ⟨72, _⟩ => ⟨S128x2x4x8x136, .f32⟩
  | .hbm, ⟨73, _⟩ => ⟨S128x2x4x8x136, .f32⟩
  | .hbm, ⟨74, _⟩ => ⟨S128x2x4x8x136, .f32⟩
  | .hbm, ⟨75, _⟩ => ⟨S_, .f32⟩
  | .hbm, ⟨76, _⟩ => ⟨S128x2x4x8, .f32⟩
  | .hbm, ⟨77, _⟩ => ⟨S128x2x4x8x1, .f32⟩
  | .hbm, ⟨78, _⟩ => ⟨S1x2x4x1x1, .f32⟩
  | .hbm, ⟨79, _⟩ => ⟨S128x2x4x8x1, .f32⟩
  | .hbm, ⟨80, _⟩ => ⟨S128x2x4x8x1, .f32⟩
  | .hbm, ⟨81, _⟩ => ⟨S128x2x4x8x1, .f32⟩
  | .hbm, ⟨82, _⟩ => ⟨S128x2x4x8x1, .f32⟩
  | .hbm, ⟨83, _⟩ => ⟨S128x2x4x8x64, .f32⟩
  | .hbm, ⟨84, _⟩ => ⟨S128x2x4x8x64, .f32⟩
  | .hbm, ⟨85, _⟩ => ⟨S128x2x4x8x64, .f32⟩
  | .hbm, ⟨86, _⟩ => ⟨S128x8x2x4x64, .f32⟩
  | .hbm, ⟨87, _⟩ => ⟨S1024x512, .f32⟩
  | .hbm, ⟨88, _⟩ => ⟨S128x128x2x64, .f32⟩
  | .hbm, ⟨89, _⟩ => ⟨S128x128x128, .f32⟩
  | .hbm, ⟨90, _⟩ => ⟨S128x128x2x64, .f32⟩
  | .hbm, ⟨91, _⟩ => ⟨S128x128x128, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Proof.Softmax.lean ====
/- The running softmax of one query over the keys in order, as pure facts about extended reals: the largest score among
   the first `n` keys, the sum of the values weighted by powers of two of the scores less that maximum, and how both
   go on when a further stretch of keys is taken in. -/
module

public import Idealize.ShloMosaic.PureOps.Ideal

@[expose] public section

noncomputable section

namespace Cert.Softmax

open Idealize.ShloMosaic

/-- The largest of the scores of the first `n` keys (`⊥` for none). -/
def top (s : ℕ → EReal) (n : ℕ) : EReal := (Finset.range n).sup s

/-- The first `n` values, each weighted by two to the power of its score less the largest score, summed. -/
def mix (s v : ℕ → EReal) (n : ℕ) : EReal := ∑ k ∈ Finset.range n, v k * Ideal.exp2 (s k - top s n)

@[simp] theorem top_zero (s : ℕ → EReal) : top s 0 = ⊥ := by simp [top]

@[simp] theorem mix_zero (s v : ℕ → EReal) : mix s v 0 = 0 := by simp [mix]

/-- Two to a difference from an upper bound is a real number, not negative. -/
theorem exp2_sub_real {a b : EReal} (h : a ≤ b) : ∃ r : ℝ, 0 ≤ r ∧ Ideal.exp2 (a - b) = (r : EReal) := by
  induction b with
  | bot => exact ⟨0, le_rfl, by obtain rfl := le_bot_iff.mp h; simp⟩
  | top => exact ⟨0, le_rfl, by rw [EReal.sub_top]; simp⟩
  | coe b =>
    induction a with
    | bot => exact ⟨0, le_rfl, by simp⟩
    | top => exact absurd (top_le_iff.mp h) (EReal.coe_ne_top b)
    | coe a =>
      exact ⟨Real.rpow 2 (a - b), Real.rpow_nonneg (by norm_num) _, by rw [← EReal.coe_sub]; rfl⟩

/-- Weights taken against one maximum become the weights against a larger one by one factor. -/
theorem exp2_shift {a b c : EReal} (h : a ≤ b) (h' : b ≤ c) :
    Ideal.exp2 (b - c) * Ideal.exp2 (a - b) = Ideal.exp2 (a - c) := by
  induction c with
  | bot => obtain rfl := le_bot_iff.mp h'; obtain rfl := le_bot_iff.mp h; simp
  | top => rw [EReal.sub_top, EReal.sub_top]; simp
  | coe c =>
    induction b with
    | bot => obtain rfl := le_bot_iff.mp h; simp
    | top => exact absurd (top_le_iff.mp h') (EReal.coe_ne_top c)
    | coe b =>
      induction a with
      | bot => simp
      | top => exact absurd (top_le_iff.mp h) (EReal.coe_ne_top b)
      | coe a =>
        rw [← EReal.coe_sub, ← EReal.coe_sub, ← EReal.coe_sub, Ideal.exp2_coe, Ideal.exp2_coe, Ideal.exp2_coe,
          ← EReal.coe_mul]
        congr 1
        show (2 : ℝ) ^ (b - c) * (2 : ℝ) ^ (a - b) = (2 : ℝ) ^ (a - c)
        rw [← Real.rpow_add (by norm_num)]
        congr 1; ring

/-- A factor that is a real number, not negative, goes into a sum of extended reals. -/
theorem coe_mul_sum {ι : Type} (r : ℝ) (hr : 0 ≤ r) (t : Finset ι) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha, ← ih]
    exact EReal.left_distrib_of_nonneg_of_ne_top (by exact_mod_cast hr) (EReal.coe_ne_top r) _ _

theorem le_top (s : ℕ → EReal) {n k : ℕ} (h : k < n) : s k ≤ top s n :=
  Finset.le_sup (f := s) (Finset.mem_range.mpr h)

theorem top_mono (s : ℕ → EReal) {n n' : ℕ} (h : n ≤ n') : top s n ≤ top s n' :=
  Finset.sup_mono (Finset.range_mono h)

/-- The maximum after `c` further keys. -/
theorem top_add (s : ℕ → EReal) (n c : ℕ) :
    top s (n + c) = max (top s n) (Finset.univ.sup fun k : Fin c => s (n + k.val)) := by
  apply le_antisymm
  · refine Finset.sup_le fun k hk => ?_
    rw [Finset.mem_range] at hk
    rcases Nat.lt_or_ge k n with h | h
    · exact (le_top s h).trans (le_max_left _ _)
    · refine le_trans ?_ (le_max_right _ _)
      have := Finset.le_sup (f := fun k : Fin c => s (n + k.val)) (Finset.mem_univ (⟨k - n, by omega⟩ : Fin c))
      simpa [Nat.add_sub_cancel' h] using this
  · refine max_le (top_mono s (by omega)) (Finset.sup_le fun k _ => le_top s (by omega))

/-- The weighted sum after `c` further keys: the old one brought to the new maximum, and the new keys' part. -/
theorem mix_add (s v : ℕ → EReal) (n c : ℕ) :
    mix s v (n + c) = Ideal.exp2 (top s n - top s (n + c)) * mix s v n
      + ∑ k : Fin c, v (n + k.val) * Ideal.exp2 (s (n + k.val) - top s (n + c)) := by
  have hm : top s n ≤ top s (n + c) := top_mono s (by omega)
  obtain ⟨r, hr, hre⟩ := exp2_sub_real hm
  unfold mix
  rw [Finset.sum_range_add, Finset.sum_range (fun k => v (n + k) * Ideal.exp2 (s (n + k) - top s (n + c))), hre,
    coe_mul_sum r hr, ← hre]
  congr 1
  refine Finset.sum_congr rfl fun k hk => ?_
  rw [mul_left_comm, exp2_shift (le_top s (Finset.mem_range.mp hk)) hm]

/-- Keys whose score is `⊥` change neither. -/
theorem top_tail (s : ℕ → EReal) {n n' : ℕ} (h : n ≤ n') (hs : ∀ k, n ≤ k → s k = ⊥) : top s n' = top s n := by
  obtain ⟨c, rfl⟩ := Nat.exists_eq_add_of_le h
  rw [top_add]
  refine max_eq_left (Finset.sup_le fun k _ => ?_)
  rw [hs _ (by omega)]; exact bot_le

theorem mix_tail (s v : ℕ → EReal) {n n' : ℕ} (h : n ≤ n') (hs : ∀ k, n ≤ k → s k = ⊥) : mix s v n' = mix s v n := by
  unfold mix
  rw [top_tail s h hs]
  symm
  refine Finset.sum_subset (Finset.range_mono h) fun k _ hk => ?_
  rw [hs k (by simpa using hk)]
  simp

/-- A power of two by the general power. -/
theorem pow_two (x : EReal) : Ideal.pow ((2 : ℝ) : EReal) x = Ideal.exp2 x := by
  induction x with
  | bot => rw [Ideal.pow_coe_bot, Ideal.exp2_bot, if_neg (by norm_num), if_pos (by norm_num)]
  | top => rw [Ideal.pow_coe_top, Ideal.exp2_top, if_neg (by norm_num), if_pos (by norm_num)]
  | coe r => rfl

end Cert.Softmax

end
-- ==== Proof.Units.lean ====
module

public import proofs.«01_k».proof.Proof.Softmax
public import proofs.«01_k».proof.Proof.Gen.KernelIdeal.Frame.RunA
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- The scores of a tile of 512 keys against a block of 512 queries, one row a key. -/
def score (K Q : Vec Ideal S1x1x512x128 .bf16) : FVec Ideal S512x512 .f32 :=
  matmul dot_S512x128_S512x128_S512x512_1_1_0_0_n_n none (shapeCast S512x128 K shapeCasts_S1x1x512x128_S512x128 : FVec Ideal S512x128 .bf16)
    (shapeCast S512x128 Q shapeCasts_S1x1x512x128_S512x128 : FVec Ideal S512x128 .bf16) (constant S512x512 .f32 0x00000000#32)

/-- Those scores where the key's place in the tile is not after the query's, the mask elsewhere. -/
def masked (K Q : Vec Ideal S1x1x512x128 .bf16) : FVec Ideal S512x512 .f32 :=
  select k0_pay246 (score K Q) (broadcast S512x512 (Named.named κ "mask" 0xF149F2CA#32))

/-- The running maximum after a tile, as one row. -/
def peak (s : FVec Ideal S512x512 .f32) (m : Vec Ideal S1x1x512 .f32) : FVec Ideal S1x512 .f32 :=
  maximumf (shapeCast S1x512 m shapeCasts_S1x1x512_S1x512 : FVec Ideal S1x512 .f32)
    (shapeCast S1x512 (multiReduction .maximumf [0] S512 s 0xFF800000#32 reduces_S512x512_S512 (.inl rfl) rfl : FVec Ideal S512 .f32) shapeCasts_S512_S1x512)

/-- The running maximum after a tile, as it is stored. -/
def peakOut (s : FVec Ideal S512x512 .f32) (m : Vec Ideal S1x1x512 .f32) : FVec Ideal S1x1x512 .f32 :=
  shapeCast S1x1x512 (peak s m) shapeCasts_S1x512_S1x1x512

/-- The running sums after a tile, as they are stored: the old ones scaled to the new maximum, and the tile's rows of values weighted. -/
def sumOut (s : FVec Ideal S512x512 .f32) (m : Vec Ideal S1x1x512 .f32) (V : Vec Ideal S1x1x80x512 .bf16) (a : Vec Ideal S1x80x512 .f32) : FVec Ideal S1x80x512 .f32 :=
  shapeCast S1x80x512
    (addf
      (mulf (broadcastTo S80x512 (exp2 (subf (shapeCast S1x512 m shapeCasts_S1x1x512_S1x512 : FVec Ideal S1x512 .f32) (peak s m))) broadcasts_S1x512_S80x512)
        (shapeCast S80x512 a shapeCasts_S1x80x512_S80x512 : FVec Ideal S80x512 .f32))
      (matmul dot_S80x512_S512x512_S80x512_1_0_0_1_n_n none (shapeCast S80x512 V shapeCasts_S1x1x80x512_S80x512 : FVec Ideal S80x512 .bf16)
        (truncf .bf16 (exp2 (subf s (broadcastTo S512x512 (peak s m) broadcasts_S1x512_S512x512))) bitsLt_bf16_f32) (constant S80x512 .f32 0x00000000#32)))
    shapeCasts_S80x512_S1x80x512

/-- A pair of heads' results, as they are stored. -/
def pairOut (a b : Vec Ideal S1x80x1024 .f32) : FVec Ideal S1x1024x128 .bf16 := k0_pay1 (k0_pay431 a b)

theorem score_at (K Q : Vec Ideal S1x1x512x128 .bf16) (k q : Fin 512) :
    score K Q (ix2 k q) = ∑ d : Fin 128, (K (ix4 0 0 k d) : EReal) * (Q (ix4 0 0 q d) : EReal) := by
  pointwise [score]

theorem named_mask : (Named.named κ "mask" 0xF149F2CA#32 : Ideal .f32) = (⊥ : EReal) := rfl

theorem masked_at (K Q : Vec Ideal S1x1x512x128 .bf16) (k q : Fin 512) :
    masked K Q (ix2 k q) = if (k : ℕ) ≤ (q : ℕ) then score K Q (ix2 k q) else (⊥ : EReal) := by
  pointwise [masked, k0_pay246, named_mask]
  word_cmp

theorem peak_at (s : FVec Ideal S512x512 .f32) (m : Vec Ideal S1x1x512 .f32) (q : Fin 512) :
    peak s m (ix2 0 q) = max (m (ix3 0 0 q) : EReal) (Finset.univ.sup fun k : Fin 512 => (s (ix2 k q) : EReal)) := by
  pointwise [peak]
  rw [show (Ideal.ofBits FTy.f32 0xFF800000#32 : EReal) = ⊥ from by simp [Ideal.ofBits, Ideal.ieee]]
  rfl

theorem peakOut_at (s : FVec Ideal S512x512 .f32) (m : Vec Ideal S1x1x512 .f32) (q : Fin 512) :
    peakOut s m (ix3 0 0 q) = peak s m (ix2 0 q) := by
  pointwise [peakOut]

theorem sumOut_at (s : FVec Ideal S512x512 .f32) (m : Vec Ideal S1x1x512 .f32) (V : Vec Ideal S1x1x80x512 .bf16) (a : Vec Ideal S1x80x512 .f32)
    (r : Fin 80) (q : Fin 512) :
    sumOut s m V a (ix3 0 r q) = Ideal.exp2 ((m (ix3 0 0 q) : EReal) - peak s m (ix2 0 q)) * (a (ix3 0 r q) : EReal)
      + ∑ k : Fin 512, (V (ix4 0 0 r k) : EReal) * Ideal.exp2 ((s (ix2 k q) : EReal) - peak s m (ix2 0 q)) := by
  pointwise [sumOut]
  rfl

theorem pairOut_at (a b : Vec Ideal S1x80x1024 .f32) (q : Fin 1024) (l : Fin 128) :
    pairOut a b (ix3 0 q l) = if (l : ℕ) < 64 then Ideal.div (a (ix3 0 ⟨l % 64, by omega⟩ q) : EReal) (a (ix3 0 64 q) : EReal)
      else Ideal.div (b (ix3 0 ⟨l % 64, by omega⟩ q) : EReal) (b (ix3 0 64 q) : EReal) := by
  pointwise [pairOut, k0_pay1, k0_pay431]
  by_cases h : (l : ℕ) < 64
  · simp only [h, ↓reduceDIte, ↓reduceIte, Nat.mod_eq_of_lt h]
  · have h' : (l : ℕ) % 64 = l - 64 := by omega
    simp only [h, ↓reduceDIte, ↓reduceIte, h']

end Cert.KernelIdeal.Attn

end
-- ==== Proof.State.lean ====
/- What the two scratch buffers hold while the prompt attention goes over the tiles of keys, and how one tile of one head against
   one half of the queries moves them on. -/
module

public import proofs.«01_k».proof.Proof.Units

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

section
variable (x0 : Vec Ideal S1x8x1024x128 .bf16) (x1 : Vec Ideal S1x8x8192x128 .bf16) (x2 : Vec Ideal S1x16x640x512 .bf16) (i : ℕ)

/-- The score of key `k` for query `q` of the `i`-th block of queries, at head `h`: their product, and `⊥` where the key is after the query. -/
def sc (h : Fin 8) (q : Fin 1024) (k : ℕ) : EReal :=
  if hk : k < 8192 ∧ k ≤ 1024 * i + q then ∑ d : Fin 128, (x1 (ix4 0 h ⟨k, hk.1⟩ d) : EReal) * (x0 (ix4 0 h q d) : EReal) else ⊥

/-- Row `r` of key `k`'s values at head `h`. -/
def vl (h : Fin 8) (r : Fin 80) (k : ℕ) : EReal :=
  if hk : k < 8192 then (x2 (ix4 0 ⟨k / 512, by omega⟩ ⟨80 * h + r, by omega⟩ ⟨k % 512, by omega⟩) : EReal) else 0

/-- Query `q` of the half `b` of a block of queries. -/
def col (b : Fin 2) (q : Fin 512) : Fin 1024 := ⟨512 * b + q, by omega⟩

theorem sc_of_gt (h : Fin 8) (q : Fin 1024) (k : ℕ) (hk : 1024 * i + q < k) : sc x0 x1 i h q k = ⊥ :=
  dif_neg fun h' => absurd h'.2 (by omega)

/-- A tile of keys none of which is after a query: its scores. -/
theorem score_tile (h : Fin 8) (b : Fin 2) (n : ℕ) (K Q : Vec Ideal S1x1x512x128 .bf16) (hn : n + 512 ≤ 8192) (hi : n + 511 ≤ 1024 * i + 512 * b)
    (hK : ∀ (k : Fin 512) (d : Fin 128), K (ix4 0 0 k d) = x1 (ix4 0 h ⟨n + k, by omega⟩ d))
    (hQ : ∀ (q : Fin 512) (d : Fin 128), Q (ix4 0 0 q d) = x0 (ix4 0 h (col b q) d)) (k q : Fin 512) :
    score K Q (ix2 k q) = sc x0 x1 i h (col b q) (n + k) := by
  rw [score_at, sc, dif_pos ⟨by omega, by simp only [col]; omega⟩]
  exact Finset.sum_congr rfl fun d _ => by rw [hK, hQ]

/-- The tile of keys at the places of the queries themselves, masked: its scores. -/
theorem masked_tile (h : Fin 8) (b : Fin 2) (n : ℕ) (K Q : Vec Ideal S1x1x512x128 .bf16) (hn : n + 512 ≤ 8192) (hi : n = 1024 * i + 512 * b)
    (hK : ∀ (k : Fin 512) (d : Fin 128), K (ix4 0 0 k d) = x1 (ix4 0 h ⟨n + k, by omega⟩ d))
    (hQ : ∀ (q : Fin 512) (d : Fin 128), Q (ix4 0 0 q d) = x0 (ix4 0 h (col b q) d)) (k q : Fin 512) :
    masked K Q (ix2 k q) = sc x0 x1 i h (col b q) (n + k) := by
  rw [masked_at]
  by_cases hk : (k : ℕ) ≤ q
  · rw [if_pos hk, score_at, sc, dif_pos ⟨by omega, by simp only [col]; omega⟩]
    exact Finset.sum_congr rfl fun d _ => by rw [hK, hQ]
  · rw [if_neg hk, sc_of_gt]
    simp only [col]; omega

theorem peak_top (h : Fin 8) (b : Fin 2) (n : ℕ) (s : FVec Ideal S512x512 .f32) (m : Vec Ideal S1x1x512 .f32)
    (hs : ∀ k q : Fin 512, s (ix2 k q) = sc x0 x1 i h (col b q) (n + k))
    (hm : ∀ q : Fin 512, m (ix3 0 0 q) = top (sc x0 x1 i h (col b q)) n) (q : Fin 512) :
    peak s m (ix2 0 q) = top (sc x0 x1 i h (col b q)) (n + 512) := by
  rw [peak_at, hm, top_add]
  exact congrArg (max _) (Finset.sup_congr rfl fun k _ => hs k q)

/-- A tile moves the running maxima on by its 512 keys. -/
theorem peakOut_top (h : Fin 8) (b : Fin 2) (n : ℕ) (s : FVec Ideal S512x512 .f32) (m : Vec Ideal S1x1x512 .f32)
    (hs : ∀ k q : Fin 512, s (ix2 k q) = sc x0 x1 i h (col b q) (n + k))
    (hm : ∀ q : Fin 512, m (ix3 0 0 q) = top (sc x0 x1 i h (col b q)) n) (q : Fin 512) :
    peakOut s m (ix3 0 0 q) = top (sc x0 x1 i h (col b q)) (n + 512) := by
  rw [peakOut_at, peak_top x0 x1 i h b n s m hs hm]

/-- A tile moves the running sums on by its 512 keys. -/
theorem sumOut_mix (h : Fin 8) (b : Fin 2) (n : ℕ) (s : FVec Ideal S512x512 .f32) (m : Vec Ideal S1x1x512 .f32)
    (V : Vec Ideal S1x1x80x512 .bf16) (a : Vec Ideal S1x80x512 .f32)
    (hs : ∀ k q : Fin 512, s (ix2 k q) = sc x0 x1 i h (col b q) (n + k))
    (hm : ∀ q : Fin 512, m (ix3 0 0 q) = top (sc x0 x1 i h (col b q)) n)
    (hV : ∀ (r : Fin 80) (k : Fin 512), V (ix4 0 0 r k) = vl x2 h r (n + k))
    (ha : ∀ (r : Fin 80) (q : Fin 512), a (ix3 0 r q) = mix (sc x0 x1 i h (col b q)) (vl x2 h r) n) (r : Fin 80) (q : Fin 512) :
    sumOut s m V a (ix3 0 r q) = mix (sc x0 x1 i h (col b q)) (vl x2 h r) (n + 512) := by
  rw [sumOut_at, mix_add, peak_top x0 x1 i h b n s m hs hm, hm, ha]
  exact congrArg _ (Finset.sum_congr rfl fun k _ => by rw [hV, hs])

end

/-! ## Loads -/

/-- A load of a tile of keys. -/
theorem load_keys (x1 : Vec Ideal S1x8x8192x128 .bf16) (arg4 : Memref sig .tc .vmem S1x8x8192x128 .bf16) (harg4 : arg4.IsWhole)
    (h : Fin 8) (n : ℕ) (hn : n + 512 ≤ 8192) (off : Fin 4 → ℕ) (hoff : off = ![0, h.val, n, 0]) (inb) (k : Fin 512) (d : Fin 128) :
    View.readAt (Elt Ideal) arg4.view (Rect.unit (s := S1x8x8192x128) off S1x1x512x128.size inb).toLoadRect (harg4.unread x1) (ix4 0 0 k d)
      = x1 (ix4 0 h ⟨n + k, by omega⟩ d) := by
  subst hoff
  rw [View.readAt_apply, harg4.read_unread]
  refine congrArg x1 (funext fun a => Fin.ext ?_)
  refine (Rect.idx_unit_val _ _ _ _ a).trans ?_
  fin_cases a <;> simp

/-- A load of a half of the queries. -/
theorem load_queries (x0 : Vec Ideal S1x8x1024x128 .bf16) (arg3 : Memref sig .tc .vmem S1x8x1024x128 .bf16) (harg3 : arg3.IsWhole)
    (h : Fin 8) (b : Fin 2) (off : Fin 4 → ℕ) (hoff : off = ![0, h.val, 512 * b.val, 0]) (inb) (q : Fin 512) (d : Fin 128) :
    View.readAt (Elt Ideal) arg3.view (Rect.unit (s := S1x8x1024x128) off S1x1x512x128.size inb).toLoadRect (harg3.unread x0) (ix4 0 0 q d)
      = x0 (ix4 0 h (col b q) d) := by
  subst hoff
  rw [View.readAt_apply, harg3.read_unread]
  refine congrArg x0 (funext fun a => Fin.ext ?_)
  refine (Rect.idx_unit_val _ _ _ _ a).trans ?_
  fin_cases a <;> simp [col]

/-- A load of a tile of a head's rows of values. -/
theorem load_values (x2 : Vec Ideal S1x16x640x512 .bf16) (arg5 : Memref sig .tc .vmem S1x16x640x512 .bf16) (harg5 : arg5.IsWhole)
    (h : Fin 8) (j : ℕ) (hj : j < 16) (n : ℕ) (hn : n = 512 * j) (off : Fin 4 → ℕ) (hoff : off = ![0, j, 80 * h.val, 0]) (inb) (r : Fin 80) (k : Fin 512) :
    View.readAt (Elt Ideal) arg5.view (Rect.unit (s := S1x16x640x512) off S1x1x80x512.size inb).toLoadRect (harg5.unread x2) (ix4 0 0 r k)
      = vl x2 h r (n + k) := by
  subst hoff
  rw [View.readAt_apply, harg5.read_unread, vl, dif_pos (show n + (k : ℕ) < 8192 by omega)]
  refine congrArg x2 (funext fun a => Fin.ext ?_)
  refine (Rect.idx_unit_val _ _ _ _ a).trans ?_
  fin_cases a <;> simp <;> omega

/-- The place in the buffer of maxima of a half's entry. -/
theorem idx_peaks (h : Fin 8) (b : Fin 2) (off : Fin 3 → ℕ) (hoff : off = ![h.val, 0, 512 * b.val]) (inb) (q : Fin 512) :
    (Rect.unit (s := S8x1x1024) off S1x1x512.size inb).idx (ix3 0 0 q) = ix3 h 0 (col b q) := by
  subst hoff
  refine funext fun a => Fin.ext ?_
  refine (Rect.idx_unit_val _ _ _ _ a).trans ?_
  fin_cases a <;> simp [col]

/-- The place in the buffer of sums of a half's entry. -/
theorem idx_sums (h : Fin 8) (b : Fin 2) (off : Fin 3 → ℕ) (hoff : off = ![h.val, 0, 512 * b.val]) (inb) (r : Fin 80) (q : Fin 512) :
    (Rect.unit (s := S8x80x1024) off S1x80x512.size inb).idx (ix3 0 r q) = ix3 h r (col b q) := by
  subst hoff
  refine funext fun a => Fin.ext ?_
  refine (Rect.idx_unit_val _ _ _ _ a).trans ?_
  fin_cases a <;> simp [col]

/-! ## The buffers -/

/-- Which half a query lies in. -/
def half (q : Fin 1024) : Fin 2 := ⟨q / 512, by omega⟩

/-- A count of keys for every head and half, with that of head `h` and half `b` grown by a tile. -/
def bump (c : Fin 8 → Fin 2 → ℕ) (h : Fin 8) (b : Fin 2) : Fin 8 → Fin 2 → ℕ :=
  fun h' b' => if h' = h ∧ b' = b then c h b + 512 else c h' b'

section
variable (x0 : Vec Ideal S1x8x1024x128 .bf16) (x1 : Vec Ideal S1x8x8192x128 .bf16) (x2 : Vec Ideal S1x16x640x512 .bf16) (i : ℕ)

/-- The stores leave the running maxima over the counted keys. -/
def Peaks (c : Fin 8 → Fin 2 → ℕ) (L : List (View.Piece (Elt Ideal) S8x1x1024 .f32)) : Prop :=
  ∀ (h : Fin 8) (q : Fin 1024), View.canon L (ix3 h 0 q) = top (sc x0 x1 i h q) (c h (half q))

/-- The stores leave the running sums over the counted keys. -/
def Sums (c : Fin 8 → Fin 2 → ℕ) (L : List (View.Piece (Elt Ideal) S8x80x1024 .f32)) : Prop :=
  ∀ (h : Fin 8) (r : Fin 80) (q : Fin 1024), View.canon L (ix3 h r q) = mix (sc x0 x1 i h q) (vl x2 h r) (c h (half q))

variable {x0 x1 x2 i}

theorem half_col (b : Fin 2) (q : Fin 512) : half (col b q) = b := by
  refine Fin.ext ?_; simp only [half, col]; omega

theorem exists_col (q : Fin 1024) : ∃ q' : Fin 512, q = col (half q) q' :=
  ⟨⟨q % 512, by omega⟩, Fin.ext (by simp only [half, col]; omega)⟩

/-- A load of the running maxima. -/
theorem Peaks.load {c : Fin 8 → Fin 2 → ℕ} {L : List (View.Piece (Elt Ideal) S8x1x1024 .f32)} (hL : Peaks x0 x1 i c L)
    (arg7 : Memref sig .tc .vmem S8x1x1024 .f32) (h : Fin 8) (b : Fin 2) (n : ℕ) (hn : c h b = n) (off : Fin 3 → ℕ) (hoff : off = ![h.val, 0, 512 * b.val]) (inb) (q : Fin 512) :
    arg7.view.readCov L (Rect.unit (s := S8x1x1024) off S1x1x512.size inb).toLoadRect (ix3 0 0 q) = top (sc x0 x1 i h (col b q)) n := by
  rw [View.readCov_eq_canon']
  refine (congrArg (View.canon L) (idx_peaks h b off hoff inb q)).trans ?_
  rw [hL, half_col, hn]

/-- A load of the running sums. -/
theorem Sums.load {c : Fin 8 → Fin 2 → ℕ} {L : List (View.Piece (Elt Ideal) S8x80x1024 .f32)} (hL : Sums x0 x1 x2 i c L)
    (arg8 : Memref sig .tc .vmem S8x80x1024 .f32) (h : Fin 8) (b : Fin 2) (n : ℕ) (hn : c h b = n) (off : Fin 3 → ℕ) (hoff : off = ![h.val, 0, 512 * b.val]) (inb) (r : Fin 80) (q : Fin 512) :
    arg8.view.readCov L (Rect.unit (s := S8x80x1024) off S1x80x512.size inb).toLoadRect (ix3 0 r q) = mix (sc x0 x1 i h (col b q)) (vl x2 h r) n := by
  rw [View.readCov_eq_canon']
  refine (congrArg (View.canon L) (idx_sums h b off hoff inb r q)).trans ?_
  rw [hL, half_col, hn]

/-- A tile's store of the maxima, after stores that leave them. -/
theorem Peaks.step {c : Fin 8 → Fin 2 → ℕ} {L : List (View.Piece (Elt Ideal) S8x1x1024 .f32)} (hL : Peaks x0 x1 i c L)
    (arg7 : Memref sig .tc .vmem S8x1x1024 .f32) (h : Fin 8) (b : Fin 2) (n : ℕ) (hn : c h b = n) (off : Fin 3 → ℕ) (hoff : off = ![h.val, 0, 512 * b.val]) (inb) (inb')
    (s : FVec Ideal S512x512 .f32) (hs : ∀ k q : Fin 512, s (ix2 k q) = sc x0 x1 i h (col b q) (n + k))
    (w : S1x1x512.Idx → Elt Ideal .f32) (hw : w = peakOut s (arg7.view.readCov L (Rect.unit (s := S8x1x1024) off S1x1x512.size inb').toLoadRect)) :
    Peaks x0 x1 i (bump c h b) ((⟨Rect.unit (s := S8x1x1024) off S1x1x512.size inb, w⟩ : View.Piece (Elt Ideal) S8x1x1024 .f32) :: L) := by
  intro h' q'
  by_cases hq : h' = h ∧ half q' = b
  · obtain ⟨q, hq'⟩ := exists_col q'
    obtain ⟨rfl, hb⟩ := hq
    rw [hb] at hq'; subst hq'
    refine (congrArg (View.canon _) (idx_peaks h' b off hoff inb q).symm).trans ?_
    refine (View.canon_cons_emb _ _ _ _).trans ?_
    rw [hw, half_col]
    refine (peakOut_top x0 x1 i h' b n s _ hs (fun q => hL.load arg7 h' b n hn off hoff inb' q) q).trans ?_
    simp only [bump, and_self, ↓reduceIte, hn]
  · refine (View.canon_cons_of_not_mem _ _ ?_).trans ?_
    · intro hm
      apply hq
      subst hoff
      have hm' := (Rect.mem_set_unit (s := S8x1x1024) (off := ![h.val, 0, 512 * b.val]) (size := S1x1x512.size) (inb := inb) (i := ix3 h' 0 q')).mp hm
      have h0 := hm' 0
      have h2 := hm' 2
      simp at h0 h2
      constructor
      · exact Fin.ext (by omega)
      · exact Fin.ext (by simp only [half]; omega)
    · rw [hL]; simp only [bump, if_neg hq]

/-- A tile's store of the sums, after stores that leave them. -/
theorem Sums.step {c : Fin 8 → Fin 2 → ℕ} {L : List (View.Piece (Elt Ideal) S8x80x1024 .f32)} (hL : Sums x0 x1 x2 i c L)
    (arg8 : Memref sig .tc .vmem S8x80x1024 .f32) (h : Fin 8) (b : Fin 2) (n : ℕ) (hn : c h b = n) (off : Fin 3 → ℕ) (hoff : off = ![h.val, 0, 512 * b.val]) (inb) (inb')
    (s : FVec Ideal S512x512 .f32) (hs : ∀ k q : Fin 512, s (ix2 k q) = sc x0 x1 i h (col b q) (n + k))
    (m : Vec Ideal S1x1x512 .f32) (hm : ∀ q : Fin 512, m (ix3 0 0 q) = top (sc x0 x1 i h (col b q)) n)
    (V : Vec Ideal S1x1x80x512 .bf16) (hV : ∀ (r : Fin 80) (k : Fin 512), V (ix4 0 0 r k) = vl x2 h r (n + k))
    (w : S1x80x512.Idx → Elt Ideal .f32) (hw : w = sumOut s m V (arg8.view.readCov L (Rect.unit (s := S8x80x1024) off S1x80x512.size inb').toLoadRect)) :
    Sums x0 x1 x2 i (bump c h b) ((⟨Rect.unit (s := S8x80x1024) off S1x80x512.size inb, w⟩ : View.Piece (Elt Ideal) S8x80x1024 .f32) :: L) := by
  intro h' r q'
  by_cases hq : h' = h ∧ half q' = b
  · obtain ⟨q, hq'⟩ := exists_col q'
    obtain ⟨rfl, hb⟩ := hq
    rw [hb] at hq'; subst hq'
    refine (congrArg (View.canon _) (idx_sums h' b off hoff inb r q).symm).trans ?_
    refine (View.canon_cons_emb _ _ _ _).trans ?_
    rw [hw, half_col]
    refine (sumOut_mix x0 x1 x2 i h' b n s m V _ hs hm hV (fun r q => hL.load arg8 h' b n hn off hoff inb' r q) r q).trans ?_
    simp only [bump, and_self, ↓reduceIte, hn]
  · refine (View.canon_cons_of_not_mem _ _ ?_).trans ?_
    · intro hm
      apply hq
      subst hoff
      have hm' := (Rect.mem_set_unit (s := S8x80x1024) (off := ![h.val, 0, 512 * b.val]) (size := S1x80x512.size) (inb := inb) (i := ix3 h' r q')).mp hm
      have h0 := hm' 0
      have h2 := hm' 2
      simp at h0 h2
      constructor
      · exact Fin.ext (by omega)
      · exact Fin.ext (by simp only [half]; omega)
    · rw [hL]; simp only [bump, if_neg hq]

end

end Cert.KernelIdeal.Attn

end
-- ==== Proof.Trip.lean ====
/- One pass of the loop over the tiles of keys below the block of queries, and the loop itself: the two scratch buffers go on
   holding the running maxima and sums. -/
module

public import proofs.«01_k».proof.Proof.State

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-! ## Where a pass loads -/

/-- The loop below the diagonal runs twice the block's number of times. -/
theorem trips_below (i : grid0.Coords) : (k0_t1_loop i).trips = 2 * (i 2).val :=
  (by decide +kernel : ∀ n : Fin 8, (Scf.Loop.mk 0#32 (Scalar.addi 0#32 (Scalar.muli (Scalar.divsi (Scalar.subi (Scalar.muli (BitVec.ofNat 32 n.val) 2#32) 0#32) 1#32) 1#32)) 1#32).trips = 2 * n.val) (i 2)

/-- The loop's remainder runs no times. -/
theorem trips_rest (i : grid0.Coords) : (k0_t2_loop i).trips = 0 :=
  (by decide +kernel : ∀ n : Fin 8, (Scf.Loop.mk (Scalar.addi 0#32 (Scalar.muli (Scalar.divsi (Scalar.subi (Scalar.muli (BitVec.ofNat 32 n.val) 2#32) 0#32) 1#32) 1#32))
    (Scalar.addi 0#32 (Scalar.subi (Scalar.muli (BitVec.ofNat 32 n.val) 2#32) 0#32)) 1#32).trips = 0) (i 2)

theorem tile_start (k : ℕ) (hk : k < 16) : (Scalar.indexCast (Scalar.muli (Scf.iv 0#32 1#32 k) 512#32)).toNat = 512 * k :=
  (by decide +kernel : ∀ k : Fin 16, (Scalar.indexCast (Scalar.muli (Scf.iv 0#32 1#32 k.val) 512#32)).toNat = 512 * k.val) ⟨k, hk⟩

theorem tile_number (k : ℕ) (hk : k < 16) : (Scalar.indexCast (Scf.iv 0#32 1#32 k)).toNat = k :=
  (by decide +kernel : ∀ k : Fin 16, (Scalar.indexCast (Scf.iv 0#32 1#32 k.val)).toNat = k.val) ⟨k, hk⟩

theorem block_lt (i : grid0.Coords) : (i 2).val < 8 := (i 2).isLt

theorem trip_lt (i : grid0.Coords) (k : Fin (k0_t1_loop i).trips) : k.val < 16 := by
  have := k.isLt; have := trips_below i; have := block_lt i; omega

theorem off_keys0 (i : grid0.Coords) (k : Fin (k0_t1_loop i).trips) : k0_off1 i k = ![0, 0, 512 * k.val, 0] :=
  congrArg (fun n => ![0, 0, n, 0]) (tile_start k (trip_lt i k))

theorem off_values0 (i : grid0.Coords) (k : Fin (k0_t1_loop i).trips) : k0_off3 i k = ![0, k.val, 0, 0] :=
  congrArg (fun n => ![0, n, 0, 0]) (tile_number k (trip_lt i k))

theorem off_keys1 (i : grid0.Coords) (k : Fin (k0_t1_loop i).trips) : k0_off2 i k = ![0, 1, 512 * k.val, 0] :=
  congrArg (fun n => ![0, 1, n, 0]) (tile_start k (trip_lt i k))

theorem off_values1 (i : grid0.Coords) (k : Fin (k0_t1_loop i).trips) : k0_off5 i k = ![0, k.val, 80, 0] :=
  congrArg (fun n => ![0, n, 80, 0]) (tile_number k (trip_lt i k))

theorem off_keys2 (i : grid0.Coords) (k : Fin (k0_t1_loop i).trips) : k0_off4 i k = ![0, 2, 512 * k.val, 0] :=
  congrArg (fun n => ![0, 2, n, 0]) (tile_start k (trip_lt i k))

theorem off_values2 (i : grid0.Coords) (k : Fin (k0_t1_loop i).trips) : k0_off7 i k = ![0, k.val, 160, 0] :=
  congrArg (fun n => ![0, n, 160, 0]) (tile_number k (trip_lt i k))

theorem off_keys3 (i : grid0.Coords) (k : Fin (k0_t1_loop i).trips) : k0_off6 i k = ![0, 3, 512 * k.val, 0] :=
  congrArg (fun n => ![0, 3, n, 0]) (tile_start k (trip_lt i k))

theorem off_values3 (i : grid0.Coords) (k : Fin (k0_t1_loop i).trips) : k0_off9 i k = ![0, k.val, 240, 0] :=
  congrArg (fun n => ![0, n, 240, 0]) (tile_number k (trip_lt i k))

theorem off_keys4 (i : grid0.Coords) (k : Fin (k0_t1_loop i).trips) : k0_off8 i k = ![0, 4, 512 * k.val, 0] :=
  congrArg (fun n => ![0, 4, n, 0]) (tile_start k (trip_lt i k))

theorem off_values4 (i : grid0.Coords) (k : Fin (k0_t1_loop i).trips) : k0_off11 i k = ![0, k.val, 320, 0] :=
  congrArg (fun n => ![0, n, 320, 0]) (tile_number k (trip_lt i k))

theorem off_keys5 (i : grid0.Coords) (k : Fin (k0_t1_loop i).trips) : k0_off10 i k = ![0, 5, 512 * k.val, 0] :=
  congrArg (fun n => ![0, 5, n, 0]) (tile_start k (trip_lt i k))

theorem off_values5 (i : grid0.Coords) (k : Fin (k0_t1_loop i).trips) : k0_off13 i k = ![0, k.val, 400, 0] :=
  congrArg (fun n => ![0, n, 400, 0]) (tile_number k (trip_lt i k))

theorem off_keys6 (i : grid0.Coords) (k : Fin (k0_t1_loop i).trips) : k0_off12 i k = ![0, 6, 512 * k.val, 0] :=
  congrArg (fun n => ![0, 6, n, 0]) (tile_start k (trip_lt i k))

theorem off_values6 (i : grid0.Coords) (k : Fin (k0_t1_loop i).trips) : k0_off15 i k = ![0, k.val, 480, 0] :=
  congrArg (fun n => ![0, n, 480, 0]) (tile_number k (trip_lt i k))

theorem off_keys7 (i : grid0.Coords) (k : Fin (k0_t1_loop i).trips) : k0_off14 i k = ![0, 7, 512 * k.val, 0] :=
  congrArg (fun n => ![0, 7, n, 0]) (tile_start k (trip_lt i k))

theorem off_values7 (i : grid0.Coords) (k : Fin (k0_t1_loop i).trips) : k0_off16 i k = ![0, k.val, 560, 0] :=
  congrArg (fun n => ![0, n, 560, 0]) (tile_number k (trip_lt i k))

/-! ## A store that agrees -/

section
variable {x0 : Vec Ideal S1x8x1024x128 .bf16} {x1 : Vec Ideal S1x8x8192x128 .bf16} {x2 : Vec Ideal S1x16x640x512 .bf16} {i : ℕ}

/-- A store of maxima agrees with the maxima at any place it holds. -/
theorem allAt_peaks (h : Fin 8) (q : Fin 1024) (n : ℕ) (h' : Fin 8) (b : Fin 2) (off : Fin 3 → ℕ) (hoff : off = ![h'.val, 0, 512 * b.val]) (inb)
    (w : S1x1x512.Idx → Elt Ideal .f32) (hw : ∀ q' : Fin 512, w (ix3 0 0 q') = top (sc x0 x1 i h' (col b q')) n)
    (L : List (View.Piece (Elt Ideal) S8x1x1024 .f32)) (hL : View.AllAt L (ix3 h 0 q) (top (sc x0 x1 i h q) n)) :
    View.AllAt ((⟨Rect.unit (s := S8x1x1024) off S1x1x512.size inb, w⟩ : View.Piece (Elt Ideal) S8x1x1024 .f32) :: L) (ix3 h 0 q) (top (sc x0 x1 i h q) n) := by
  refine View.allAt_cons _ _ _ (fun x hx => ?_) hL
  obtain ⟨q', rfl⟩ : ∃ q' : Fin 512, x = (ix3 0 0 q' : S1x1x512.Idx) := ⟨x 2, by
    refine (eq_ix3 (n0 := 1) (n1 := 1) (n2 := 512) x).trans ?_
    rw [Fin.fin_one_eq_zero (x 0 : Fin 1), Fin.fin_one_eq_zero (x 1 : Fin 1)]⟩
  have e := (idx_peaks h' b off hoff inb q').symm.trans hx
  obtain ⟨rfl, -, rfl⟩ := (ix3_inj ..).1 e
  exact hw q'

/-- A store of sums agrees with the sums at any place it holds. -/
theorem allAt_sums (h : Fin 8) (r : Fin 80) (q : Fin 1024) (n : ℕ) (h' : Fin 8) (b : Fin 2) (off : Fin 3 → ℕ) (hoff : off = ![h'.val, 0, 512 * b.val]) (inb)
    (w : S1x80x512.Idx → Elt Ideal .f32) (hw : ∀ (r' : Fin 80) (q' : Fin 512), w (ix3 0 r' q') = mix (sc x0 x1 i h' (col b q')) (vl x2 h' r') n)
    (L : List (View.Piece (Elt Ideal) S8x80x1024 .f32)) (hL : View.AllAt L (ix3 h r q) (mix (sc x0 x1 i h q) (vl x2 h r) n)) :
    View.AllAt ((⟨Rect.unit (s := S8x80x1024) off S1x80x512.size inb, w⟩ : View.Piece (Elt Ideal) S8x80x1024 .f32) :: L) (ix3 h r q) (mix (sc x0 x1 i h q) (vl x2 h r) n) := by
  refine View.allAt_cons _ _ _ (fun x hx => ?_) hL
  obtain ⟨r', q', rfl⟩ : ∃ (r' : Fin 80) (q' : Fin 512), x = (ix3 0 r' q' : S1x80x512.Idx) := ⟨x 1, x 2, by
    refine (eq_ix3 (n0 := 1) (n1 := 80) (n2 := 512) x).trans ?_
    rw [Fin.fin_one_eq_zero (x 0 : Fin 1)]⟩
  have e := (idx_sums h' b off hoff inb r' q').symm.trans hx
  obtain ⟨rfl, rfl, rfl⟩ := (ix3_inj ..).1 e
  exact hw r' q'

/-- A load of the maxima from contents that hold them. -/
theorem read_peaks (arg7 : Memref sig .tc .vmem S8x1x1024 .f32) (f7 : BufTy.Contents (Elt Ideal) arg7.view.ty) (n : ℕ)
    (hf : ∀ (h : Fin 8) (q : Fin 1024), arg7.view.read (Elt Ideal) f7 (ix3 h 0 q) = top (sc x0 x1 i h q) n)
    (h : Fin 8) (b : Fin 2) (off : Fin 3 → ℕ) (hoff : off = ![h.val, 0, 512 * b.val]) (inb) (q : Fin 512) :
    View.readAt (Elt Ideal) arg7.view (Rect.unit (s := S8x1x1024) off S1x1x512.size inb).toLoadRect f7 (ix3 0 0 q) = top (sc x0 x1 i h (col b q)) n :=
  (congrArg (arg7.view.read (Elt Ideal) f7) (idx_peaks h b off hoff inb q)).trans (hf _ _)

/-- A load of the sums from contents that hold them. -/
theorem read_sums (arg8 : Memref sig .tc .vmem S8x80x1024 .f32) (f8 : BufTy.Contents (Elt Ideal) arg8.view.ty) (n : ℕ)
    (hf : ∀ (h : Fin 8) (r : Fin 80) (q : Fin 1024), arg8.view.read (Elt Ideal) f8 (ix3 h r q) = mix (sc x0 x1 i h q) (vl x2 h r) n)
    (h : Fin 8) (b : Fin 2) (off : Fin 3 → ℕ) (hoff : off = ![h.val, 0, 512 * b.val]) (inb) (r : Fin 80) (q : Fin 512) :
    View.readAt (Elt Ideal) arg8.view (Rect.unit (s := S8x80x1024) off S1x80x512.size inb).toLoadRect f8 (ix3 0 r q) = mix (sc x0 x1 i h (col b q)) (vl x2 h r) n :=
  (congrArg (arg8.view.read (Elt Ideal) f8) (idx_sums h b off hoff inb r q)).trans (hf _ _ _)

end

/-! ## A pass -/

section
variable (𝒱 : Variants) (c : Dev nD) (bd : Option 𝒱.V) (i : grid0.Coords)
  (arg3 : Memref sig .tc .vmem S1x8x1024x128 .bf16) (harg3 : arg3.IsWhole) (arg4 : Memref sig .tc .vmem S1x8x8192x128 .bf16) (harg4 : arg4.IsWhole)
  (arg5 : Memref sig .tc .vmem S1x16x640x512 .bf16) (harg5 : arg5.IsWhole) (arg6 : Memref sig .tc .vmem S1x1024x512 .bf16) (harg6 : arg6.IsWhole)
  (arg7 : Memref sig .tc .vmem S8x1x1024 .f32) (harg7 : arg7.IsWhole) (arg8 : Memref sig .tc .vmem S8x80x1024 .f32) (harg8 : arg8.IsWhole)
  (x0 : Vec Ideal S1x8x1024x128 .bf16) (x1 : Vec Ideal S1x8x8192x128 .bf16) (x2 : Vec Ideal S1x16x640x512 .bf16)
  (k : Fin (k0_t1_loop i).trips) (f7 : BufTy.Contents (Elt Ideal) arg7.view.ty) (f8 : BufTy.Contents (Elt Ideal) arg8.view.ty)

/-- After a pass the stores hold the maxima over one tile of keys more. -/
theorem trip_peaks (hf : ∀ (h : Fin 8) (q : Fin 1024), arg7.view.read (Elt Ideal) f7 (ix3 h 0 q) = top (sc x0 x1 (i 2).val h q) (512 * k.val)) (h : Fin 8) (q : Fin 1024) :
    arg7.view.read (Elt Ideal) (arg7.view.writes (Elt Ideal) f7
      ((tripL_k0_t1 (F := Ideal) 𝒱 c bd i arg3 harg3 arg4 harg4 arg5 harg5 arg6 harg6 arg7 harg7 arg8 harg8 (harg3.unread x0) (harg4.unread x1) (harg5.unread x2) k f7 f8).1)) (ix3 h 0 q)
      = top (sc x0 x1 (i 2).val h q) (512 * k.val + 512) := by
  unfold tripL_k0_t1 trip_k0_t1
  dsimp only
  refine (View.read_writes_apply_eq_canon _ _ _ _ (View.cover_of_tiled_head _ _ _ (by rfl) _)).trans (View.canon_eq_of_allAt _ _ _ (View.cover_of_tiled_head _ _ _ (by rfl) _) ?_)
  refine allAt_peaks h q _ 7 1 _ rfl _ _ (peakOut_top x0 x1 (i 2).val 7 1 (512 * k.val) _ _ (score_tile x0 x1 (i 2).val 7 1 (512 * k.val) _ _ (by have := trip_lt i k; omega) (by have := k.isLt; have := trips_below i; omega) (load_keys x1 arg4 harg4 7 (512 * k.val) (by have := trip_lt i k; omega) _ (off_keys7 i k) _) (load_queries x0 arg3 harg3 7 1 _ rfl _)) (read_peaks arg7 f7 _ hf 7 1 _ rfl _)) _ ?_
  refine allAt_peaks h q _ 7 0 _ rfl _ _ (peakOut_top x0 x1 (i 2).val 7 0 (512 * k.val) _ _ (score_tile x0 x1 (i 2).val 7 0 (512 * k.val) _ _ (by have := trip_lt i k; omega) (by have := k.isLt; have := trips_below i; omega) (load_keys x1 arg4 harg4 7 (512 * k.val) (by have := trip_lt i k; omega) _ (off_keys7 i k) _) (load_queries x0 arg3 harg3 7 0 _ rfl _)) (read_peaks arg7 f7 _ hf 7 0 _ rfl _)) _ ?_
  refine allAt_peaks h q _ 6 1 _ rfl _ _ (peakOut_top x0 x1 (i 2).val 6 1 (512 * k.val) _ _ (score_tile x0 x1 (i 2).val 6 1 (512 * k.val) _ _ (by have := trip_lt i k; omega) (by have := k.isLt; have := trips_below i; omega) (load_keys x1 arg4 harg4 6 (512 * k.val) (by have := trip_lt i k; omega) _ (off_keys6 i k) _) (load_queries x0 arg3 harg3 6 1 _ rfl _)) (read_peaks arg7 f7 _ hf 6 1 _ rfl _)) _ ?_
  refine allAt_peaks h q _ 6 0 _ rfl _ _ (peakOut_top x0 x1 (i 2).val 6 0 (512 * k.val) _ _ (score_tile x0 x1 (i 2).val 6 0 (512 * k.val) _ _ (by have := trip_lt i k; omega) (by have := k.isLt; have := trips_below i; omega) (load_keys x1 arg4 harg4 6 (512 * k.val) (by have := trip_lt i k; omega) _ (off_keys6 i k) _) (load_queries x0 arg3 harg3 6 0 _ rfl _)) (read_peaks arg7 f7 _ hf 6 0 _ rfl _)) _ ?_
  refine allAt_peaks h q _ 5 1 _ rfl _ _ (peakOut_top x0 x1 (i 2).val 5 1 (512 * k.val) _ _ (score_tile x0 x1 (i 2).val 5 1 (512 * k.val) _ _ (by have := trip_lt i k; omega) (by have := k.isLt; have := trips_below i; omega) (load_keys x1 arg4 harg4 5 (512 * k.val) (by have := trip_lt i k; omega) _ (off_keys5 i k) _) (load_queries x0 arg3 harg3 5 1 _ rfl _)) (read_peaks arg7 f7 _ hf 5 1 _ rfl _)) _ ?_
  refine allAt_peaks h q _ 5 0 _ rfl _ _ (peakOut_top x0 x1 (i 2).val 5 0 (512 * k.val) _ _ (score_tile x0 x1 (i 2).val 5 0 (512 * k.val) _ _ (by have := trip_lt i k; omega) (by have := k.isLt; have := trips_below i; omega) (load_keys x1 arg4 harg4 5 (512 * k.val) (by have := trip_lt i k; omega) _ (off_keys5 i k) _) (load_queries x0 arg3 harg3 5 0 _ rfl _)) (read_peaks arg7 f7 _ hf 5 0 _ rfl _)) _ ?_
  refine allAt_peaks h q _ 4 1 _ rfl _ _ (peakOut_top x0 x1 (i 2).val 4 1 (512 * k.val) _ _ (score_tile x0 x1 (i 2).val 4 1 (512 * k.val) _ _ (by have := trip_lt i k; omega) (by have := k.isLt; have := trips_below i; omega) (load_keys x1 arg4 harg4 4 (512 * k.val) (by have := trip_lt i k; omega) _ (off_keys4 i k) _) (load_queries x0 arg3 harg3 4 1 _ rfl _)) (read_peaks arg7 f7 _ hf 4 1 _ rfl _)) _ ?_
  refine allAt_peaks h q _ 4 0 _ rfl _ _ (peakOut_top x0 x1 (i 2).val 4 0 (512 * k.val) _ _ (score_tile x0 x1 (i 2).val 4 0 (512 * k.val) _ _ (by have := trip_lt i k; omega) (by have := k.isLt; have := trips_below i; omega) (load_keys x1 arg4 harg4 4 (512 * k.val) (by have := trip_lt i k; omega) _ (off_keys4 i k) _) (load_queries x0 arg3 harg3 4 0 _ rfl _)) (read_peaks arg7 f7 _ hf 4 0 _ rfl _)) _ ?_
  refine allAt_peaks h q _ 3 1 _ rfl _ _ (peakOut_top x0 x1 (i 2).val 3 1 (512 * k.val) _ _ (score_tile x0 x1 (i 2).val 3 1 (512 * k.val) _ _ (by have := trip_lt i k; omega) (by have := k.isLt; have := trips_below i; omega) (load_keys x1 arg4 harg4 3 (512 * k.val) (by have := trip_lt i k; omega) _ (off_keys3 i k) _) (load_queries x0 arg3 harg3 3 1 _ rfl _)) (read_peaks arg7 f7 _ hf 3 1 _ rfl _)) _ ?_
  refine allAt_peaks h q _ 3 0 _ rfl _ _ (peakOut_top x0 x1 (i 2).val 3 0 (512 * k.val) _ _ (score_tile x0 x1 (i 2).val 3 0 (512 * k.val) _ _ (by have := trip_lt i k; omega) (by have := k.isLt; have := trips_below i; omega) (load_keys x1 arg4 harg4 3 (512 * k.val) (by have := trip_lt i k; omega) _ (off_keys3 i k) _) (load_queries x0 arg3 harg3 3 0 _ rfl _)) (read_peaks arg7 f7 _ hf 3 0 _ rfl _)) _ ?_
  refine allAt_peaks h q _ 2 1 _ rfl _ _ (peakOut_top x0 x1 (i 2).val 2 1 (512 * k.val) _ _ (score_tile x0 x1 (i 2).val 2 1 (512 * k.val) _ _ (by have := trip_lt i k; omega) (by have := k.isLt; have := trips_below i; omega) (load_keys x1 arg4 harg4 2 (512 * k.val) (by have := trip_lt i k; omega) _ (off_keys2 i k) _) (load_queries x0 arg3 harg3 2 1 _ rfl _)) (read_peaks arg7 f7 _ hf 2 1 _ rfl _)) _ ?_
  refine allAt_peaks h q _ 2 0 _ rfl _ _ (peakOut_top x0 x1 (i 2).val 2 0 (512 * k.val) _ _ (score_tile x0 x1 (i 2).val 2 0 (512 * k.val) _ _ (by have := trip_lt i k; omega) (by have := k.isLt; have := trips_below i; omega) (load_keys x1 arg4 harg4 2 (512 * k.val) (by have := trip_lt i k; omega) _ (off_keys2 i k) _) (load_queries x0 arg3 harg3 2 0 _ rfl _)) (read_peaks arg7 f7 _ hf 2 0 _ rfl _)) _ ?_
  refine allAt_peaks h q _ 1 1 _ rfl _ _ (peakOut_top x0 x1 (i 2).val 1 1 (512 * k.val) _ _ (score_tile x0 x1 (i 2).val 1 1 (512 * k.val) _ _ (by have := trip_lt i k; omega) (by have := k.isLt; have := trips_below i; omega) (load_keys x1 arg4 harg4 1 (512 * k.val) (by have := trip_lt i k; omega) _ (off_keys1 i k) _) (load_queries x0 arg3 harg3 1 1 _ rfl _)) (read_peaks arg7 f7 _ hf 1 1 _ rfl _)) _ ?_
  refine allAt_peaks h q _ 1 0 _ rfl _ _ (peakOut_top x0 x1 (i 2).val 1 0 (512 * k.val) _ _ (score_tile x0 x1 (i 2).val 1 0 (512 * k.val) _ _ (by have := trip_lt i k; omega) (by have := k.isLt; have := trips_below i; omega) (load_keys x1 arg4 harg4 1 (512 * k.val) (by have := trip_lt i k; omega) _ (off_keys1 i k) _) (load_queries x0 arg3 harg3 1 0 _ rfl _)) (read_peaks arg7 f7 _ hf 1 0 _ rfl _)) _ ?_
  refine allAt_peaks h q _ 0 1 _ rfl _ _ (peakOut_top x0 x1 (i 2).val 0 1 (512 * k.val) _ _ (score_tile x0 x1 (i 2).val 0 1 (512 * k.val) _ _ (by have := trip_lt i k; omega) (by have := k.isLt; have := trips_below i; omega) (load_keys x1 arg4 harg4 0 (512 * k.val) (by have := trip_lt i k; omega) _ (off_keys0 i k) _) (load_queries x0 arg3 harg3 0 1 _ rfl _)) (read_peaks arg7 f7 _ hf 0 1 _ rfl _)) _ ?_
  refine allAt_peaks h q _ 0 0 _ rfl _ _ (peakOut_top x0 x1 (i 2).val 0 0 (512 * k.val) _ _ (score_tile x0 x1 (i 2).val 0 0 (512 * k.val) _ _ (by have := trip_lt i k; omega) (by have := k.isLt; have := trips_below i; omega) (load_keys x1 arg4 harg4 0 (512 * k.val) (by have := trip_lt i k; omega) _ (off_keys0 i k) _) (load_queries x0 arg3 harg3 0 0 _ rfl _)) (read_peaks arg7 f7 _ hf 0 0 _ rfl _)) _ ?_
  exact View.allAt_nil _ _

/-- After a pass the stores hold the sums over one tile of keys more. -/
theorem trip_sums (hf : ∀ (h : Fin 8) (q : Fin 1024), arg7.view.read (Elt Ideal) f7 (ix3 h 0 q) = top (sc x0 x1 (i 2).val h q) (512 * k.val))
    (hf' : ∀ (h : Fin 8) (r : Fin 80) (q : Fin 1024), arg8.view.read (Elt Ideal) f8 (ix3 h r q) = mix (sc x0 x1 (i 2).val h q) (vl x2 h r) (512 * k.val))
    (h : Fin 8) (r : Fin 80) (q : Fin 1024) :
    arg8.view.read (Elt Ideal) (arg8.view.writes (Elt Ideal) f8
      ((tripL_k0_t1 (F := Ideal) 𝒱 c bd i arg3 harg3 arg4 harg4 arg5 harg5 arg6 harg6 arg7 harg7 arg8 harg8 (harg3.unread x0) (harg4.unread x1) (harg5.unread x2) k f7 f8).2)) (ix3 h r q)
      = mix (sc x0 x1 (i 2).val h q) (vl x2 h r) (512 * k.val + 512) := by
  unfold tripL_k0_t1 trip_k0_t1
  dsimp only
  refine (View.read_writes_apply_eq_canon _ _ _ _ (View.cover_of_tiled_head _ _ _ (by rfl) _)).trans (View.canon_eq_of_allAt _ _ _ (View.cover_of_tiled_head _ _ _ (by rfl) _) ?_)
  refine allAt_sums h r q _ 7 1 _ rfl _ _ (sumOut_mix x0 x1 x2 (i 2).val 7 1 (512 * k.val) _ _ _ _ (score_tile x0 x1 (i 2).val 7 1 (512 * k.val) _ _ (by have := trip_lt i k; omega) (by have := k.isLt; have := trips_below i; omega) (load_keys x1 arg4 harg4 7 (512 * k.val) (by have := trip_lt i k; omega) _ (off_keys7 i k) _) (load_queries x0 arg3 harg3 7 1 _ rfl _)) (read_peaks arg7 f7 _ hf 7 1 _ rfl _) (load_values x2 arg5 harg5 7 k.val (trip_lt i k) _ rfl _ (off_values7 i k) _) (read_sums arg8 f8 _ hf' 7 1 _ rfl _)) _ ?_
  refine allAt_sums h r q _ 7 0 _ rfl _ _ (sumOut_mix x0 x1 x2 (i 2).val 7 0 (512 * k.val) _ _ _ _ (score_tile x0 x1 (i 2).val 7 0 (512 * k.val) _ _ (by have := trip_lt i k; omega) (by have := k.isLt; have := trips_below i; omega) (load_keys x1 arg4 harg4 7 (512 * k.val) (by have := trip_lt i k; omega) _ (off_keys7 i k) _) (load_queries x0 arg3 harg3 7 0 _ rfl _)) (read_peaks arg7 f7 _ hf 7 0 _ rfl _) (load_values x2 arg5 harg5 7 k.val (trip_lt i k) _ rfl _ (off_values7 i k) _) (read_sums arg8 f8 _ hf' 7 0 _ rfl _)) _ ?_
  refine allAt_sums h r q _ 6 1 _ rfl _ _ (sumOut_mix x0 x1 x2 (i 2).val 6 1 (512 * k.val) _ _ _ _ (score_tile x0 x1 (i 2).val 6 1 (512 * k.val) _ _ (by have := trip_lt i k; omega) (by have := k.isLt; have := trips_below i; omega) (load_keys x1 arg4 harg4 6 (512 * k.val) (by have := trip_lt i k; omega) _ (off_keys6 i k) _) (load_queries x0 arg3 harg3 6 1 _ rfl _)) (read_peaks arg7 f7 _ hf 6 1 _ rfl _) (load_values x2 arg5 harg5 6 k.val (trip_lt i k) _ rfl _ (off_values6 i k) _) (read_sums arg8 f8 _ hf' 6 1 _ rfl _)) _ ?_
  refine allAt_sums h r q _ 6 0 _ rfl _ _ (sumOut_mix x0 x1 x2 (i 2).val 6 0 (512 * k.val) _ _ _ _ (score_tile x0 x1 (i 2).val 6 0 (512 * k.val) _ _ (by have := trip_lt i k; omega) (by have := k.isLt; have := trips_below i; omega) (load_keys x1 arg4 harg4 6 (512 * k.val) (by have := trip_lt i k; omega) _ (off_keys6 i k) _) (load_queries x0 arg3 harg3 6 0 _ rfl _)) (read_peaks arg7 f7 _ hf 6 0 _ rfl _) (load_values x2 arg5 harg5 6 k.val (trip_lt i k) _ rfl _ (off_values6 i k) _) (read_sums arg8 f8 _ hf' 6 0 _ rfl _)) _ ?_
  refine allAt_sums h r q _ 5 1 _ rfl _ _ (sumOut_mix x0 x1 x2 (i 2).val 5 1 (512 * k.val) _ _ _ _ (score_tile x0 x1 (i 2).val 5 1 (512 * k.val) _ _ (by have := trip_lt i k; omega) (by have := k.isLt; have := trips_below i; omega) (load_keys x1 arg4 harg4 5 (512 * k.val) (by have := trip_lt i k; omega) _ (off_keys5 i k) _) (load_queries x0 arg3 harg3 5 1 _ rfl _)) (read_peaks arg7 f7 _ hf 5 1 _ rfl _) (load_values x2 arg5 harg5 5 k.val (trip_lt i k) _ rfl _ (off_values5 i k) _) (read_sums arg8 f8 _ hf' 5 1 _ rfl _)) _ ?_
  refine allAt_sums h r q _ 5 0 _ rfl _ _ (sumOut_mix x0 x1 x2 (i 2).val 5 0 (512 * k.val) _ _ _ _ (score_tile x0 x1 (i 2).val 5 0 (512 * k.val) _ _ (by have := trip_lt i k; omega) (by have := k.isLt; have := trips_below i; omega) (load_keys x1 arg4 harg4 5 (512 * k.val) (by have := trip_lt i k; omega) _ (off_keys5 i k) _) (load_queries x0 arg3 harg3 5 0 _ rfl _)) (read_peaks arg7 f7 _ hf 5 0 _ rfl _) (load_values x2 arg5 harg5 5 k.val (trip_lt i k) _ rfl _ (off_values5 i k) _) (read_sums arg8 f8 _ hf' 5 0 _ rfl _)) _ ?_
  refine allAt_sums h r q _ 4 1 _ rfl _ _ (sumOut_mix x0 x1 x2 (i 2).val 4 1 (512 * k.val) _ _ _ _ (score_tile x0 x1 (i 2).val 4 1 (512 * k.val) _ _ (by have := trip_lt i k; omega) (by have := k.isLt; have := trips_below i; omega) (load_keys x1 arg4 harg4 4 (512 * k.val) (by have := trip_lt i k; omega) _ (off_keys4 i k) _) (load_queries x0 arg3 harg3 4 1 _ rfl _)) (read_peaks arg7 f7 _ hf 4 1 _ rfl _) (load_values x2 arg5 harg5 4 k.val (trip_lt i k) _ rfl _ (off_values4 i k) _) (read_sums arg8 f8 _ hf' 4 1 _ rfl _)) _ ?_
  refine allAt_sums h r q _ 4 0 _ rfl _ _ (sumOut_mix x0 x1 x2 (i 2).val 4 0 (512 * k.val) _ _ _ _ (score_tile x0 x1 (i 2).val 4 0 (512 * k.val) _ _ (by have := trip_lt i k; omega) (by have := k.isLt; have := trips_below i; omega) (load_keys x1 arg4 harg4 4 (512 * k.val) (by have := trip_lt i k; omega) _ (off_keys4 i k) _) (load_queries x0 arg3 harg3 4 0 _ rfl _)) (read_peaks arg7 f7 _ hf 4 0 _ rfl _) (load_values x2 arg5 harg5 4 k.val (trip_lt i k) _ rfl _ (off_values4 i k) _) (read_sums arg8 f8 _ hf' 4 0 _ rfl _)) _ ?_
  refine allAt_sums h r q _ 3 1 _ rfl _ _ (sumOut_mix x0 x1 x2 (i 2).val 3 1 (512 * k.val) _ _ _ _ (score_tile x0 x1 (i 2).val 3 1 (512 * k.val) _ _ (by have := trip_lt i k; omega) (by have := k.isLt; have := trips_below i; omega) (load_keys x1 arg4 harg4 3 (512 * k.val) (by have := trip_lt i k; omega) _ (off_keys3 i k) _) (load_queries x0 arg3 harg3 3 1 _ rfl _)) (read_peaks arg7 f7 _ hf 3 1 _ rfl _) (load_values x2 arg5 harg5 3 k.val (trip_lt i k) _ rfl _ (off_values3 i k) _) (read_sums arg8 f8 _ hf' 3 1 _ rfl _)) _ ?_
  refine allAt_sums h r q _ 3 0 _ rfl _ _ (sumOut_mix x0 x1 x2 (i 2).val 3 0 (512 * k.val) _ _ _ _ (score_tile x0 x1 (i 2).val 3 0 (512 * k.val) _ _ (by have := trip_lt i k; omega) (by have := k.isLt; have := trips_below i; omega) (load_keys x1 arg4 harg4 3 (512 * k.val) (by have := trip_lt i k; omega) _ (off_keys3 i k) _) (load_queries x0 arg3 harg3 3 0 _ rfl _)) (read_peaks arg7 f7 _ hf 3 0 _ rfl _) (load_values x2 arg5 harg5 3 k.val (trip_lt i k) _ rfl _ (off_values3 i k) _) (read_sums arg8 f8 _ hf' 3 0 _ rfl _)) _ ?_
  refine allAt_sums h r q _ 2 1 _ rfl _ _ (sumOut_mix x0 x1 x2 (i 2).val 2 1 (512 * k.val) _ _ _ _ (score_tile x0 x1 (i 2).val 2 1 (512 * k.val) _ _ (by have := trip_lt i k; omega) (by have := k.isLt; have := trips_below i; omega) (load_keys x1 arg4 harg4 2 (512 * k.val) (by have := trip_lt i k; omega) _ (off_keys2 i k) _) (load_queries x0 arg3 harg3 2 1 _ rfl _)) (read_peaks arg7 f7 _ hf 2 1 _ rfl _) (load_values x2 arg5 harg5 2 k.val (trip_lt i k) _ rfl _ (off_values2 i k) _) (read_sums arg8 f8 _ hf' 2 1 _ rfl _)) _ ?_
  refine allAt_sums h r q _ 2 0 _ rfl _ _ (sumOut_mix x0 x1 x2 (i 2).val 2 0 (512 * k.val) _ _ _ _ (score_tile x0 x1 (i 2).val 2 0 (512 * k.val) _ _ (by have := trip_lt i k; omega) (by have := k.isLt; have := trips_below i; omega) (load_keys x1 arg4 harg4 2 (512 * k.val) (by have := trip_lt i k; omega) _ (off_keys2 i k) _) (load_queries x0 arg3 harg3 2 0 _ rfl _)) (read_peaks arg7 f7 _ hf 2 0 _ rfl _) (load_values x2 arg5 harg5 2 k.val (trip_lt i k) _ rfl _ (off_values2 i k) _) (read_sums arg8 f8 _ hf' 2 0 _ rfl _)) _ ?_
  refine allAt_sums h r q _ 1 1 _ rfl _ _ (sumOut_mix x0 x1 x2 (i 2).val 1 1 (512 * k.val) _ _ _ _ (score_tile x0 x1 (i 2).val 1 1 (512 * k.val) _ _ (by have := trip_lt i k; omega) (by have := k.isLt; have := trips_below i; omega) (load_keys x1 arg4 harg4 1 (512 * k.val) (by have := trip_lt i k; omega) _ (off_keys1 i k) _) (load_queries x0 arg3 harg3 1 1 _ rfl _)) (read_peaks arg7 f7 _ hf 1 1 _ rfl _) (load_values x2 arg5 harg5 1 k.val (trip_lt i k) _ rfl _ (off_values1 i k) _) (read_sums arg8 f8 _ hf' 1 1 _ rfl _)) _ ?_
  refine allAt_sums h r q _ 1 0 _ rfl _ _ (sumOut_mix x0 x1 x2 (i 2).val 1 0 (512 * k.val) _ _ _ _ (score_tile x0 x1 (i 2).val 1 0 (512 * k.val) _ _ (by have := trip_lt i k; omega) (by have := k.isLt; have := trips_below i; omega) (load_keys x1 arg4 harg4 1 (512 * k.val) (by have := trip_lt i k; omega) _ (off_keys1 i k) _) (load_queries x0 arg3 harg3 1 0 _ rfl _)) (read_peaks arg7 f7 _ hf 1 0 _ rfl _) (load_values x2 arg5 harg5 1 k.val (trip_lt i k) _ rfl _ (off_values1 i k) _) (read_sums arg8 f8 _ hf' 1 0 _ rfl _)) _ ?_
  refine allAt_sums h r q _ 0 1 _ rfl _ _ (sumOut_mix x0 x1 x2 (i 2).val 0 1 (512 * k.val) _ _ _ _ (score_tile x0 x1 (i 2).val 0 1 (512 * k.val) _ _ (by have := trip_lt i k; omega) (by have := k.isLt; have := trips_below i; omega) (load_keys x1 arg4 harg4 0 (512 * k.val) (by have := trip_lt i k; omega) _ (off_keys0 i k) _) (load_queries x0 arg3 harg3 0 1 _ rfl _)) (read_peaks arg7 f7 _ hf 0 1 _ rfl _) (load_values x2 arg5 harg5 0 k.val (trip_lt i k) _ rfl _ (off_values0 i k) _) (read_sums arg8 f8 _ hf' 0 1 _ rfl _)) _ ?_
  refine allAt_sums h r q _ 0 0 _ rfl _ _ (sumOut_mix x0 x1 x2 (i 2).val 0 0 (512 * k.val) _ _ _ _ (score_tile x0 x1 (i 2).val 0 0 (512 * k.val) _ _ (by have := trip_lt i k; omega) (by have := k.isLt; have := trips_below i; omega) (load_keys x1 arg4 harg4 0 (512 * k.val) (by have := trip_lt i k; omega) _ (off_keys0 i k) _) (load_queries x0 arg3 harg3 0 0 _ rfl _)) (read_peaks arg7 f7 _ hf 0 0 _ rfl _) (load_values x2 arg5 harg5 0 k.val (trip_lt i k) _ rfl _ (off_values0 i k) _) (read_sums arg8 f8 _ hf' 0 0 _ rfl _)) _ ?_
  exact View.allAt_nil _ _

/-- Before pass `k` the scratch buffers hold the maxima and the sums over the first `k` tiles of keys, given that they start empty. -/
theorem loop_state (G7 : BufTy.Contents (Elt Ideal) arg7.view.ty) (G8 : BufTy.Contents (Elt Ideal) arg8.view.ty)
    (h7 : ∀ (h : Fin 8) (q : Fin 1024), arg7.view.read (Elt Ideal) G7 (ix3 h 0 q) = (⊥ : EReal))
    (h8 : ∀ (h : Fin 8) (r : Fin 80) (q : Fin 1024), arg8.view.read (Elt Ideal) G8 (ix3 h r q) = (0 : EReal)) :
    ∀ k : ℕ, k ≤ (k0_t1_loop i).trips →
      (∀ (h : Fin 8) (q : Fin 1024), arg7.view.read (Elt Ideal) (arg7.view.writes (Elt Ideal) G7
        (pb_k0_t1 (F := Ideal) 𝒱 c bd i arg3 harg3 arg4 harg4 arg5 harg5 arg6 harg6 arg7 harg7 arg8 harg8 (harg3.unread x0) (harg4.unread x1) (harg5.unread x2) G7 G8 k).1) (ix3 h 0 q)
        = top (sc x0 x1 (i 2).val h q) (512 * k)) ∧
      (∀ (h : Fin 8) (r : Fin 80) (q : Fin 1024), arg8.view.read (Elt Ideal) (arg8.view.writes (Elt Ideal) G8
        (pb_k0_t1 (F := Ideal) 𝒱 c bd i arg3 harg3 arg4 harg4 arg5 harg5 arg6 harg6 arg7 harg7 arg8 harg8 (harg3.unread x0) (harg4.unread x1) (harg5.unread x2) G7 G8 k).2) (ix3 h r q)
        = mix (sc x0 x1 (i 2).val h q) (vl x2 h r) (512 * k)) := by
  intro k
  induction k with
  | zero =>
    intro _
    refine ⟨fun h q => ?_, fun h r q => ?_⟩
    · rw [Nat.mul_zero, top_zero]; exact h7 h q
    · rw [Nat.mul_zero, mix_zero]; exact h8 h r q
  | succ k ih =>
    intro hk
    obtain ⟨ih7, ih8⟩ := ih (by omega)
    have e := pb_k0_t1_succ (F := Ideal) 𝒱 c bd i arg3 harg3 arg4 harg4 arg5 harg5 arg6 harg6 arg7 harg7 arg8 harg8 (harg3.unread x0) (harg4.unread x1) (harg5.unread x2) G7 G8 ⟨k, hk⟩
    dsimp only at e
    rw [e]
    refine ⟨fun h q => ?_, fun h r q => ?_⟩
    · rw [View.writes_append]
      exact trip_peaks 𝒱 c bd i arg3 harg3 arg4 harg4 arg5 harg5 arg6 harg6 arg7 harg7 arg8 harg8 x0 x1 x2 ⟨k, hk⟩ _ _ ih7 h q
    · rw [View.writes_append]
      exact trip_sums 𝒱 c bd i arg3 harg3 arg4 harg4 arg5 harg5 arg6 harg6 arg7 harg7 arg8 harg8 x0 x1 x2 ⟨k, hk⟩ _ _ ih7 ih8 h r q

end

end Cert.KernelIdeal.Attn

end
-- ==== Proof.Diag.lean ====
/- The whole body at one block of queries: the loop's tiles, then the two tiles of keys at the places of the queries themselves, the first
   masked for the first half of the queries and the second, for the second half only, masked. -/
module

public import proofs.«01_k».proof.Proof.Trip

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-! ## The counts of keys -/

/-- The first of the two last tiles, taken in for the first `j` pairs of a head and a half. -/
def cA (n j : ℕ) : Fin 8 → Fin 2 → ℕ := fun h b => if 2 * h.val + b.val < j then n + 512 else n

/-- The second of the two last tiles, taken in for the second half of the first `j` heads. -/
def cB (n j : ℕ) : Fin 8 → Fin 2 → ℕ := fun h b => if b.val = 1 ∧ h.val < j then n + 512 + 512 else n + 512

theorem cA_zero (n : ℕ) : cA n 0 = fun _ _ => n := by funext h b; simp [cA]

theorem cA_all (n : ℕ) : cA n 16 = cB n 0 := by
  funext h b
  have : 2 * h.val + b.val < 16 := by omega
  simp [cA, cB, this]

theorem cA_at (n j : ℕ) (h : Fin 8) (b : Fin 2) (hj : j = 2 * h.val + b.val) : cA n j h b = n := by
  simp only [cA]; rw [if_neg (by omega)]

theorem cA_bump (n j : ℕ) (h : Fin 8) (b : Fin 2) (hj : j = 2 * h.val + b.val) : bump (cA n j) h b = cA n (j + 1) := by
  funext h' b'
  by_cases e : h' = h ∧ b' = b
  · obtain ⟨rfl, rfl⟩ := e
    simp only [bump, and_self, ↓reduceIte, cA_at n j h' b' hj]
    simp only [cA]; rw [if_pos (by omega)]
  · simp only [bump, if_neg e, cA]
    have : 2 * h'.val + b'.val ≠ j := fun hh => e ⟨Fin.ext (by omega), Fin.ext (by omega)⟩
    by_cases hlt : 2 * h'.val + b'.val < j
    · rw [if_pos hlt, if_pos (by omega)]
    · rw [if_neg hlt, if_neg (by omega)]

theorem cB_at (n : ℕ) (h : Fin 8) (b : Fin 2) (hb : b.val = 1) : cB n h.val h b = n + 512 := by
  simp only [cB]; rw [if_neg (by omega)]

theorem cB_bump (n : ℕ) (h : Fin 8) (b : Fin 2) (hb : b.val = 1) : bump (cB n h.val) h b = cB n (h.val + 1) := by
  funext h' b'
  by_cases e : h' = h ∧ b' = b
  · obtain ⟨rfl, rfl⟩ := e
    simp only [bump, and_self, ↓reduceIte, cB_at n h' b' hb]
    simp only [cB]; rw [if_pos (by omega)]
  · simp only [bump, if_neg e, cB]
    have : b'.val = 1 → h'.val ≠ h.val := fun h1 hh => e ⟨Fin.ext hh, Fin.ext (by omega)⟩
    by_cases hlt : b'.val = 1 ∧ h'.val < h.val
    · rw [if_pos hlt, if_pos (by omega)]
    · rw [if_neg hlt, if_neg (by omega)]

/-! ## Where the two tiles are loaded -/

theorem start_first (i : grid0.Coords) : (Scalar.indexCast (Scalar.muli (Scalar.addi (Scalar.muli (BitVec.ofNat 32 (i 2).val) 2#32) 0#32) 512#32)).toNat = 1024 * (i 2).val :=
  (by decide +kernel : ∀ n : Fin 8, (Scalar.indexCast (Scalar.muli (Scalar.addi (Scalar.muli (BitVec.ofNat 32 n.val) 2#32) 0#32) 512#32)).toNat = 1024 * n.val) (i 2)

theorem start_second (i : grid0.Coords) : (Scalar.indexCast (Scalar.muli (Scalar.addi (Scalar.muli (BitVec.ofNat 32 (i 2).val) 2#32) 1#32) 512#32)).toNat = 1024 * (i 2).val + 512 :=
  (by decide +kernel : ∀ n : Fin 8, (Scalar.indexCast (Scalar.muli (Scalar.addi (Scalar.muli (BitVec.ofNat 32 n.val) 2#32) 1#32) 512#32)).toNat = 1024 * n.val + 512) (i 2)

theorem number_first (i : grid0.Coords) : (Scalar.indexCast (Scalar.addi (Scalar.muli (BitVec.ofNat 32 (i 2).val) 2#32) 0#32)).toNat = 2 * (i 2).val :=
  (by decide +kernel : ∀ n : Fin 8, (Scalar.indexCast (Scalar.addi (Scalar.muli (BitVec.ofNat 32 n.val) 2#32) 0#32)).toNat = 2 * n.val) (i 2)

theorem number_second (i : grid0.Coords) : (Scalar.indexCast (Scalar.addi (Scalar.muli (BitVec.ofNat 32 (i 2).val) 2#32) 1#32)).toNat = 2 * (i 2).val + 1 :=
  (by decide +kernel : ∀ n : Fin 8, (Scalar.indexCast (Scalar.addi (Scalar.muli (BitVec.ofNat 32 n.val) 2#32) 1#32)).toNat = 2 * n.val + 1) (i 2)

theorem keys_first0 (i : grid0.Coords) : k0_off33 i 0#32 = ![0, 0, 1024 * (i 2).val, 0] := congrArg (fun n => ![0, 0, n, 0]) (start_first i)
theorem keys_second0 (i : grid0.Coords) : k0_off33 i 1#32 = ![0, 0, 1024 * (i 2).val + 512, 0] := congrArg (fun n => ![0, 0, n, 0]) (start_second i)
theorem values_first0 (i : grid0.Coords) : k0_off35 i 0#32 = ![0, 2 * (i 2).val, 0, 0] := congrArg (fun n => ![0, n, 0, 0]) (number_first i)
theorem values_second0 (i : grid0.Coords) : k0_off35 i 1#32 = ![0, 2 * (i 2).val + 1, 0, 0] := congrArg (fun n => ![0, n, 0, 0]) (number_second i)

theorem keys_first1 (i : grid0.Coords) : k0_off34 i 0#32 = ![0, 1, 1024 * (i 2).val, 0] := congrArg (fun n => ![0, 1, n, 0]) (start_first i)
theorem keys_second1 (i : grid0.Coords) : k0_off34 i 1#32 = ![0, 1, 1024 * (i 2).val + 512, 0] := congrArg (fun n => ![0, 1, n, 0]) (start_second i)
theorem values_first1 (i : grid0.Coords) : k0_off37 i 0#32 = ![0, 2 * (i 2).val, 80, 0] := congrArg (fun n => ![0, n, 80, 0]) (number_first i)
theorem values_second1 (i : grid0.Coords) : k0_off37 i 1#32 = ![0, 2 * (i 2).val + 1, 80, 0] := congrArg (fun n => ![0, n, 80, 0]) (number_second i)

theorem keys_first2 (i : grid0.Coords) : k0_off36 i 0#32 = ![0, 2, 1024 * (i 2).val, 0] := congrArg (fun n => ![0, 2, n, 0]) (start_first i)
theorem keys_second2 (i : grid0.Coords) : k0_off36 i 1#32 = ![0, 2, 1024 * (i 2).val + 512, 0] := congrArg (fun n => ![0, 2, n, 0]) (start_second i)
theorem values_first2 (i : grid0.Coords) : k0_off39 i 0#32 = ![0, 2 * (i 2).val, 160, 0] := congrArg (fun n => ![0, n, 160, 0]) (number_first i)
theorem values_second2 (i : grid0.Coords) : k0_off39 i 1#32 = ![0, 2 * (i 2).val + 1, 160, 0] := congrArg (fun n => ![0, n, 160, 0]) (number_second i)

theorem keys_first3 (i : grid0.Coords) : k0_off38 i 0#32 = ![0, 3, 1024 * (i 2).val, 0] := congrArg (fun n => ![0, 3, n, 0]) (start_first i)
theorem keys_second3 (i : grid0.Coords) : k0_off38 i 1#32 = ![0, 3, 1024 * (i 2).val + 512, 0] := congrArg (fun n => ![0, 3, n, 0]) (start_second i)
theorem values_first3 (i : grid0.Coords) : k0_off41 i 0#32 = ![0, 2 * (i 2).val, 240, 0] := congrArg (fun n => ![0, n, 240, 0]) (number_first i)
theorem values_second3 (i : grid0.Coords) : k0_off41 i 1#32 = ![0, 2 * (i 2).val + 1, 240, 0] := congrArg (fun n => ![0, n, 240, 0]) (number_second i)

theorem keys_first4 (i : grid0.Coords) : k0_off40 i 0#32 = ![0, 4, 1024 * (i 2).val, 0] := congrArg (fun n => ![0, 4, n, 0]) (start_first i)
theorem keys_second4 (i : grid0.Coords) : k0_off40 i 1#32 = ![0, 4, 1024 * (i 2).val + 512, 0] := congrArg (fun n => ![0, 4, n, 0]) (start_second i)
theorem values_first4 (i : grid0.Coords) : k0_off43 i 0#32 = ![0, 2 * (i 2).val, 320, 0] := congrArg (fun n => ![0, n, 320, 0]) (number_first i)
theorem values_second4 (i : grid0.Coords) : k0_off43 i 1#32 = ![0, 2 * (i 2).val + 1, 320, 0] := congrArg (fun n => ![0, n, 320, 0]) (number_second i)

theorem keys_first5 (i : grid0.Coords) : k0_off42 i 0#32 = ![0, 5, 1024 * (i 2).val, 0] := congrArg (fun n => ![0, 5, n, 0]) (start_first i)
theorem keys_second5 (i : grid0.Coords) : k0_off42 i 1#32 = ![0, 5, 1024 * (i 2).val + 512, 0] := congrArg (fun n => ![0, 5, n, 0]) (start_second i)
theorem values_first5 (i : grid0.Coords) : k0_off45 i 0#32 = ![0, 2 * (i 2).val, 400, 0] := congrArg (fun n => ![0, n, 400, 0]) (number_first i)
theorem values_second5 (i : grid0.Coords) : k0_off45 i 1#32 = ![0, 2 * (i 2).val + 1, 400, 0] := congrArg (fun n => ![0, n, 400, 0]) (number_second i)

theorem keys_first6 (i : grid0.Coords) : k0_off44 i 0#32 = ![0, 6, 1024 * (i 2).val, 0] := congrArg (fun n => ![0, 6, n, 0]) (start_first i)
theorem keys_second6 (i : grid0.Coords) : k0_off44 i 1#32 = ![0, 6, 1024 * (i 2).val + 512, 0] := congrArg (fun n => ![0, 6, n, 0]) (start_second i)
theorem values_first6 (i : grid0.Coords) : k0_off47 i 0#32 = ![0, 2 * (i 2).val, 480, 0] := congrArg (fun n => ![0, n, 480, 0]) (number_first i)
theorem values_second6 (i : grid0.Coords) : k0_off47 i 1#32 = ![0, 2 * (i 2).val + 1, 480, 0] := congrArg (fun n => ![0, n, 480, 0]) (number_second i)

theorem keys_first7 (i : grid0.Coords) : k0_off46 i 0#32 = ![0, 7, 1024 * (i 2).val, 0] := congrArg (fun n => ![0, 7, n, 0]) (start_first i)
theorem keys_second7 (i : grid0.Coords) : k0_off46 i 1#32 = ![0, 7, 1024 * (i 2).val + 512, 0] := congrArg (fun n => ![0, 7, n, 0]) (start_second i)
theorem values_first7 (i : grid0.Coords) : k0_off48 i 0#32 = ![0, 2 * (i 2).val, 560, 0] := congrArg (fun n => ![0, n, 560, 0]) (number_first i)
theorem values_second7 (i : grid0.Coords) : k0_off48 i 1#32 = ![0, 2 * (i 2).val + 1, 560, 0] := congrArg (fun n => ![0, n, 560, 0]) (number_second i)

/-! ## The state, store by store -/

section
variable (c : Dev nD) (i : grid0.Coords)
  (arg3 : Memref sig .tc .vmem S1x8x1024x128 .bf16) (harg3 : arg3.IsWhole) (arg4 : Memref sig .tc .vmem S1x8x8192x128 .bf16) (harg4 : arg4.IsWhole)
  (arg5 : Memref sig .tc .vmem S1x16x640x512 .bf16) (harg5 : arg5.IsWhole) (arg6 : Memref sig .tc .vmem S1x1024x512 .bf16) (harg6 : arg6.IsWhole)
  (arg7 : Memref sig .tc .vmem S8x1x1024 .f32) (harg7 : arg7.IsWhole) (arg8 : Memref sig .tc .vmem S8x80x1024 .f32) (harg8 : arg8.IsWhole)
  (x0 : Vec Ideal S1x8x1024x128 .bf16) (x1 : Vec Ideal S1x8x8192x128 .bf16) (x2 : Vec Ideal S1x16x640x512 .bf16)

theorem fill_peaks (h : Fin 8) (q : Fin 1024) : arg7.view.read (Elt Ideal) (arg7.view.writes (Elt Ideal) arg7.view.junk (kernelRun0_A.sl.HS0_1 (F := Ideal))) (ix3 h 0 q) = (⊥ : EReal) := by
  rw [View.read_writes_junk_apply_eq_canon]
  refine (congrFun (View.canon_cons_unit_lit (S := S8x1x1024) _ _ _ (by decide)) _).trans ?_
  pointwise [k0_pay244, named_mask]

theorem fill_sums (h : Fin 8) (r : Fin 80) (q : Fin 1024) : arg8.view.read (Elt Ideal) (arg8.view.writes (Elt Ideal) arg8.view.junk (kernelRun0_A.sl.HS1_1 (F := Ideal))) (ix3 h r q) = (0 : EReal) := by
  rw [View.read_writes_junk_apply_eq_canon]
  refine (congrFun (View.canon_cons_unit_lit (S := S8x80x1024) _ _ _ (by decide)) _).trans ?_
  pointwise [k0_pay245]

/-- The stores of the loop's passes. -/
def below : List (View.Piece (Elt Ideal) S8x1x1024 .f32) × List (View.Piece (Elt Ideal) S8x80x1024 .f32) :=
  pb_k0_t1 (F := Ideal) Variants.none c none i arg3 harg3 arg4 harg4 arg5 harg5 arg6 harg6 arg7 harg7 arg8 harg8 (harg3.unread x0) (harg4.unread x1) (harg5.unread x2) (arg7.view.writes (Elt Ideal) arg7.view.junk (kernelRun0_A.sl.HS0_1 (F := Ideal))) (arg8.view.writes (Elt Ideal) arg8.view.junk (kernelRun0_A.sl.HS1_1 (F := Ideal))) (k0_t1_loop i).trips

/-- The stores of the loop's remainder, of which there are none. -/
def rest : List (View.Piece (Elt Ideal) S8x1x1024 .f32) × List (View.Piece (Elt Ideal) S8x80x1024 .f32) :=
  pb_k0_t2 (F := Ideal) Variants.none c none i arg3 harg3 arg4 harg4 arg5 harg5 arg6 harg6 arg7 harg7 arg8 harg8 (kernelRun0_A.sl.v16 i) (harg3.unread x0) (harg4.unread x1) (harg5.unread x2)
    (arg7.view.writes (Elt Ideal) arg7.view.junk ((below c i arg3 harg3 arg4 harg4 arg5 harg5 arg6 harg6 arg7 harg7 arg8 harg8 x0 x1 x2).1 ++ kernelRun0_A.sl.HS0_1 (F := Ideal)))
    (arg8.view.writes (Elt Ideal) arg8.view.junk ((below c i arg3 harg3 arg4 harg4 arg5 harg5 arg6 harg6 arg7 harg7 arg8 harg8 x0 x1 x2).2 ++ kernelRun0_A.sl.HS1_1 (F := Ideal))) (k0_t2_loop i).trips

theorem rest_nil : rest c i arg3 harg3 arg4 harg4 arg5 harg5 arg6 harg6 arg7 harg7 arg8 harg8 x0 x1 x2 = ([], []) := by
  unfold rest
  rw [trips_rest i]
  rfl

/-- After the loop the maxima are over the keys before the block. -/
theorem p0 : Peaks x0 x1 (i 2).val (cA (1024 * (i 2).val) 0)
    ((rest c i arg3 harg3 arg4 harg4 arg5 harg5 arg6 harg6 arg7 harg7 arg8 harg8 x0 x1 x2).1 ++ ((below c i arg3 harg3 arg4 harg4 arg5 harg5 arg6 harg6 arg7 harg7 arg8 harg8 x0 x1 x2).1 ++ kernelRun0_A.sl.HS0_1 (F := Ideal))) := by
  intro h q
  rw [rest_nil, List.nil_append, ← View.read_writes_junk_apply_eq_canon arg7.view, View.writes_append, cA_zero,
    show 1024 * (i 2).val = 512 * (k0_t1_loop i).trips from by rw [trips_below]; omega]
  exact (loop_state Variants.none c none i arg3 harg3 arg4 harg4 arg5 harg5 arg6 harg6 arg7 harg7 arg8 harg8 x0 x1 x2 _ _ (fill_peaks arg7) (fill_sums arg8) _ le_rfl).1 h q

/-- After the loop the sums are over the keys before the block. -/
theorem u0 : Sums x0 x1 x2 (i 2).val (cA (1024 * (i 2).val) 0)
    ((rest c i arg3 harg3 arg4 harg4 arg5 harg5 arg6 harg6 arg7 harg7 arg8 harg8 x0 x1 x2).2 ++ ((below c i arg3 harg3 arg4 harg4 arg5 harg5 arg6 harg6 arg7 harg7 arg8 harg8 x0 x1 x2).2 ++ kernelRun0_A.sl.HS1_1 (F := Ideal))) := by
  intro h r q
  rw [rest_nil, List.nil_append, ← View.read_writes_junk_apply_eq_canon arg8.view, View.writes_append, cA_zero,
    show 1024 * (i 2).val = 512 * (k0_t1_loop i).trips from by rw [trips_below]; omega]
  exact (loop_state Variants.none c none i arg3 harg3 arg4 harg4 arg5 harg5 arg6 harg6 arg7 harg7 arg8 harg8 x0 x1 x2 _ _ (fill_peaks arg7) (fill_sums arg8) _ le_rfl).2 h r q

theorem p1 : Peaks x0 x1 (i 2).val (cA (1024 * (i 2).val) 1) (kernelRun0_A.sl.HS0_1_1 (F := Ideal) c i arg3 harg3 arg4 harg4 arg5 harg5 arg6 harg6 arg7 harg7 arg8 harg8 x0 x1 x2) := by
  have hp : Peaks x0 x1 (i 2).val (cA (1024 * (i 2).val) 0) _ := (p0 c i arg3 harg3 arg4 harg4 arg5 harg5 arg6 harg6 arg7 harg7 arg8 harg8 x0 x1 x2)
  exact (cA_bump _ 0 0 0 rfl) ▸ hp.step arg7 0 0 (1024 * (i 2).val) (cA_at _ 0 0 0 rfl) ![0, 0, 0] rfl _ _ _ (masked_tile x0 x1 (i 2).val 0 0 (1024 * (i 2).val) _ _ (by have := block_lt i; omega) (by simp) (load_keys x1 arg4 harg4 0 (1024 * (i 2).val) (by have := block_lt i; omega) _ (keys_first0 i) _) (load_queries x0 arg3 harg3 0 0 _ rfl _)) _ rfl

theorem u1 : Sums x0 x1 x2 (i 2).val (cA (1024 * (i 2).val) 1) (kernelRun0_A.sl.HS1_1_1 (F := Ideal) c i arg3 harg3 arg4 harg4 arg5 harg5 arg6 harg6 arg7 harg7 arg8 harg8 x0 x1 x2) := by
  have hp : Peaks x0 x1 (i 2).val (cA (1024 * (i 2).val) 0) _ := (p0 c i arg3 harg3 arg4 harg4 arg5 harg5 arg6 harg6 arg7 harg7 arg8 harg8 x0 x1 x2)
  have hu : Sums x0 x1 x2 (i 2).val (cA (1024 * (i 2).val) 0) _ := (u0 c i arg3 harg3 arg4 harg4 arg5 harg5 arg6 harg6 arg7 harg7 arg8 harg8 x0 x1 x2)
  exact (cA_bump _ 0 0 0 rfl) ▸ hu.step arg8 0 0 (1024 * (i 2).val) (cA_at _ 0 0 0 rfl) ![0, 0, 0] rfl _ _ _ (masked_tile x0 x1 (i 2).val 0 0 (1024 * (i 2).val) _ _ (by have := block_lt i; omega) (by simp) (load_keys x1 arg4 harg4 0 (1024 * (i 2).val) (by have := block_lt i; omega) _ (keys_first0 i) _) (load_queries x0 arg3 harg3 0 0 _ rfl _)) _ (hp.load arg7 0 0 (1024 * (i 2).val) (cA_at _ 0 0 0 rfl) ![0, 0, 0] rfl _)
    _ (load_values x2 arg5 harg5 0 _ (by have := block_lt i; omega) _ (by omega) _ (values_first0 i) _) _ rfl

theorem p2 : Peaks x0 x1 (i 2).val (cA (1024 * (i 2).val) 2) (kernelRun0_A.sl.HS0_2 (F := Ideal) c i arg3 harg3 arg4 harg4 arg5 harg5 arg6 harg6 arg7 harg7 arg8 harg8 x0 x1 x2) := by
  have hp : Peaks x0 x1 (i 2).val (cA (1024 * (i 2).val) 1) _ := (p1 c i arg3 harg3 arg4 harg4 arg5 harg5 arg6 harg6 arg7 harg7 arg8 harg8 x0 x1 x2)
  exact (cA_bump _ 1 0 1 rfl) ▸ hp.step arg7 0 1 (1024 * (i 2).val) (cA_at _ 1 0 1 rfl) ![0, 0, 512] rfl _ _ _ (score_tile x0 x1 (i 2).val 0 1 (1024 * (i 2).val) _ _ (by have := block_lt i; omega) (by simp) (load_keys x1 arg4 harg4 0 (1024 * (i 2).val) (by have := block_lt i; omega) _ (keys_first0 i) _) (load_queries x0 arg3 harg3 0 1 _ rfl _)) _ rfl

theorem u2 : Sums x0 x1 x2 (i 2).val (cA (1024 * (i 2).val) 2) (kernelRun0_A.sl.HS1_2 (F := Ideal) c i arg3 harg3 arg4 harg4 arg5 harg5 arg6 harg6 arg7 harg7 arg8 harg8 x0 x1 x2) := by
  have hp : Peaks x0 x1 (i 2).val (cA (1024 * (i 2).val) 1) _ := (p1 c i arg3 harg3 arg4 harg4 arg5 harg5 arg6 harg6 arg7 harg7 arg8 harg8 x0 x1 x2)
  have hu : Sums x0 x1 x2 (i 2).val (cA (1024 * (i 2).val) 1) _ := (u1 c i arg3 harg3 arg4 harg4 arg5 harg5 arg6 harg6 arg7 harg7 arg8 harg8 x0 x1 x2)
  exact (cA_bump _ 1 0 1 rfl) ▸ hu.step arg8 0 1 (1024 * (i 2).val) (cA_at _ 1 0 1 rfl) ![0, 0, 512] rfl _ _ _ (score_tile x0 x1 (i 2).val 0 1 (1024 * (i 2).val) _ _ (by have := block_lt i; omega) (by simp) (load_keys x1 arg4 harg4 0 (1024 * (i 2).val) (by have := block_lt i; omega) _ (keys_first0 i) _) (load_queries x0 arg3 harg3 0 1 _ rfl _)) _ (hp.load arg7 0 1 (1024 * (i 2).val) (cA_at _ 1 0 1 rfl) ![0, 0, 512] rfl _)
    _ (load_values x2 arg5 harg5 0 _ (by have := block_lt i; omega) _ (by omega) _ (values_first0 i) _) _ rfl

theorem p3 : Peaks x0 x1 (i 2).val (cA (1024 * (i 2).val) 3) (kernelRun0_A.sl.HS0_3 (F := Ideal) c i arg3 harg3 arg4 harg4 arg5 harg5 arg6 harg6 arg7 harg7 arg8 harg8 x0 x1 x2) := by
  have hp : Peaks x0 x1 (i 2).val (cA (1024 * (i 2).val) 2) _ := (p2 c i arg3 harg3 arg4 harg4 arg5 harg5 arg6 harg6 arg7 harg7 arg8 harg8 x0 x1 x2)
  exact (cA_bump _ 2 1 0 rfl) ▸ hp.step arg7 1 0 (1024 * (i 2).val) (cA_at _ 2 1 0 rfl) ![1, 0, 0] rfl _ _ _ (masked_tile x0 x1 (i 2).val 1 0 (1024 * (i 2).val) _ _ (by have := block_lt i; omega) (by simp) (load_keys x1 arg4 harg4 1 (1024 * (i 2).val) (by have := block_lt i; omega) _ (keys_first1 i) _) (load_queries x0 arg3 harg3 1 0 _ rfl _)) _ rfl

theorem u3 : Sums x0 x1 x2 (i 2).val (cA (1024 * (i 2).val) 3) (kernelRun0_A.sl.HS1_3 (F := Ideal) c i arg3 harg3 arg4 harg4 arg5 harg5 arg6 harg6 arg7 harg7 arg8 harg8 x0 x1 x2) := by
  have hp : Peaks x0 x1 (i 2).val (cA (1024 * (i 2).val) 2) _ := (p2 c i arg3 harg3 arg4 harg4 arg5 harg5 arg6 harg6 arg7 harg7 arg8 harg8 x0 x1 x2)
  have hu : Sums x0 x1 x2 (i 2).val (cA (1024 * (i 2).val) 2) _ := (u2 c i arg3 harg3 arg4 harg4 arg5 harg5 arg6 harg6 arg7 harg7 arg8 harg8 x0 x1 x2)
  exact (cA_bump _ 2 1 0 rfl) ▸ hu.step arg8 1 0 (1024 * (i 2).val) (cA_at _ 2 1 0 rfl) ![1, 0, 0] rfl _ _ _ (masked_tile x0 x1 (i 2).val 1 0 (1024 * (i 2).val) _ _ (by have := block_lt i; omega) (by simp) (load_keys x1 arg4 harg4 1 (1024 * (i 2).val) (by have := block_lt i; omega) _ (keys_first1 i) _) (load_queries x0 arg3 harg3 1 0 _ rfl _)) _ (hp.load arg7 1 0 (1024 * (i 2).val) (cA_at _ 2 1 0 rfl) ![1, 0, 0] rfl _)
    _ (load_values x2 arg5 harg5 1 _ (by have := block_lt i; omega) _ (by omega) _ (values_first1 i) _) _ rfl

theorem p4 : Peaks x0 x1 (i 2).val (cA (1024 * (i 2).val) 4) (kernelRun0_A.sl.HS0_4 (F := Ideal) c i arg3 harg3 arg4 harg4 arg5 harg5 arg6 harg6 arg7 harg7 arg8 harg8 x0 x1 x2) := by
  have hp : Peaks x0 x1 (i 2).val (cA (1024 * (i 2).val) 3) _ := (p3 c i arg3 harg3 arg4 harg4 arg5 harg5 arg6 harg6 arg7 harg7 arg8 harg8 x0 x1 x2)
  exact (cA_bump _ 3 1 1 rfl) ▸ hp.step arg7 1 1 (1024 * (i 2).val) (cA_at _ 3 1 1 rfl) ![1, 0, 512] rfl _ _ _ (score_tile x0 x1 (i 2).val 1 1 (1024 * (i 2).val) _ _ (by have := block_lt i; omega) (by simp) (load_keys x1 arg4 harg4 1 (1024 * (i 2).val) (by have := block_lt i; omega) _ (keys_first1 i) _) (load_queries x0 arg3 harg3 1 1 _ rfl _)) _ rfl

theorem u4 : Sums x0 x1 x2 (i 2).val (cA (1024 * (i 2).val) 4) (kernelRun0_A.sl.HS1_4 (F := Ideal) c i arg3 harg3 arg4 harg4 arg5 harg5 arg6 harg6 arg7 harg7 arg8 harg8 x0 x1 x2) := by
  have hp : Peaks x0 x1 (i 2).val (cA (1024 * (i 2).val) 3) _ := (p3 c i arg3 harg3 arg4 harg4 arg5 harg5 arg6 harg6 arg7 harg7 arg8 harg8 x0 x1 x2)
  have hu : Sums x0 x1 x2 (i 2).val (cA (1024 * (i 2).val) 3) _ := (u3 c i arg3 harg3 arg4 harg4 arg5 harg5 arg6 harg6 arg7 harg7 arg8 harg8 x0 x1 x2)
  exact (cA_bump _ 3 1 1 rfl) ▸ hu.step arg8 1 1 (1024 * (i 2).val) (cA_at _ 3 1 1 rfl) ![1, 0, 512] rfl _ _ _ (score_tile x0 x1 (i 2).val 1 1 (1024 * (i 2).val) _ _ (by have := block_lt i; omega) (by simp) (load_keys x1 arg4 harg4 1 (1024 * (i 2).val) (by have := block_lt i; omega) _ (keys_first1 i) _) (load_queries x0 arg3 harg3 1 1 _ rfl _)) _ (hp.load arg7 1 1 (1024 * (i 2).val) (cA_at _ 3 1 1 rfl) ![1, 0, 512] rfl _)
    _ (load_values x2 arg5 harg5 1 _ (by have := block_lt i; omega) _ (by omega) _ (values_first1 i) _) _ rfl

theorem p5 : Peaks x0 x1 (i 2).val (cA (1024 * (i 2).val) 5) (kernelRun0_A.sl.HS0_5 (F := Ideal) c i arg3 harg3 arg4 harg4 arg5 harg5 arg6 harg6 arg7 harg7 arg8 harg8 x0 x1 x2) := by
  have hp : Peaks x0 x1 (i 2).val (cA (1024 * (i 2).val) 4) _ := (p4 c i arg3 harg3 arg4 harg4 arg5 harg5 arg6 harg6 arg7 harg7 arg8 harg8 x0 x1 x2)
  exact (cA_bump _ 4 2 0 rfl) ▸ hp.step arg7 2 0 (1024 * (i 2).val) (cA_at _ 4 2 0 rfl) ![2, 0, 0] rfl _ _ _ (masked_tile x0 x1 (i 2).val 2 0 (1024 * (i 2).val) _ _ (by have := block_lt i; omega) (by simp) (load_keys x1 arg4 harg4 2 (1024 * (i 2).val) (by have := block_lt i; omega) _ (keys_first2 i) _) (load_queries x0 arg3 harg3 2 0 _ rfl _)) _ rfl

theorem u5 : Sums x0 x1 x2 (i 2).val (cA (1024 * (i 2).val) 5) (kernelRun0_A.sl.HS1_5 (F := Ideal) c i arg3 harg3 arg4 harg4 arg5 harg5 arg6 harg6 arg7 harg7 arg8 harg8 x0 x1 x2) := by
  have hp : Peaks x0 x1 (i 2).val (cA (1024 * (i 2).val) 4) _ := (p4 c i arg3 harg3 arg4 harg4 arg5 harg5 arg6 harg6 arg7 harg7 arg8 harg8 x0 x1 x2)
  have hu : Sums x0 x1 x2 (i 2).val (cA (1024 * (i 2).val) 4) _ := (u4 c i arg3 harg3 arg4 harg4 arg5 harg5 arg6 harg6 arg7 harg7 arg8 harg8 x0 x1 x2)
  exact (cA_bump _ 4 2 0 rfl) ▸ hu.step arg8 2 0 (1024 * (i 2).val) (cA_at _ 4 2 0 rfl) ![2, 0, 0] rfl _ _ _ (masked_tile x0 x1 (i 2).val 2 0 (1024 * (i 2).val) _ _ (by have := block_lt i; omega) (by simp) (load_keys x1 arg4 harg4 2 (1024 * (i 2).val) (by have := block_lt i; omega) _ (keys_first2 i) _) (load_queries x0 arg3 harg3 2 0 _ rfl _)) _ (hp.load arg7 2 0 (1024 * (i 2).val) (cA_at _ 4 2 0 rfl) ![2, 0, 0] rfl _)
    _ (load_values x2 arg5 harg5 2 _ (by have := block_lt i; omega) _ (by omega) _ (values_first2 i) _) _ rfl

theorem p6 : Peaks x0 x1 (i 2).val (cA (1024 * (i 2).val) 6) (kernelRun0_A.sl.HS0_6 (F := Ideal) c i arg3 harg3 arg4 harg4 arg5 harg5 arg6 harg6 arg7 harg7 arg8 harg8 x0 x1 x2) := by
  have hp : Peaks x0 x1 (i 2).val (cA (1024 * (i 2).val) 5) _ := (p5 c i arg3 harg3 arg4 harg4 arg5 harg5 arg6 harg6 arg7 harg7 arg8 harg8 x0 x1 x2)
  exact (cA_bump _ 5 2 1 rfl) ▸ hp.step arg7 2 1 (1024 * (i 2).val) (cA_at _ 5 2 1 rfl) ![2, 0, 512] rfl _ _ _ (score_tile x0 x1 (i 2).val 2 1 (1024 * (i 2).val) _ _ (by have := block_lt i; omega) (by simp) (load_keys x1 arg4 harg4 2 (1024 * (i 2).val) (by have := block_lt i; omega) _ (keys_first2 i) _) (load_queries x0 arg3 harg3 2 1 _ rfl _)) _ rfl

theorem u6 : Sums x0 x1 x2 (i 2).val (cA (1024 * (i 2).val) 6) (kernelRun0_A.sl.HS1_6 (F := Ideal) c i arg3 harg3 arg4 harg4 arg5 harg5 arg6 harg6 arg7 harg7 arg8 harg8 x0 x1 x2) := by
  have hp : Peaks x0 x1 (i 2).val (cA (1024 * (i 2).val) 5) _ := (p5 c i arg3 harg3 arg4 harg4 arg5 harg5 arg6 harg6 arg7 harg7 arg8 harg8 x0 x1 x2)
  have hu : Sums x0 x1 x2 (i 2).val (cA (1024 * (i 2).val) 5) _ := (u5 c i arg3 harg3 arg4 harg4 arg5 harg5 arg6 harg6 arg7 harg7 arg8 harg8 x0 x1 x2)
  exact (cA_bump _ 5 2 1 rfl) ▸ hu.step arg8 2 1 (1024 * (i 2).val) (cA_at _ 5 2 1 rfl) ![2, 0, 512] rfl _ _ _ (score_tile x0 x1 (i 2).val 2 1 (1024 * (i 2).val) _ _ (by have := block_lt i; omega) (by simp) (load_keys x1 arg4 harg4 2 (1024 * (i 2).val) (by have := block_lt i; omega) _ (keys_first2 i) _) (load_queries x0 arg3 harg3 2 1 _ rfl _)) _ (hp.load arg7 2 1 (1024 * (i 2).val) (cA_at _ 5 2 1 rfl) ![2, 0, 512] rfl _)
    _ (load_values x2 arg5 harg5 2 _ (by have := block_lt i; omega) _ (by omega) _ (values_first2 i) _) _ rfl

theorem p7 : Peaks x0 x1 (i 2).val (cA (1024 * (i 2).val) 7) (kernelRun0_A.sl.HS0_7 (F := Ideal) c i arg3 harg3 arg4 harg4 arg5 harg5 arg6 harg6 arg7 harg7 arg8 harg8 x0 x1 x2) := by
  have hp : Peaks x0 x1 (i 2).val (cA (1024 * (i 2).val) 6) _ := (p6 c i arg3 harg3 arg4 harg4 arg5 harg5 arg6 harg6 arg7 harg7 arg8 harg8 x0 x1 x2)
  exact (cA_bump _ 6 3 0 rfl) ▸ hp.step arg7 3 0 (1024 * (i 2).val) (cA_at _ 6 3 0 rfl) ![3, 0, 0] rfl _ _ _ (masked_tile x0 x1 (i 2).val 3 0 (1024 * (i 2).val) _ _ (by have := block_lt i; omega) (by simp) (load_keys x1 arg4 harg4 3 (1024 * (i 2).val) (by have := block_lt i; omega) _ (keys_first3 i) _) (load_queries x0 arg3 harg3 3 0 _ rfl _)) _ rfl

theorem u7 : Sums x0 x1 x2 (i 2).val (cA (1024 * (i 2).val) 7) (kernelRun0_A.sl.HS1_7 (F := Ideal) c i arg3 harg3 arg4 harg4 arg5 harg5 arg6 harg6 arg7 harg7 arg8 harg8 x0 x1 x2) := by
  have hp : Peaks x0 x1 (i 2).val (cA (1024 * (i 2).val) 6) _ := (p6 c i arg3 harg3 arg4 harg4 arg5 harg5 arg6 harg6 arg7 harg7 arg8 harg8 x0 x1 x2)
  have hu : Sums x0 x1 x2 (i 2).val (cA (1024 * (i 2).val) 6) _ := (u6 c i arg3 harg3 arg4 harg4 arg5 harg5 arg6 harg6 arg7 harg7 arg8 harg8 x0 x1 x2)
  exact (cA_bump _ 6 3 0 rfl) ▸ hu.step arg8 3 0 (1024 * (i 2).val) (cA_at _ 6 3 0 rfl) ![3, 0, 0] rfl _ _ _ (masked_tile x0 x1 (i 2).val 3 0 (1024 * (i 2).val) _ _ (by have := block_lt i; omega) (by simp) (load_keys x1 arg4 harg4 3 (1024 * (i 2).val) (by have := block_lt i; omega) _ (keys_first3 i) _) (load_queries x0 arg3 harg3 3 0 _ rfl _)) _ (hp.load arg7 3 0 (1024 * (i 2).val) (cA_at _ 6 3 0 rfl) ![3, 0, 0] rfl _)
    _ (load_values x2 arg5 harg5 3 _ (by have := block_lt i; omega) _ (by omega) _ (values_first3 i) _) _ rfl

theorem p8 : Peaks x0 x1 (i 2).val (cA (1024 * (i 2).val) 8) (kernelRun0_A.sl.HS0_8 (F := Ideal) c i arg3 harg3 arg4 harg4 arg5 harg5 arg6 harg6 arg7 harg7 arg8 harg8 x0 x1 x2) := by
  have hp : Peaks x0 x1 (i 2).val (cA (1024 * (i 2).val) 7) _ := (p7 c i arg3 harg3 arg4 harg4 arg5 harg5 arg6 harg6 arg7 harg7 arg8 harg8 x0 x1 x2)
  exact (cA_bump _ 7 3 1 rfl) ▸ hp.step arg7 3 1 (1024 * (i 2).val) (cA_at _ 7 3 1 rfl) ![3, 0, 512] rfl _ _ _ (score_tile x0 x1 (i 2).val 3 1 (1024 * (i 2).val) _ _ (by have := block_lt i; omega) (by simp) (load_keys x1 arg4 harg4 3 (1024 * (i 2).val) (by have := block_lt i; omega) _ (keys_first3 i) _) (load_queries x0 arg3 harg3 3 1 _ rfl _)) _ rfl

theorem u8 : Sums x0 x1 x2 (i 2).val (cA (1024 * (i 2).val) 8) (kernelRun0_A.sl.HS1_8 (F := Ideal) c i arg3 harg3 arg4 harg4 arg5 harg5 arg6 harg6 arg7 harg7 arg8 harg8 x0 x1 x2) := by
  have hp : Peaks x0 x1 (i 2).val (cA (1024 * (i 2).val) 7) _ := (p7 c i arg3 harg3 arg4 harg4 arg5 harg5 arg6 harg6 arg7 harg7 arg8 harg8 x0 x1 x2)
  have hu : Sums x0 x1 x2 (i 2).val (cA (1024 * (i 2).val) 7) _ := (u7 c i arg3 harg3 arg4 harg4 arg5 harg5 arg6 harg6 arg7 harg7 arg8 harg8 x0 x1 x2)
  exact (cA_bump _ 7 3 1 rfl) ▸ hu.step arg8 3 1 (1024 * (i 2).val) (cA_at _ 7 3 1 rfl) ![3, 0, 512] rfl _ _ _ (score_tile x0 x1 (i 2).val 3 1 (1024 * (i 2).val) _ _ (by have := block_lt i; omega) (by simp) (load_keys x1 arg4 harg4 3 (1024 * (i 2).val) (by have := block_lt i; omega) _ (keys_first3 i) _) (load_queries x0 arg3 harg3 3 1 _ rfl _)) _ (hp.load arg7 3 1 (1024 * (i 2).val) (cA_at _ 7 3 1 rfl) ![3, 0, 512] rfl _)
    _ (load_values x2 arg5 harg5 3 _ (by have := block_lt i; omega) _ (by omega) _ (values_first3 i) _) _ rfl

theorem p9 : Peaks x0 x1 (i 2).val (cA (1024 * (i 2).val) 9) (kernelRun0_A.sl.HS0_9 (F := Ideal) c i arg3 harg3 arg4 harg4 arg5 harg5 arg6 harg6 arg7 harg7 arg8 harg8 x0 x1 x2) := by
  have hp : Peaks x0 x1 (i 2).val (cA (1024 * (i 2).val) 8) _ := (p8 c i arg3 harg3 arg4 harg4 arg5 harg5 arg6 harg6 arg7 harg7 arg8 harg8 x0 x1 x2)
  exact (cA_bump _ 8 4 0 rfl) ▸ hp.step arg7 4 0 (1024 * (i 2).val) (cA_at _ 8 4 0 rfl) ![4, 0, 0] rfl _ _ _ (masked_tile x0 x1 (i 2).val 4 0 (1024 * (i 2).val) _ _ (by have := block_lt i; omega) (by simp) (load_keys x1 arg4 harg4 4 (1024 * (i 2).val) (by have := block_lt i; omega) _ (keys_first4 i) _) (load_queries x0 arg3 harg3 4 0 _ rfl _)) _ rfl

theorem u9 : Sums x0 x1 x2 (i 2).val (cA (1024 * (i 2).val) 9) (kernelRun0_A.sl.HS1_9 (F := Ideal) c i arg3 harg3 arg4 harg4 arg5 harg5 arg6 harg6 arg7 harg7 arg8 harg8 x0 x1 x2) := by
  have hp : Peaks x0 x1 (i 2).val (cA (1024 * (i 2).val) 8) _ := (p8 c i arg3 harg3 arg4 harg4 arg5 harg5 arg6 harg6 arg7 harg7 arg8 harg8 x0 x1 x2)
  have hu : Sums x0 x1 x2 (i 2).val (cA (1024 * (i 2).val) 8) _ := (u8 c i arg3 harg3 arg4 harg4 arg5 harg5 arg6 harg6 arg7 harg7 arg8 harg8 x0 x1 x2)
  exact (cA_bump _ 8 4 0 rfl) ▸ hu.step arg8 4 0 (1024 * (i 2).val) (cA_at _ 8 4 0 rfl) ![4, 0, 0] rfl _ _ _ (masked_tile x0 x1 (i 2).val 4 0 (1024 * (i 2).val) _ _ (by have := block_lt i; omega) (by simp) (load_keys x1 arg4 harg4 4 (1024 * (i 2).val) (by have := block_lt i; omega) _ (keys_first4 i) _) (load_queries x0 arg3 harg3 4 0 _ rfl _)) _ (hp.load arg7 4 0 (1024 * (i 2).val) (cA_at _ 8 4 0 rfl) ![4, 0, 0] rfl _)
    _ (load_values x2 arg5 harg5 4 _ (by have := block_lt i; omega) _ (by omega) _ (values_first4 i) _) _ rfl

theorem p10 : Peaks x0 x1 (i 2).val (cA (1024 * (i 2).val) 10) (kernelRun0_A.sl.HS0_10 (F := Ideal) c i arg3 harg3 arg4 harg4 arg5 harg5 arg6 harg6 arg7 harg7 arg8 harg8 x0 x1 x2) := by
  have hp : Peaks x0 x1 (i 2).val (cA (1024 * (i 2).val) 9) _ := (p9 c i arg3 harg3 arg4 harg4 arg5 harg5 arg6 harg6 arg7 harg7 arg8 harg8 x0 x1 x2)
  exact (cA_bump _ 9 4 1 rfl) ▸ hp.step arg7 4 1 (1024 * (i 2).val) (cA_at _ 9 4 1 rfl) ![4, 0, 512] rfl _ _ _ (score_tile x0 x1 (i 2).val 4 1 (1024 * (i 2).val) _ _ (by have := block_lt i; omega) (by simp) (load_keys x1 arg4 harg4 4 (1024 * (i 2).val) (by have := block_lt i; omega) _ (keys_first4 i) _) (load_queries x0 arg3 harg3 4 1 _ rfl _)) _ rfl

theorem u10 : Sums x0 x1 x2 (i 2).val (cA (1024 * (i 2).val) 10) (kernelRun0_A.sl.HS1_10 (F := Ideal) c i arg3 harg3 arg4 harg4 arg5 harg5 arg6 harg6 arg7 harg7 arg8 harg8 x0 x1 x2) := by
  have hp : Peaks x0 x1 (i 2).val (cA (1024 * (i 2).val) 9) _ := (p9 c i arg3 harg3 arg4 harg4 arg5 harg5 arg6 harg6 arg7 harg7 arg8 harg8 x0 x1 x2)
  have hu : Sums x0 x1 x2 (i 2).val (cA (1024 * (i 2).val) 9) _ := (u9 c i arg3 harg3 arg4 harg4 arg5 harg5 arg6 harg6 arg7 harg7 arg8 harg8 x0 x1 x2)
  exact (cA_bump _ 9 4 1 rfl) ▸ hu.step arg8 4 1 (1024 * (i 2).val) (cA_at _ 9 4 1 rfl) ![4, 0, 512] rfl _ _ _ (score_tile x0 x1 (i 2).val 4 1 (1024 * (i 2).val) _ _ (by have := block_lt i; omega) (by simp) (load_keys x1 arg4 harg4 4 (1024 * (i 2).val) (by have := block_lt i; omega) _ (keys_first4 i) _) (load_queries x0 arg3 harg3 4 1 _ rfl _)) _ (hp.load arg7 4 1 (1024 * (i 2).val) (cA_at _ 9 4 1 rfl) ![4, 0, 512] rfl _)
    _ (load_values x2 arg5 harg5 4 _ (by have := block_lt i; omega) _ (by omega) _ (values_first4 i) _) _ rfl

theorem p11 : Peaks x0 x1 (i 2).val (cA (1024 * (i 2).val) 11) (kernelRun0_A.sl.HS0_11 (F := Ideal) c i arg3 harg3 arg4 harg4 arg5 harg5 arg6 harg6 arg7 harg7 arg8 harg8 x0 x1 x2) := by
  have hp : Peaks x0 x1 (i 2).val (cA (1024 * (i 2).val) 10) _ := (p10 c i arg3 harg3 arg4 harg4 arg5 harg5 arg6 harg6 arg7 harg7 arg8 harg8 x0 x1 x2)
  exact (cA_bump _ 10 5 0 rfl) ▸ hp.step arg7 5 0 (1024 * (i 2).val) (cA_at _ 10 5 0 rfl) ![5, 0, 0] rfl _ _ _ (masked_tile x0 x1 (i 2).val 5 0 (1024 * (i 2).val) _ _ (by have := block_lt i; omega) (by simp) (load_keys x1 arg4 harg4 5 (1024 * (i 2).val) (by have := block_lt i; omega) _ (keys_first5 i) _) (load_queries x0 arg3 harg3 5 0 _ rfl _)) _ rfl

theorem u11 : Sums x0 x1 x2 (i 2).val (cA (1024 * (i 2).val) 11) (kernelRun0_A.sl.HS1_11 (F := Ideal) c i arg3 harg3 arg4 harg4 arg5 harg5 arg6 harg6 arg7 harg7 arg8 harg8 x0 x1 x2) := by
  have hp : Peaks x0 x1 (i 2).val (cA (1024 * (i 2).val) 10) _ := (p10 c i arg3 harg3 arg4 harg4 arg5 harg5 arg6 harg6 arg7 harg7 arg8 harg8 x0 x1 x2)
  have hu : Sums x0 x1 x2 (i 2).val (cA (1024 * (i 2).val) 10) _ := (u10 c i arg3 harg3 arg4 harg4 arg5 harg5 arg6 harg6 arg7 harg7 arg8 harg8 x0 x1 x2)
  exact (cA_bump _ 10 5 0 rfl) ▸ hu.step arg8 5 0 (1024 * (i 2).val) (cA_at _ 10 5 0 rfl) ![5, 0, 0] rfl _ _ _ (masked_tile x0 x1 (i 2).val 5 0 (1024 * (i 2).val) _ _ (by have := block_lt i; omega) (by simp) (load_keys x1 arg4 harg4 5 (1024 * (i 2).val) (by have := block_lt i; omega) _ (keys_first5 i) _) (load_queries x0 arg3 harg3 5 0 _ rfl _)) _ (hp.load arg7 5 0 (1024 * (i 2).val) (cA_at _ 10 5 0 rfl) ![5, 0, 0] rfl _)
    _ (load_values x2 arg5 harg5 5 _ (by have := block_lt i; omega) _ (by omega) _ (values_first5 i) _) _ rfl

theorem p12 : Peaks x0 x1 (i 2).val (cA (1024 * (i 2).val) 12) (kernelRun0_A.sl.HS0_12 (F := Ideal) c i arg3 harg3 arg4 harg4 arg5 harg5 arg6 harg6 arg7 harg7 arg8 harg8 x0 x1 x2) := by
  have hp : Peaks x0 x1 (i 2).val (cA (1024 * (i 2).val) 11) _ := (p11 c i arg3 harg3 arg4 harg4 arg5 harg5 arg6 harg6 arg7 harg7 arg8 harg8 x0 x1 x2)
  exact (cA_bump _ 11 5 1 rfl) ▸ hp.step arg7 5 1 (1024 * (i 2).val) (cA_at _ 11 5 1 rfl) ![5, 0, 512] rfl _ _ _ (score_tile x0 x1 (i 2).val 5 1 (1024 * (i 2).val) _ _ (by have := block_lt i; omega) (by simp) (load_keys x1 arg4 harg4 5 (1024 * (i 2).val) (by have := block_lt i; omega) _ (keys_first5 i) _) (load_queries x0 arg3 harg3 5 1 _ rfl _)) _ rfl

theorem u12 : Sums x0 x1 x2 (i 2).val (cA (1024 * (i 2).val) 12) (kernelRun0_A.sl.HS1_12 (F := Ideal) c i arg3 harg3 arg4 harg4 arg5 harg5 arg6 harg6 arg7 harg7 arg8 harg8 x0 x1 x2) := by
  have hp : Peaks x0 x1 (i 2).val (cA (1024 * (i 2).val) 11) _ := (p11 c i arg3 harg3 arg4 harg4 arg5 harg5 arg6 harg6 arg7 harg7 arg8 harg8 x0 x1 x2)
  have hu : Sums x0 x1 x2 (i 2).val (cA (1024 * (i 2).val) 11) _ := (u11 c i arg3 harg3 arg4 harg4 arg5 harg5 arg6 harg6 arg7 harg7 arg8 harg8 x0 x1 x2)
  exact (cA_bump _ 11 5 1 rfl) ▸ hu.step arg8 5 1 (1024 * (i 2).val) (cA_at _ 11 5 1 rfl) ![5, 0, 512] rfl _ _ _ (score_tile x0 x1 (i 2).val 5 1 (1024 * (i 2).val) _ _ (by have := block_lt i; omega) (by simp) (load_keys x1 arg4 harg4 5 (1024 * (i 2).val) (by have := block_lt i; omega) _ (keys_first5 i) _) (load_queries x0 arg3 harg3 5 1 _ rfl _)) _ (hp.load arg7 5 1 (1024 * (i 2).val) (cA_at _ 11 5 1 rfl) ![5, 0, 512] rfl _)
    _ (load_values x2 arg5 harg5 5 _ (by have := block_lt i; omega) _ (by omega) _ (values_first5 i) _) _ rfl

theorem p13 : Peaks x0 x1 (i 2).val (cA (1024 * (i 2).val) 13) (kernelRun0_A.sl.HS0_13 (F := Ideal) c i arg3 harg3 arg4 harg4 arg5 harg5 arg6 harg6 arg7 harg7 arg8 harg8 x0 x1 x2) := by
  have hp : Peaks x0 x1 (i 2).val (cA (1024 * (i 2).val) 12) _ := (p12 c i arg3 harg3 arg4 harg4 arg5 harg5 arg6 harg6 arg7 harg7 arg8 harg8 x0 x1 x2)
  exact (cA_bump _ 12 6 0 rfl) ▸ hp.step arg7 6 0 (1024 * (i 2).val) (cA_at _ 12 6 0 rfl) ![6, 0, 0] rfl _ _ _ (masked_tile x0 x1 (i 2).val 6 0 (1024 * (i 2).val) _ _ (by have := block_lt i; omega) (by simp) (load_keys x1 arg4 harg4 6 (1024 * (i 2).val) (by have := block_lt i; omega) _ (keys_first6 i) _) (load_queries x0 arg3 harg3 6 0 _ rfl _)) _ rfl

theorem u13 : Sums x0 x1 x2 (i 2).val (cA (1024 * (i 2).val) 13) (kernelRun0_A.sl.HS1_13 (F := Ideal) c i arg3 harg3 arg4 harg4 arg5 harg5 arg6 harg6 arg7 harg7 arg8 harg8 x0 x1 x2) := by
  have hp : Peaks x0 x1 (i 2).val (cA (1024 * (i 2).val) 12) _ := (p12 c i arg3 harg3 arg4 harg4 arg5 harg5 arg6 harg6 arg7 harg7 arg8 harg8 x0 x1 x2)
  have hu : Sums x0 x1 x2 (i 2).val (cA (1024 * (i 2).val) 12) _ := (u12 c i arg3 harg3 arg4 harg4 arg5 harg5 arg6 harg6 arg7 harg7 arg8 harg8 x0 x1 x2)
  exact (cA_bump _ 12 6 0 rfl) ▸ hu.step arg8 6 0 (1024 * (i 2).val) (cA_at _ 12 6 0 rfl) ![6, 0, 0] rfl _ _ _ (masked_tile x0 x1 (i 2).val 6 0 (1024 * (i 2).val) _ _ (by have := block_lt i; omega) (by simp) (load_keys x1 arg4 harg4 6 (1024 * (i 2).val) (by have := block_lt i; omega) _ (keys_first6 i) _) (load_queries x0 arg3 harg3 6 0 _ rfl _)) _ (hp.load arg7 6 0 (1024 * (i 2).val) (cA_at _ 12 6 0 rfl) ![6, 0, 0] rfl _)
    _ (load_values x2 arg5 harg5 6 _ (by have := block_lt i; omega) _ (by omega) _ (values_first6 i) _) _ rfl

theorem p14 : Peaks x0 x1 (i 2).val (cA (1024 * (i 2).val) 14) (kernelRun0_A.sl.HS0_14 (F := Ideal) c i arg3 harg3 arg4 harg4 arg5 harg5 arg6 harg6 arg7 harg7 arg8 harg8 x0 x1 x2) := by
  have hp : Peaks x0 x1 (i 2).val (cA (1024 * (i 2).val) 13) _ := (p13 c i arg3 harg3 arg4 harg4 arg5 harg5 arg6 harg6 arg7 harg7 arg8 harg8 x0 x1 x2)
  exact (cA_bump _ 13 6 1 rfl) ▸ hp.step arg7 6 1 (1024 * (i 2).val) (cA_at _ 13 6 1 rfl) ![6, 0, 512] rfl _ _ _ (score_tile x0 x1 (i 2).val 6 1 (1024 * (i 2).val) _ _ (by have := block_lt i; omega) (by simp) (load_keys x1 arg4 harg4 6 (1024 * (i 2).val) (by have := block_lt i; omega) _ (keys_first6 i) _) (load_queries x0 arg3 harg3 6 1 _ rfl _)) _ rfl

theorem u14 : Sums x0 x1 x2 (i 2).val (cA (1024 * (i 2).val) 14) (kernelRun0_A.sl.HS1_14 (F := Ideal) c i arg3 harg3 arg4 harg4 arg5 harg5 arg6 harg6 arg7 harg7 arg8 harg8 x0 x1 x2) := by
  have hp : Peaks x0 x1 (i 2).val (cA (1024 * (i 2).val) 13) _ := (p13 c i arg3 harg3 arg4 harg4 arg5 harg5 arg6 harg6 arg7 harg7 arg8 harg8 x0 x1 x2)
  have hu : Sums x0 x1 x2 (i 2).val (cA (1024 * (i 2).val) 13) _ := (u13 c i arg3 harg3 arg4 harg4 arg5 harg5 arg6 harg6 arg7 harg7 arg8 harg8 x0 x1 x2)
  exact (cA_bump _ 13 6 1 rfl) ▸ hu.step arg8 6 1 (1024 * (i 2).val) (cA_at _ 13 6 1 rfl) ![6, 0, 512] rfl _ _ _ (score_tile x0 x1 (i 2).val 6 1 (1024 * (i 2).val) _ _ (by have := block_lt i; omega) (by simp) (load_keys x1 arg4 harg4 6 (1024 * (i 2).val) (by have := block_lt i; omega) _ (keys_first6 i) _) (load_queries x0 arg3 harg3 6 1 _ rfl _)) _ (hp.load arg7 6 1 (1024 * (i 2).val) (cA_at _ 13 6 1 rfl) ![6, 0, 512] rfl _)
    _ (load_values x2 arg5 harg5 6 _ (by have := block_lt i; omega) _ (by omega) _ (values_first6 i) _) _ rfl

theorem p15 : Peaks x0 x1 (i 2).val (cA (1024 * (i 2).val) 15) (kernelRun0_A.sl.HS0_15 (F := Ideal) c i arg3 harg3 arg4 harg4 arg5 harg5 arg6 harg6 arg7 harg7 arg8 harg8 x0 x1 x2) := by
  have hp : Peaks x0 x1 (i 2).val (cA (1024 * (i 2).val) 14) _ := (p14 c i arg3 harg3 arg4 harg4 arg5 harg5 arg6 harg6 arg7 harg7 arg8 harg8 x0 x1 x2)
  exact (cA_bump _ 14 7 0 rfl) ▸ hp.step arg7 7 0 (1024 * (i 2).val) (cA_at _ 14 7 0 rfl) ![7, 0, 0] rfl _ _ _ (masked_tile x0 x1 (i 2).val 7 0 (1024 * (i 2).val) _ _ (by have := block_lt i; omega) (by simp) (load_keys x1 arg4 harg4 7 (1024 * (i 2).val) (by have := block_lt i; omega) _ (keys_first7 i) _) (load_queries x0 arg3 harg3 7 0 _ rfl _)) _ rfl

theorem u15 : Sums x0 x1 x2 (i 2).val (cA (1024 * (i 2).val) 15) (kernelRun0_A.sl.HS1_15 (F := Ideal) c i arg3 harg3 arg4 harg4 arg5 harg5 arg6 harg6 arg7 harg7 arg8 harg8 x0 x1 x2) := by
  have hp : Peaks x0 x1 (i 2).val (cA (1024 * (i 2).val) 14) _ := (p14 c i arg3 harg3 arg4 harg4 arg5 harg5 arg6 harg6 arg7 harg7 arg8 harg8 x0 x1 x2)
  have hu : Sums x0 x1 x2 (i 2).val (cA (1024 * (i 2).val) 14) _ := (u14 c i arg3 harg3 arg4 harg4 arg5 harg5 arg6 harg6 arg7 harg7 arg8 harg8 x0 x1 x2)
  exact (cA_bump _ 14 7 0 rfl) ▸ hu.step arg8 7 0 (1024 * (i 2).val) (cA_at _ 14 7 0 rfl) ![7, 0, 0] rfl _ _ _ (masked_tile x0 x1 (i 2).val 7 0 (1024 * (i 2).val) _ _ (by have := block_lt i; omega) (by simp) (load_keys x1 arg4 harg4 7 (1024 * (i 2).val) (by have := block_lt i; omega) _ (keys_first7 i) _) (load_queries x0 arg3 harg3 7 0 _ rfl _)) _ (hp.load arg7 7 0 (1024 * (i 2).val) (cA_at _ 14 7 0 rfl) ![7, 0, 0] rfl _)
    _ (load_values x2 arg5 harg5 7 _ (by have := block_lt i; omega) _ (by omega) _ (values_first7 i) _) _ rfl

theorem p16 : Peaks x0 x1 (i 2).val (cA (1024 * (i 2).val) 16) (kernelRun0_A.sl.HS0_16 (F := Ideal) c i arg3 harg3 arg4 harg4 arg5 harg5 arg6 harg6 arg7 harg7 arg8 harg8 x0 x1 x2) := by
  have hp : Peaks x0 x1 (i 2).val (cA (1024 * (i 2).val) 15) _ := (p15 c i arg3 harg3 arg4 harg4 arg5 harg5 arg6 harg6 arg7 harg7 arg8 harg8 x0 x1 x2)
  exact (cA_bump _ 15 7 1 rfl) ▸ hp.step arg7 7 1 (1024 * (i 2).val) (cA_at _ 15 7 1 rfl) ![7, 0, 512] rfl _ _ _ (score_tile x0 x1 (i 2).val 7 1 (1024 * (i 2).val) _ _ (by have := block_lt i; omega) (by simp) (load_keys x1 arg4 harg4 7 (1024 * (i 2).val) (by have := block_lt i; omega) _ (keys_first7 i) _) (load_queries x0 arg3 harg3 7 1 _ rfl _)) _ rfl

theorem u16 : Sums x0 x1 x2 (i 2).val (cA (1024 * (i 2).val) 16) (kernelRun0_A.sl.HS1_16 (F := Ideal) c i arg3 harg3 arg4 harg4 arg5 harg5 arg6 harg6 arg7 harg7 arg8 harg8 x0 x1 x2) := by
  have hp : Peaks x0 x1 (i 2).val (cA (1024 * (i 2).val) 15) _ := (p15 c i arg3 harg3 arg4 harg4 arg5 harg5 arg6 harg6 arg7 harg7 arg8 harg8 x0 x1 x2)
  have hu : Sums x0 x1 x2 (i 2).val (cA (1024 * (i 2).val) 15) _ := (u15 c i arg3 harg3 arg4 harg4 arg5 harg5 arg6 harg6 arg7 harg7 arg8 harg8 x0 x1 x2)
  exact (cA_bump _ 15 7 1 rfl) ▸ hu.step arg8 7 1 (1024 * (i 2).val) (cA_at _ 15 7 1 rfl) ![7, 0, 512] rfl _ _ _ (score_tile x0 x1 (i 2).val 7 1 (1024 * (i 2).val) _ _ (by have := block_lt i; omega) (by simp) (load_keys x1 arg4 harg4 7 (1024 * (i 2).val) (by have := block_lt i; omega) _ (keys_first7 i) _) (load_queries x0 arg3 harg3 7 1 _ rfl _)) _ (hp.load arg7 7 1 (1024 * (i 2).val) (cA_at _ 15 7 1 rfl) ![7, 0, 512] rfl _)
    _ (load_values x2 arg5 harg5 7 _ (by have := block_lt i; omega) _ (by omega) _ (values_first7 i) _) _ rfl

theorem p17 : Peaks x0 x1 (i 2).val (cB (1024 * (i 2).val) 1) (kernelRun0_A.sl.HS0_17 (F := Ideal) c i arg3 harg3 arg4 harg4 arg5 harg5 arg6 harg6 arg7 harg7 arg8 harg8 x0 x1 x2) := by
  have hp : Peaks x0 x1 (i 2).val (cB (1024 * (i 2).val) 0) _ := (cA_all (1024 * (i 2).val) ▸ p16 c i arg3 harg3 arg4 harg4 arg5 harg5 arg6 harg6 arg7 harg7 arg8 harg8 x0 x1 x2)
  exact (cB_bump _ 0 1 rfl) ▸ hp.step arg7 0 1 (1024 * (i 2).val + 512) (cB_at _ 0 1 rfl) ![0, 0, 512] rfl _ _ _ (masked_tile x0 x1 (i 2).val 0 1 (1024 * (i 2).val + 512) _ _ (by have := block_lt i; omega) (by simp) (load_keys x1 arg4 harg4 0 (1024 * (i 2).val + 512) (by have := block_lt i; omega) _ (keys_second0 i) _) (load_queries x0 arg3 harg3 0 1 _ rfl _)) _ rfl

theorem u17 : Sums x0 x1 x2 (i 2).val (cB (1024 * (i 2).val) 1) (kernelRun0_A.sl.HS1_17 (F := Ideal) c i arg3 harg3 arg4 harg4 arg5 harg5 arg6 harg6 arg7 harg7 arg8 harg8 x0 x1 x2) := by
  have hp : Peaks x0 x1 (i 2).val (cB (1024 * (i 2).val) 0) _ := (cA_all (1024 * (i 2).val) ▸ p16 c i arg3 harg3 arg4 harg4 arg5 harg5 arg6 harg6 arg7 harg7 arg8 harg8 x0 x1 x2)
  have hu : Sums x0 x1 x2 (i 2).val (cB (1024 * (i 2).val) 0) _ := (cA_all (1024 * (i 2).val) ▸ u16 c i arg3 harg3 arg4 harg4 arg5 harg5 arg6 harg6 arg7 harg7 arg8 harg8 x0 x1 x2)
  exact (cB_bump _ 0 1 rfl) ▸ hu.step arg8 0 1 (1024 * (i 2).val + 512) (cB_at _ 0 1 rfl) ![0, 0, 512] rfl _ _ _ (masked_tile x0 x1 (i 2).val 0 1 (1024 * (i 2).val + 512) _ _ (by have := block_lt i; omega) (by simp) (load_keys x1 arg4 harg4 0 (1024 * (i 2).val + 512) (by have := block_lt i; omega) _ (keys_second0 i) _) (load_queries x0 arg3 harg3 0 1 _ rfl _)) _ (hp.load arg7 0 1 (1024 * (i 2).val + 512) (cB_at _ 0 1 rfl) ![0, 0, 512] rfl _)
    _ (load_values x2 arg5 harg5 0 _ (by have := block_lt i; omega) _ (by omega) _ (values_second0 i) _) _ rfl

theorem p18 : Peaks x0 x1 (i 2).val (cB (1024 * (i 2).val) 2) (kernelRun0_A.sl.HS0_18 (F := Ideal) c i arg3 harg3 arg4 harg4 arg5 harg5 arg6 harg6 arg7 harg7 arg8 harg8 x0 x1 x2) := by
  have hp : Peaks x0 x1 (i 2).val (cB (1024 * (i 2).val) 1) _ := (p17 c i arg3 harg3 arg4 harg4 arg5 harg5 arg6 harg6 arg7 harg7 arg8 harg8 x0 x1 x2)
  exact (cB_bump _ 1 1 rfl) ▸ hp.step arg7 1 1 (1024 * (i 2).val + 512) (cB_at _ 1 1 rfl) ![1, 0, 512] rfl _ _ _ (masked_tile x0 x1 (i 2).val 1 1 (1024 * (i 2).val + 512) _ _ (by have := block_lt i; omega) (by simp) (load_keys x1 arg4 harg4 1 (1024 * (i 2).val + 512) (by have := block_lt i; omega) _ (keys_second1 i) _) (load_queries x0 arg3 harg3 1 1 _ rfl _)) _ rfl

theorem u18 : Sums x0 x1 x2 (i 2).val (cB (1024 * (i 2).val) 2) (kernelRun0_A.sl.HS1_18 (F := Ideal) c i arg3 harg3 arg4 harg4 arg5 harg5 arg6 harg6 arg7 harg7 arg8 harg8 x0 x1 x2) := by
  have hp : Peaks x0 x1 (i 2).val (cB (1024 * (i 2).val) 1) _ := (p17 c i arg3 harg3 arg4 harg4 arg5 harg5 arg6 harg6 arg7 harg7 arg8 harg8 x0 x1 x2)
  have hu : Sums x0 x1 x2 (i 2).val (cB (1024 * (i 2).val) 1) _ := (u17 c i arg3 harg3 arg4 harg4 arg5 harg5 arg6 harg6 arg7 harg7 arg8 harg8 x0 x1 x2)
  exact (cB_bump _ 1 1 rfl) ▸ hu.step arg8 1 1 (1024 * (i 2).val + 512) (cB_at _ 1 1 rfl) ![1, 0, 512] rfl _ _ _ (masked_tile x0 x1 (i 2).val 1 1 (1024 * (i 2).val + 512) _ _ (by have := block_lt i; omega) (by simp) (load_keys x1 arg4 harg4 1 (1024 * (i 2).val + 512) (by have := block_lt i; omega) _ (keys_second1 i) _) (load_queries x0 arg3 harg3 1 1 _ rfl _)) _ (hp.load arg7 1 1 (1024 * (i 2).val + 512) (cB_at _ 1 1 rfl) ![1, 0, 512] rfl _)
    _ (load_values x2 arg5 harg5 1 _ (by have := block_lt i; omega) _ (by omega) _ (values_second1 i) _) _ rfl

theorem p19 : Peaks x0 x1 (i 2).val (cB (1024 * (i 2).val) 3) (kernelRun0_A.sl.HS0_19 (F := Ideal) c i arg3 harg3 arg4 harg4 arg5 harg5 arg6 harg6 arg7 harg7 arg8 harg8 x0 x1 x2) := by
  have hp : Peaks x0 x1 (i 2).val (cB (1024 * (i 2).val) 2) _ := (p18 c i arg3 harg3 arg4 harg4 arg5 harg5 arg6 harg6 arg7 harg7 arg8 harg8 x0 x1 x2)
  exact (cB_bump _ 2 1 rfl) ▸ hp.step arg7 2 1 (1024 * (i 2).val + 512) (cB_at _ 2 1 rfl) ![2, 0, 512] rfl _ _ _ (masked_tile x0 x1 (i 2).val 2 1 (1024 * (i 2).val + 512) _ _ (by have := block_lt i; omega) (by simp) (load_keys x1 arg4 harg4 2 (1024 * (i 2).val + 512) (by have := block_lt i; omega) _ (keys_second2 i) _) (load_queries x0 arg3 harg3 2 1 _ rfl _)) _ rfl

theorem u19 : Sums x0 x1 x2 (i 2).val (cB (1024 * (i 2).val) 3) (kernelRun0_A.sl.HS1_19 (F := Ideal) c i arg3 harg3 arg4 harg4 arg5 harg5 arg6 harg6 arg7 harg7 arg8 harg8 x0 x1 x2) := by
  have hp : Peaks x0 x1 (i 2).val (cB (1024 * (i 2).val) 2) _ := (p18 c i arg3 harg3 arg4 harg4 arg5 harg5 arg6 harg6 arg7 harg7 arg8 harg8 x0 x1 x2)
  have hu : Sums x0 x1 x2 (i 2).val (cB (1024 * (i 2).val) 2) _ := (u18 c i arg3 harg3 arg4 harg4 arg5 harg5 arg6 harg6 arg7 harg7 arg8 harg8 x0 x1 x2)
  exact (cB_bump _ 2 1 rfl) ▸ hu.step arg8 2 1 (1024 * (i 2).val + 512) (cB_at _ 2 1 rfl) ![2, 0, 512] rfl _ _ _ (masked_tile x0 x1 (i 2).val 2 1 (1024 * (i 2).val + 512) _ _ (by have := block_lt i; omega) (by simp) (load_keys x1 arg4 harg4 2 (1024 * (i 2).val + 512) (by have := block_lt i; omega) _ (keys_second2 i) _) (load_queries x0 arg3 harg3 2 1 _ rfl _)) _ (hp.load arg7 2 1 (1024 * (i 2).val + 512) (cB_at _ 2 1 rfl) ![2, 0, 512] rfl _)
    _ (load_values x2 arg5 harg5 2 _ (by have := block_lt i; omega) _ (by omega) _ (values_second2 i) _) _ rfl

theorem p20 : Peaks x0 x1 (i 2).val (cB (1024 * (i 2).val) 4) (kernelRun0_A.sl.HS0_20 (F := Ideal) c i arg3 harg3 arg4 harg4 arg5 harg5 arg6 harg6 arg7 harg7 arg8 harg8 x0 x1 x2) := by
  have hp : Peaks x0 x1 (i 2).val (cB (1024 * (i 2).val) 3) _ := (p19 c i arg3 harg3 arg4 harg4 arg5 harg5 arg6 harg6 arg7 harg7 arg8 harg8 x0 x1 x2)
  exact (cB_bump _ 3 1 rfl) ▸ hp.step arg7 3 1 (1024 * (i 2).val + 512) (cB_at _ 3 1 rfl) ![3, 0, 512] rfl _ _ _ (masked_tile x0 x1 (i 2).val 3 1 (1024 * (i 2).val + 512) _ _ (by have := block_lt i; omega) (by simp) (load_keys x1 arg4 harg4 3 (1024 * (i 2).val + 512) (by have := block_lt i; omega) _ (keys_second3 i) _) (load_queries x0 arg3 harg3 3 1 _ rfl _)) _ rfl

theorem u20 : Sums x0 x1 x2 (i 2).val (cB (1024 * (i 2).val) 4) (kernelRun0_A.sl.HS1_20 (F := Ideal) c i arg3 harg3 arg4 harg4 arg5 harg5 arg6 harg6 arg7 harg7 arg8 harg8 x0 x1 x2) := by
  have hp : Peaks x0 x1 (i 2).val (cB (1024 * (i 2).val) 3) _ := (p19 c i arg3 harg3 arg4 harg4 arg5 harg5 arg6 harg6 arg7 harg7 arg8 harg8 x0 x1 x2)
  have hu : Sums x0 x1 x2 (i 2).val (cB (1024 * (i 2).val) 3) _ := (u19 c i arg3 harg3 arg4 harg4 arg5 harg5 arg6 harg6 arg7 harg7 arg8 harg8 x0 x1 x2)
  exact (cB_bump _ 3 1 rfl) ▸ hu.step arg8 3 1 (1024 * (i 2).val + 512) (cB_at _ 3 1 rfl) ![3, 0, 512] rfl _ _ _ (masked_tile x0 x1 (i 2).val 3 1 (1024 * (i 2).val + 512) _ _ (by have := block_lt i; omega) (by simp) (load_keys x1 arg4 harg4 3 (1024 * (i 2).val + 512) (by have := block_lt i; omega) _ (keys_second3 i) _) (load_queries x0 arg3 harg3 3 1 _ rfl _)) _ (hp.load arg7 3 1 (1024 * (i 2).val + 512) (cB_at _ 3 1 rfl) ![3, 0, 512] rfl _)
    _ (load_values x2 arg5 harg5 3 _ (by have := block_lt i; omega) _ (by omega) _ (values_second3 i) _) _ rfl

theorem p21 : Peaks x0 x1 (i 2).val (cB (1024 * (i 2).val) 5) (kernelRun0_A.sl.HS0_21 (F := Ideal) c i arg3 harg3 arg4 harg4 arg5 harg5 arg6 harg6 arg7 harg7 arg8 harg8 x0 x1 x2) := by
  have hp : Peaks x0 x1 (i 2).val (cB (1024 * (i 2).val) 4) _ := (p20 c i arg3 harg3 arg4 harg4 arg5 harg5 arg6 harg6 arg7 harg7 arg8 harg8 x0 x1 x2)
  exact (cB_bump _ 4 1 rfl) ▸ hp.step arg7 4 1 (1024 * (i 2).val + 512) (cB_at _ 4 1 rfl) ![4, 0, 512] rfl _ _ _ (masked_tile x0 x1 (i 2).val 4 1 (1024 * (i 2).val + 512) _ _ (by have := block_lt i; omega) (by simp) (load_keys x1 arg4 harg4 4 (1024 * (i 2).val + 512) (by have := block_lt i; omega) _ (keys_second4 i) _) (load_queries x0 arg3 harg3 4 1 _ rfl _)) _ rfl

theorem u21 : Sums x0 x1 x2 (i 2).val (cB (1024 * (i 2).val) 5) (kernelRun0_A.sl.HS1_21 (F := Ideal) c i arg3 harg3 arg4 harg4 arg5 harg5 arg6 harg6 arg7 harg7 arg8 harg8 x0 x1 x2) := by
  have hp : Peaks x0 x1 (i 2).val (cB (1024 * (i 2).val) 4) _ := (p20 c i arg3 harg3 arg4 harg4 arg5 harg5 arg6 harg6 arg7 harg7 arg8 harg8 x0 x1 x2)
  have hu : Sums x0 x1 x2 (i 2).val (cB (1024 * (i 2).val) 4) _ := (u20 c i arg3 harg3 arg4 harg4 arg5 harg5 arg6 harg6 arg7 harg7 arg8 harg8 x0 x1 x2)
  exact (cB_bump _ 4 1 rfl) ▸ hu.step arg8 4 1 (1024 * (i 2).val + 512) (cB_at _ 4 1 rfl) ![4, 0, 512] rfl _ _ _ (masked_tile x0 x1 (i 2).val 4 1 (1024 * (i 2).val + 512) _ _ (by have := block_lt i; omega) (by simp) (load_keys x1 arg4 harg4 4 (1024 * (i 2).val + 512) (by have := block_lt i; omega) _ (keys_second4 i) _) (load_queries x0 arg3 harg3 4 1 _ rfl _)) _ (hp.load arg7 4 1 (1024 * (i 2).val + 512) (cB_at _ 4 1 rfl) ![4, 0, 512] rfl _)
    _ (load_values x2 arg5 harg5 4 _ (by have := block_lt i; omega) _ (by omega) _ (values_second4 i) _) _ rfl

theorem p22 : Peaks x0 x1 (i 2).val (cB (1024 * (i 2).val) 6) (kernelRun0_A.sl.HS0_22 (F := Ideal) c i arg3 harg3 arg4 harg4 arg5 harg5 arg6 harg6 arg7 harg7 arg8 harg8 x0 x1 x2) := by
  have hp : Peaks x0 x1 (i 2).val (cB (1024 * (i 2).val) 5) _ := (p21 c i arg3 harg3 arg4 harg4 arg5 harg5 arg6 harg6 arg7 harg7 arg8 harg8 x0 x1 x2)
  exact (cB_bump _ 5 1 rfl) ▸ hp.step arg7 5 1 (1024 * (i 2).val + 512) (cB_at _ 5 1 rfl) ![5, 0, 512] rfl _ _ _ (masked_tile x0 x1 (i 2).val 5 1 (1024 * (i 2).val + 512) _ _ (by have := block_lt i; omega) (by simp) (load_keys x1 arg4 harg4 5 (1024 * (i 2).val + 512) (by have := block_lt i; omega) _ (keys_second5 i) _) (load_queries x0 arg3 harg3 5 1 _ rfl _)) _ rfl

theorem u22 : Sums x0 x1 x2 (i 2).val (cB (1024 * (i 2).val) 6) (kernelRun0_A.sl.HS1_22 (F := Ideal) c i arg3 harg3 arg4 harg4 arg5 harg5 arg6 harg6 arg7 harg7 arg8 harg8 x0 x1 x2) := by
  have hp : Peaks x0 x1 (i 2).val (cB (1024 * (i 2).val) 5) _ := (p21 c i arg3 harg3 arg4 harg4 arg5 harg5 arg6 harg6 arg7 harg7 arg8 harg8 x0 x1 x2)
  have hu : Sums x0 x1 x2 (i 2).val (cB (1024 * (i 2).val) 5) _ := (u21 c i arg3 harg3 arg4 harg4 arg5 harg5 arg6 harg6 arg7 harg7 arg8 harg8 x0 x1 x2)
  exact (cB_bump _ 5 1 rfl) ▸ hu.step arg8 5 1 (1024 * (i 2).val + 512) (cB_at _ 5 1 rfl) ![5, 0, 512] rfl _ _ _ (masked_tile x0 x1 (i 2).val 5 1 (1024 * (i 2).val + 512) _ _ (by have := block_lt i; omega) (by simp) (load_keys x1 arg4 harg4 5 (1024 * (i 2).val + 512) (by have := block_lt i; omega) _ (keys_second5 i) _) (load_queries x0 arg3 harg3 5 1 _ rfl _)) _ (hp.load arg7 5 1 (1024 * (i 2).val + 512) (cB_at _ 5 1 rfl) ![5, 0, 512] rfl _)
    _ (load_values x2 arg5 harg5 5 _ (by have := block_lt i; omega) _ (by omega) _ (values_second5 i) _) _ rfl

theorem p23 : Peaks x0 x1 (i 2).val (cB (1024 * (i 2).val) 7) (kernelRun0_A.sl.HS0_23 (F := Ideal) c i arg3 harg3 arg4 harg4 arg5 harg5 arg6 harg6 arg7 harg7 arg8 harg8 x0 x1 x2) := by
  have hp : Peaks x0 x1 (i 2).val (cB (1024 * (i 2).val) 6) _ := (p22 c i arg3 harg3 arg4 harg4 arg5 harg5 arg6 harg6 arg7 harg7 arg8 harg8 x0 x1 x2)
  exact (cB_bump _ 6 1 rfl) ▸ hp.step arg7 6 1 (1024 * (i 2).val + 512) (cB_at _ 6 1 rfl) ![6, 0, 512] rfl _ _ _ (masked_tile x0 x1 (i 2).val 6 1 (1024 * (i 2).val + 512) _ _ (by have := block_lt i; omega) (by simp) (load_keys x1 arg4 harg4 6 (1024 * (i 2).val + 512) (by have := block_lt i; omega) _ (keys_second6 i) _) (load_queries x0 arg3 harg3 6 1 _ rfl _)) _ rfl

theorem u23 : Sums x0 x1 x2 (i 2).val (cB (1024 * (i 2).val) 7) (kernelRun0_A.sl.HS1_23 (F := Ideal) c i arg3 harg3 arg4 harg4 arg5 harg5 arg6 harg6 arg7 harg7 arg8 harg8 x0 x1 x2) := by
  have hp : Peaks x0 x1 (i 2).val (cB (1024 * (i 2).val) 6) _ := (p22 c i arg3 harg3 arg4 harg4 arg5 harg5 arg6 harg6 arg7 harg7 arg8 harg8 x0 x1 x2)
  have hu : Sums x0 x1 x2 (i 2).val (cB (1024 * (i 2).val) 6) _ := (u22 c i arg3 harg3 arg4 harg4 arg5 harg5 arg6 harg6 arg7 harg7 arg8 harg8 x0 x1 x2)
  exact (cB_bump _ 6 1 rfl) ▸ hu.step arg8 6 1 (1024 * (i 2).val + 512) (cB_at _ 6 1 rfl) ![6, 0, 512] rfl _ _ _ (masked_tile x0 x1 (i 2).val 6 1 (1024 * (i 2).val + 512) _ _ (by have := block_lt i; omega) (by simp) (load_keys x1 arg4 harg4 6 (1024 * (i 2).val + 512) (by have := block_lt i; omega) _ (keys_second6 i) _) (load_queries x0 arg3 harg3 6 1 _ rfl _)) _ (hp.load arg7 6 1 (1024 * (i 2).val + 512) (cB_at _ 6 1 rfl) ![6, 0, 512] rfl _)
    _ (load_values x2 arg5 harg5 6 _ (by have := block_lt i; omega) _ (by omega) _ (values_second6 i) _) _ rfl

theorem u24 : Sums x0 x1 x2 (i 2).val (cB (1024 * (i 2).val) 8) (kernelRun0_A.sl.HS1_24 (F := Ideal) c i arg3 harg3 arg4 harg4 arg5 harg5 arg6 harg6 arg7 harg7 arg8 harg8 x0 x1 x2) := by
  have hp : Peaks x0 x1 (i 2).val (cB (1024 * (i 2).val) 7) _ := (p23 c i arg3 harg3 arg4 harg4 arg5 harg5 arg6 harg6 arg7 harg7 arg8 harg8 x0 x1 x2)
  have hu : Sums x0 x1 x2 (i 2).val (cB (1024 * (i 2).val) 7) _ := (u23 c i arg3 harg3 arg4 harg4 arg5 harg5 arg6 harg6 arg7 harg7 arg8 harg8 x0 x1 x2)
  exact (cB_bump _ 7 1 rfl) ▸ hu.step arg8 7 1 (1024 * (i 2).val + 512) (cB_at _ 7 1 rfl) ![7, 0, 512] rfl _ _ _ (masked_tile x0 x1 (i 2).val 7 1 (1024 * (i 2).val + 512) _ _ (by have := block_lt i; omega) (by simp) (load_keys x1 arg4 harg4 7 (1024 * (i 2).val + 512) (by have := block_lt i; omega) _ (keys_second7 i) _) (load_queries x0 arg3 harg3 7 1 _ rfl _)) _ (hp.load arg7 7 1 (1024 * (i 2).val + 512) (cB_at _ 7 1 rfl) ![7, 0, 512] rfl _)
    _ (load_values x2 arg5 harg5 7 _ (by have := block_lt i; omega) _ (by omega) _ (values_second7 i) _) _ rfl

end

end Cert.KernelIdeal.Attn

end
-- ==== Proof.Output.lean ====
/- What the body of the prompt attention stores at one block of queries: every head's weighted sums of the values divided by
   the weighted sums of ones, over all the keys. -/
module

public import proofs.«01_k».proof.Proof.Diag
public import proofs.«01_k».proof.Proof.Gen.KernelIdeal.Value

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

section
variable (x0 : Vec Ideal S1x8x1024x128 .bf16) (x1 : Vec Ideal S1x8x8192x128 .bf16) (x2 : Vec Ideal S1x16x640x512 .bf16) (i : ℕ)

/-- Entry `r` of query `q`'s result at head `h`. -/
def res (h : Fin 8) (r : Fin 64) (q : Fin 1024) : EReal :=
  Ideal.div (mix (sc x0 x1 i h q) (vl x2 h ⟨r, by omega⟩) 8192) (mix (sc x0 x1 i h q) (vl x2 h 64) 8192)

variable {x0 x1 x2 i}

/-- A load of all of a head's sums, once every key at or before a query has been taken in. -/
theorem load_all {c : Fin 8 → Fin 2 → ℕ} {L : List (View.Piece (Elt Ideal) S8x80x1024 .f32)} (hL : Sums x0 x1 x2 i c L)
    (hc : ∀ h b, c h b ≤ 8192 ∧ 1024 * i + 512 * b.val + 512 ≤ c h b)
    (arg8 : Memref sig .tc .vmem S8x80x1024 .f32) (h : Fin 8) (off : Fin 3 → ℕ) (hoff : off = ![h.val, 0, 0]) (inb) (r : Fin 80) (q : Fin 1024) :
    arg8.view.readCov L (Rect.unit (s := S8x80x1024) off S1x80x1024.size inb).toLoadRect (ix3 0 r q) = mix (sc x0 x1 i h q) (vl x2 h r) 8192 := by
  rw [View.readCov_eq_canon']
  have e : (Rect.unit (s := S8x80x1024) off S1x80x1024.size inb).idx (ix3 0 r q) = ix3 h r q := by
    subst hoff
    refine funext fun a => Fin.ext ?_
    refine (Rect.idx_unit_val _ _ _ _ a).trans ?_
    fin_cases a <;> simp
  refine (congrArg (View.canon L) e).trans ?_
  rw [hL]
  obtain ⟨h1, h2⟩ := hc h (half q)
  refine (mix_tail _ _ h1 fun k hk => sc_of_gt x0 x1 i h q k ?_).symm
  have h3 : (half q).val = q / 512 := rfl
  omega

/-- A store of two heads' results agrees with the results at any place it holds. -/
theorem allAt_pair (p : Fin 4) (off : Fin 3 → ℕ) (hoff : off = ![0, 0, 128 * p.val]) (inb) (q : Fin 1024) (h : Fin 8) (r : Fin 64)
    (a b : Vec Ideal S1x80x1024 .f32)
    (ha : ∀ (r : Fin 80) (q : Fin 1024), a (ix3 0 r q) = mix (sc x0 x1 i ⟨2 * p, by omega⟩ q) (vl x2 ⟨2 * p, by omega⟩ r) 8192)
    (hb : ∀ (r : Fin 80) (q : Fin 1024), b (ix3 0 r q) = mix (sc x0 x1 i ⟨2 * p + 1, by omega⟩ q) (vl x2 ⟨2 * p + 1, by omega⟩ r) 8192)
    (w : S1x1024x128.Idx → Elt Ideal .bf16) (hw : w = pairOut a b)
    (L : List (View.Piece (Elt Ideal) S1x1024x512 .bf16)) (hL : View.AllAt L (ix3 0 q ⟨64 * h + r, by omega⟩) (res x0 x1 x2 i h r q)) :
    View.AllAt ((⟨Rect.unit (s := S1x1024x512) off S1x1024x128.size inb, w⟩ : View.Piece (Elt Ideal) S1x1024x512 .bf16) :: L)
      (ix3 0 q ⟨64 * h + r, by omega⟩) (res x0 x1 x2 i h r q) := by
  refine View.allAt_cons _ _ _ (fun x hx => ?_) hL
  obtain ⟨q', l, rfl⟩ : ∃ (q' : Fin 1024) (l : Fin 128), x = (ix3 0 q' l : S1x1024x128.Idx) := ⟨x 1, x 2, by
    refine (eq_ix3 (n0 := 1) (n1 := 1024) (n2 := 128) x).trans ?_
    rw [Fin.fin_one_eq_zero (x 0 : Fin 1)]⟩
  have e : (Rect.unit (s := S1x1024x512) off S1x1024x128.size inb).idx (ix3 0 q' l) = ix3 0 q' ⟨128 * p + l, by omega⟩ := by
    subst hoff
    refine funext fun a => Fin.ext ?_
    refine (Rect.idx_unit_val _ _ _ _ a).trans ?_
    fin_cases a <;> simp
  obtain ⟨-, rfl, e2⟩ := (ix3_inj ..).1 (e.symm.trans hx)
  have e3 := congrArg Fin.val e2
  simp only at e3
  show w (ix3 0 q' l) = _
  rw [hw, pairOut_at, res]
  by_cases hl : (l : ℕ) < 64
  · rw [if_pos hl, ha, ha]
    have eh : (⟨2 * p, by omega⟩ : Fin 8) = h := Fin.ext (by simp only; omega)
    have er : (⟨l % 64, by omega⟩ : Fin 80) = ⟨r, by omega⟩ := Fin.ext (by simp only; omega)
    rw [eh, er]
  · rw [if_neg hl, hb, hb]
    have eh : (⟨2 * p + 1, by omega⟩ : Fin 8) = h := Fin.ext (by simp only; omega)
    have er : (⟨l % 64, by omega⟩ : Fin 80) = ⟨r, by omega⟩ := Fin.ext (by simp only; omega)
    rw [eh, er]

end

section
variable (c : Dev nD) (i : grid0.Coords)
  (arg3 : Memref sig .tc .vmem S1x8x1024x128 .bf16) (harg3 : arg3.IsWhole) (arg4 : Memref sig .tc .vmem S1x8x8192x128 .bf16) (harg4 : arg4.IsWhole)
  (arg5 : Memref sig .tc .vmem S1x16x640x512 .bf16) (harg5 : arg5.IsWhole) (arg6 : Memref sig .tc .vmem S1x1024x512 .bf16) (harg6 : arg6.IsWhole)
  (arg7 : Memref sig .tc .vmem S8x1x1024 .f32) (harg7 : arg7.IsWhole) (arg8 : Memref sig .tc .vmem S8x80x1024 .f32) (harg8 : arg8.IsWhole)
  (x0 : Vec Ideal S1x8x1024x128 .bf16) (x1 : Vec Ideal S1x8x8192x128 .bf16) (x2 : Vec Ideal S1x16x640x512 .bf16)

theorem counts (h : Fin 8) (b : Fin 2) : cB (1024 * (i 2).val) 8 h b ≤ 8192 ∧ 1024 * (i 2).val + 512 * b.val + 512 ≤ cB (1024 * (i 2).val) 8 h b := by
  have := block_lt i
  simp only [cB]
  split <;> omega

/-- What the body leaves in its block of the result. -/
theorem out_at (h : Fin 8) (r : Fin 64) (q : Fin 1024) :
    out0_A_3 (F := Ideal) c i arg3 harg3 arg4 harg4 arg5 harg5 arg6 harg6 arg7 harg7 arg8 harg8 x0 x1 x2 (ix3 0 q ⟨64 * h + r, by omega⟩)
      = res x0 x1 x2 (i 2).val h r q := by
  unfold out0_A_3
  rw [View.read_writes_junk_apply_eq_canon]
  have hu := u24 c i arg3 harg3 arg4 harg4 arg5 harg5 arg6 harg6 arg7 harg7 arg8 harg8 x0 x1 x2
  have hc := counts i
  refine View.canon_eq_of_allAt _ _ _ (cover0_A_3 c i arg3 harg3 arg4 harg4 arg5 harg5 arg6 harg6 arg7 harg7 arg8 harg8 x0 x1 x2 _) ?_
  unfold kernelRun0_A
  dsimp only
  refine allAt_pair 3 _ rfl _ q h r _ _ (load_all hu hc arg8 6 ![6, 0, 0] rfl (by decide)) (load_all hu hc arg8 7 ![7, 0, 0] rfl (by decide)) _ rfl _ ?_
  refine allAt_pair 2 _ rfl _ q h r _ _ (load_all hu hc arg8 4 ![4, 0, 0] rfl (by decide)) (load_all hu hc arg8 5 ![5, 0, 0] rfl (by decide)) _ rfl _ ?_
  refine allAt_pair 1 _ rfl _ q h r _ _ (load_all hu hc arg8 2 ![2, 0, 0] rfl (by decide)) (load_all hu hc arg8 3 ![3, 0, 0] rfl (by decide)) _ rfl _ ?_
  refine allAt_pair 0 _ rfl _ q h r _ _ (load_all hu hc arg8 0 ![0, 0, 0] rfl (by decide)) (load_all hu hc arg8 1 ![1, 0, 0] rfl (by decide)) _ rfl _ ?_
  exact View.allAt_nil _ _

end

end Cert.KernelIdeal.Attn

end
-- ==== Proof.Values.lean ====
/- The host's preparation of the values: a tile of keys at a time, transposed, every head's rows followed by a row of ones. -/
module

public import proofs.«01_k».proof.Proof.Output

@[expose] public section

set_option maxRecDepth 16384

noncomputable section

namespace Cert.KernelIdeal.Attn

open Idealize.ShloMosaic Idealize.ShloMosaic.TcCoe Idealize.SL.Sem
open Cert.KernelIdeal Cert.KernelIdeal.Gen

/-- Every head's rows, the row of ones and the rows of zeros, one after the other. -/
def stacked (X : FVec Ideal S2x8192x16x64 .bf16) : FVec Ideal S2x16x16x80x512 .bf16 :=
  concatenate S2x16x16x80x512 3 [⟨S2x16x16x64x512, transpose S2x16x16x64x512 [0, 1, 3, 4, 2] (shapeCast S2x16x512x16x64 X shapeCasts_S2x8192x16x64_S2x16x512x16x64) transposes_S2x16x512x16x64_S2x16x16x64x512_0_1_3_4_2⟩,
    ⟨S2x16x16x1x512, broadcastInDim S2x16x16x1x512 ![] bcast_S_S2x16x16x1x512 (constant S_ .bf16 0x3F80#16)⟩,
    ⟨S2x16x16x15x512, broadcastInDim S2x16x16x15x512 ![] bcast_S_S2x16x16x15x512 (constant S_ .bf16 0x0000#16)⟩]
    concatenates_S2x16x16x64x512_S2x16x16x1x512_S2x16x16x15x512_S2x16x16x80x512_d3

/-- The values as the kernel receives them. -/
def padded (X : FVec Ideal S2x8192x16x64 .bf16) : FVec Ideal S2x16x1280x512 .bf16 :=
  shapeCast S2x16x1280x512 (stacked X) shapeCasts_S2x16x16x80x512_S2x16x1280x512

/-- The third operand of the call, as the host has computed it. -/
theorem entry_values (m : (ℓ : Loc nD τ sig) → Buf (Elt Ideal) ℓ) (c : Dev nD) :
    (V m c main_v5 : Vec Ideal S2x16x1280x512 .bf16) = padded (m ((c : Thread nD τ).loc main_arg2)) := by
  unfold V
  after_results
  rfl

theorem stacked_rows (X : FVec Ideal S2x8192x16x64 .bf16) (b : Fin 2) (j g : Fin 16) (r : Fin 64) (k : Fin 512) :
    stacked X (ix5 b j g ⟨r, by omega⟩ k) = X (ix4 b ⟨512 * j + k, by omega⟩ g r) := by
  have := r.isLt
  pointwise [stacked]
  exact congrArg X (congrArg (fun n => ix4 b n g r) (Fin.ext (by simp only; omega)))

theorem stacked_ones (X : FVec Ideal S2x8192x16x64 .bf16) (b : Fin 2) (j g : Fin 16) (k : Fin 512) :
    stacked X (ix5 b j g 64 k) = (1 : EReal) := by
  pointwise [stacked]

theorem padded_at (X : FVec Ideal S2x8192x16x64 .bf16) (b : Fin 2) (j g : Fin 16) (r : Fin 80) (k : Fin 512) :
    padded X (ix4 b j ⟨80 * g + r, by omega⟩ k) = stacked X (ix5 b j g r k) := by
  pointwise [padded]

/-- A row of a head's values, as the kernel receives them. -/
theorem padded_rows (X : FVec Ideal S2x8192x16x64 .bf16) (b : Fin 2) (j g : Fin 16) (r : Fin 64) (k : Fin 512) :
    padded X (ix4 b j ⟨80 * g + r, by omega⟩ k) = X (ix4 b ⟨512 * j + k, by omega⟩ g r) :=
  (padded_at X b j g ⟨r, by omega⟩ k).trans (stacked_rows X b j g r k)

/-- The row of ones after a head's values. -/
theorem padded_ones (X : FVec Ideal S2x8192x16x64 .bf16) (b : Fin 2) (j g : Fin 16) (k : Fin 512) :
    padded X (ix4 b j ⟨80 * g + 64, by omega⟩ k) = (1 : EReal) :=
  (padded_at X b j g 64 k).trans (stacked_ones X b j g k)

end Cert.KernelIdeal.Attn

end
-- ==== Proof.RefAt.lean ====
/- The reference's result at an index: for every query and head, the values weighted by powers of two of the scores less their
   largest, summed over the keys at or before the query, divided by the sum of the weights. -/
module

public import proofs.«01_k».proof.Proof.Softmax
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.Softmax

open Idealize.ShloMosaic

/-- The largest score as a maximum over the keys counted by a finite type. -/
theorem top_fin (s : ℕ → EReal) (n : ℕ) : top s n = Finset.univ.sup fun k : Fin n => s k := by
  have h := top_add s 0 n
  rw [Nat.zero_add, top_zero, bot_sup_eq] at h
  simpa using h

/-- The weighted sum over the keys counted by a finite type. -/
theorem mix_fin (s v : ℕ → EReal) (n : ℕ) : mix s v n = ∑ k : Fin n, v k * Ideal.exp2 (s k - Finset.univ.sup fun k : Fin n => s k) := by
  unfold mix
  rw [top_fin]
  exact Finset.sum_range (fun k => v k * Ideal.exp2 (s k - Finset.univ.sup fun k : Fin n => s k))

/-- Only the counted keys matter. -/
theorem mix_congr {s s' v v' : ℕ → EReal} {n : ℕ} (hs : ∀ k < n, s k = s' k) (hv : ∀ k < n, v k = v' k) : mix s v n = mix s' v' n := by
  have ht : top s n = top s' n := Finset.sup_congr rfl fun k hk => hs k (Finset.mem_range.mp hk)
  unfold mix
  refine Finset.sum_congr rfl fun k hk => ?_
  rw [hs k (Finset.mem_range.mp hk), hv k (Finset.mem_range.mp hk), ht]

end Cert.Softmax

namespace Cert.ReferenceIdeal.Attn

open Idealize.ShloMosaic Idealize.ShloMosaic.TcCoe Idealize.SL.Sem
open Cert.ReferenceIdeal Cert.ReferenceIdeal.Gen Cert.ReferenceIdeal.Value Cert.Softmax

section
variable (Q K : FVec Ideal S2x16x8192x128 .bf16) (V : FVec Ideal S2x8192x16x64 .bf16)

/-- The score of key `k` for query `q` at head `h` of sequence `b`: their product, and `⊥` where the key is after the query. -/
def sc (b : Fin 2) (h : Fin 16) (q : Fin 8192) (k : ℕ) : EReal :=
  if hk : k < 8192 ∧ k ≤ q.val then ∑ d : Fin 128, (K (ix4 b h ⟨k, hk.1⟩ d) : EReal) * (Q (ix4 b h q d) : EReal) else ⊥

/-- Entry `r` of key `k`'s value at head `h` of sequence `b`. -/
def vl (b : Fin 2) (h : Fin 16) (r : Fin 64) (k : ℕ) : EReal :=
  if hk : k < 8192 then (V (ix4 b ⟨k, hk⟩ h r) : EReal) else 0

end

variable (m : (ℓ : Loc nD τ sig) → Buf (Elt Ideal) ℓ) (c : Dev nD)

theorem two_bits : (Ideal.ofBits FTy.f32 0x40000000#32 : EReal) = ((2 : ℝ) : EReal) := by
  simp [Ideal.ofBits, Ideal.ieee]; rw [← EReal.coe_mul]; norm_num

theorem low_bits : (Ideal.ofBits FTy.f32 0xFF800000#32 : EReal) = ⊥ := by simp [Ideal.ofBits, Ideal.ieee]

theorem select_at (A : EReal) (q x : Fin 8192) :
    (Scalar.select (IntOp.cmpi CmpIPredicate.sle (BitVec.ofNat 32 x.val) (BitVec.ofNat 32 q.val)) A (⊥ : EReal) : EReal)
      = if x.val ≤ q.val then A else ⊥ := by
  word_cmp

/-- The masked scores as the reference spells them. -/
theorem sel_at (Q K : FVec Ideal S2x16x8192x128 .bf16) (b : Fin 2) (h : Fin 16) (q x : Fin 8192) :
    (Scalar.select (IntOp.cmpi CmpIPredicate.sle (BitVec.ofNat 32 x.val) (BitVec.ofNat 32 q.val))
      (∑ d : Fin 128, (Q (ix4 b h q d) : EReal) * (K (ix4 b h x d) : EReal)) (⊥ : EReal) : EReal) = sc Q K b h q x.val := by
  rw [select_at]
  by_cases hx : x.val ≤ q.val
  · rw [if_pos hx, sc, dif_pos ⟨x.isLt, hx⟩]
    exact Finset.sum_congr rfl fun d _ => mul_comm _ _
  · rw [if_neg hx, sc, dif_neg (fun h => hx h.2)]

theorem fold_max (n : ℕ) (f : Fin n → EReal) : Finset.fold max ⊥ f Finset.univ = Finset.univ.sup f := rfl

theorem low_at (i : S_.Idx) : (constant (F := Ideal) S_ .f32 0xFF800000#32 i : EReal) = ⊥ := low_bits

/-- The reference's result at a query and an entry of a head. -/
theorem ref_at (b : Fin 2) (q : Fin 8192) (h : Fin 16) (r : Fin 64) :
    (res_main_v25 (F := Ideal) m c : Vec Ideal S2x8192x1024 .bf16) (ix3 b q ⟨64 * h + r, by omega⟩)
      = Ideal.div (mix (sc (m ((c.tc : Thread nD τ).loc main_arg0)) (m ((c.tc : Thread nD τ).loc main_arg1)) b h q) (vl (m ((c.tc : Thread nD τ).loc main_arg2)) b h r) 8192)
          (mix (sc (m ((c.tc : Thread nD τ).loc main_arg0)) (m ((c.tc : Thread nD τ).loc main_arg1)) b h q) (fun _ => 1) 8192) := by
  have e1 : (64 * h.val + r.val) / 64 = h.val := by omega
  have e2 : (64 * h.val + r.val) % 64 = r.val := by omega
  pointwise [res_main_v25]
  simp only [e1, e2, Fin.eta, two_bits, low_bits, pow_two, id_eq, low_at, sel_at, fold_max]
  rw [mix_fin, mix_fin]
  refine congrArg₂ Ideal.div (Finset.sum_congr rfl fun k _ => ?_) (Finset.sum_congr rfl fun k _ => ?_)
  · rw [vl, dif_pos k.isLt]
  · rw [one_mul]

end Cert.ReferenceIdeal.Attn

end
-- ==== Proof.Final.lean ====
/- The kernel's result array is the reference's result: block by block of the kernel's grid, entry by entry. -/
module

public import proofs.«01_k».proof.Proof.Values
public import proofs.«01_k».proof.Proof.RefAt

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Softmax

variable (m : (ℓ : Loc nD τ sig) → Buf (Elt Ideal) ℓ) (c : Dev nD)

/-- Where the blocks lie at a point of the grid. -/
theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, 0, (grid0.coords t 1).val, 0]
    ∧ win0_3.index t = ![(grid0.coords t 0).val, (grid0.coords t 2).val, (grid0.coords t 1).val] :=
  (by decide +kernel : ∀ t : Fin grid0.N, _)

theorem coord0 (t : Fin cfg0.N) : (grid0.coords t 0).val < 2 := (grid0.coords t 0).isLt
theorem coord1 (t : Fin cfg0.N) : (grid0.coords t 1).val < 2 := (grid0.coords t 1).isLt
theorem coord2 (t : Fin cfg0.N) : (grid0.coords t 2).val < 8 := (grid0.coords t 2).isLt

/-- The queries of a block. -/
theorem queries_at (t : Fin cfg0.N) (h : Fin 8) (q : Fin 1024) (d : Fin 128) :
    (iblk m c 0 t : Vec Ideal S1x8x1024x128 .bf16) (ix4 0 h q d)
      = (m ((c : Thread nD τ).loc main_arg0) : Vec Ideal S2x16x8192x128 .bf16)
        (ix4 ⟨(grid0.coords t 0).val, coord0 t⟩ ⟨8 * (grid0.coords t 1).val + h, by have := coord1 t; omega⟩ ⟨1024 * (grid0.coords t 2).val + q, by have := coord2 t; omega⟩ d) := by
  blk_ext [iblk, V, idx t]

/-- The keys of a block. -/
theorem keys_at (t : Fin cfg0.N) (h : Fin 8) (k : Fin 8192) (d : Fin 128) :
    (iblk m c 1 t : Vec Ideal S1x8x8192x128 .bf16) (ix4 0 h k d)
      = (m ((c : Thread nD τ).loc main_arg1) : Vec Ideal S2x16x8192x128 .bf16)
        (ix4 ⟨(grid0.coords t 0).val, coord0 t⟩ ⟨8 * (grid0.coords t 1).val + h, by have := coord1 t; omega⟩ k d) := by
  blk_ext [iblk, V, idx t]

/-- Where an entry of a block of the values lies in the operand. -/
theorem emb_values (t : Fin cfg0.N) (j : Fin 16) (n : Fin 640) (k : Fin 512) (b : Fin 2) (g : ℕ)
    (h2 : win0_2.index t = ![b.val, 0, g, 0]) (hb : 640 * g + n.val < 1280) :
    ((cfg0.win 2).blk t).view.emb (ix4 0 j n k : S1x16x640x512.Idx) = (ix4 b j ⟨640 * g + n, hb⟩ k : S2x16x1280x512.Idx) := by
  blk_ext [h2]

/-- An array read through a block of the values. -/
theorem read_values (t : Fin cfg0.N) (X : Vec Ideal S2x16x1280x512 .bf16) (y : S1x16x640x512.Idx) (x : S2x16x1280x512.Idx)
    (h : ((cfg0.win 2).blk t).view.emb y = x) : ((cfg0.win 2).blk t).view.read (Elt Ideal) X y = X x := by
  subst h
  rfl

/-- A block of the values, read. -/
theorem iblk_values (t : Fin cfg0.N) (y : S1x16x640x512.Idx) (x : S2x16x1280x512.Idx)
    (h : ((cfg0.win 2).blk t).view.emb y = x) : (iblk m c 2 t : Vec Ideal S1x16x640x512 .bf16) y = (V m c main_v5 : Vec Ideal S2x16x1280x512 .bf16) x := by
  unfold iblk
  exact read_values t _ y x h

/-- A block of the values is a stretch of rows of the operand. -/
theorem values_at (t : Fin cfg0.N) (j : Fin 16) (n : Fin 640) (k : Fin 512) :
    (iblk m c 2 t : Vec Ideal S1x16x640x512 .bf16) (ix4 0 j n k)
      = (V m c main_v5 : Vec Ideal S2x16x1280x512 .bf16) (ix4 ⟨(grid0.coords t 0).val, coord0 t⟩ j ⟨640 * (grid0.coords t 1).val + n, by have := coord1 t; omega⟩ k) :=
  iblk_values m c t _ _ (emb_values t j n k ⟨(grid0.coords t 0).val, coord0 t⟩ (grid0.coords t 1).val (idx t).2.2.1 (by have := coord1 t; omega))

/-- The score of the kernel's block is the reference's. -/
theorem sc_eq (t : Fin cfg0.N) (h : Fin 8) (q : Fin 1024) (k : ℕ) :
    sc (iblk m c 0 t) (iblk m c 1 t) (grid0.coords t 2).val h q k
      = Cert.ReferenceIdeal.Attn.sc (m ((c : Thread nD τ).loc main_arg0)) (m ((c : Thread nD τ).loc main_arg1)) ⟨(grid0.coords t 0).val, coord0 t⟩
        ⟨8 * (grid0.coords t 1).val + h, by have := coord1 t; omega⟩ ⟨1024 * (grid0.coords t 2).val + q, by have := coord2 t; omega⟩ k := by
  unfold sc Cert.ReferenceIdeal.Attn.sc
  refine dite_congr rfl (fun hk => ?_) fun _ => rfl
  refine Finset.sum_congr rfl fun d _ => ?_
  rw [queries_at, keys_at]

/-- The value of the kernel's block is the reference's. -/
theorem vl_eq (t : Fin cfg0.N) (h : Fin 8) (r : Fin 64) (k : ℕ) (hk : k < 8192) :
    vl (iblk m c 2 t) h ⟨r, by omega⟩ k
      = Cert.ReferenceIdeal.Attn.vl (m ((c : Thread nD τ).loc main_arg2)) ⟨(grid0.coords t 0).val, coord0 t⟩
        ⟨8 * (grid0.coords t 1).val + h, by have := coord1 t; omega⟩ r k := by
  rw [vl, Cert.ReferenceIdeal.Attn.vl, dif_pos hk, dif_pos hk, values_at, entry_values]
  have h1 := coord1 t
  have e : (⟨640 * (grid0.coords t 1).val + (80 * h.val + r.val), by omega⟩ : Fin 1280) = ⟨80 * (8 * (grid0.coords t 1).val + h.val) + r.val, by omega⟩ :=
    Fin.ext (by simp only; omega)
  refine (congrArg (fun n => padded _ (ix4 _ _ n _)) e).trans ?_
  refine (padded_rows _ _ _ ⟨8 * (grid0.coords t 1).val + h.val, by omega⟩ r _).trans ?_
  exact congrArg (fun n => (m ((c : Thread nD τ).loc main_arg2) : Vec Ideal S2x8192x16x64 .bf16) (ix4 _ n _ r)) (Fin.ext (by simp only; omega))

/-- The row of ones of the kernel's block. -/
theorem one_eq (t : Fin cfg0.N) (h : Fin 8) (k : ℕ) (hk : k < 8192) : vl (iblk m c 2 t) h 64 k = 1 := by
  rw [vl, dif_pos hk]
  refine (values_at m c t _ _ _).trans ?_
  rw [entry_values]
  have h1 := coord1 t
  have e : (⟨640 * (grid0.coords t 1).val + (80 * h.val + 64), by omega⟩ : Fin 1280) = ⟨80 * (8 * (grid0.coords t 1).val + h.val) + 64, by omega⟩ :=
    Fin.ext (by simp only; omega)
  refine (congrArg (fun n => padded _ (ix4 _ _ n _)) e).trans ?_
  exact padded_ones _ _ _ ⟨8 * (grid0.coords t 1).val + h.val, by omega⟩ _

/-- The kernel's result is the reference's, where the arguments are the same. -/
theorem final (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    (dats m 0 c).arrAt 3 cfg0.N = Cert.ReferenceIdeal.Value.res_main_v25 (F := Ideal) m' c := by
  refine (dats m 0 c).arrAt_eq_of_covers 3 _ (by decide +kernel) fun t _ y => ?_
  obtain ⟨q, h, r, rfl⟩ : ∃ (q : Fin 1024) (h : Fin 8) (r : Fin 64), y = (ix3 0 q ⟨64 * h + r, by omega⟩ : S1x1024x512.Idx) :=
    ⟨y 1, ⟨(y 2 : ℕ) / 64, by have : (y 2 : ℕ) < 512 := (y 2).isLt; omega⟩, ⟨(y 2 : ℕ) % 64, by omega⟩, by
      refine (eq_ix3 (n0 := 1) (n1 := 1024) (n2 := 512) y).trans ?_
      rw [Fin.fin_one_eq_zero (y 0 : Fin 1)]
      exact congrArg (fun n => ix3 0 (y 1) n) (Fin.ext (by simp only; omega))⟩
  have hg := coord1 t
  have hi := coord2 t
  have hy : ((cfg0.win 3).blk t).view.emb (ix3 0 q ⟨64 * h + r, by omega⟩ : S1x1024x512.Idx)
      = (ix3 ⟨(grid0.coords t 0).val, coord0 t⟩ ⟨1024 * (grid0.coords t 2).val + q, by omega⟩ ⟨64 * (8 * (grid0.coords t 1).val + h) + r, by omega⟩ : S2x8192x1024.Idx) := by
    blk_ext [idx t]
  refine Eq.trans ?_ (congrArg (Cert.ReferenceIdeal.Value.res_main_v25 (F := Ideal) m' c) hy).symm
  refine Eq.trans ?_ (Cert.ReferenceIdeal.Attn.ref_at m' c ⟨(grid0.coords t 0).val, coord0 t⟩ ⟨1024 * (grid0.coords t 2).val + q, by omega⟩
    ⟨8 * (grid0.coords t 1).val + h, by omega⟩ r).symm
  rw [h0, h1, h2]
  blk_simp
  rw [after0_3]
  refine (out_at c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (iblk m c 0 t) (iblk m c 1 t) (iblk m c 2 t) h r q).trans ?_
  exact congrArg₂ Ideal.div (mix_congr (fun k _ => sc_eq m c t h q k) fun k hk => vl_eq m c t h r k hk)
    (mix_congr (fun k _ => sc_eq m c t h q k) fun k hk => one_eq m c t h k hk)

end Cert.KernelIdeal.Attn

end
-- ==== Proof.Rows.lean ====
/- What the second half of a layer does to one token, written over the extended reals. -/
module

public import Idealize.ShloMosaic.PureOps.Ideal
public import Mathlib.Algebra.BigOperators.Fin

@[expose] public section

noncomputable section

namespace Cert.Rows

open Idealize.ShloMosaic

/-- A row times a matrix. -/
def dot {n k : ℕ} (x : Fin n → EReal) (w : Fin n → Fin k → EReal) (j : Fin k) : EReal := ∑ i, x i * w i j

/-- A row divided by the root of its mean square (`N` is the number of its entries), times a gain. -/
def rms {n : ℕ} (N : EReal) (x g : Fin n → EReal) (j : Fin n) : EReal :=
  x j * Ideal.rsqrt (Ideal.div (∑ k, x k * x k) N + Ideal.ofBits FTy.f32 0x358637BD#32) * g j

/-- The logistic function. -/
def logistic (x : EReal) : EReal := Ideal.div 1 (1 + Ideal.exp (-x))

/-- The two inner products of the feed-forward part, the first through `x * logistic x`. -/
def gated {n k : ℕ} (u : Fin n → EReal) (wg wu : Fin n → Fin k → EReal) (c : Fin k) : EReal :=
  dot u wg c * logistic (dot u wg c) * dot u wu c

/-- A row of 1024 entries, normalised. -/
def norm (x g : Fin 1024 → EReal) : Fin 1024 → EReal := rms (Ideal.ofBits FTy.f32 0x44800000#32) x g

/-- The mixer's output through its projection, normalised and added to the residual. -/
def mixed (o h : Fin 1024 → EReal) (wo : Fin 1024 → Fin 1024 → EReal) (g : Fin 1024 → EReal) (j : Fin 1024) : EReal :=
  h j + norm (dot o wo) g j

/-- The feed-forward part of a normalised row. -/
def forward (u : Fin 1024 → EReal) (wg wu : Fin 1024 → Fin 2816 → EReal) (wd : Fin 2816 → Fin 1024 → EReal) : Fin 1024 → EReal :=
  dot (gated u wg wu) wd

/-- The per-layer input's projection under its gate. -/
def perLayer (p : Fin 256 → EReal) (h : Fin 1024 → EReal) (wp : Fin 256 → Fin 1024 → EReal) (wq : Fin 1024 → Fin 1024 → EReal)
    (j : Fin 1024) : EReal :=
  dot p wp j * logistic (dot h wq j)

/-- The residual after the feed-forward part. -/
def fed (h1 g2 : Fin 1024 → EReal) (wg wu : Fin 1024 → Fin 2816 → EReal) (wd : Fin 2816 → Fin 1024 → EReal) (g3 : Fin 1024 → EReal)
    (j : Fin 1024) : EReal :=
  h1 j + norm (forward (norm h1 g2) wg wu wd) g3 j

/-- The residual after the per-layer input. -/
def closed (h2 : Fin 1024 → EReal) (p : Fin 256 → EReal) (wp : Fin 256 → Fin 1024 → EReal) (wq : Fin 1024 → Fin 1024 → EReal)
    (g4 : Fin 1024 → EReal) (j : Fin 1024) : EReal :=
  h2 j + norm (perLayer p h2 wp wq) g4 j

/-- A layer's second half: the mixer's output, the feed-forward part and the per-layer input, one after the other. -/
def finish (o h : Fin 1024 → EReal) (p : Fin 256 → EReal) (wo : Fin 1024 → Fin 1024 → EReal) (g1 g2 : Fin 1024 → EReal)
    (wg wu : Fin 1024 → Fin 2816 → EReal) (wd : Fin 2816 → Fin 1024 → EReal) (g3 : Fin 1024 → EReal)
    (wp : Fin 256 → Fin 1024 → EReal) (wq : Fin 1024 → Fin 1024 → EReal) (g4 : Fin 1024 → EReal) : Fin 1024 → EReal :=
  closed (fed (mixed o h wo g1) g2 wg wu wd g3) p wp wq g4

/-- The feed-forward part is the sum of what the two halves of its inner entries give. -/
theorem forward_halves (u : Fin 1024 → EReal) (wg wu : Fin 1024 → Fin 2816 → EReal) (wd : Fin 2816 → Fin 1024 → EReal) (j : Fin 1024) :
    forward u wg wu wd j
      = dot (gated u (fun i (c : Fin 1408) => wg i ⟨c, by omega⟩) (fun i (c : Fin 1408) => wu i ⟨c, by omega⟩)) (fun c k => wd ⟨c, by omega⟩ k) j
        + dot (gated u (fun i (c : Fin 1408) => wg i ⟨1408 + c, by omega⟩) (fun i (c : Fin 1408) => wu i ⟨1408 + c, by omega⟩)) (fun c k => wd ⟨1408 + c, by omega⟩ k) j :=
  Fin.sum_univ_add (a := 1408) (b := 1408) fun c => gated u wg wu c * wd c j

/-- The residual after the feed-forward part, from the two halves. -/
theorem fed_halves (h1 g2 : Fin 1024 → EReal) (wg wu : Fin 1024 → Fin 2816 → EReal) (wd : Fin 2816 → Fin 1024 → EReal) (g3 : Fin 1024 → EReal)
    (j : Fin 1024) :
    fed h1 g2 wg wu wd g3 j
      = h1 j + norm (fun k =>
        dot (gated (norm h1 g2) (fun i (c : Fin 1408) => wg i ⟨c, by omega⟩) (fun i (c : Fin 1408) => wu i ⟨c, by omega⟩)) (fun c k => wd ⟨c, by omega⟩ k) k
          + dot (gated (norm h1 g2) (fun i (c : Fin 1408) => wg i ⟨1408 + c, by omega⟩) (fun i (c : Fin 1408) => wu i ⟨1408 + c, by omega⟩))
            (fun c k => wd ⟨1408 + c, by omega⟩ k) k) g3 j := by
  unfold fed
  rw [funext (forward_halves (norm h1 g2) wg wu wd)]

end Cert.Rows

end
-- ==== Proof.PostBlock.lean ====
/- What the kernel of a layer's second half leaves in a block of tokens. -/
module

public import proofs.«01_k».proof.Proof.Rows
public import proofs.«01_k».proof.Proof.Gen.Kernel2Ideal.Value
public import Idealize.ShloMosaic.Lib.Pipeline.ValueKit

@[expose] public section

set_option maxRecDepth 16384

noncomputable section

namespace Cert.Kernel2Ideal.Post

open Idealize.ShloMosaic Idealize.ShloMosaic.TcCoe Idealize.SL.Sem
open Cert.Kernel2Ideal Cert.Kernel2Ideal.Gen Cert.Rows

/-- The residual after the mixer. -/
theorem mixed_at (v0 : Vec Ideal S512x1024 .bf16) (v2 : Vec Ideal S1024x1024 .bf16) (v5 : Vec Ideal S512x1024 .f32) (v6 : Vec Ideal S1x1024 .f32)
    (q : Fin 512) (j : Fin 1024) :
    k0_pay2 (F := Ideal) v0 v2 v5 v6 (ix2 q j)
      = mixed (fun k => v0 (ix2 q k)) (fun k => v5 (ix2 q k)) (fun i k => v2 (ix2 i k)) (fun k => v6 (ix2 0 k)) j := by
  pointwise [k0_pay2]
  rfl

/-- The residual after the mixer, normalised. -/
theorem norm_at (v0 : Vec Ideal S512x1024 .bf16) (v2 : Vec Ideal S1024x1024 .bf16) (v5 : Vec Ideal S512x1024 .f32) (v6 v21 : Vec Ideal S1x1024 .f32)
    (q : Fin 512) (j : Fin 1024) :
    k0_pay3 (F := Ideal) v0 v2 v5 v6 v21 (ix2 q j)
      = norm (fun k => k0_pay2 (F := Ideal) v0 v2 v5 v6 (ix2 q k)) (fun k => v21 (ix2 0 k)) j := by
  pointwise [k0_pay3]
  rfl

/-- What the first half of the feed-forward part's inner entries gives. -/
theorem first_at (u : FVec Ideal S512x1024 .bf16) (wg wu : Vec Ideal S1x1024x1408 .bf16) (wd : Vec Ideal S1x1408x1024 .bf16) (q : Fin 512) (j : Fin 1024) :
    k0_pay5 (F := Ideal) u (k0_pay4 wg) (constant S512x1408 .f32 0x00000000#32) wu wd (ix2 q j)
      = dot (gated (fun k => u (ix2 q k)) (fun i c => wg (ix3 0 i c)) (fun i c => wu (ix3 0 i c))) (fun c k => wd (ix3 0 c k)) j := by
  pointwise [k0_pay5, k0_pay4]
  simp only [zero_sub]
  rfl

/-- The inner entries of the second half. -/
theorem second_at (u : FVec Ideal S512x1024 .bf16) (wg wu : Vec Ideal S1x1024x1408 .bf16) (q : Fin 512) (c : Fin 1408) :
    k0_pay6 (F := Ideal) u wg wu (ix2 q c)
      = gated (fun k => u (ix2 q k)) (fun i c => wg (ix3 0 i c)) (fun i c => wu (ix3 0 i c)) c := by
  pointwise [k0_pay6]
  simp only [zero_sub]
  rfl

/-- The residual after the feed-forward part, from the two halves. -/
theorem fed_at (h : FVec Ideal S512x1024 .f32) (a : FVec Ideal S512x1024 .f32) (b : FVec Ideal S512x1408 .bf16) (wd : Vec Ideal S1x1408x1024 .bf16)
    (g : Vec Ideal S1x1024 .f32) (q : Fin 512) (j : Fin 1024) :
    k0_pay8 (F := Ideal) h a b (k0_pay7 wd) g (ix2 q j)
      = h (ix2 q j) + norm (fun k => a (ix2 q k) + dot (fun c => b (ix2 q c)) (fun c k => wd (ix3 0 c k)) k) (fun k => g (ix2 0 k)) j := by
  pointwise [k0_pay8, k0_pay7]
  rfl

/-- The per-layer input under its gate. -/
theorem perLayer_at (h : FVec Ideal S512x1024 .f32) (a : FVec Ideal S512x1024 .f32) (b : FVec Ideal S512x1408 .bf16) (wd : FVec Ideal S1408x1024 .bf16)
    (g : Vec Ideal S1x1024 .f32) (p : Vec Ideal S1x512x256 .f32) (wp : Vec Ideal S1x256x1024 .bf16) (wq : Vec Ideal S1x1024x1024 .bf16)
    (q : Fin 512) (j : Fin 1024) :
    k0_pay9 (F := Ideal) h a b wd g p wp wq (ix2 q j)
      = perLayer (fun k => p (ix3 0 q k)) (fun k => k0_pay8 (F := Ideal) h a b wd g (ix2 q k)) (fun i k => wp (ix3 0 i k)) (fun i k => wq (ix3 0 i k)) j := by
  pointwise [k0_pay9]
  simp only [zero_sub]
  rfl

/-- The residual after the per-layer input. -/
theorem closed_at (h e : FVec Ideal S512x1024 .f32) (g : Vec Ideal S1x1024 .f32) (q : Fin 512) (j : Fin 1024) :
    k0_pay1 (F := Ideal) h e (k0_pay10 g) (mulf e e) (ix2 q j)
      = h (ix2 q j) + norm (fun k => e (ix2 q k)) (fun k => g (ix2 0 k)) j := by
  pointwise [k0_pay1, k0_pay10]
  rfl

/-- The first half of a matrix's columns. -/
theorem low_inner (x : Vec Ideal S1x1024x2816 .bf16) (i : Fin 1024) (c : Fin 1408) : View.ld x r0_3 (ix3 0 i c) = x (ix3 0 i ⟨c, by omega⟩) := by
  pointwise

/-- The second half of a matrix's columns. -/
theorem high_inner (x : Vec Ideal S1x1024x2816 .bf16) (i : Fin 1024) (c : Fin 1408) : View.ld x r0_5 (ix3 0 i c) = x (ix3 0 i ⟨1408 + c, by omega⟩) := by
  pointwise

/-- The first half of a matrix's rows. -/
theorem low_rows (x : Vec Ideal S1x2816x1024 .bf16) (c : Fin 1408) (k : Fin 1024) : View.ld x r0_4 (ix3 0 c k) = x (ix3 0 ⟨c, by omega⟩ k) := by
  pointwise

/-- The second half of a matrix's rows. -/
theorem high_rows (x : Vec Ideal S1x2816x1024 .bf16) (c : Fin 1408) (k : Fin 1024) : View.ld x r0_6 (ix3 0 c k) = x (ix3 0 ⟨1408 + c, by omega⟩ k) := by
  pointwise

/-- The residual after the feed-forward part, where the loads are the halves of the weights. -/
theorem fed_whole (x0 : Vec Ideal S512x1024 .bf16) (x3 : Vec Ideal S1024x1024 .bf16) (x1 : Vec Ideal S512x1024 .f32) (x4 x5 : Vec Ideal S1x1024 .f32)
    (x6 x7 : Vec Ideal S1x1024x2816 .bf16) (x8 : Vec Ideal S1x2816x1024 .bf16) (x9 : Vec Ideal S1x1024 .f32)
    (ga ua : Vec Ideal S1x1024x1408 .bf16) (da : Vec Ideal S1x1408x1024 .bf16) (gb ub : Vec Ideal S1x1024x1408 .bf16) (db : Vec Ideal S1x1408x1024 .bf16)
    (hga : ∀ i c, ga (ix3 0 i c) = x6 (ix3 0 i ⟨c, by omega⟩)) (hua : ∀ i c, ua (ix3 0 i c) = x7 (ix3 0 i ⟨c, by omega⟩))
    (hda : ∀ (c : Fin 1408) k, da (ix3 0 c k) = x8 (ix3 0 ⟨c, by omega⟩ k)) (hgb : ∀ i (c : Fin 1408), gb (ix3 0 i c) = x6 (ix3 0 i ⟨1408 + c, by omega⟩))
    (hub : ∀ i (c : Fin 1408), ub (ix3 0 i c) = x7 (ix3 0 i ⟨1408 + c, by omega⟩)) (hdb : ∀ (c : Fin 1408) k, db (ix3 0 c k) = x8 (ix3 0 ⟨1408 + c, by omega⟩ k))
    (q : Fin 512) (j : Fin 1024) :
    k0_pay8 (F := Ideal) (k0_pay2 x0 x3 x1 x4) (k0_pay5 (k0_pay3 x0 x3 x1 x4 x5) (k0_pay4 ga) (constant S512x1408 .f32 0x00000000#32) ua da)
        (k0_pay6 (k0_pay3 x0 x3 x1 x4 x5) gb ub) (k0_pay7 db) x9 (ix2 q j)
      = fed (mixed (fun k => x0 (ix2 q k)) (fun k => x1 (ix2 q k)) (fun i k => x3 (ix2 i k)) (fun k => x4 (ix2 0 k)))
        (fun k => x5 (ix2 0 k)) (fun i c => x6 (ix3 0 i c)) (fun i c => x7 (ix3 0 i c)) (fun c k => x8 (ix3 0 c k)) (fun k => x9 (ix2 0 k)) j := by
  refine (fed_at _ _ _ _ _ _ _).trans ?_
  simp only [first_at, second_at, norm_at, mixed_at, hga, hua, hda, hgb, hub, hdb]
  rw [fed_halves]

/-- A block of tokens, where the loads are the halves of the weights. -/
theorem whole (x0 : Vec Ideal S512x1024 .bf16) (x1 : Vec Ideal S512x1024 .f32) (x2 : Vec Ideal S1x512x256 .f32) (x3 : Vec Ideal S1024x1024 .bf16)
    (x4 x5 : Vec Ideal S1x1024 .f32) (x6 x7 : Vec Ideal S1x1024x2816 .bf16) (x8 : Vec Ideal S1x2816x1024 .bf16) (x9 : Vec Ideal S1x1024 .f32)
    (x10 : Vec Ideal S1x256x1024 .bf16) (x11 : Vec Ideal S1x1024x1024 .bf16) (x12 : Vec Ideal S1x1024 .f32)
    (ga ua : Vec Ideal S1x1024x1408 .bf16) (da : Vec Ideal S1x1408x1024 .bf16) (gb ub : Vec Ideal S1x1024x1408 .bf16) (db : Vec Ideal S1x1408x1024 .bf16)
    (hga : ∀ i c, ga (ix3 0 i c) = x6 (ix3 0 i ⟨c, by omega⟩)) (hua : ∀ i c, ua (ix3 0 i c) = x7 (ix3 0 i ⟨c, by omega⟩))
    (hda : ∀ (c : Fin 1408) k, da (ix3 0 c k) = x8 (ix3 0 ⟨c, by omega⟩ k)) (hgb : ∀ i (c : Fin 1408), gb (ix3 0 i c) = x6 (ix3 0 i ⟨1408 + c, by omega⟩))
    (hub : ∀ i (c : Fin 1408), ub (ix3 0 i c) = x7 (ix3 0 i ⟨1408 + c, by omega⟩)) (hdb : ∀ (c : Fin 1408) k, db (ix3 0 c k) = x8 (ix3 0 ⟨1408 + c, by omega⟩ k))
    (h : FVec Ideal S512x1024 .f32) (a : FVec Ideal S512x1024 .f32) (b : FVec Ideal S512x1408 .bf16) (d : FVec Ideal S1408x1024 .bf16)
    (hh : h = k0_pay2 (F := Ideal) x0 x3 x1 x4)
    (ha : a = k0_pay5 (F := Ideal) (k0_pay3 x0 x3 x1 x4 x5) (k0_pay4 ga) (constant S512x1408 .f32 0x00000000#32) ua da)
    (hb : b = k0_pay6 (F := Ideal) (k0_pay3 x0 x3 x1 x4 x5) gb ub) (hd : d = k0_pay7 (F := Ideal) db) (q : Fin 512) (j : Fin 1024) :
    k0_pay1 (F := Ideal) (k0_pay8 h a b d x9) (k0_pay9 h a b d x9 x2 x10 x11) (k0_pay10 x12) (k0_pay11 h a b d x9 x2 x10 x11) (ix2 q j)
      = finish (fun k => x0 (ix2 q k)) (fun k => x1 (ix2 q k)) (fun k => x2 (ix3 0 q k)) (fun i k => x3 (ix2 i k)) (fun k => x4 (ix2 0 k))
        (fun k => x5 (ix2 0 k)) (fun i c => x6 (ix3 0 i c)) (fun i c => x7 (ix3 0 i c)) (fun c k => x8 (ix3 0 c k)) (fun k => x9 (ix2 0 k))
        (fun i k => x10 (ix3 0 i k)) (fun i k => x11 (ix3 0 i k)) (fun k => x12 (ix2 0 k)) j := by
  have h2 : ∀ k, k0_pay8 (F := Ideal) h a b d x9 (ix2 q k)
      = fed (mixed (fun k => x0 (ix2 q k)) (fun k => x1 (ix2 q k)) (fun i k => x3 (ix2 i k)) (fun k => x4 (ix2 0 k)))
        (fun k => x5 (ix2 0 k)) (fun i c => x6 (ix3 0 i c)) (fun i c => x7 (ix3 0 i c)) (fun c k => x8 (ix3 0 c k)) (fun k => x9 (ix2 0 k)) k := fun k => by
    rw [hh, ha, hb, hd]
    exact fed_whole x0 x3 x1 x4 x5 x6 x7 x8 x9 ga ua da gb ub db hga hua hda hgb hub hdb q k
  clear hh ha hb hd
  unfold k0_pay11
  refine (closed_at _ _ _ _ _).trans ?_
  simp only [perLayer_at, h2]
  rfl

/-- A block of tokens, entry by entry. -/
theorem out_at (x0 : Vec Ideal S512x1024 .bf16) (x1 : Vec Ideal S512x1024 .f32) (x2 : Vec Ideal S1x512x256 .f32) (x3 : Vec Ideal S1024x1024 .bf16)
    (x4 x5 : Vec Ideal S1x1024 .f32) (x6 x7 : Vec Ideal S1x1024x2816 .bf16) (x8 : Vec Ideal S1x2816x1024 .bf16) (x9 : Vec Ideal S1x1024 .f32)
    (x10 : Vec Ideal S1x256x1024 .bf16) (x11 : Vec Ideal S1x1024x1024 .bf16) (x12 : Vec Ideal S1x1024 .f32) (q : Fin 512) (j : Fin 1024) :
    out0_13 (F := Ideal) x0 x1 x2 x3 x4 x5 x6 x7 x8 x9 x10 x11 x12 (ix2 q j)
      = finish (fun k => x0 (ix2 q k)) (fun k => x1 (ix2 q k)) (fun k => x2 (ix3 0 q k)) (fun i k => x3 (ix2 i k)) (fun k => x4 (ix2 0 k))
        (fun k => x5 (ix2 0 k)) (fun i c => x6 (ix3 0 i c)) (fun i c => x7 (ix3 0 i c)) (fun c k => x8 (ix3 0 c k)) (fun k => x9 (ix2 0 k))
        (fun i k => x10 (ix3 0 i k)) (fun i k => x11 (ix3 0 i k)) (fun k => x12 (ix2 0 k)) j := by
  unfold_out out0_13
  frame_out
  exact whole x0 x1 x2 x3 x4 x5 x6 x7 x8 x9 x10 x11 x12 _ _ _ _ _ _ (low_inner x6) (low_inner x7) (low_rows x8) (high_inner x6) (high_inner x7) (high_rows x8)
    _ _ _ _ rfl rfl rfl rfl q j

end Cert.Kernel2Ideal.Post

end
-- ==== Proof.PostRef.lean ====
/- The reference of a layer's second half, at an entry of a token. -/
module

public import proofs.«01_k».proof.Proof.Rows
public import proofs.«01_k».proof.Proof.Gen.Reference2Ideal.Run
public import Idealize.ShloMosaic.Lib.Pipeline.ValueKit

@[expose] public section

set_option maxRecDepth 16384

noncomputable section

namespace Cert.Reference2Ideal.Post

open Idealize.ShloMosaic Idealize.ShloMosaic.TcCoe Idealize.SL.Sem
open Cert.Reference2Ideal Cert.Reference2Ideal.Gen Cert.Reference2Ideal.Value Cert.Rows

variable (V0 : Valuation τ sig (Elt Ideal))

/-- The arguments at an index, as arrays of extended reals. -/
abbrev argO : Vec Ideal S2x8192x1024 .bf16 := V0 (Proc.devRef .tc main_arg0)
abbrev argH : Vec Ideal S16384x1024 .f32 := V0 (Proc.devRef .tc main_arg1)
abbrev argP : Vec Ideal S2x2x8192x256 .f32 := V0 (Proc.devRef .tc main_arg2)
abbrev argWo : Vec Ideal S1x1024x1024 .f32 := V0 (Proc.devRef .tc main_arg3)
abbrev argG1 : Vec Ideal S2x1024 .f32 := V0 (Proc.devRef .tc main_arg4)
abbrev argG2 : Vec Ideal S2x1024 .f32 := V0 (Proc.devRef .tc main_arg5)
abbrev argWg : Vec Ideal S2x1024x2816 .f32 := V0 (Proc.devRef .tc main_arg6)
abbrev argWu : Vec Ideal S2x1024x2816 .f32 := V0 (Proc.devRef .tc main_arg7)
abbrev argWd : Vec Ideal S2x2816x1024 .f32 := V0 (Proc.devRef .tc main_arg8)
abbrev argG3 : Vec Ideal S2x1024 .f32 := V0 (Proc.devRef .tc main_arg9)
abbrev argWp : Vec Ideal S2x256x1024 .f32 := V0 (Proc.devRef .tc main_arg10)
abbrev argWq : Vec Ideal S2x1024x1024 .f32 := V0 (Proc.devRef .tc main_arg11)
abbrev argG4 : Vec Ideal S2x1024 .f32 := V0 (Proc.devRef .tc main_arg12)

/-- The reference's array. -/
abbrev REF : Vec Ideal S16384x1024 .f32 := shapeCast _ (addf (res_main_v61 V0) (mulf (mulf (res_main_v76 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v76 V0) (res_main_v76 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![1, 0] (V0 (Proc.devRef .tc main_arg12)) slices_S2x1024_S1x1024_1_0) shapeCasts_S1x1024_S1024))))) shapeCasts_S2x8192x1024_S16384x1024

/-- The residual after the mixer. -/
theorem mixed_at (b : Fin 2) (s : Fin 8192) (j : Fin 1024) : (res_main_v19 (F := Ideal) V0 : Vec Ideal S2x8192x1024 .f32) (ix3 b s j)
    = mixed (fun k => argO V0 (ix3 b s k)) (fun k => argH V0 (ix2 ⟨b * 8192 + s, by omega⟩ k)) (fun i k => argWo V0 (ix3 0 i k))
      (fun k => argG1 V0 (ix2 1 k)) j := by
  have h3 : ∀ k, (res_main_v3 (F := Ideal) V0 : Vec Ideal S2x8192x1024 .f32) (ix3 b s k)
      = dot (fun k => argO V0 (ix3 b s k)) (fun i k => argWo V0 (ix3 0 i k)) k := fun k => by
    pointwise [res_main_v3]
    rfl
  pointwise [res_main_v19]
  simp only [h3]
  rfl

/-- The residual after the mixer, normalised. -/
theorem norm_at (b : Fin 2) (s : Fin 8192) (j : Fin 1024) : (res_main_v34 (F := Ideal) V0 : Vec Ideal S2x8192x1024 .f32) (ix3 b s j)
    = norm (fun k => (res_main_v19 (F := Ideal) V0 : Vec Ideal S2x8192x1024 .f32) (ix3 b s k)) (fun k => argG2 V0 (ix2 1 k)) j := by
  pointwise [res_main_v34]
  rfl

/-- The feed-forward part. -/
theorem forward_at (b : Fin 2) (s : Fin 8192) (j : Fin 1024) : (res_main_v45 (F := Ideal) V0 : Vec Ideal S2x8192x1024 .f32) (ix3 b s j)
    = forward (fun k => (res_main_v34 (F := Ideal) V0 : Vec Ideal S2x8192x1024 .f32) (ix3 b s k)) (fun i c => argWg V0 (ix3 1 i c))
      (fun i c => argWu V0 (ix3 1 i c)) (fun c k => argWd V0 (ix3 1 c k)) j := by
  have h37 : ∀ c, (res_main_v37 (F := Ideal) V0 : Vec Ideal S2x8192x2816 .f32) (ix3 b s c)
      = dot (fun k => (res_main_v34 (F := Ideal) V0 : Vec Ideal S2x8192x1024 .f32) (ix3 b s k)) (fun i c => argWg V0 (ix3 1 i c)) c := fun c => by
    pointwise [res_main_v37]
    rfl
  pointwise [res_main_v45]
  simp only [h37]
  rfl

/-- The residual after the feed-forward part. -/
theorem fed_at (b : Fin 2) (s : Fin 8192) (j : Fin 1024) : (res_main_v61 (F := Ideal) V0 : Vec Ideal S2x8192x1024 .f32) (ix3 b s j)
    = fed (fun k => (res_main_v19 (F := Ideal) V0 : Vec Ideal S2x8192x1024 .f32) (ix3 b s k)) (fun k => argG2 V0 (ix2 1 k))
      (fun i c => argWg V0 (ix3 1 i c)) (fun i c => argWu V0 (ix3 1 i c)) (fun c k => argWd V0 (ix3 1 c k)) (fun k => argG3 V0 (ix2 1 k)) j := by
  pointwise [res_main_v61]
  simp only [forward_at, norm_at]
  rfl

/-- The per-layer input under its gate. -/
theorem perLayer_at (b : Fin 2) (s : Fin 8192) (j : Fin 1024) : (res_main_v76 (F := Ideal) V0 : Vec Ideal S2x8192x1024 .f32) (ix3 b s j)
    = perLayer (fun k => argP V0 (ix4 1 b s k)) (fun k => (res_main_v61 (F := Ideal) V0 : Vec Ideal S2x8192x1024 .f32) (ix3 b s k))
      (fun i k => argWp V0 (ix3 1 i k)) (fun i k => argWq V0 (ix3 1 i k)) j := by
  pointwise [res_main_v76]
  rfl

/-- The reference's result for a token. -/
theorem ref_at (b : Fin 2) (s : Fin 8192) (j : Fin 1024) : REF V0 (ix2 ⟨b * 8192 + s, by omega⟩ j)
    = finish (fun k => argO V0 (ix3 b s k)) (fun k => argH V0 (ix2 ⟨b * 8192 + s, by omega⟩ k)) (fun k => argP V0 (ix4 1 b s k))
      (fun i k => argWo V0 (ix3 0 i k)) (fun k => argG1 V0 (ix2 1 k)) (fun k => argG2 V0 (ix2 1 k)) (fun i c => argWg V0 (ix3 1 i c))
      (fun i c => argWu V0 (ix3 1 i c)) (fun c k => argWd V0 (ix3 1 c k)) (fun k => argG3 V0 (ix2 1 k)) (fun i k => argWp V0 (ix3 1 i k))
      (fun i k => argWq V0 (ix3 1 i k)) (fun k => argG4 V0 (ix2 1 k)) j := by
  pointwise [REF]
  simp only [perLayer_at, fed_at, mixed_at]
  rfl

end Cert.Reference2Ideal.Post

end
-- ==== Proof.PostFinal.lean ====
/- The array that the kernel of a layer's second half leaves is the reference's. -/
module

public import proofs.«01_k».proof.Proof.PostBlock
public import proofs.«01_k».proof.Proof.PostRef

@[expose] public section

set_option maxRecDepth 16384

noncomputable section

namespace Cert.Kernel2Ideal.Post

open Idealize.ShloMosaic Idealize.ShloMosaic.TcCoe Idealize.ShloMosaic.StableHlo Idealize.SL.Sem
open Idealize.ShloMosaic.Pipeline (Dat)
open Cert.Kernel2Ideal Cert.Kernel2Ideal.Gen Cert.Rows
open Cert.Reference2Ideal.Post (argO argH argP argWo argG1 argG2 argWg argWu argWd argG3 argWp argWq argG4)

variable (m : (ℓ : Loc nD τ sig) → Buf (Elt Ideal) ℓ) (c : Dev nD)

/-- Where the blocks lie at a point of the grid. -/
theorem idx : ∀ t : Fin cfg0.N, win0_0.index t = ![t.val, 0] ∧ win0_1.index t = ![t.val, 0] ∧ win0_2.index t = ![1, t.val, 0]
    ∧ win0_3.index t = ![0, 0] ∧ win0_4.index t = ![0, 0] ∧ win0_5.index t = ![0, 0] ∧ win0_6.index t = ![1, 0, 0] ∧ win0_7.index t = ![1, 0, 0]
    ∧ win0_8.index t = ![1, 0, 0] ∧ win0_9.index t = ![0, 0] ∧ win0_10.index t = ![1, 0, 0] ∧ win0_11.index t = ![1, 0, 0]
    ∧ win0_12.index t = ![0, 0] ∧ win0_13.index t = ![t.val, 0] :=
  (by decide +kernel : ∀ t : Fin grid0.N, _)

theorem point_lt (t : Fin cfg0.N) : t.val < 32 := t.isLt

theorem emb0 (t : Fin cfg0.N) (q : Fin 512) (k : Fin 1024) :
    ((cfg0.win 0).blk t).view.emb (ix2 q k : S512x1024.Idx) = (ix2 ⟨512 * t.val + q, by have := point_lt t; omega⟩ k : S16384x1024.Idx) := by
  blk_ext [idx t]
theorem emb1 (t : Fin cfg0.N) (q : Fin 512) (k : Fin 1024) :
    ((cfg0.win 1).blk t).view.emb (ix2 q k : S512x1024.Idx) = (ix2 ⟨512 * t.val + q, by have := point_lt t; omega⟩ k : S16384x1024.Idx) := by
  blk_ext [idx t]
theorem emb2 (t : Fin cfg0.N) (q : Fin 512) (k : Fin 256) :
    ((cfg0.win 2).blk t).view.emb (ix3 0 q k : S1x512x256.Idx) = (ix3 1 ⟨512 * t.val + q, by have := point_lt t; omega⟩ k : S2x16384x256.Idx) := by
  blk_ext [idx t]
theorem emb3 (t : Fin cfg0.N) (i k : Fin 1024) :
    ((cfg0.win 3).blk t).view.emb (ix2 i k : S1024x1024.Idx) = (ix2 i k : S1024x1024.Idx) := by
  blk_ext [idx t]
theorem emb4 (t : Fin cfg0.N) (k : Fin 1024) :
    ((cfg0.win 4).blk t).view.emb (ix2 0 k : S1x1024.Idx) = (ix2 0 k : S1x1024.Idx) := by
  blk_ext [idx t]
theorem emb5 (t : Fin cfg0.N) (k : Fin 1024) :
    ((cfg0.win 5).blk t).view.emb (ix2 0 k : S1x1024.Idx) = (ix2 0 k : S1x1024.Idx) := by
  blk_ext [idx t]
theorem emb6 (t : Fin cfg0.N) (i : Fin 1024) (k : Fin 2816) :
    ((cfg0.win 6).blk t).view.emb (ix3 0 i k : S1x1024x2816.Idx) = (ix3 1 i k : S2x1024x2816.Idx) := by
  blk_ext [idx t]
theorem emb7 (t : Fin cfg0.N) (i : Fin 1024) (k : Fin 2816) :
    ((cfg0.win 7).blk t).view.emb (ix3 0 i k : S1x1024x2816.Idx) = (ix3 1 i k : S2x1024x2816.Idx) := by
  blk_ext [idx t]
theorem emb8 (t : Fin cfg0.N) (i : Fin 2816) (k : Fin 1024) :
    ((cfg0.win 8).blk t).view.emb (ix3 0 i k : S1x2816x1024.Idx) = (ix3 1 i k : S2x2816x1024.Idx) := by
  blk_ext [idx t]
theorem emb9 (t : Fin cfg0.N) (k : Fin 1024) :
    ((cfg0.win 9).blk t).view.emb (ix2 0 k : S1x1024.Idx) = (ix2 0 k : S1x1024.Idx) := by
  blk_ext [idx t]
theorem emb10 (t : Fin cfg0.N) (i : Fin 256) (k : Fin 1024) :
    ((cfg0.win 10).blk t).view.emb (ix3 0 i k : S1x256x1024.Idx) = (ix3 1 i k : S2x256x1024.Idx) := by
  blk_ext [idx t]
theorem emb11 (t : Fin cfg0.N) (i k : Fin 1024) :
    ((cfg0.win 11).blk t).view.emb (ix3 0 i k : S1x1024x1024.Idx) = (ix3 1 i k : S2x1024x1024.Idx) := by
  blk_ext [idx t]
theorem emb12 (t : Fin cfg0.N) (k : Fin 1024) :
    ((cfg0.win 12).blk t).view.emb (ix2 0 k : S1x1024.Idx) = (ix2 0 k : S1x1024.Idx) := by
  blk_ext [idx t]
theorem emb13 (t : Fin cfg0.N) (q : Fin 512) (k : Fin 1024) :
    ((cfg0.win 13).blk t).view.emb (ix2 q k : S512x1024.Idx) = (ix2 ⟨512 * t.val + q, by have := point_lt t; omega⟩ k : S16384x1024.Idx) := by
  blk_ext [idx t]
/-- The mixer's outputs of a block. -/
theorem o_at (t : Fin cfg0.N) (q : Fin 512) (k : Fin 1024) : (iblk m c 0 t : Vec Ideal S512x1024 .bf16) (ix2 q k) = (m ((c : Thread nD τ).loc main_arg0) : Vec Ideal S2x8192x1024 .bf16) (ix3 ⟨(512 * t.val + q) / 8192, by have := point_lt t; omega⟩ ⟨(512 * t.val + q) % 8192, by omega⟩ k) := by
  refine (congrArg (V m c main_v5 : Vec Ideal S16384x1024 .bf16) (emb0 t q k)).trans ?_
  entry_read
  pointwise
/-- The residual of a block. -/
theorem h_at (t : Fin cfg0.N) (q : Fin 512) (k : Fin 1024) : (iblk m c 1 t : Vec Ideal S512x1024 .f32) (ix2 q k) = (m ((c : Thread nD τ).loc main_arg1) : Vec Ideal S16384x1024 .f32) (ix2 ⟨512 * t.val + q, by have := point_lt t; omega⟩ k) := by
  refine (congrArg (V m c main_arg1 : Vec Ideal S16384x1024 .f32) (emb1 t q k)).trans ?_
  entry_read
  pointwise
/-- The per-layer inputs of a block. -/
theorem p_at (t : Fin cfg0.N) (q : Fin 512) (k : Fin 256) : (iblk m c 2 t : Vec Ideal S1x512x256 .f32) (ix3 0 q k) = (m ((c : Thread nD τ).loc main_arg2) : Vec Ideal S2x2x8192x256 .f32) (ix4 1 ⟨(512 * t.val + q) / 8192, by have := point_lt t; omega⟩ ⟨(512 * t.val + q) % 8192, by omega⟩ k) := by
  refine (congrArg (V m c main_v6 : Vec Ideal S2x16384x256 .f32) (emb2 t q k)).trans ?_
  entry_read
  pointwise
/-- The mixer's projection. -/
theorem wo_at (t : Fin cfg0.N) (i k : Fin 1024) : (iblk m c 3 t : Vec Ideal S1024x1024 .bf16) (ix2 i k) = (m ((c : Thread nD τ).loc main_arg3) : Vec Ideal S1x1024x1024 .f32) (ix3 0 i k) := by
  refine (congrArg (V m c main_v8 : Vec Ideal S1024x1024 .bf16) (emb3 t i k)).trans ?_
  entry_read
  pointwise
/-- The gain after the mixer. -/
theorem g1_at (t : Fin cfg0.N) (k : Fin 1024) : (iblk m c 4 t : Vec Ideal S1x1024 .f32) (ix2 0 k) = (m ((c : Thread nD τ).loc main_arg4) : Vec Ideal S2x1024 .f32) (ix2 1 k) := by
  refine (congrArg (V m c main_v11 : Vec Ideal S1x1024 .f32) (emb4 t k)).trans ?_
  entry_read
  pointwise
/-- The gain before the feed-forward part. -/
theorem g2_at (t : Fin cfg0.N) (k : Fin 1024) : (iblk m c 5 t : Vec Ideal S1x1024 .f32) (ix2 0 k) = (m ((c : Thread nD τ).loc main_arg5) : Vec Ideal S2x1024 .f32) (ix2 1 k) := by
  refine (congrArg (V m c main_v14 : Vec Ideal S1x1024 .f32) (emb5 t k)).trans ?_
  entry_read
  pointwise
/-- The gate of the feed-forward part. -/
theorem wg_at (t : Fin cfg0.N) (i : Fin 1024) (k : Fin 2816) : (iblk m c 6 t : Vec Ideal S1x1024x2816 .bf16) (ix3 0 i k) = (m ((c : Thread nD τ).loc main_arg6) : Vec Ideal S2x1024x2816 .f32) (ix3 1 i k) := by
  refine (congrArg (V m c main_v0 : Vec Ideal S2x1024x2816 .bf16) (emb6 t i k)).trans ?_
  entry_read
  pointwise
/-- The other inner product's weights. -/
theorem wu_at (t : Fin cfg0.N) (i : Fin 1024) (k : Fin 2816) : (iblk m c 7 t : Vec Ideal S1x1024x2816 .bf16) (ix3 0 i k) = (m ((c : Thread nD τ).loc main_arg7) : Vec Ideal S2x1024x2816 .f32) (ix3 1 i k) := by
  refine (congrArg (V m c main_v1 : Vec Ideal S2x1024x2816 .bf16) (emb7 t i k)).trans ?_
  entry_read
  pointwise
/-- The weights back to the model's width. -/
theorem wd_at (t : Fin cfg0.N) (i : Fin 2816) (k : Fin 1024) : (iblk m c 8 t : Vec Ideal S1x2816x1024 .bf16) (ix3 0 i k) = (m ((c : Thread nD τ).loc main_arg8) : Vec Ideal S2x2816x1024 .f32) (ix3 1 i k) := by
  refine (congrArg (V m c main_v2 : Vec Ideal S2x2816x1024 .bf16) (emb8 t i k)).trans ?_
  entry_read
  pointwise
/-- The gain after the feed-forward part. -/
theorem g3_at (t : Fin cfg0.N) (k : Fin 1024) : (iblk m c 9 t : Vec Ideal S1x1024 .f32) (ix2 0 k) = (m ((c : Thread nD τ).loc main_arg9) : Vec Ideal S2x1024 .f32) (ix2 1 k) := by
  refine (congrArg (V m c main_v17 : Vec Ideal S1x1024 .f32) (emb9 t k)).trans ?_
  entry_read
  pointwise
/-- The per-layer input's projection. -/
theorem wp_at (t : Fin cfg0.N) (i : Fin 256) (k : Fin 1024) : (iblk m c 10 t : Vec Ideal S1x256x1024 .bf16) (ix3 0 i k) = (m ((c : Thread nD τ).loc main_arg10) : Vec Ideal S2x256x1024 .f32) (ix3 1 i k) := by
  refine (congrArg (V m c main_v3 : Vec Ideal S2x256x1024 .bf16) (emb10 t i k)).trans ?_
  entry_read
  pointwise
/-- The per-layer input's gate. -/
theorem wq_at (t : Fin cfg0.N) (i k : Fin 1024) : (iblk m c 11 t : Vec Ideal S1x1024x1024 .bf16) (ix3 0 i k) = (m ((c : Thread nD τ).loc main_arg11) : Vec Ideal S2x1024x1024 .f32) (ix3 1 i k) := by
  refine (congrArg (V m c main_v4 : Vec Ideal S2x1024x1024 .bf16) (emb11 t i k)).trans ?_
  entry_read
  pointwise
/-- The gain after the per-layer input. -/
theorem g4_at (t : Fin cfg0.N) (k : Fin 1024) : (iblk m c 12 t : Vec Ideal S1x1024 .f32) (ix2 0 k) = (m ((c : Thread nD τ).loc main_arg12) : Vec Ideal S2x1024 .f32) (ix2 1 k) := by
  refine (congrArg (V m c main_v20 : Vec Ideal S1x1024 .f32) (emb12 t k)).trans ?_
  entry_read
  pointwise

/-- The kernel's result is the reference's, where the arguments are the same. -/
theorem final (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5))
    (h6 : m' ((c.tc : Thread Cert.Reference2Ideal.nD Cert.Reference2Ideal.τ).loc Cert.Reference2Ideal.main_arg6) = m ((c.tc : Thread nD τ).loc main_arg6))
    (h7 : m' ((c.tc : Thread Cert.Reference2Ideal.nD Cert.Reference2Ideal.τ).loc Cert.Reference2Ideal.main_arg7) = m ((c.tc : Thread nD τ).loc main_arg7))
    (h8 : m' ((c.tc : Thread Cert.Reference2Ideal.nD Cert.Reference2Ideal.τ).loc Cert.Reference2Ideal.main_arg8) = m ((c.tc : Thread nD τ).loc main_arg8))
    (h9 : m' ((c.tc : Thread Cert.Reference2Ideal.nD Cert.Reference2Ideal.τ).loc Cert.Reference2Ideal.main_arg9) = m ((c.tc : Thread nD τ).loc main_arg9))
    (h10 : m' ((c.tc : Thread Cert.Reference2Ideal.nD Cert.Reference2Ideal.τ).loc Cert.Reference2Ideal.main_arg10) = m ((c.tc : Thread nD τ).loc main_arg10))
    (h11 : m' ((c.tc : Thread Cert.Reference2Ideal.nD Cert.Reference2Ideal.τ).loc Cert.Reference2Ideal.main_arg11) = m ((c.tc : Thread nD τ).loc main_arg11))
    (h12 : m' ((c.tc : Thread Cert.Reference2Ideal.nD Cert.Reference2Ideal.τ).loc Cert.Reference2Ideal.main_arg12) = m ((c.tc : Thread nD τ).loc main_arg12)) :
    (dats m 0 c).arrAt 13 cfg0.N = Cert.Reference2Ideal.Post.REF (launchContents m' c) := by
  refine (dats m 0 c).arrAt_eq_of_covers 13 _ (by decide +kernel) fun t _ y => ?_
  obtain ⟨q, j, rfl⟩ : ∃ (q : Fin 512) (j : Fin 1024), y = (ix2 q j : S512x1024.Idx) := ⟨y 0, y 1, eq_ix2 (n0 := 512) (n1 := 1024) y⟩
  have ht := point_lt t
  have hy : ((cfg0.win 13).blk t).view.emb (ix2 q j : S512x1024.Idx)
      = (ix2 ⟨(512 * t.val + q) / 8192 * 8192 + (512 * t.val + q) % 8192, by omega⟩ j : S16384x1024.Idx) :=
    (emb13 t q j).trans (congrArg (ix2 · j) (Fin.ext (by simp only; omega)))
  refine Eq.trans ?_ (congrArg (Cert.Reference2Ideal.Post.REF (launchContents m' c)) hy).symm
  refine Eq.trans ?_ (Cert.Reference2Ideal.Post.ref_at (launchContents m' c) ⟨(512 * t.val + q) / 8192, by omega⟩ ⟨(512 * t.val + q) % 8192, by omega⟩ j).symm
  blk_simp
  rw [after0_13]
  refine (out_at _ _ _ _ _ _ _ _ _ _ _ _ _ q j).trans ?_
  have hq : (⟨512 * t.val + q, by omega⟩ : Fin 16384) = ⟨(512 * t.val + q) / 8192 * 8192 + (512 * t.val + q) % 8192, by omega⟩ := Fin.ext (by simp only; omega)
  simp only [o_at, h_at, p_at, wo_at, g1_at, g2_at, wg_at, wu_at, wd_at, g3_at, wp_at, wq_at, g4_at, hq]
  rw [show argO (launchContents m' c) = _ from h0, show argH (launchContents m' c) = _ from h1, show argP (launchContents m' c) = _ from h2,
    show argWo (launchContents m' c) = _ from h3, show argG1 (launchContents m' c) = _ from h4, show argG2 (launchContents m' c) = _ from h5,
    show argWg (launchContents m' c) = _ from h6, show argWu (launchContents m' c) = _ from h7, show argWd (launchContents m' c) = _ from h8,
    show argG3 (launchContents m' c) = _ from h9, show argWp (launchContents m' c) = _ from h10, show argWq (launchContents m' c) = _ from h11,
    show argG4 (launchContents m' c) = _ from h12]

end Cert.Kernel2Ideal.Post

end
-- ==== Proof.InBlock.lean ====
/- What the kernel of the first layer's projections leaves in a block of tokens. -/
module

public import proofs.«01_k».proof.Proof.Rows
public import proofs.«01_k».proof.Proof.Gen.Kernel3Ideal.Value
public import Idealize.ShloMosaic.Lib.Pipeline.ValueKit

@[expose] public section

set_option maxRecDepth 16384

noncomputable section

namespace Cert.Kernel3Ideal.In

open Idealize.ShloMosaic Idealize.ShloMosaic.TcCoe Idealize.SL.Sem
open Cert.Kernel3Ideal Cert.Kernel3Ideal.Gen Cert.Rows

variable (x : Vec Ideal S512x1024 .f32) (g : Vec Ideal S1x1024 .f32) (w : Vec Ideal S1024x2816 .bf16) (q : Fin 512)

/-- A token of a block, normalised, times the matrix. -/
abbrev proj (j : Fin 2816) : EReal := dot (norm (fun k => x (ix2 q k)) (fun k => g (ix2 0 k))) (fun i k => w (ix2 i k)) j

/-- A token of a block, normalised. -/
theorem norm_at (j : Fin 1024) : k0_pay2 (F := Ideal) x g (ix2 q j) = norm (fun k => x (ix2 q k)) (fun k => g (ix2 0 k)) j := by
  pointwise [k0_pay2]
  rfl

theorem queries_at (v : Vec Ideal S1024x512 .bf16) (hv : ∀ i (j : Fin 512), v (ix2 i j) = w (ix2 i ⟨j, by omega⟩)) (j : Fin 512) :
    k0_pay3 (F := Ideal) x g v (ix2 q j) = proj x g w q ⟨j, by omega⟩ * Ideal.ofBits FTy.f32 0x3E000000#32 := by
  pointwise [k0_pay3]
  simp only [norm_at, hv]
  rfl
theorem keys_at (v : Vec Ideal S1024x128 .bf16) (hv : ∀ i (j : Fin 128), v (ix2 i j) = w (ix2 i ⟨512 + j, by omega⟩)) (j : Fin 128) :
    k0_pay4 (F := Ideal) x g v (ix2 q j) = proj x g w q ⟨512 + j, by omega⟩ := by
  pointwise [k0_pay4]
  simp only [norm_at, hv]
  rfl
theorem values_at (v : Vec Ideal S1024x128 .bf16) (hv : ∀ i (j : Fin 128), v (ix2 i j) = w (ix2 i ⟨640 + j, by omega⟩)) (j : Fin 128) :
    k0_pay5 (F := Ideal) x g v (ix2 q j) = proj x g w q ⟨640 + j, by omega⟩ := by
  pointwise [k0_pay5]
  simp only [norm_at, hv]
  rfl
theorem inputs_at (v : Vec Ideal S1024x2048 .bf16) (hv : ∀ i (j : Fin 2048), v (ix2 i j) = w (ix2 i ⟨768 + j, by omega⟩)) (j : Fin 2048) :
    k0_pay1 (F := Ideal) (k0_pay2 x g) v (ix2 q j) = proj x g w q ⟨768 + j, by omega⟩ := by
  pointwise [k0_pay1]
  simp only [norm_at, hv]
  rfl

theorem cols_q (i : Fin 1024) (j : Fin 512) : View.ld w r0_2 (ix2 i j) = w (ix2 i ⟨j, by omega⟩) := by
  pointwise
theorem cols_k (i : Fin 1024) (j : Fin 128) : View.ld w r0_4 (ix2 i j) = w (ix2 i ⟨512 + j, by omega⟩) := by
  pointwise
theorem cols_v (i : Fin 1024) (j : Fin 128) : View.ld w r0_6 (ix2 i j) = w (ix2 i ⟨640 + j, by omega⟩) := by
  pointwise
theorem cols_h (i : Fin 1024) (j : Fin 2048) : View.ld w r0_7 (ix2 i j) = w (ix2 i ⟨768 + j, by omega⟩) := by
  pointwise

/-- The queries of a block. -/
theorem out3_at (j : Fin 512) : out0_3 (F := Ideal) x g w (ix2 q j) = proj x g w q ⟨j, by omega⟩ * Ideal.ofBits FTy.f32 0x3E000000#32 := by
  unfold out0_3
  frame_out
  exact queries_at x g w q _ (cols_q w) j
/-- The keys of a block. -/
theorem out4_at (j : Fin 128) : out0_4 (F := Ideal) x g w (ix2 q j) = proj x g w q ⟨512 + j, by omega⟩ := by
  unfold out0_4
  frame_out
  exact keys_at x g w q _ (cols_k w) j
/-- The values of a block. -/
theorem out5_at (j : Fin 128) : out0_5 (F := Ideal) x g w (ix2 q j) = proj x g w q ⟨640 + j, by omega⟩ := by
  unfold out0_5
  frame_out
  exact values_at x g w q _ (cols_v w) j
/-- The recurrence's inputs of a block. -/
theorem out6_at (j : Fin 2048) : out0_6 (F := Ideal) x g w (ix2 q j) = proj x g w q ⟨768 + j, by omega⟩ := by
  unfold out0_6
  frame_out
  exact inputs_at x g w q _ (cols_h w) j

end Cert.Kernel3Ideal.In

end
-- ==== Proof.InRef.lean ====
/- The reference of the first layer's projections, at an entry of a token. -/
module

public import proofs.«01_k».proof.Proof.Rows
public import proofs.«01_k».proof.Proof.Gen.Reference3Ideal.Run
public import Idealize.ShloMosaic.Lib.Pipeline.ValueKit

@[expose] public section

set_option maxRecDepth 16384

noncomputable section

namespace Cert.Reference3Ideal.In

open Idealize.ShloMosaic Idealize.ShloMosaic.TcCoe Idealize.SL.Sem
open Cert.Reference3Ideal Cert.Reference3Ideal.Gen Cert.Reference3Ideal.Value Cert.Rows

variable (x : FVec Ideal S2x8192x1024 .f32) (g : FVec Ideal S2x1024 .f32) (w : FVec Ideal S1x1024x2816 .f32)

/-- All the projections, side by side, by sequence. -/
def Z3 : FVec Ideal S2x8192x2816 .f32 := Host.dotGeneral dot_S2x8192x1024_S1024x2816_S2x8192x2816_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] g slices_S2x1024_S1x1024_0_0) shapeCasts_S1x1024_S1024)))) (shapeCast _ w shapeCasts_S1x1024x2816_S1024x2816)
/-- All the projections of all tokens, side by side. -/
def Z : FVec Ideal S16384x2816 .f32 := shapeCast _ (Z3 x g w) shapeCasts_S2x8192x2816_S16384x2816

/-- The window attention's queries, scaled. -/
def QA : FVec Ideal S16384x512 .bf16 :=
  truncf .bf16 (mulf (extractStridedSlice S16384x512 ![0, 0] (Z x g w) slices_S16384x2816_S16384x512_0_0) (broadcastInDim S16384x512 ![] bcast_S_S16384x512 (constant S_ .f32 0x3E000000#32))) bitsLt_bf16_f32
/-- The window attention's keys. -/
def KA : FVec Ideal S16384x128 .f32 := extractStridedSlice S16384x128 ![0, 512] (Z x g w) slices_S16384x2816_S16384x128_0_512
/-- The window attention's values. -/
def VA : FVec Ideal S16384x128 .f32 := extractStridedSlice S16384x128 ![0, 640] (Z x g w) slices_S16384x2816_S16384x128_0_640
/-- The recurrence's inputs. -/
def HG : FVec Ideal S16384x2048 .f32 := extractStridedSlice S16384x2048 ![0, 768] (Z x g w) slices_S16384x2816_S16384x2048_0_768

/-- A token's projections: its row, normalised, times the matrix. -/
theorem Z_at (r : Fin 16384) (j : Fin 2816) : Z x g w (ix2 r j)
    = dot (norm (fun k => x (ix3 ⟨r / 8192, by omega⟩ ⟨r % 8192, by omega⟩ k)) (fun k => g (ix2 0 k))) (fun i k => w (ix3 0 i k)) j := by
  pointwise [Z, Z3]
  rfl
theorem QA_at (r : Fin 16384) (j : Fin 512) : QA x g w (ix2 r j) = Z x g w (ix2 r ⟨j, by omega⟩) * Ideal.ofBits FTy.f32 0x3E000000#32 := by
  pointwise [QA]
theorem KA_at (r : Fin 16384) (j : Fin 128) : KA x g w (ix2 r j) = Z x g w (ix2 r ⟨512 + j, by omega⟩) := by
  pointwise [KA]
theorem VA_at (r : Fin 16384) (j : Fin 128) : VA x g w (ix2 r j) = Z x g w (ix2 r ⟨640 + j, by omega⟩) := by
  pointwise [VA]
theorem HG_at (r : Fin 16384) (j : Fin 2048) : HG x g w (ix2 r j) = Z x g w (ix2 r ⟨768 + j, by omega⟩) := by
  pointwise [HG]

end Cert.Reference3Ideal.In

end
-- ==== Proof.InFinal.lean ====
/- The arrays that the kernel of the first layer's projections leaves are the reference's. -/
module

public import proofs.«01_k».proof.Proof.InBlock
public import proofs.«01_k».proof.Proof.InRef

@[expose] public section

set_option maxRecDepth 16384

noncomputable section

namespace Cert.Kernel3Ideal.In

open Idealize.ShloMosaic Idealize.ShloMosaic.TcCoe Idealize.ShloMosaic.StableHlo Idealize.SL.Sem
open Idealize.ShloMosaic.Pipeline (Dat)
open Cert.Kernel3Ideal Cert.Kernel3Ideal.Gen Cert.Rows
open Cert.Reference3Ideal.In (Z_at QA QA_at KA KA_at VA VA_at HG HG_at)

variable (m : (ℓ : Loc nD τ sig) → Buf (Elt Ideal) ℓ) (c : Dev nD)

/-- The problem's input. -/
abbrev argX : FVec Ideal S2x8192x1024 .f32 := m ((c : Thread nD τ).loc main_arg0)
/-- The gains of the layers' first norms. -/
abbrev argG : FVec Ideal S2x1024 .f32 := m ((c : Thread nD τ).loc main_arg1)
/-- The matrix of all the projections. -/
abbrev argW : FVec Ideal S1x1024x2816 .f32 := m ((c : Thread nD τ).loc main_arg2)

/-- Where the blocks lie at a point of the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 32 := t.isLt

theorem emb0 (t : Fin cfg0.N) (q : Fin 512) (k : Fin 1024) :
    ((cfg0.win 0).blk t).view.emb (ix2 q k : S512x1024.Idx) = (ix2 ⟨512 * t.val + q, by have := point_lt t; omega⟩ k : S16384x1024.Idx) := by
  blk_ext [idx t]
theorem emb1 (t : Fin cfg0.N) (k : Fin 1024) :
    ((cfg0.win 1).blk t).view.emb (ix2 0 k : S1x1024.Idx) = (ix2 0 k : S1x1024.Idx) := by
  blk_ext [idx t]
theorem emb2 (t : Fin cfg0.N) (i : Fin 1024) (k : Fin 2816) :
    ((cfg0.win 2).blk t).view.emb (ix2 i k : S1024x2816.Idx) = (ix2 i k : S1024x2816.Idx) := by
  blk_ext [idx t]
theorem emb3 (t : Fin cfg0.N) (q : Fin 512) (k : Fin 512) :
    ((cfg0.win 3).blk t).view.emb (ix2 q k : S512x512.Idx) = (ix2 ⟨512 * t.val + q, by have := point_lt t; omega⟩ k : S16384x512.Idx) := by
  blk_ext [idx t]
theorem emb4 (t : Fin cfg0.N) (q : Fin 512) (k : Fin 128) :
    ((cfg0.win 4).blk t).view.emb (ix2 q k : S512x128.Idx) = (ix2 ⟨512 * t.val + q, by have := point_lt t; omega⟩ k : S16384x128.Idx) := by
  blk_ext [idx t]
theorem emb5 (t : Fin cfg0.N) (q : Fin 512) (k : Fin 128) :
    ((cfg0.win 5).blk t).view.emb (ix2 q k : S512x128.Idx) = (ix2 ⟨512 * t.val + q, by have := point_lt t; omega⟩ k : S16384x128.Idx) := by
  blk_ext [idx t]
theorem emb6 (t : Fin cfg0.N) (q : Fin 512) (k : Fin 2048) :
    ((cfg0.win 6).blk t).view.emb (ix2 q k : S512x2048.Idx) = (ix2 ⟨512 * t.val + q, by have := point_lt t; omega⟩ k : S16384x2048.Idx) := by
  blk_ext [idx t]

/-- The tokens of a block. -/
theorem x_at (t : Fin cfg0.N) (q : Fin 512) (k : Fin 1024) : (iblk m c 0 t : Vec Ideal S512x1024 .f32) (ix2 q k) = argX m c (ix3 ⟨(512 * t.val + q) / 8192, by have := point_lt t; omega⟩ ⟨(512 * t.val + q) % 8192, by omega⟩ k) := by
  refine (congrArg (V m c main_v0 : Vec Ideal S16384x1024 .f32) (emb0 t q k)).trans ?_
  entry_read
  pointwise
/-- The first layer's gain. -/
theorem g_at (t : Fin cfg0.N) (k : Fin 1024) : (iblk m c 1 t : Vec Ideal S1x1024 .f32) (ix2 0 k) = argG m c (ix2 0 k) := by
  refine (congrArg (V m c main_v3 : Vec Ideal S1x1024 .f32) (emb1 t k)).trans ?_
  entry_read
  pointwise
/-- The matrix. -/
theorem w_at (t : Fin cfg0.N) (i : Fin 1024) (k : Fin 2816) : (iblk m c 2 t : Vec Ideal S1024x2816 .bf16) (ix2 i k) = argW m c (ix3 0 i k) := by
  refine (congrArg (V m c main_v5 : Vec Ideal S1024x2816 .bf16) (emb2 t i k)).trans ?_
  entry_read
  pointwise

/-- The queries are the reference's. -/
theorem final3 : (dats m 0 c).arrAt 3 cfg0.N = QA (argX m c) (argG m c) (argW m c) := by
  refine (dats m 0 c).arrAt_eq_of_covers 3 _ (by decide +kernel) fun t _ y => ?_
  obtain ⟨q, j, rfl⟩ : ∃ (q : Fin 512) (j : Fin 512), y = (ix2 q j : S512x512.Idx) := ⟨y 0, y 1, eq_ix2 (n0 := 512) (n1 := 512) y⟩
  refine Eq.trans ?_ (congrArg (QA (argX m c) (argG m c) (argW m c)) (emb3 t q j)).symm
  rw [QA_at, Z_at]
  blk_simp
  rw [after0_3]
  refine (out3_at _ _ _ q j).trans ?_
  simp only [proj, x_at, g_at, w_at]
/-- The keys are the reference's. -/
theorem final4 : (dats m 0 c).arrAt 4 cfg0.N = KA (argX m c) (argG m c) (argW m c) := by
  refine (dats m 0 c).arrAt_eq_of_covers 4 _ (by decide +kernel) fun t _ y => ?_
  obtain ⟨q, j, rfl⟩ : ∃ (q : Fin 512) (j : Fin 128), y = (ix2 q j : S512x128.Idx) := ⟨y 0, y 1, eq_ix2 (n0 := 512) (n1 := 128) y⟩
  refine Eq.trans ?_ (congrArg (KA (argX m c) (argG m c) (argW m c)) (emb4 t q j)).symm
  rw [KA_at, Z_at]
  blk_simp
  rw [after0_4]
  refine (out4_at _ _ _ q j).trans ?_
  simp only [proj, x_at, g_at, w_at]
/-- The values are the reference's. -/
theorem final5 : (dats m 0 c).arrAt 5 cfg0.N = VA (argX m c) (argG m c) (argW m c) := by
  refine (dats m 0 c).arrAt_eq_of_covers 5 _ (by decide +kernel) fun t _ y => ?_
  obtain ⟨q, j, rfl⟩ : ∃ (q : Fin 512) (j : Fin 128), y = (ix2 q j : S512x128.Idx) := ⟨y 0, y 1, eq_ix2 (n0 := 512) (n1 := 128) y⟩
  refine Eq.trans ?_ (congrArg (VA (argX m c) (argG m c) (argW m c)) (emb5 t q j)).symm
  rw [VA_at, Z_at]
  blk_simp
  rw [after0_5]
  refine (out5_at _ _ _ q j).trans ?_
  simp only [proj, x_at, g_at, w_at]
/-- The recurrence's inputs are the reference's. -/
theorem final6 : (dats m 0 c).arrAt 6 cfg0.N = HG (argX m c) (argG m c) (argW m c) := by
  refine (dats m 0 c).arrAt_eq_of_covers 6 _ (by decide +kernel) fun t _ y => ?_
  obtain ⟨q, j, rfl⟩ : ∃ (q : Fin 512) (j : Fin 2048), y = (ix2 q j : S512x2048.Idx) := ⟨y 0, y 1, eq_ix2 (n0 := 512) (n1 := 2048) y⟩
  refine Eq.trans ?_ (congrArg (HG (argX m c) (argG m c) (argW m c)) (emb6 t q j)).symm
  rw [HG_at, Z_at]
  blk_simp
  rw [after0_6]
  refine (out6_at _ _ _ q j).trans ?_
  simp only [proj, x_at, g_at, w_at]

end Cert.Kernel3Ideal.In

end
-- ==== Proof.PreRows.lean ====
/- What the latent projections give for one token, written over the extended reals. -/
module

public import proofs.«01_k».proof.Proof.Rows

@[expose] public section

noncomputable section

namespace Cert.Rows

open Idealize.ShloMosaic

/-- The latents of the queries, from a normalised row. -/
def queryLatent (u : Fin 1024 → EReal) (w : Fin 1024 → Fin 512 → EReal) (g : Fin 512 → EReal) : Fin 512 → EReal :=
  rms (Ideal.ofBits FTy.f32 0x44000000#32) (dot u w) g

/-- The latents of keys and values, from a normalised row. -/
def keyLatent (u : Fin 1024 → EReal) (w : Fin 1024 → Fin 288 → EReal) (g : Fin 256 → EReal) : Fin 256 → EReal :=
  rms (Ideal.ofBits FTy.f32 0x43800000#32) (fun k => dot u w ⟨k, by omega⟩) g

/-- The frequencies of the rotation. -/
def freq (i : Fin 16) : EReal :=
  Ideal.pow (Ideal.ofBits FTy.f32 0x461C4000#32)
    (Ideal.div (-(FloatOps.sitofp (F := Ideal) FTy.f32 (BitVec.ofNat 32 i.val) : EReal) * Ideal.ofBits FTy.f32 0x40000000#32) (Ideal.ofBits FTy.f32 0x42000000#32))

/-- The angle of a position and a frequency. -/
def angle (p : ℕ) (i : Fin 16) : EReal := (FloatOps.sitofp (F := Ideal) FTy.f32 (BitVec.ofNat 32 p) : EReal) * freq i

/-- The two halves of 32 entries, rotated by a position's angles. -/
def turned (p : ℕ) (x : Fin 32 → EReal) (j : Fin 32) : EReal :=
  if h : j.val < 16 then x j * Ideal.cos (angle p ⟨j, h⟩) - x ⟨16 + j, by omega⟩ * Ideal.sin (angle p ⟨j, h⟩)
  else x j * Ideal.cos (angle p ⟨j - 16, by omega⟩) + x ⟨j - 16, by omega⟩ * Ideal.sin (angle p ⟨j - 16, by omega⟩)

/-- A head's query, scaled, its last 32 entries rotated, filled up with zeros. -/
def query (p : ℕ) (c : Fin 512 → EReal) (w : Fin 512 → Fin 1536 → EReal) (h : Fin 16) (j : Fin 128) : EReal :=
  if _ : j.val < 64 then dot c w ⟨h * 96 + j, by omega⟩ * Ideal.ofBits FTy.f32 0x3E16C740#32
  else if _ : j.val < 96 then turned p (fun k => dot c w ⟨h * 96 + (64 + k), by omega⟩) ⟨j - 64, by omega⟩ * Ideal.ofBits FTy.f32 0x3E16C740#32
  else 0

/-- A head's key: its own 64 entries, the 32 rotary entries that all heads share, and zeros. -/
def key (c : Fin 256 → EReal) (r : Fin 32 → EReal) (w : Fin 256 → Fin 16 → Fin 64 → EReal) (h : Fin 16) (j : Fin 128) : EReal :=
  if _ : j.val < 64 then dot c (fun i k => w i h k) ⟨j, by omega⟩ else if _ : j.val < 96 then r ⟨j - 64, by omega⟩ else 0

/-- A head's value: its own 64 entries, a one, and zeros. -/
def value (c : Fin 256 → EReal) (w : Fin 256 → Fin 16 → Fin 64 → EReal) (h : Fin 16) (j : Fin 80) : EReal :=
  if _ : j.val < 64 then dot c (fun i k => w i h k) ⟨j, by omega⟩ else if j.val = 64 then 1 else 0

/-- The integer zero is the number zero. -/
theorem sitofp_zero : (FloatOps.sitofp (F := Ideal) FTy.f32 0#32 : EReal) = 0 := by
  simp [FloatOps.sitofp]

/-- The frequencies on 128 lanes, of which only the lanes 64 to 95 rotate. -/
def laneFreq (j : Fin 128) : EReal :=
  if h : 64 ≤ j.val ∧ j.val - 64 < 32 then if g : j.val - 64 < 16 then freq ⟨j - 64, g⟩ else freq ⟨j - 64 - 16, by omega⟩ else 0

/-- The sign with which a lane takes its partner: the first half of the rotating lanes minus, the second plus. -/
def laneSign (j : Fin 128) : EReal := if 64 ≤ j.val ∧ j.val - 64 < 32 then if j.val - 64 < 16 then -1 else 1 else 0

/-- The cosines of a position on 128 lanes. -/
def laneCos (p : ℕ) (j : Fin 128) : EReal := Ideal.cos ((FloatOps.sitofp (F := Ideal) FTy.f32 (BitVec.ofNat 32 p) : EReal) * laneFreq j)

/-- The signed sines of a position on 128 lanes. -/
def laneSin (p : ℕ) (j : Fin 128) : EReal := Ideal.sin ((FloatOps.sitofp (F := Ideal) FTy.f32 (BitVec.ofNat 32 p) : EReal) * laneFreq j) * laneSign j

/-- 128 lanes, each with its partner 16 lanes on or, from lane 80, 16 lanes back. -/
def spun (x c s : Fin 128 → EReal) (j : Fin 128) : EReal :=
  x j * c j + (if j.val < 80 then x ⟨(j + 128 - 112) % 128, by omega⟩ else x ⟨(j + 128 - 16) % 128, by omega⟩) * s j

theorem cos_zero : Ideal.cos 0 = 1 := by
  rw [← EReal.coe_zero]
  exact (congrArg _ Real.cos_zero).trans EReal.coe_one

/-- Outside the rotating lanes nothing changes. -/
theorem spun_still (p : ℕ) (x : Fin 128 → EReal) (j : Fin 128) (h : ¬(64 ≤ j.val ∧ j.val - 64 < 32)) :
    spun x (laneCos p) (laneSin p) j = x j := by
  unfold spun laneCos laneSin laneFreq laneSign
  rw [dif_neg h, if_neg h, mul_zero, mul_zero, mul_zero, add_zero, cos_zero, mul_one]

/-- The rotating lanes are rotated. -/
theorem spun_turned (p : ℕ) (x : Fin 128 → EReal) (j : Fin 32) :
    spun x (laneCos p) (laneSin p) ⟨64 + j, by omega⟩ = turned p (fun k => x ⟨64 + k, by omega⟩) j := by
  unfold spun laneCos laneSin laneFreq laneSign turned angle
  have r : 64 ≤ 64 + j.val ∧ j.val < 32 := by omega
  by_cases g : j.val < 16
  · have e : (64 + j.val + 128 - 112) % 128 = 64 + (16 + j.val) := by omega
    simp only [Nat.add_sub_cancel_left, dif_pos r, if_pos r, dif_pos g, if_pos g, if_pos (show 64 + j.val < 80 by omega), e, mul_neg, mul_one, sub_eq_add_neg]
  · have e : (64 + j.val + 128 - 16) % 128 = 64 + (j.val - 16) := by omega
    simp only [Nat.add_sub_cancel_left, dif_pos r, if_pos r, dif_neg g, if_neg g, if_neg (show ¬64 + j.val < 80 by omega), e, mul_one]

/-- A head's columns, filled up with zeros. -/
def headCols (w : Fin 512 → Fin 1536 → EReal) (h : Fin 16) (i : Fin 512) (j : Fin 128) : EReal :=
  if _ : j.val < 96 then w i ⟨h * 96 + j, by omega⟩ else 0

/-- A head's columns of the matrix to the keys, filled up with zeros. -/
def keyCols (w : Fin 256 → Fin 16 → Fin 64 → EReal) (h : Fin 16) (i : Fin 256) (j : Fin 128) : EReal :=
  if _ : j.val < 64 then w i h ⟨j, by omega⟩ else 0

/-- The columns of the rotary key, at the rotating lanes. -/
def rotCols (w : Fin 1024 → Fin 288 → EReal) (i : Fin 1024) (j : Fin 128) : EReal :=
  if _ : 64 ≤ j.val ∧ j.val - 64 < 32 then w i ⟨256 + (j - 64), by omega⟩ else 0

/-- A head's query, by lanes. -/
theorem query_spun (p : ℕ) (c : Fin 512 → EReal) (w : Fin 512 → Fin 1536 → EReal) (h : Fin 16) (j : Fin 128) :
    spun (dot c (headCols w h)) (laneCos p) (laneSin p) j * Ideal.ofBits FTy.f32 0x3E16C740#32 = query p c w h j := by
  unfold query
  by_cases h64 : j.val < 64
  · rw [spun_still _ _ _ (by omega), dif_pos h64]
    simp only [dot, headCols, dif_pos (show j.val < 96 by omega)]
  · by_cases h96 : j.val < 96
    · rw [dif_neg h64, dif_pos h96]
      have e : j = ⟨64 + (j.val - 64), by omega⟩ := Fin.ext (by simp; omega)
      conv_lhs => rw [e]
      refine congrArg (· * _) ((spun_turned p _ ⟨j.val - 64, by omega⟩).trans ?_)
      refine congrArg (fun f => turned p f _) (funext fun k => ?_)
      simp only [dot, headCols, dif_pos (show 64 + k.val < 96 by omega)]
    · rw [spun_still _ _ _ (by omega), dif_neg h64, dif_neg h96]
      simp only [dot, headCols, dif_neg h96, mul_zero, Finset.sum_const_zero, zero_mul]

/-- The rotary key, by lanes. -/
theorem rot_spun (p : ℕ) (u : Fin 1024 → EReal) (w : Fin 1024 → Fin 288 → EReal) (j : Fin 32) :
    spun (dot u (rotCols w)) (laneCos p) (laneSin p) ⟨64 + j, by omega⟩ = turned p (fun k => dot u w ⟨256 + k, by omega⟩) j := by
  rw [spun_turned]
  refine congrArg (fun f => turned p f _) (funext fun k => ?_)
  have e : 64 ≤ 64 + k.val ∧ k.val < 32 := by omega
  simp only [dot, rotCols, Nat.add_sub_cancel_left, dif_pos e]

/-- A head's key, by lanes. -/
theorem key_spun (p : ℕ) (c : Fin 256 → EReal) (u : Fin 1024 → EReal) (v : Fin 256 → Fin 16 → Fin 64 → EReal) (w : Fin 1024 → Fin 288 → EReal)
    (h : Fin 16) (j : Fin 128) :
    dot c (keyCols v h) j + spun (dot u (rotCols w)) (laneCos p) (laneSin p) j
      = key c (turned p (fun k => dot u w ⟨256 + k, by omega⟩)) v h j := by
  unfold key
  by_cases h64 : j.val < 64
  · rw [spun_still _ _ _ (by omega), dif_pos h64]
    simp only [dot, keyCols, dif_pos h64, rotCols, dif_neg (show ¬(64 ≤ j.val ∧ j.val - 64 < 32) by omega), mul_zero, Finset.sum_const_zero, add_zero]
  · rw [dif_neg h64]
    have z : dot c (keyCols v h) j = 0 := by simp only [dot, keyCols, dif_neg h64, mul_zero, Finset.sum_const_zero]
    rw [z, zero_add]
    by_cases h96 : j.val < 96
    · rw [dif_pos h96]
      have e : j = ⟨64 + (j.val - 64), by omega⟩ := Fin.ext (by simp; omega)
      conv_lhs => rw [e]
      exact rot_spun p u w ⟨j.val - 64, by omega⟩
    · rw [spun_still _ _ _ (by omega), dif_neg h96]
      simp only [dot, rotCols, dif_neg (show ¬(64 ≤ j.val ∧ j.val - 64 < 32) by omega), mul_zero, Finset.sum_const_zero]

/-- A row of the matrix to the values, by heads of 80 rows. -/
def valueRow (v : Fin 256 → Fin 16 → Fin 64 → EReal) (r : Fin 1280) (i : Fin 256) : EReal :=
  if _ : r.val % 80 < 64 then v i ⟨r / 80, by omega⟩ ⟨r % 80, by omega⟩ else 0

/-- The ones beside the values. -/
def valueOne (r : Fin 1280) : EReal := if r.val % 80 = 64 then 1 else 0

/-- A head's value, by rows. -/
theorem value_rows (c : Fin 256 → EReal) (v : Fin 256 → Fin 16 → Fin 64 → EReal) (r : Fin 1280) :
    (∑ i, valueRow v r i * c i) + valueOne r = value c v ⟨r / 80, by omega⟩ ⟨r % 80, by omega⟩ := by
  unfold value valueOne
  by_cases h : r.val % 80 < 64
  · simp only [dot, valueRow, dif_pos h, if_neg (show ¬r.val % 80 = 64 by omega), add_zero, mul_comm]
  · simp only [valueRow, dif_neg h, zero_mul, Finset.sum_const_zero, zero_add]

end Cert.Rows

end
-- ==== Proof.PreBlock.lean ====
/- What the kernel of the latent projections leaves in a block of tokens. -/
module

public import proofs.«01_k».proof.Proof.PreRows
public import proofs.«01_k».proof.Proof.Gen.Kernel4Ideal.Value
public import Idealize.ShloMosaic.Lib.Pipeline.ValueKit

@[expose] public section

set_option maxRecDepth 16384

noncomputable section

namespace Cert.Kernel4Ideal.Pre

open Idealize.ShloMosaic Idealize.ShloMosaic.TcCoe Idealize.SL.Sem
open Cert.Kernel4Ideal Cert.Kernel4Ideal.Gen Cert.Rows

/-- A token's row, normalised. -/
theorem norm_at (x : Vec Ideal S512x1024 .f32) (g : Vec Ideal S1x1024 .f32) (q : Fin 512) (j : Fin 1024) :
    k0_pay7 (F := Ideal) x g (ix2 q j) = norm (fun k => x (ix2 q k)) (fun k => g (ix2 0 k)) j := by
  pointwise [k0_pay7]
  rfl

/-- The latents of the queries before their normalisation. -/
theorem down_at (x : Vec Ideal S512x1024 .f32) (g : Vec Ideal S1x1024 .f32) (w : Vec Ideal S1024x512 .bf16) (q : Fin 512) (j : Fin 512) :
    k0_pay8 (F := Ideal) x g w (ix2 q j) = dot (fun k => k0_pay7 (F := Ideal) x g (ix2 q k)) (fun i k => w (ix2 i k)) j := by
  pointwise [k0_pay8]
  rfl

/-- The latents of the queries. -/
theorem latent_at (d : FVec Ideal S512x512 .f32) (g : Vec Ideal S1x512 .f32) (q : Fin 512) (j : Fin 512) :
    k0_pay9 (F := Ideal) d g (ix2 q j) = rms (Ideal.ofBits FTy.f32 0x44000000#32) (fun k => d (ix2 q k)) (fun k => g (ix2 0 k)) j := by
  pointwise [k0_pay9]
  rfl

/-- The latents of keys and values beside the rotary key. -/
theorem both_at (u : FVec Ideal S512x1024 .bf16) (w : Vec Ideal S1024x384 .bf16) (q : Fin 512) (j : Fin 384) :
    k0_pay10 (F := Ideal) u w (ix2 q j) = dot (fun k => u (ix2 q k)) (fun i k => w (ix2 i k)) j := by
  pointwise [k0_pay10]
  rfl

/-- The latents of keys and values. -/
theorem keyLatent_at (u : FVec Ideal S512x1024 .bf16) (w : Vec Ideal S1024x384 .bf16) (g : Vec Ideal S1x256 .f32) (q : Fin 512) (j : Fin 256) :
    k0_pay11 (F := Ideal) u w g (ix2 q j)
      = rms (Ideal.ofBits FTy.f32 0x43800000#32) (fun k : Fin 256 => k0_pay10 (F := Ideal) u w (ix2 q ⟨k, by omega⟩)) (fun k => g (ix2 0 k)) j := by
  pointwise [k0_pay11]
  rfl

/-- The position of a block's token in its sequence. -/
theorem position (n q : ℕ) (hn : n < 32) (hq : q < 512) :
    IntOp.andi (IntOp.addi (Scalar.muli (BitVec.ofNat 32 n) 512#32) (BitVec.ofNat 32 q)) 8191#32 = BitVec.ofNat 32 ((512 * n + q) % 8192) := by
  have e : (n * 512 + q) % 2 ^ 13 = (512 * n + q) % 8192 := by omega
  apply BitVec.eq_of_toNat_eq
  rw [← e, ← Nat.and_two_pow_sub_one_eq_mod]
  simp [IntOp.andi, IntOp.addi, Scalar.muli, IntOp.muli]

/-- The lanes that look 16 lanes on. -/
theorem mask_at (q : Fin 512) (j : Fin 128) : k0_pay6 (ix2 q j) = if j.val < 80 then 1#1 else 0#1 := by
  pointwise [k0_pay6]
  exact (by decide +kernel : ∀ j : Fin 128, IntOp.cmpi CmpIPredicate.slt (BitVec.ofNat 32 j.val) 80#32 = if j.val < 80 then 1#1 else 0#1) j

theorem cos_at (i : grid0.Coords) (v : Vec Ideal S1x128 .f32) (hv : ∀ j, v (ix2 0 j) = laneFreq j) (q : Fin 512) (j : Fin 128) :
    k0_pay4 (F := Ideal) i v (ix2 q j) = laneCos ((512 * (i 0).val + q) % 8192) j := by
  pointwise [k0_pay4, k0_pay3]
  rw [position _ _ (i 0).isLt q.isLt, hv]
  rfl

theorem sin_at (i : grid0.Coords) (v s : Vec Ideal S1x128 .f32) (hv : ∀ j, v (ix2 0 j) = laneFreq j) (hs : ∀ j, s (ix2 0 j) = laneSign j)
    (q : Fin 512) (j : Fin 128) : k0_pay5 (F := Ideal) i v s (ix2 q j) = laneSin ((512 * (i 0).val + q) % 8192) j := by
  pointwise [k0_pay5, k0_pay3]
  rw [position _ _ (i 0).isLt q.isLt, hv, hs]
  rfl

/-- The rotary key by lanes. -/
theorem rot_at (c s : FVec Ideal S512x128 .f32) (u : FVec Ideal S512x1024 .bf16) (w : Vec Ideal S1024x384 .bf16) (q : Fin 512) (j : Fin 128) :
    k0_pay12 (F := Ideal) c s k0_pay6 u w (ix2 q j)
      = spun (fun j => k0_pay10 (F := Ideal) u w (ix2 q ⟨256 + j, by omega⟩)) (fun j => c (ix2 q j)) (fun j => s (ix2 q j)) j := by
  pointwise [k0_pay12]
  rw [mask_at]
  unfold spun
  split <;> rfl

/-- A head's query by lanes. -/
theorem head_at (c s : FVec Ideal S512x128 .f32) (u : FVec Ideal S512x512 .bf16) (w : Vec Ideal S512x128 .bf16) (q : Fin 512) (j : Fin 128) :
    k0_pay16 (F := Ideal) c s k0_pay6 u w (ix4 0 0 q j)
      = spun (dot (fun k => u (ix2 q k)) (fun i j => w (ix2 i j))) (fun j => c (ix2 q j)) (fun j => s (ix2 q j)) j * Ideal.ofBits FTy.f32 0x3E16C740#32 := by
  pointwise [k0_pay16]
  rw [mask_at]
  unfold spun
  split <;> rfl

/-- A head's key by lanes. -/
theorem key_at (c : FVec Ideal S512x256 .f32) (k : FVec Ideal S512x128 .f32) (w : Vec Ideal S256x128 .bf16) (q : Fin 512) (j : Fin 128) :
    k0_pay18 (F := Ideal) (k0_pay17 c k w) (ix4 0 0 q j) = dot (fun i => c (ix2 q i)) (fun i j => w (ix2 i j)) j + k (ix2 q j) := by
  pointwise [k0_pay18, k0_pay17, k0_pay14]
  rfl

/-- The values by rows. -/
theorem values_at (c : FVec Ideal S512x256 .f32) (w : Vec Ideal S1280x256 .bf16) (o : Vec Ideal S1280x1 .f32) (q : Fin 512) (r : Fin 1280) :
    k0_pay15 (F := Ideal) c w o (ix4 0 0 r q) = (∑ i, w (ix2 r i) * c (ix2 q i)) + o (ix2 r 0) := by
  pointwise [k0_pay15, k0_pay14]

/-- The store of a head's queries. -/
theorem head_piece (c s : FVec Ideal S512x128 .f32) (u : FVec Ideal S512x512 .bf16) (m : Vec Ideal S512x2048 .bf16) (w : Vec Ideal S512x128 .bf16) (n : ℕ)
    (hn : n < 16) (hw : ∀ i (j : Fin 128), w (ix2 i j) = m (ix2 i ⟨128 * n + j, by omega⟩)) (x : S1x1x512x128.Idx) (h : Fin 16) (q : Fin 512) (j : Fin 128)
    (h1 : h.val = n + (x 1).val) (x1 : (x 1).val < 1) (h2 : q.val = (x 2).val) (h3 : j.val = (x 3).val) :
    k0_pay16 (F := Ideal) c s k0_pay6 u w x
      = spun (dot (fun k => u (ix2 q k)) (fun i j => m (ix2 i ⟨128 * h + j, by omega⟩))) (fun j => c (ix2 q j)) (fun j => s (ix2 q j)) j
        * Ideal.ofBits FTy.f32 0x3E16C740#32 := by
  obtain ⟨a, b, q', j', rfl⟩ : ∃ (a b : Fin 1) (q : Fin 512) (j : Fin 128), x = (ix4 a b q j : S1x1x512x128.Idx) :=
    ⟨x 0, x 1, x 2, x 3, eq_ix4 (n0 := 1) (n1 := 1) (n2 := 512) (n3 := 128) x⟩
  obtain rfl : q = q' := Fin.ext h2
  obtain rfl : j = j' := Fin.ext h3
  obtain rfl : h = ⟨n, hn⟩ := Fin.ext (by simpa using h1)
  rw [show a = 0 from Subsingleton.elim _ _, show b = 0 from Subsingleton.elim _ _, head_at]
  simp only [hw]

/-- The store of a head's keys. -/
theorem key_piece (c : FVec Ideal S512x256 .f32) (k : FVec Ideal S512x128 .f32) (m : Vec Ideal S256x2048 .bf16) (w : Vec Ideal S256x128 .bf16) (n : ℕ)
    (hn : n < 16) (hw : ∀ i (j : Fin 128), w (ix2 i j) = m (ix2 i ⟨128 * n + j, by omega⟩)) (x : S1x1x512x128.Idx) (h : Fin 16) (q : Fin 512) (j : Fin 128)
    (h1 : h.val = n + (x 1).val) (x1 : (x 1).val < 1) (h2 : q.val = (x 2).val) (h3 : j.val = (x 3).val) :
    k0_pay18 (F := Ideal) (k0_pay17 c k w) x
      = dot (fun i => c (ix2 q i)) (fun i j => m (ix2 i ⟨128 * h + j, by omega⟩)) j + k (ix2 q j) := by
  obtain ⟨a, b, q', j', rfl⟩ : ∃ (a b : Fin 1) (q : Fin 512) (j : Fin 128), x = (ix4 a b q j : S1x1x512x128.Idx) :=
    ⟨x 0, x 1, x 2, x 3, eq_ix4 (n0 := 1) (n1 := 1) (n2 := 512) (n3 := 128) x⟩
  obtain rfl : q = q' := Fin.ext h2
  obtain rfl : j = j' := Fin.ext h3
  obtain rfl : h = ⟨n, hn⟩ := Fin.ext (by simpa using h1)
  rw [show a = 0 from Subsingleton.elim _ _, show b = 0 from Subsingleton.elim _ _, key_at]
  simp only [hw]

/-- The rotary key without the lanes beside it. -/
theorem rotKey_at (c s : FVec Ideal S512x128 .f32) (k : IVec S512x128 1) (u : FVec Ideal S512x1024 .bf16) (w : Vec Ideal S1024x384 .bf16) (q : Fin 512) (j : Fin 32) :
    k0_pay13 (F := Ideal) c s k u w (ix2 q j) = k0_pay12 (F := Ideal) c s k u w (ix2 q ⟨64 + j, by omega⟩) := by
  pointwise [k0_pay13]

section Block

variable (i : grid0.Coords) (x0 : Vec Ideal S512x1024 .f32) (x1 : Vec Ideal S1x1024 .f32) (x2 : Vec Ideal S1024x512 .bf16) (x3 : Vec Ideal S1x512 .f32)
  (x4 : Vec Ideal S512x2048 .bf16) (x5 : Vec Ideal S1024x384 .bf16) (x6 : Vec Ideal S1x256 .f32) (x7 : Vec Ideal S256x2048 .bf16)
  (x8 : Vec Ideal S1280x256 .bf16) (x9 : Vec Ideal S1280x1 .f32) (x10 x11 : Vec Ideal S1x128 .f32)

/-- The queries of a block. -/
theorem out12_at (h : Fin 16) (q : Fin 512) (j : Fin 128) : out0_12 (F := Ideal) i x0 x1 x2 x3 x4 x5 x6 x7 x8 x9 x10 x11 (ix4 0 h q j)
    = spun (dot (fun k => k0_pay64 (F := Ideal) i x0 x1 x2 x3 x4 x5 x6 x7 x8 x9 x10 x11 (ix2 q k)) (fun i j => x4 (ix2 i ⟨128 * h + j, by omega⟩)))
        (fun j => k0_pay60 (F := Ideal) i x0 x1 x2 x3 x4 x5 x6 x7 x8 x9 x10 x11 (ix2 q j)) (fun j => k0_pay61 (F := Ideal) i x0 x1 x2 x3 x4 x5 x6 x7 x8 x9 x10 x11 (ix2 q j)) j
      * Ideal.ofBits FTy.f32 0x3E16C740#32 := by
  unfold out0_12
  canon_tiles x hx
  all_goals first
    | exact head_piece (k0_pay60 i x0 x1 x2 x3 x4 x5 x6 x7 x8 x9 x10 x11) (k0_pay61 i x0 x1 x2 x3 x4 x5 x6 x7 x8 x9 x10 x11) (k0_pay64 i x0 x1 x2 x3 x4 x5 x6 x7 x8 x9 x10 x11) x4 _ _ (by decide) (fun i j => by pointwise) x h q j hx1 x1_lt hx2 hx3
    | exact head_piece (k0_pay60 i x0 x1 x2 x3 x4 x5 x6 x7 x8 x9 x10 x11) (k0_pay61 i x0 x1 x2 x3 x4 x5 x6 x7 x8 x9 x10 x11) (k0_pay64 i x0 x1 x2 x3 x4 x5 x6 x7 x8 x9 x10 x11) x4 _ 0 (by decide) (fun i j => by pointwise) x h q j
        (hx1.trans (Nat.zero_add _).symm) x1_lt hx2 hx3

/-- The keys of a block. -/
theorem out13_at (h : Fin 16) (q : Fin 512) (j : Fin 128) : out0_13 (F := Ideal) i x0 x1 x2 x3 x4 x5 x6 x7 x8 x9 x10 x11 (ix4 0 h q j)
    = dot (fun k => k0_pay65 (F := Ideal) i x0 x1 x2 x3 x4 x5 x6 x7 x8 x9 x10 x11 (ix2 q k)) (fun i j => x7 (ix2 i ⟨128 * h + j, by omega⟩)) j
      + k0_pay66 (F := Ideal) i x0 x1 x2 x3 x4 x5 x6 x7 x8 x9 x10 x11 (ix2 q j) := by
  unfold out0_13
  canon_tiles x hx
  all_goals first
    | exact key_piece (k0_pay65 i x0 x1 x2 x3 x4 x5 x6 x7 x8 x9 x10 x11) (k0_pay66 i x0 x1 x2 x3 x4 x5 x6 x7 x8 x9 x10 x11) x7 _ _ (by decide) (fun i j => by pointwise) x h q j hx1 x1_lt hx2 hx3
    | exact key_piece (k0_pay65 i x0 x1 x2 x3 x4 x5 x6 x7 x8 x9 x10 x11) (k0_pay66 i x0 x1 x2 x3 x4 x5 x6 x7 x8 x9 x10 x11) x7 _ 0 (by decide) (fun i j => by pointwise) x h q j
        (hx1.trans (Nat.zero_add _).symm) x1_lt hx2 hx3

/-- A block's tokens, normalised. -/
theorem norms_at (q : Fin 512) (j : Fin 1024) : k0_pay63 (F := Ideal) i x0 x1 x2 x3 x4 x5 x6 x7 x8 x9 x10 x11 (ix2 q j) = (norm (fun k => x0 (ix2 q k)) (fun k => x1 (ix2 0 k))) j := by
  unfold k0_pay63
  frame_out
  exact norm_at ..

/-- The latents of a block's queries. -/
theorem latents_at (q : Fin 512) (j : Fin 512) : k0_pay64 (F := Ideal) i x0 x1 x2 x3 x4 x5 x6 x7 x8 x9 x10 x11 (ix2 q j) = (queryLatent (norm (fun k => x0 (ix2 q k)) (fun k => x1 (ix2 0 k))) (fun i k => x2 (ix2 i k)) (fun k => x3 (ix2 0 k))) j := by
  unfold k0_pay64
  frame_out
  rw [latent_at]
  simp only [down_at, norm_at]
  rfl

theorem coss_at (h10 : ∀ j, x10 (ix2 0 j) = laneFreq j) (q : Fin 512) (j : Fin 128) : k0_pay60 (F := Ideal) i x0 x1 x2 x3 x4 x5 x6 x7 x8 x9 x10 x11 (ix2 q j) = laneCos ((512 * (i 0).val + q) % 8192) j := by
  unfold k0_pay60
  frame_out
  exact cos_at i x10 h10 q j

theorem sins_at (h10 : ∀ j, x10 (ix2 0 j) = laneFreq j) (h11 : ∀ j, x11 (ix2 0 j) = laneSign j) (q : Fin 512) (j : Fin 128) :
    k0_pay61 (F := Ideal) i x0 x1 x2 x3 x4 x5 x6 x7 x8 x9 x10 x11 (ix2 q j) = laneSin ((512 * (i 0).val + q) % 8192) j := by
  unfold k0_pay61
  frame_out
  exact sin_at i x10 x11 h10 h11 q j

/-- The latents of a block's keys and values. -/
theorem keyLatents_at (w5 : Fin 1024 → Fin 288 → EReal) (h5 : ∀ i (k : Fin 256), x5 (ix2 i ⟨k, by omega⟩) = w5 i ⟨k, by omega⟩) (q : Fin 512) (j : Fin 256) :
    k0_pay65 (F := Ideal) i x0 x1 x2 x3 x4 x5 x6 x7 x8 x9 x10 x11 (ix2 q j) = (keyLatent (norm (fun k => x0 (ix2 q k)) (fun k => x1 (ix2 0 k))) w5 (fun k => x6 (ix2 0 k))) j := by
  unfold k0_pay65
  frame_out
  rw [keyLatent_at]
  simp only [both_at, norms_at, dot, h5]
  rfl

/-- A block's rotary keys by lanes. -/
theorem rots_at (w5 : Fin 1024 → Fin 288 → EReal) (h5 : ∀ i (j : Fin 128), x5 (ix2 i ⟨256 + j, by omega⟩) = rotCols w5 i j)
    (h10 : ∀ j, x10 (ix2 0 j) = laneFreq j) (h11 : ∀ j, x11 (ix2 0 j) = laneSign j) (q : Fin 512) (j : Fin 128) :
    k0_pay66 (F := Ideal) i x0 x1 x2 x3 x4 x5 x6 x7 x8 x9 x10 x11 (ix2 q j) = spun (dot (norm (fun k => x0 (ix2 q k)) (fun k => x1 (ix2 0 k))) (rotCols w5)) (laneCos ((512 * (i 0).val + q) % 8192)) (laneSin ((512 * (i 0).val + q) % 8192)) j := by
  unfold k0_pay66
  frame_out
  refine (rot_at _ _ _ _ q j).trans ?_
  simp only [both_at, norms_at, coss_at i x0 x1 x2 x3 x4 x5 x6 x7 x8 x9 x10 x11 h10, sins_at i x0 x1 x2 x3 x4 x5 x6 x7 x8 x9 x10 x11 h10 h11, dot, h5]
  rfl

/-- The queries of a block, from the call's arguments. -/
theorem block12 (w4 : Fin 512 → Fin 1536 → EReal) (h4 : ∀ i (h : Fin 16) (j : Fin 128), x4 (ix2 i ⟨128 * h + j, by omega⟩) = headCols w4 h i j)
    (h10 : ∀ j, x10 (ix2 0 j) = laneFreq j) (h11 : ∀ j, x11 (ix2 0 j) = laneSign j) (h : Fin 16) (q : Fin 512) (j : Fin 128) :
    out0_12 (F := Ideal) i x0 x1 x2 x3 x4 x5 x6 x7 x8 x9 x10 x11 (ix4 0 h q j) = query ((512 * (i 0).val + q) % 8192) (queryLatent (norm (fun k => x0 (ix2 q k)) (fun k => x1 (ix2 0 k))) (fun i k => x2 (ix2 i k)) (fun k => x3 (ix2 0 k))) w4 h j := by
  rw [out12_at, ← query_spun]
  simp only [latents_at, coss_at i x0 x1 x2 x3 x4 x5 x6 x7 x8 x9 x10 x11 h10, sins_at i x0 x1 x2 x3 x4 x5 x6 x7 x8 x9 x10 x11 h10 h11, h4]

/-- The keys of a block, from the call's arguments. -/
theorem block13 (w5 : Fin 1024 → Fin 288 → EReal) (w7 : Fin 256 → Fin 16 → Fin 64 → EReal)
    (h5 : ∀ i (k : Fin 256), x5 (ix2 i ⟨k, by omega⟩) = w5 i ⟨k, by omega⟩) (h5' : ∀ i (j : Fin 128), x5 (ix2 i ⟨256 + j, by omega⟩) = rotCols w5 i j)
    (h7 : ∀ i (h : Fin 16) (j : Fin 128), x7 (ix2 i ⟨128 * h + j, by omega⟩) = keyCols w7 h i j)
    (h10 : ∀ j, x10 (ix2 0 j) = laneFreq j) (h11 : ∀ j, x11 (ix2 0 j) = laneSign j) (h : Fin 16) (q : Fin 512) (j : Fin 128) :
    out0_13 (F := Ideal) i x0 x1 x2 x3 x4 x5 x6 x7 x8 x9 x10 x11 (ix4 0 h q j)
      = key (keyLatent (norm (fun k => x0 (ix2 q k)) (fun k => x1 (ix2 0 k))) w5 (fun k => x6 (ix2 0 k))) (turned ((512 * (i 0).val + q) % 8192) (fun k => dot (norm (fun k => x0 (ix2 q k)) (fun k => x1 (ix2 0 k))) w5 ⟨256 + k, by omega⟩)) w7 h j := by
  rw [out13_at, ← key_spun]
  simp only [keyLatents_at i x0 x1 x2 x3 x4 x5 x6 x7 x8 x9 x10 x11 w5 h5, rots_at i x0 x1 x2 x3 x4 x5 x6 x7 x8 x9 x10 x11 w5 h5' h10 h11, h7]

/-- The values of a block, from the call's arguments. -/
theorem block14 (w5 : Fin 1024 → Fin 288 → EReal) (w8 : Fin 256 → Fin 16 → Fin 64 → EReal)
    (h5 : ∀ i (k : Fin 256), x5 (ix2 i ⟨k, by omega⟩) = w5 i ⟨k, by omega⟩) (h8 : ∀ r i, x8 (ix2 r i) = valueRow w8 r i) (h9 : ∀ r, x9 (ix2 r 0) = valueOne r)
    (q : Fin 512) (r : Fin 1280) :
    out0_14 (F := Ideal) i x0 x1 x2 x3 x4 x5 x6 x7 x8 x9 x10 x11 (ix4 0 0 r q) = value (keyLatent (norm (fun k => x0 (ix2 q k)) (fun k => x1 (ix2 0 k))) w5 (fun k => x6 (ix2 0 k))) w8 ⟨r / 80, by omega⟩ ⟨r % 80, by omega⟩ := by
  unfold out0_14
  frame_out
  rw [values_at, ← value_rows]
  simp only [keyLatents_at i x0 x1 x2 x3 x4 x5 x6 x7 x8 x9 x10 x11 w5 h5, h8, h9]

/-- The latents of a block's keys and values, from the call's arguments. -/
theorem block15 (w5 : Fin 1024 → Fin 288 → EReal) (h5 : ∀ i (k : Fin 256), x5 (ix2 i ⟨k, by omega⟩) = w5 i ⟨k, by omega⟩) (q : Fin 512) (j : Fin 256) :
    out0_15 (F := Ideal) i x0 x1 x2 x3 x4 x5 x6 x7 x8 x9 x10 x11 (ix2 q j) = (keyLatent (norm (fun k => x0 (ix2 q k)) (fun k => x1 (ix2 0 k))) w5 (fun k => x6 (ix2 0 k))) j := by
  unfold out0_15
  frame_out
  refine Eq.trans ?_ (keyLatents_at i x0 x1 x2 x3 x4 x5 x6 x7 x8 x9 x10 x11 w5 h5 q j)
  unfold k0_pay65
  frame_out

/-- A block's rotary keys, from the call's arguments. -/
theorem block16 (w5 : Fin 1024 → Fin 288 → EReal) (h5 : ∀ i (j : Fin 128), x5 (ix2 i ⟨256 + j, by omega⟩) = rotCols w5 i j)
    (h10 : ∀ j, x10 (ix2 0 j) = laneFreq j) (h11 : ∀ j, x11 (ix2 0 j) = laneSign j) (q : Fin 512) (j : Fin 32) :
    out0_16 (F := Ideal) i x0 x1 x2 x3 x4 x5 x6 x7 x8 x9 x10 x11 (ix2 q j) = turned ((512 * (i 0).val + q) % 8192) (fun k => dot (norm (fun k => x0 (ix2 q k)) (fun k => x1 (ix2 0 k))) w5 ⟨256 + k, by omega⟩) j := by
  unfold out0_16
  frame_out
  rw [rotKey_at, ← rot_spun]
  refine Eq.trans ?_ (rots_at i x0 x1 x2 x3 x4 x5 x6 x7 x8 x9 x10 x11 w5 h5 h10 h11 q ⟨64 + j, by omega⟩)
  unfold k0_pay66
  frame_out

end Block

end Cert.Kernel4Ideal.Pre

end
-- ==== Proof.PreHost.lean ====
/- What the kernel of the latent projections reads, from the call's arguments. -/
module

public import proofs.«01_k».proof.Proof.PreBlock

@[expose] public section

set_option maxRecDepth 16384

noncomputable section

namespace Cert.Kernel4Ideal.Pre

open Idealize.ShloMosaic Idealize.ShloMosaic.TcCoe Idealize.ShloMosaic.StableHlo Idealize.SL.Sem
open Idealize.ShloMosaic.Pipeline (Dat)
open Cert.Kernel4Ideal Cert.Kernel4Ideal.Gen Cert.Rows

variable (m : (ℓ : Loc nD τ sig) → Buf (Elt Ideal) ℓ) (c : Dev nD)

/-- The residual. -/
abbrev argX : FVec Ideal S16384x1024 .f32 := m ((c : Thread nD τ).loc main_arg0)
/-- The gains of the layers' first norms. -/
abbrev argG : FVec Ideal S2x1024 .f32 := m ((c : Thread nD τ).loc main_arg1)
/-- The matrix to the queries' latents. -/
abbrev argDQ : FVec Ideal S1x1024x512 .f32 := m ((c : Thread nD τ).loc main_arg2)
/-- The gains of the queries' latents. -/
abbrev argQN : FVec Ideal S1x512 .f32 := m ((c : Thread nD τ).loc main_arg3)
/-- The matrix from the queries' latents. -/
abbrev argUQ : FVec Ideal S1x512x1536 .f32 := m ((c : Thread nD τ).loc main_arg4)
/-- The matrix to the latents of keys and values and the rotary key. -/
abbrev argDKV : FVec Ideal S1x1024x288 .f32 := m ((c : Thread nD τ).loc main_arg5)
/-- The gains of the latents of keys and values. -/
abbrev argKVN : FVec Ideal S1x256 .f32 := m ((c : Thread nD τ).loc main_arg6)
/-- The matrix to the keys. -/
abbrev argUK : FVec Ideal S1x256x16x64 .f32 := m ((c : Thread nD τ).loc main_arg7)
/-- The matrix to the values. -/
abbrev argUV : FVec Ideal S1x256x16x64 .f32 := m ((c : Thread nD τ).loc main_arg8)

/-- Where the blocks lie at a point of the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val / 16, 0, t.val % 16, 0] ∧ win0_13.index t = ![t.val / 16, 0, t.val % 16, 0]
    ∧ win0_14.index t = ![t.val / 16, t.val % 16, 0, 0] ∧ win0_15.index t = ![t.val, 0] ∧ win0_16.index t = ![t.val, 0] :=
  (by decide +kernel : ∀ t : Fin grid0.N, _)

theorem point_lt (t : Fin cfg0.N) : t.val < 32 := t.isLt

theorem emb0 (t : Fin cfg0.N) (q : Fin 512) (k : Fin 1024) :
    ((cfg0.win 0).blk t).view.emb (ix2 q k : S512x1024.Idx) = (ix2 ⟨512 * t.val + q, by have := point_lt t; omega⟩ k : S16384x1024.Idx) := by
  blk_ext [idx t]
theorem emb1 (t : Fin cfg0.N) (k : Fin 1024) : ((cfg0.win 1).blk t).view.emb (ix2 0 k : S1x1024.Idx) = (ix2 0 k : S1x1024.Idx) := by
  blk_ext [idx t]
theorem emb2 (t : Fin cfg0.N) (i : Fin 1024) (k : Fin 512) : ((cfg0.win 2).blk t).view.emb (ix2 i k : S1024x512.Idx) = (ix2 i k : S1024x512.Idx) := by
  blk_ext [idx t]
theorem emb3 (t : Fin cfg0.N) (k : Fin 512) : ((cfg0.win 3).blk t).view.emb (ix2 0 k : S1x512.Idx) = (ix2 0 k : S1x512.Idx) := by
  blk_ext [idx t]
theorem emb4 (t : Fin cfg0.N) (i : Fin 512) (k : Fin 2048) : ((cfg0.win 4).blk t).view.emb (ix2 i k : S512x2048.Idx) = (ix2 i k : S512x2048.Idx) := by
  blk_ext [idx t]
theorem emb5 (t : Fin cfg0.N) (i : Fin 1024) (k : Fin 384) : ((cfg0.win 5).blk t).view.emb (ix2 i k : S1024x384.Idx) = (ix2 i k : S1024x384.Idx) := by
  blk_ext [idx t]
theorem emb6 (t : Fin cfg0.N) (k : Fin 256) : ((cfg0.win 6).blk t).view.emb (ix2 0 k : S1x256.Idx) = (ix2 0 k : S1x256.Idx) := by
  blk_ext [idx t]
theorem emb7 (t : Fin cfg0.N) (i : Fin 256) (k : Fin 2048) : ((cfg0.win 7).blk t).view.emb (ix2 i k : S256x2048.Idx) = (ix2 i k : S256x2048.Idx) := by
  blk_ext [idx t]
theorem emb8 (t : Fin cfg0.N) (i : Fin 1280) (k : Fin 256) : ((cfg0.win 8).blk t).view.emb (ix2 i k : S1280x256.Idx) = (ix2 i k : S1280x256.Idx) := by
  blk_ext [idx t]
theorem emb9 (t : Fin cfg0.N) (i : Fin 1280) : ((cfg0.win 9).blk t).view.emb (ix2 i 0 : S1280x1.Idx) = (ix2 i 0 : S1280x1.Idx) := by
  blk_ext [idx t]
theorem emb10 (t : Fin cfg0.N) (k : Fin 128) : ((cfg0.win 10).blk t).view.emb (ix2 0 k : S1x128.Idx) = (ix2 0 k : S1x128.Idx) := by
  blk_ext [idx t]
theorem emb11 (t : Fin cfg0.N) (k : Fin 128) : ((cfg0.win 11).blk t).view.emb (ix2 0 k : S1x128.Idx) = (ix2 0 k : S1x128.Idx) := by
  blk_ext [idx t]
theorem emb12 (t : Fin cfg0.N) (h : Fin 16) (q : Fin 512) (k : Fin 128) : ((cfg0.win 12).blk t).view.emb (ix4 0 h q k : S1x16x512x128.Idx)
    = (ix4 ⟨t.val / 16, by have := point_lt t; omega⟩ h ⟨512 * (t.val % 16) + q, by omega⟩ k : S2x16x8192x128.Idx) := by
  blk_ext [idx t]
theorem emb13 (t : Fin cfg0.N) (h : Fin 16) (q : Fin 512) (k : Fin 128) : ((cfg0.win 13).blk t).view.emb (ix4 0 h q k : S1x16x512x128.Idx)
    = (ix4 ⟨t.val / 16, by have := point_lt t; omega⟩ h ⟨512 * (t.val % 16) + q, by omega⟩ k : S2x16x8192x128.Idx) := by
  blk_ext [idx t]
theorem emb14 (t : Fin cfg0.N) (r : Fin 1280) (q : Fin 512) : ((cfg0.win 14).blk t).view.emb (ix4 0 0 r q : S1x1x1280x512.Idx)
    = (ix4 ⟨t.val / 16, by have := point_lt t; omega⟩ ⟨t.val % 16, by omega⟩ r q : S2x16x1280x512.Idx) := by
  blk_ext [idx t]
theorem emb15 (t : Fin cfg0.N) (q : Fin 512) (k : Fin 256) : ((cfg0.win 15).blk t).view.emb (ix2 q k : S512x256.Idx)
    = (ix2 ⟨512 * t.val + q, by have := point_lt t; omega⟩ k : S16384x256.Idx) := by
  blk_ext [idx t]
theorem emb16 (t : Fin cfg0.N) (q : Fin 512) (k : Fin 32) : ((cfg0.win 16).blk t).view.emb (ix2 q k : S512x32.Idx)
    = (ix2 ⟨512 * t.val + q, by have := point_lt t; omega⟩ k : S16384x32.Idx) := by
  blk_ext [idx t]

/-- The column of ones, which compares a row's number with 64. -/
theorem one_at (r : Fin 80) : (FloatOps.uitofp (F := Ideal) FTy.f32 (IntOp.cmpi CmpIPredicate.eq (BitVec.ofNat 32 r.val) 64#32) : EReal) = if r.val = 64 then 1 else 0 := by
  have e := (by decide +kernel : ∀ r : Fin 80, IntOp.cmpi CmpIPredicate.eq (BitVec.ofNat 32 r.val) 64#32 = if r.val = 64 then 1#1 else 0#1) r
  rw [e]
  split <;> simp [FloatOps.uitofp]

/-- The tokens of a block. -/
theorem x_at (t : Fin cfg0.N) (q : Fin 512) (k : Fin 1024) : (iblk m c 0 t : Vec Ideal S512x1024 .f32) (ix2 q k) = argX m c (ix2 ⟨512 * t.val + q, by have := point_lt t; omega⟩ k) := by
  refine (congrArg (V m c main_arg0 : Vec Ideal S16384x1024 .f32) (emb0 t q k)).trans ?_
  rw [V_main_arg0]
/-- The second layer's gain. -/
theorem g_at (t : Fin cfg0.N) (k : Fin 1024) : (iblk m c 1 t : Vec Ideal S1x1024 .f32) (ix2 0 k) = argG m c (ix2 1 k) := by
  refine (congrArg (V m c main_v47 : Vec Ideal S1x1024 .f32) (emb1 t k)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
/-- The matrix to the queries' latents. -/
theorem dq_at (t : Fin cfg0.N) (i : Fin 1024) (k : Fin 512) : (iblk m c 2 t : Vec Ideal S1024x512 .bf16) (ix2 i k) = argDQ m c (ix3 0 i k) := by
  refine (congrArg (V m c main_v49 : Vec Ideal S1024x512 .bf16) (emb2 t i k)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
/-- The gains of the queries' latents. -/
theorem qn_at (t : Fin cfg0.N) (k : Fin 512) : (iblk m c 3 t : Vec Ideal S1x512 .f32) (ix2 0 k) = argQN m c (ix2 0 k) := by
  refine (congrArg (V m c main_v51 : Vec Ideal S1x512 .f32) (emb3 t k)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
/-- The gains of the latents of keys and values. -/
theorem kvn_at (t : Fin cfg0.N) (k : Fin 256) : (iblk m c 6 t : Vec Ideal S1x256 .f32) (ix2 0 k) = argKVN m c (ix2 0 k) := by
  refine (congrArg (V m c main_v53 : Vec Ideal S1x256 .f32) (emb6 t k)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
/-- A head's columns of the matrix from the queries' latents. -/
theorem uq_at (t : Fin cfg0.N) (i : Fin 512) (h : Fin 16) (j : Fin 128) : (iblk m c 4 t : Vec Ideal S512x2048 .bf16) (ix2 i ⟨128 * h + j, by omega⟩) = headCols (fun i k => argUQ m c (ix3 0 i k)) h i j := by
  refine (congrArg (V m c main_v7 : Vec Ideal S512x2048 .bf16) (emb4 t i _)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  have e : (128 * h.val + j.val) / 128 = h.val := by omega
  have r : (128 * h.val + j.val) % 128 = j.val := by omega
  simp only [e, r, h.isLt, true_and, sitofp_zero]
  rfl
/-- The matrix to the latents of keys and values and the rotary key. -/
theorem dkv_at (t : Fin cfg0.N) (i : Fin 1024) (k : Fin 384) : (iblk m c 5 t : Vec Ideal S1024x384 .bf16) (ix2 i k)
    = if _ : k.val < 256 then argDKV m c (ix3 0 i ⟨k, by omega⟩) else rotCols (fun i k => argDKV m c (ix3 0 i k)) i ⟨k - 256, by omega⟩ := by
  refine (congrArg (V m c main_v12 : Vec Ideal S1024x384 .bf16) (emb5 t i k)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  exact dite_congr rfl (fun _ => rfl) fun _ => dite_congr rfl (fun _ => rfl) fun _ => sitofp_zero
/-- The columns of the latents of keys and values. -/
theorem ckv_at (t : Fin cfg0.N) (i : Fin 1024) (k : Fin 256) : (iblk m c 5 t : Vec Ideal S1024x384 .bf16) (ix2 i ⟨k, by omega⟩) = argDKV m c (ix3 0 i ⟨k, by omega⟩) :=
  (dkv_at m c t i ⟨k, by omega⟩).trans (dif_pos k.isLt)
/-- The columns of the rotary key. -/
theorem rot_cols_at (t : Fin cfg0.N) (i : Fin 1024) (j : Fin 128) : (iblk m c 5 t : Vec Ideal S1024x384 .bf16) (ix2 i ⟨256 + j, by omega⟩)
    = rotCols (fun i k => argDKV m c (ix3 0 i k)) i j := by
  refine (dkv_at m c t i ⟨256 + j, by omega⟩).trans ((dif_neg (by simp)).trans ?_)
  exact congrArg (rotCols _ i) (Fin.ext (Nat.add_sub_cancel_left ..))
/-- A head's columns of the matrix to the keys. -/
theorem uk_at (t : Fin cfg0.N) (i : Fin 256) (h : Fin 16) (j : Fin 128) : (iblk m c 7 t : Vec Ideal S256x2048 .bf16) (ix2 i ⟨128 * h + j, by omega⟩) = keyCols (fun i h k => argUK m c (ix4 0 i h k)) h i j := by
  refine (congrArg (V m c main_v15 : Vec Ideal S256x2048 .bf16) (emb7 t i _)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  have e : (128 * h.val + j.val) / 128 = h.val := by omega
  have r : (128 * h.val + j.val) % 128 = j.val := by omega
  simp only [e, r, h.isLt, true_and, sitofp_zero]
  rfl
/-- A row of the matrix to the values. -/
theorem uv_at (t : Fin cfg0.N) (r : Fin 1280) (i : Fin 256) : (iblk m c 8 t : Vec Ideal S1280x256 .bf16) (ix2 r i) = valueRow (fun i h k => argUV m c (ix4 0 i h k)) r i := by
  refine (congrArg (V m c main_v19 : Vec Ideal S1280x256 .bf16) (emb8 t r i)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  have e : r.val / 80 < 16 := by omega
  simp only [e, true_and, sitofp_zero]
  rfl
/-- The ones beside the values. -/
theorem ones_at (t : Fin cfg0.N) (r : Fin 1280) : (iblk m c 9 t : Vec Ideal S1280x1 .f32) (ix2 r 0) = valueOne r := by
  refine (congrArg (V m c main_v27 : Vec Ideal S1280x1 .f32) (emb9 t r)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  exact one_at ⟨r % 80, by omega⟩
/-- The frequencies. -/
theorem freq_at (t : Fin cfg0.N) (j : Fin 128) : (iblk m c 10 t : Vec Ideal S1x128 .f32) (ix2 0 j) = laneFreq j := by
  refine (congrArg (V m c main_v43 : Vec Ideal S1x128 .f32) (emb10 t j)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  rw [sitofp_zero]
  rfl
/-- The signs. -/
theorem sign_at (t : Fin cfg0.N) (j : Fin 128) : (iblk m c 11 t : Vec Ideal S1x128 .f32) (ix2 0 j) = laneSign j := by
  refine (congrArg (V m c main_v44 : Vec Ideal S1x128 .f32) (emb11 t j)).trans ?_
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [TRef.toBuf, TRef.ofBuf, cast_eq]
  pointwise
  rw [sitofp_zero]
  rfl

end Cert.Kernel4Ideal.Pre

end
-- ==== Proof.PreStages.lean ====
/- The reference of the latent projections, its stages one by one. -/
module

public import proofs.«01_k».proof.Proof.Rows
public import proofs.«01_k».proof.Proof.Gen.Reference4Ideal.Run
public import Idealize.ShloMosaic.Lib.Pipeline.ValueKit

@[expose] public section

set_option maxRecDepth 16384

noncomputable section

namespace Cert.Reference4Ideal.Pre

open Idealize.ShloMosaic Idealize.ShloMosaic.TcCoe Idealize.SL.Sem
open Cert.Reference4Ideal Cert.Reference4Ideal.Gen Cert.Reference4Ideal.Value Cert.Rows

variable (x0 : FVec Ideal S16384x1024 .f32) (x1 : FVec Ideal S2x1024 .f32) (x2 : FVec Ideal S1x1024x512 .f32) (x3 : FVec Ideal S1x512 .f32) (x4 : FVec Ideal S1x512x1536 .f32) (x5 : FVec Ideal S1x1024x288 .f32) (x6 : FVec Ideal S1x256 .f32) (x7 : FVec Ideal S1x256x16x64 .f32) (x8 : FVec Ideal S1x256x16x64 .f32)

/-- The layer's input, by sequence. -/
def X3 : FVec Ideal S2x8192x1024 .f32 := shapeCast _ x0 shapeCasts_S16384x1024_S2x8192x1024
/-- The layer's input, normalised. -/
def U : FVec Ideal S2x8192x1024 .f32 := mulf (mulf (X3 x0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (X3 x0) (X3 x0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![1, 0] x1 slices_S2x1024_S1x1024_1_0) shapeCasts_S1x1024_S1024)))
/-- The latents of the queries. -/
def DQ : FVec Ideal S2x8192x512 .f32 := Host.dotGeneral dot_S2x8192x1024_S1024x512_S2x8192x512_2_0_01_1_n_n none (U x0 x1) (shapeCast _ x2 shapeCasts_S1x1024x512_S1024x512)
/-- The latents of the queries, normalised. -/
def CQ : FVec Ideal S2x8192x512 .f32 := mulf (mulf (DQ x0 x1 x2) (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf (DQ x0 x1 x2) (DQ x0 x1 x2)) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![2] bcast_S512_S1x1x512_2 (shapeCast _ x3 shapeCasts_S1x512_S512)))
/-- The queries of every head. -/
def QH : FVec Ideal S2x8192x16x96 .f32 := shapeCast _ (Host.dotGeneral dot_S2x8192x512_S512x1536_S2x8192x1536_2_0_01_1_n_n none (CQ x0 x1 x2 x3) (shapeCast _ x4 shapeCasts_S1x512x1536_S512x1536)) shapeCasts_S2x8192x1536_S2x8192x16x96
/-- The latents of keys and values and the rotary keys, side by side. -/
def KV : FVec Ideal S2x8192x288 .f32 := Host.dotGeneral dot_S2x8192x1024_S1024x288_S2x8192x288_2_0_01_1_n_n none (U x0 x1) (shapeCast _ x5 shapeCasts_S1x1024x288_S1024x288)
/-- The latents of keys and values. -/
def KVL : FVec Ideal S2x8192x256 .f32 := extractStridedSlice S2x8192x256 ![0, 0, 0] (KV x0 x1 x5) slices_S2x8192x288_S2x8192x256_0_0_0
/-- The latents of keys and values, normalised. -/
def CKV : FVec Ideal S2x8192x256 .f32 := mulf (mulf (KVL x0 x1 x5) (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf (KVL x0 x1 x5) (KVL x0 x1 x5)) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 (shapeCast _ x6 shapeCasts_S1x256_S256)))
/-- The frequencies of the rotation. -/
def INV : FVec Ideal S16 .f32 := Host.powf (broadcastInDim S16 ![] bcast_S_S16 (constant S_ .f32 0x461C4000#32)) (Host.divf (mulf (Host.negf (sitofp .f32 (iotaInDim S16 32 0))) (broadcastInDim S16 ![] bcast_S_S16 (constant S_ .f32 0x40000000#32))) (broadcastInDim S16 ![] bcast_S_S16 (constant S_ .f32 0x42000000#32)))
/-- The angle of a position and a frequency. -/
def ANG : FVec Ideal S8192x1x16 .f32 := broadcastInDim S8192x1x16 ![0, 2] bcast_S8192x16_S8192x1x16_0_2 (mulf (broadcastInDim S8192x16 ![0, 1] bcast_S8192x1_S8192x16_0_1 (broadcastInDim S8192x1 ![0] bcast_S8192_S8192x1_0 (sitofp .f32 (iotaInDim S8192 32 0)))) (broadcastInDim S8192x16 ![0, 1] bcast_S1x16_S8192x16_0_1 (broadcastInDim S1x16 ![1] bcast_S16_S1x16_1 INV)))
/-- The angles' cosines. -/
def COS : FVec Ideal S1x8192x1x16 .f32 := broadcastInDim S1x8192x1x16 ![1, 2, 3] bcast_S8192x1x16_S1x8192x1x16_1_2_3 (Host.cos ANG)
/-- The angles' sines. -/
def SIN : FVec Ideal S1x8192x1x16 .f32 := broadcastInDim S1x8192x1x16 ![1, 2, 3] bcast_S8192x1x16_S1x8192x1x16_1_2_3 (Host.sin ANG)
/-- The rotary keys before the rotation. -/
def KR : FVec Ideal S2x8192x1x32 .f32 := broadcastInDim S2x8192x1x32 ![0, 1, 3] bcast_S2x8192x32_S2x8192x1x32_0_1_3 (extractStridedSlice S2x8192x32 ![0, 0, 256] (KV x0 x1 x5) slices_S2x8192x288_S2x8192x32_0_0_256)
/-- The rotary part of the queries before the rotation. -/
def QR : FVec Ideal S2x8192x16x32 .f32 := extractStridedSlice S2x8192x16x32 ![0, 0, 0, 64] (QH x0 x1 x2 x3 x4) slices_S2x8192x16x96_S2x8192x16x32_0_0_0_64
/-- The rotary keys. -/
def KPE : FVec Ideal S2x8192x1x32 .f32 := concatenate S2x8192x1x32 3 [⟨S2x8192x1x16, (subf (mulf (extractStridedSlice S2x8192x1x16 ![0, 0, 0, 0] (KR x0 x1 x5) slices_S2x8192x1x32_S2x8192x1x16_0_0_0_0) (broadcastInDim S2x8192x1x16 ![0, 1, 2, 3] bcast_S1x8192x1x16_S2x8192x1x16_0_1_2_3 COS)) (mulf (extractStridedSlice S2x8192x1x16 ![0, 0, 0, 16] (KR x0 x1 x5) slices_S2x8192x1x32_S2x8192x1x16_0_0_0_16) (broadcastInDim S2x8192x1x16 ![0, 1, 2, 3] bcast_S1x8192x1x16_S2x8192x1x16_0_1_2_3 SIN)))⟩, ⟨S2x8192x1x16, (addf (mulf (extractStridedSlice S2x8192x1x16 ![0, 0, 0, 16] (KR x0 x1 x5) slices_S2x8192x1x32_S2x8192x1x16_0_0_0_16) (broadcastInDim S2x8192x1x16 ![0, 1, 2, 3] bcast_S1x8192x1x16_S2x8192x1x16_0_1_2_3 COS)) (mulf (extractStridedSlice S2x8192x1x16 ![0, 0, 0, 0] (KR x0 x1 x5) slices_S2x8192x1x32_S2x8192x1x16_0_0_0_0) (broadcastInDim S2x8192x1x16 ![0, 1, 2, 3] bcast_S1x8192x1x16_S2x8192x1x16_0_1_2_3 SIN)))⟩] concatenates_S2x8192x1x16_S2x8192x1x16_S2x8192x1x32_d3
/-- The rotary part of the queries. -/
def QPE : FVec Ideal S2x8192x16x32 .f32 := concatenate S2x8192x16x32 3 [⟨S2x8192x16x16, (subf (mulf (extractStridedSlice S2x8192x16x16 ![0, 0, 0, 0] (QR x0 x1 x2 x3 x4) slices_S2x8192x16x32_S2x8192x16x16_0_0_0_0) (broadcastInDim S2x8192x16x16 ![0, 1, 2, 3] bcast_S1x8192x1x16_S2x8192x16x16_0_1_2_3 COS)) (mulf (extractStridedSlice S2x8192x16x16 ![0, 0, 0, 16] (QR x0 x1 x2 x3 x4) slices_S2x8192x16x32_S2x8192x16x16_0_0_0_16) (broadcastInDim S2x8192x16x16 ![0, 1, 2, 3] bcast_S1x8192x1x16_S2x8192x16x16_0_1_2_3 SIN)))⟩, ⟨S2x8192x16x16, (addf (mulf (extractStridedSlice S2x8192x16x16 ![0, 0, 0, 16] (QR x0 x1 x2 x3 x4) slices_S2x8192x16x32_S2x8192x16x16_0_0_0_16) (broadcastInDim S2x8192x16x16 ![0, 1, 2, 3] bcast_S1x8192x1x16_S2x8192x16x16_0_1_2_3 COS)) (mulf (extractStridedSlice S2x8192x16x16 ![0, 0, 0, 0] (QR x0 x1 x2 x3 x4) slices_S2x8192x16x32_S2x8192x16x16_0_0_0_0) (broadcastInDim S2x8192x16x16 ![0, 1, 2, 3] bcast_S1x8192x1x16_S2x8192x16x16_0_1_2_3 SIN)))⟩] concatenates_S2x8192x16x16_S2x8192x16x16_S2x8192x16x32_d3
/-- The queries. -/
def Q96 : FVec Ideal S2x8192x16x96 .f32 := concatenate S2x8192x16x96 3 [⟨S2x8192x16x64, (extractStridedSlice S2x8192x16x64 ![0, 0, 0, 0] (QH x0 x1 x2 x3 x4) slices_S2x8192x16x96_S2x8192x16x64_0_0_0_0)⟩, ⟨S2x8192x16x32, (QPE x0 x1 x2 x3 x4)⟩] concatenates_S2x8192x16x64_S2x8192x16x32_S2x8192x16x96_d3
/-- The keys. -/
def K96 : FVec Ideal S2x8192x16x96 .f32 := concatenate S2x8192x16x96 3 [⟨S2x8192x16x64, (Host.dotGeneral dot_S2x8192x256_S256x16x64_S2x8192x16x64_2_0_01_12_n_n none (CKV x0 x1 x5 x6) (shapeCast _ x7 shapeCasts_S1x256x16x64_S256x16x64))⟩, ⟨S2x8192x16x32, (broadcastInDim S2x8192x16x32 ![0, 1, 2, 3] bcast_S2x8192x1x32_S2x8192x16x32_0_1_2_3 (KPE x0 x1 x5))⟩] concatenates_S2x8192x16x64_S2x8192x16x32_S2x8192x16x96_d3
/-- The values, each followed by a one and zeros. -/
def V80 : FVec Ideal S2x8192x16x80 .f32 := concatenate S2x8192x16x80 3 [⟨S2x8192x16x64, ((Host.dotGeneral dot_S2x8192x256_S256x16x64_S2x8192x16x64_2_0_01_12_n_n none (CKV x0 x1 x5 x6) (shapeCast _ x8 shapeCasts_S1x256x16x64_S256x16x64)))⟩, ⟨S2x8192x16x1, ((broadcastInDim S2x8192x16x1 ![] bcast_S_S2x8192x16x1 (constant S_ .f32 0x3F800000#32)))⟩, ⟨S2x8192x16x15, ((broadcastInDim S2x8192x16x15 ![] bcast_S_S2x8192x16x15 (constant S_ .f32 0x00000000#32)))⟩] concatenates_S2x8192x16x64_S2x8192x16x1_S2x8192x16x15_S2x8192x16x80_d3
/-- The call's queries. -/
def Q : FVec Ideal S2x16x8192x128 .bf16 := truncf .bf16 (transpose S2x16x8192x128 [0, 2, 1, 3] (pad S2x8192x16x128 ![0, 0, 0, 0] ![0, 0, 0, 32] ![0, 0, 0, 0] (mulf (Q96 x0 x1 x2 x3 x4) (broadcastInDim S2x8192x16x96 ![] bcast_S_S2x8192x16x96 (constant S_ .f32 0x3E16C740#32))) (sitofp .f32 (constantI S_ 32 0#32)) pads_S2x8192x16x96_S2x8192x16x128_000_000_000_0320 h_S_) transposes_S2x8192x16x128_S2x16x8192x128_0_2_1_3) bitsLt_bf16_f32
/-- The call's keys. -/
def K : FVec Ideal S2x16x8192x128 .bf16 := truncf .bf16 (transpose S2x16x8192x128 [0, 2, 1, 3] (pad S2x8192x16x128 ![0, 0, 0, 0] ![0, 0, 0, 32] ![0, 0, 0, 0] (K96 x0 x1 x5 x6 x7) (sitofp .f32 (constantI S_ 32 0#32)) pads_S2x8192x16x96_S2x8192x16x128_000_000_000_0320 h_S_) transposes_S2x8192x16x128_S2x16x8192x128_0_2_1_3) bitsLt_bf16_f32
/-- The call's values, by tile. -/
def VT : FVec Ideal S2x16x1280x512 .bf16 := truncf .bf16 (transpose S2x16x1280x512 [0, 1, 3, 2] (shapeCast _ ((V80 x0 x1 x5 x6 x8)) shapeCasts_S2x8192x16x80_S2x16x512x1280) transposes_S2x16x512x1280_S2x16x1280x512_0_1_3_2) bitsLt_bf16_f32
/-- The latents of keys and values by token, normalised. -/
def CKV2 : FVec Ideal S16384x256 .f32 := shapeCast _ (CKV x0 x1 x5 x6) shapeCasts_S2x8192x256_S16384x256
/-- The rotary keys by token. -/
def KPE2 : FVec Ideal S16384x32 .f32 := shapeCast _ (KPE x0 x1 x5) shapeCasts_S2x8192x1x32_S16384x32

section Results

variable (m : (ℓ : Loc nD τ sig) → Buf (Elt Ideal) ℓ) (c : Dev nD)

theorem out0 : res_out0 (F := Ideal) m c = Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem out1 : res_out1 (F := Ideal) m c = K (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) := rfl
theorem out2 : res_out2 (F := Ideal) m c = VT (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg8)) := rfl
theorem out3 : res_out3 (F := Ideal) m c = CKV2 (m ((c.tc : Thread nD τ).loc main_arg0)) (m ((c.tc : Thread nD τ).loc main_arg1)) (m ((c.tc : Thread nD τ).loc main_arg5)) (m ((c.tc : Thread nD τ).loc main_arg6)) := rfl
theorem out4 : res_out4 (F := Ideal) m c = KPE2 (m ((c.tc : Thread nD τ).loc main_arg0)) (m ((c.tc : Thread nD τ).loc main_arg1)) (m ((c.tc : Thread nD τ).loc main_arg5)) := rfl

end Results

end Cert.Reference4Ideal.Pre

end
-- ==== Proof.PreRef.lean ====
/- The reference of the latent projections, at an entry of a token. -/
module

public import proofs.«01_k».proof.Proof.PreRows
public import proofs.«01_k».proof.Proof.PreStages
public import Idealize.ShloMosaic.Lib.Pipeline.ValueKit

@[expose] public section

set_option maxRecDepth 16384

noncomputable section

namespace Cert.Reference4Ideal.Pre

open Idealize.ShloMosaic Idealize.ShloMosaic.TcCoe Idealize.SL.Sem
open Cert.Reference4Ideal Cert.Reference4Ideal.Gen Cert.Reference4Ideal.Value Cert.Rows

variable (x0 : FVec Ideal S16384x1024 .f32) (x1 : FVec Ideal S2x1024 .f32) (x2 : FVec Ideal S1x1024x512 .f32) (x3 : FVec Ideal S1x512 .f32) (x4 : FVec Ideal S1x512x1536 .f32) (x5 : FVec Ideal S1x1024x288 .f32) (x6 : FVec Ideal S1x256 .f32) (x7 : FVec Ideal S1x256x16x64 .f32) (x8 : FVec Ideal S1x256x16x64 .f32)

/-- A token's row, normalised. -/
theorem U_at (b : Fin 2) (p : Fin 8192) (j : Fin 1024) : U x0 x1 (ix3 b p j)
    = norm (fun k => x0 (ix2 ⟨b * 8192 + p, by omega⟩ k)) (fun k => x1 (ix2 1 k)) j := by
  pointwise [U, X3]
  rfl
theorem DQ_at (b : Fin 2) (p : Fin 8192) (j : Fin 512) : DQ x0 x1 x2 (ix3 b p j)
    = dot (fun k => U x0 x1 (ix3 b p k)) (fun i k => x2 (ix3 0 i k)) j := by
  pointwise [DQ]
  rfl
theorem CQ_at (b : Fin 2) (p : Fin 8192) (j : Fin 512) : CQ x0 x1 x2 x3 (ix3 b p j)
    = queryLatent (fun k => U x0 x1 (ix3 b p k)) (fun i k => x2 (ix3 0 i k)) (fun k => x3 (ix2 0 k)) j := by
  pointwise [CQ]
  simp only [DQ_at]
  rfl
theorem QH_at (b : Fin 2) (p : Fin 8192) (h : Fin 16) (j : Fin 96) : QH x0 x1 x2 x3 x4 (ix4 b p h j)
    = dot (fun k => CQ x0 x1 x2 x3 (ix3 b p k)) (fun i k => x4 (ix3 0 i k)) ⟨h * 96 + j, by omega⟩ := by
  pointwise [QH]
  rfl
theorem KV_at (b : Fin 2) (p : Fin 8192) (j : Fin 288) : KV x0 x1 x5 (ix3 b p j)
    = dot (fun k => U x0 x1 (ix3 b p k)) (fun i k => x5 (ix3 0 i k)) j := by
  pointwise [KV]
  rfl
theorem KVL_at (b : Fin 2) (p : Fin 8192) (j : Fin 256) : KVL x0 x1 x5 (ix3 b p j) = KV x0 x1 x5 (ix3 b p ⟨j, by omega⟩) := by
  pointwise [KVL]
theorem CKV_at (b : Fin 2) (p : Fin 8192) (j : Fin 256) : CKV x0 x1 x5 x6 (ix3 b p j)
    = keyLatent (fun k => U x0 x1 (ix3 b p k)) (fun i k => x5 (ix3 0 i k)) (fun k => x6 (ix2 0 k)) j := by
  pointwise [CKV]
  simp only [KVL_at, KV_at]
  rfl
theorem INV_at (i : Fin 16) : INV (ix1 i) = freq i := by
  pointwise [INV]
  rfl
theorem ANG_at (p : Fin 8192) (i : Fin 16) : ANG (ix3 p 0 i) = angle p i := by
  pointwise [ANG]
  rw [INV_at]
  rfl
theorem COS_at (p : Fin 8192) (i : Fin 16) : COS (ix4 0 p 0 i) = Ideal.cos (angle p i) := by
  pointwise [COS]
  rw [ANG_at]
theorem SIN_at (p : Fin 8192) (i : Fin 16) : SIN (ix4 0 p 0 i) = Ideal.sin (angle p i) := by
  pointwise [SIN]
  rw [ANG_at]
theorem KR_at (b : Fin 2) (p : Fin 8192) (j : Fin 32) : KR x0 x1 x5 (ix4 b p 0 j) = KV x0 x1 x5 (ix3 b p ⟨256 + j, by omega⟩) := by
  pointwise [KR]
theorem QR_at (b : Fin 2) (p : Fin 8192) (h : Fin 16) (j : Fin 32) : QR x0 x1 x2 x3 x4 (ix4 b p h j) = QH x0 x1 x2 x3 x4 (ix4 b p h ⟨64 + j, by omega⟩) := by
  pointwise [QR]
theorem KPE_at (b : Fin 2) (p : Fin 8192) (j : Fin 32) : KPE x0 x1 x5 (ix4 b p 0 j)
    = turned p (fun k => dot (fun i => U x0 x1 (ix3 b p i)) (fun i k => x5 (ix3 0 i k)) ⟨256 + k, by omega⟩) j := by
  pointwise [KPE]
  simp only [KR_at, COS_at, SIN_at, KV_at]
  unfold turned
  split
  · rfl
  · simp only [show 16 + (j.val - 16) = j.val by omega]
theorem QPE_at (b : Fin 2) (p : Fin 8192) (h : Fin 16) (j : Fin 32) : QPE x0 x1 x2 x3 x4 (ix4 b p h j)
    = turned p (fun k => dot (fun i => CQ x0 x1 x2 x3 (ix3 b p i)) (fun i k => x4 (ix3 0 i k)) ⟨h * 96 + (64 + k), by omega⟩) j := by
  pointwise [QPE]
  simp only [QR_at, COS_at, SIN_at, QH_at]
  unfold turned
  split
  · rfl
  · simp only [show 16 + (j.val - 16) = j.val by omega]
theorem Q96_at (b : Fin 2) (p : Fin 8192) (h : Fin 16) (j : Fin 96) : Q96 x0 x1 x2 x3 x4 (ix4 b p h j)
    = if _ : j.val < 64 then QH x0 x1 x2 x3 x4 (ix4 b p h j) else QPE x0 x1 x2 x3 x4 (ix4 b p h ⟨j - 64, by omega⟩) := by
  pointwise [Q96]
theorem K96_at (b : Fin 2) (p : Fin 8192) (h : Fin 16) (j : Fin 96) : K96 x0 x1 x5 x6 x7 (ix4 b p h j)
    = if _ : j.val < 64 then dot (fun k => CKV x0 x1 x5 x6 (ix3 b p k)) (fun i k => x7 (ix4 0 i h k)) ⟨j, by omega⟩
      else KPE x0 x1 x5 (ix4 b p 0 ⟨j - 64, by omega⟩) := by
  pointwise [K96]
  rfl
theorem V80_at (b : Fin 2) (p : Fin 8192) (h : Fin 16) (j : Fin 80) : V80 x0 x1 x5 x6 x8 (ix4 b p h j)
    = value (fun k => CKV x0 x1 x5 x6 (ix3 b p k)) (fun i h k => x8 (ix4 0 i h k)) h j := by
  pointwise [V80]
  unfold value
  split
  · rfl
  · exact if_congr (by omega) rfl rfl

/-- The queries, laid out by heads. -/
theorem Q_at (b : Fin 2) (h : Fin 16) (p : Fin 8192) (j : Fin 128) : Q x0 x1 x2 x3 x4 (ix4 b h p j)
    = query p (fun k => CQ x0 x1 x2 x3 (ix3 b p k)) (fun i k => x4 (ix3 0 i k)) h j := by
  pointwise [Q]
  simp only [Q96_at, QPE_at, QH_at]
  unfold query
  by_cases h96 : j.val < 96
  · by_cases h64 : j.val < 64
    · simp only [dif_pos h96, dif_pos h64]
    · simp only [dif_pos h96, dif_neg h64]
  · rw [dif_neg h96, dif_neg (by omega), dif_neg h96]
    simp [FloatOps.sitofp]
theorem K_at (b : Fin 2) (h : Fin 16) (p : Fin 8192) (j : Fin 128) : K x0 x1 x5 x6 x7 (ix4 b h p j)
    = key (fun k => CKV x0 x1 x5 x6 (ix3 b p k)) (fun k => KPE x0 x1 x5 (ix4 b p 0 k)) (fun i h k => x7 (ix4 0 i h k)) h j := by
  pointwise [K]
  simp only [K96_at]
  unfold key
  by_cases h96 : j.val < 96
  · by_cases h64 : j.val < 64
    · simp only [dif_pos h96, dif_pos h64]
    · simp only [dif_pos h96, dif_neg h64]
  · rw [dif_neg h96, dif_neg (by omega), dif_neg h96]
    simp [FloatOps.sitofp]
/-- The reshape of the values to tiles of 512 positions. -/
theorem tiles_at (v : FVec Ideal S2x8192x16x80 .f32) (b : Fin 2) (t : Fin 16) (r : Fin 1280) (j : Fin 512) :
    shapeCast S2x16x512x1280 v shapeCasts_S2x8192x16x80_S2x16x512x1280 (ix4 b t j r) = v (ix4 b ⟨t * 512 + j, by omega⟩ ⟨r / 80, by omega⟩ ⟨r % 80, by omega⟩) := by
  pointwise
theorem turned_tiles_at (v : FVec Ideal S2x16x512x1280 .f32) (b : Fin 2) (t : Fin 16) (r : Fin 1280) (j : Fin 512) :
    truncf .bf16 (transpose S2x16x1280x512 [0, 1, 3, 2] v transposes_S2x16x512x1280_S2x16x1280x512_0_1_3_2) bitsLt_bf16_f32 (ix4 b t r j) = v (ix4 b t j r) := by
  pointwise
theorem VT_at (b : Fin 2) (t : Fin 16) (r : Fin 1280) (j : Fin 512) : VT x0 x1 x5 x6 x8 (ix4 b t r j)
    = value (fun k => CKV x0 x1 x5 x6 (ix3 b ⟨t * 512 + j, by omega⟩ k)) (fun i h k => x8 (ix4 0 i h k)) ⟨r / 80, by omega⟩ ⟨r % 80, by omega⟩ :=
  (turned_tiles_at _ b t r j).trans ((tiles_at _ b t r j).trans (V80_at ..))
theorem CKV2_at (r : Fin 16384) (j : Fin 256) : CKV2 x0 x1 x5 x6 (ix2 r j) = CKV x0 x1 x5 x6 (ix3 ⟨r / 8192, by omega⟩ ⟨r % 8192, by omega⟩ j) := by
  pointwise [CKV2]
theorem KPE2_at (r : Fin 16384) (j : Fin 32) : KPE2 x0 x1 x5 (ix2 r j) = KPE x0 x1 x5 (ix4 ⟨r / 8192, by omega⟩ ⟨r % 8192, by omega⟩ 0 j) := by
  pointwise [KPE2]

end Cert.Reference4Ideal.Pre

end
-- ==== Proof.PreFinal.lean ====
/- The arrays that the kernel of the latent projections leaves are the reference's. -/
module

public import proofs.«01_k».proof.Proof.PreHost
public import proofs.«01_k».proof.Proof.PreRef

@[expose] public section

set_option maxRecDepth 16384

noncomputable section

namespace Cert.Kernel4Ideal.Pre

open Idealize.ShloMosaic Idealize.ShloMosaic.TcCoe Idealize.ShloMosaic.StableHlo Idealize.SL.Sem
open Idealize.ShloMosaic.Pipeline (Dat)
open Cert.Kernel4Ideal Cert.Kernel4Ideal.Gen Cert.Rows
open Cert.Reference4Ideal.Pre (U_at CQ_at CKV_at KPE_at Q Q_at K K_at VT VT_at CKV2 CKV2_at KPE2 KPE2_at)

variable (m : (ℓ : Loc nD τ sig) → Buf (Elt Ideal) ℓ) (c : Dev nD)

/-- The grid's points are its coordinates. -/
theorem coord : ∀ t : Fin cfg0.N, (grid0.coords t 0).val = t.val :=
  (by decide +kernel : ∀ t : Fin grid0.N, _)

/-- A token's place among all tokens, from its sequence and its position. -/
theorem row_eq (t : Fin cfg0.N) (q : Fin 512) : t.val / 16 * 8192 + (512 * (t.val % 16) + q.val) = 512 * t.val + q.val := by omega
theorem position_eq (t : Fin cfg0.N) (q : Fin 512) : (512 * t.val + q.val) % 8192 = 512 * (t.val % 16) + q.val := by omega
theorem sequence_eq (t : Fin cfg0.N) (q : Fin 512) : (512 * t.val + q.val) / 8192 = t.val / 16 := by omega
theorem tile_eq (t : Fin cfg0.N) (q : Fin 512) : t.val % 16 * 512 + q.val = 512 * (t.val % 16) + q.val := by omega

/-- The queries are the reference's. -/
theorem final12 : (dats m 0 c).arrAt 12 cfg0.N = Q (argX m c) (argG m c) (argDQ m c) (argQN m c) (argUQ m c) := by
  refine (dats m 0 c).arrAt_eq_of_covers 12 _ (by decide +kernel) fun t _ y => ?_
  obtain ⟨a, h, q, j, rfl⟩ : ∃ (a : Fin 1) (h : Fin 16) (q : Fin 512) (j : Fin 128), y = (ix4 a h q j : S1x16x512x128.Idx) :=
    ⟨y 0, y 1, y 2, y 3, eq_ix4 (n0 := 1) (n1 := 16) (n2 := 512) (n3 := 128) y⟩
  obtain rfl : a = 0 := Subsingleton.elim _ _
  refine Eq.trans ?_ (congrArg (Q (argX m c) (argG m c) (argDQ m c) (argQN m c) (argUQ m c)) (emb12 t h q j)).symm
  rw [Q_at]
  blk_simp
  rw [after0_12]
  refine (block12 _ _ _ _ _ _ _ _ _ _ _ _ _ _ (uq_at m c t) (freq_at m c t) (sign_at m c t) h q j).trans ?_
  simp only [CQ_at, CKV_at, KPE_at, U_at, coord, row_eq, position_eq, sequence_eq, tile_eq, x_at, g_at, dq_at, qn_at, kvn_at]
/-- The keys are the reference's. -/
theorem final13 : (dats m 0 c).arrAt 13 cfg0.N = K (argX m c) (argG m c) (argDKV m c) (argKVN m c) (argUK m c) := by
  refine (dats m 0 c).arrAt_eq_of_covers 13 _ (by decide +kernel) fun t _ y => ?_
  obtain ⟨a, h, q, j, rfl⟩ : ∃ (a : Fin 1) (h : Fin 16) (q : Fin 512) (j : Fin 128), y = (ix4 a h q j : S1x16x512x128.Idx) :=
    ⟨y 0, y 1, y 2, y 3, eq_ix4 (n0 := 1) (n1 := 16) (n2 := 512) (n3 := 128) y⟩
  obtain rfl : a = 0 := Subsingleton.elim _ _
  refine Eq.trans ?_ (congrArg (K (argX m c) (argG m c) (argDKV m c) (argKVN m c) (argUK m c)) (emb13 t h q j)).symm
  rw [K_at]
  blk_simp
  rw [after0_13]
  refine (block13 _ _ _ _ _ _ _ _ _ _ _ _ _ (fun i k => argDKV m c (ix3 0 i k)) _ (ckv_at m c t) (rot_cols_at m c t) (uk_at m c t) (freq_at m c t) (sign_at m c t) h q j).trans ?_
  simp only [CQ_at, CKV_at, KPE_at, U_at, coord, row_eq, position_eq, sequence_eq, tile_eq, x_at, g_at, dq_at, qn_at, kvn_at]
/-- The values are the reference's. -/
theorem final14 : (dats m 0 c).arrAt 14 cfg0.N = VT (argX m c) (argG m c) (argDKV m c) (argKVN m c) (argUV m c) := by
  refine (dats m 0 c).arrAt_eq_of_covers 14 _ (by decide +kernel) fun t _ y => ?_
  obtain ⟨a, b, r, q, rfl⟩ : ∃ (a b : Fin 1) (r : Fin 1280) (q : Fin 512), y = (ix4 a b r q : S1x1x1280x512.Idx) :=
    ⟨y 0, y 1, y 2, y 3, eq_ix4 (n0 := 1) (n1 := 1) (n2 := 1280) (n3 := 512) y⟩
  obtain rfl : a = 0 := Subsingleton.elim _ _
  obtain rfl : b = 0 := Subsingleton.elim _ _
  refine Eq.trans ?_ (congrArg (VT (argX m c) (argG m c) (argDKV m c) (argKVN m c) (argUV m c)) (emb14 t r q)).symm
  rw [VT_at]
  blk_simp
  rw [after0_14]
  refine (block14 _ _ _ _ _ _ _ _ _ _ _ _ _ (fun i k => argDKV m c (ix3 0 i k)) _ (ckv_at m c t) (uv_at m c t) (ones_at m c t) q r).trans ?_
  simp only [CQ_at, CKV_at, KPE_at, U_at, coord, row_eq, position_eq, sequence_eq, tile_eq, x_at, g_at, dq_at, qn_at, kvn_at]
/-- The latents of keys and values are the reference's. -/
theorem final15 : (dats m 0 c).arrAt 15 cfg0.N = CKV2 (argX m c) (argG m c) (argDKV m c) (argKVN m c) := by
  refine (dats m 0 c).arrAt_eq_of_covers 15 _ (by decide +kernel) fun t _ y => ?_
  obtain ⟨q, j, rfl⟩ : ∃ (q : Fin 512) (j : Fin 256), y = (ix2 q j : S512x256.Idx) := ⟨y 0, y 1, eq_ix2 (n0 := 512) (n1 := 256) y⟩
  refine Eq.trans ?_ (congrArg (CKV2 (argX m c) (argG m c) (argDKV m c) (argKVN m c)) (emb15 t q j)).symm
  rw [CKV2_at]
  blk_simp
  rw [after0_15]
  refine (block15 _ _ _ _ _ _ _ _ _ _ _ _ _ (fun i k => argDKV m c (ix3 0 i k)) (ckv_at m c t) q j).trans ?_
  simp only [CQ_at, CKV_at, KPE_at, U_at, coord, row_eq, position_eq, sequence_eq, tile_eq, x_at, g_at, dq_at, qn_at, kvn_at]
/-- The rotary keys are the reference's. -/
theorem final16 : (dats m 0 c).arrAt 16 cfg0.N = KPE2 (argX m c) (argG m c) (argDKV m c) := by
  refine (dats m 0 c).arrAt_eq_of_covers 16 _ (by decide +kernel) fun t _ y => ?_
  obtain ⟨q, j, rfl⟩ : ∃ (q : Fin 512) (j : Fin 32), y = (ix2 q j : S512x32.Idx) := ⟨y 0, y 1, eq_ix2 (n0 := 512) (n1 := 32) y⟩
  refine Eq.trans ?_ (congrArg (KPE2 (argX m c) (argG m c) (argDKV m c)) (emb16 t q j)).symm
  rw [KPE2_at]
  blk_simp
  rw [after0_16]
  refine (block16 _ _ _ _ _ _ _ _ _ _ _ _ _ (fun i k => argDKV m c (ix3 0 i k)) (rot_cols_at m c t) (freq_at m c t) (sign_at m c t) q j).trans ?_
  simp only [CQ_at, CKV_at, KPE_at, U_at, coord, row_eq, position_eq, sequence_eq, tile_eq, x_at, g_at, dq_at, qn_at, kvn_at]

end Cert.Kernel4Ideal.Pre

end
-- ==== Proof.SampleBlock.lean ====
/- What the kernel of a layer's second half leaves in a block of the sample batch: the same as for the prompt, from a float32 mixer's output. -/
module

public import proofs.«01_k».proof.Proof.PostBlock
public import proofs.«01_k».proof.Proof.Gen.Kernel5Ideal.Value

@[expose] public section

set_option maxRecDepth 16384

noncomputable section

namespace Cert.Kernel5Ideal.Post

open Idealize.ShloMosaic Idealize.ShloMosaic.TcCoe Idealize.SL.Sem
open Cert.Kernel5Ideal Cert.Kernel5Ideal.Gen Cert.Rows
open Cert.Kernel2Ideal.Post (low_inner low_rows high_inner high_rows)

/-- The residual after the mixer. -/
theorem mixed_at (v0 : Vec Ideal S512x1024 .f32) (v2 : Vec Ideal S1024x1024 .bf16) (v5 : Vec Ideal S512x1024 .f32) (v6 : Vec Ideal S1x1024 .f32)
    (q : Fin 512) (j : Fin 1024) :
    k0_pay2 (F := Ideal) v0 v2 v5 v6 (ix2 q j)
      = mixed (fun k => v0 (ix2 q k)) (fun k => v5 (ix2 q k)) (fun i k => v2 (ix2 i k)) (fun k => v6 (ix2 0 k)) j := by
  pointwise [k0_pay2]
  rfl

/-- The residual after the mixer, normalised. -/
theorem norm_at (v0 : Vec Ideal S512x1024 .f32) (v2 : Vec Ideal S1024x1024 .bf16) (v5 : Vec Ideal S512x1024 .f32) (v6 v21 : Vec Ideal S1x1024 .f32)
    (q : Fin 512) (j : Fin 1024) :
    k0_pay3 (F := Ideal) v0 v2 v5 v6 v21 (ix2 q j)
      = norm (fun k => k0_pay2 (F := Ideal) v0 v2 v5 v6 (ix2 q k)) (fun k => v21 (ix2 0 k)) j := by
  pointwise [k0_pay3]
  rfl

/-- The residual after the mixer is the one that the prompt's kernel has. -/
theorem mixed_eq (v0 : Vec Ideal S512x1024 .f32) (v2 : Vec Ideal S1024x1024 .bf16) (v5 : Vec Ideal S512x1024 .f32) (v6 : Vec Ideal S1x1024 .f32) :
    k0_pay2 (F := Ideal) v0 v2 v5 v6 = Cert.Kernel2Ideal.Gen.k0_pay2 (F := Ideal) v0 v2 v5 v6 := funext fun y => by
  obtain ⟨q, j, rfl⟩ : ∃ (q : Fin 512) (j : Fin 1024), y = (ix2 q j : S512x1024.Idx) := ⟨y 0, y 1, eq_ix2 (n0 := 512) (n1 := 1024) y⟩
  exact (mixed_at v0 v2 v5 v6 q j).trans (Cert.Kernel2Ideal.Post.mixed_at v0 v2 v5 v6 q j).symm

/-- So is its normalised form. -/
theorem norm_eq (v0 : Vec Ideal S512x1024 .f32) (v2 : Vec Ideal S1024x1024 .bf16) (v5 : Vec Ideal S512x1024 .f32) (v6 v21 : Vec Ideal S1x1024 .f32) :
    k0_pay3 (F := Ideal) v0 v2 v5 v6 v21 = Cert.Kernel2Ideal.Gen.k0_pay3 (F := Ideal) v0 v2 v5 v6 v21 := funext fun y => by
  obtain ⟨q, j, rfl⟩ : ∃ (q : Fin 512) (j : Fin 1024), y = (ix2 q j : S512x1024.Idx) := ⟨y 0, y 1, eq_ix2 (n0 := 512) (n1 := 1024) y⟩
  refine (norm_at v0 v2 v5 v6 v21 q j).trans (Eq.trans ?_ (Cert.Kernel2Ideal.Post.norm_at v0 v2 v5 v6 v21 q j).symm)
  rw [mixed_eq]

/-- A block of tokens, entry by entry. -/
theorem out_at (x0 : Vec Ideal S512x1024 .f32) (x1 : Vec Ideal S512x1024 .f32) (x2 : Vec Ideal S1x512x256 .f32) (x3 : Vec Ideal S1024x1024 .bf16)
    (x4 x5 : Vec Ideal S1x1024 .f32) (x6 x7 : Vec Ideal S1x1024x2816 .bf16) (x8 : Vec Ideal S1x2816x1024 .bf16) (x9 : Vec Ideal S1x1024 .f32)
    (x10 : Vec Ideal S1x256x1024 .bf16) (x11 : Vec Ideal S1x1024x1024 .bf16) (x12 : Vec Ideal S1x1024 .f32) (q : Fin 512) (j : Fin 1024) :
    out0_13 (F := Ideal) x0 x1 x2 x3 x4 x5 x6 x7 x8 x9 x10 x11 x12 (ix2 q j)
      = finish (fun k => x0 (ix2 q k)) (fun k => x1 (ix2 q k)) (fun k => x2 (ix3 0 q k)) (fun i k => x3 (ix2 i k)) (fun k => x4 (ix2 0 k))
        (fun k => x5 (ix2 0 k)) (fun i c => x6 (ix3 0 i c)) (fun i c => x7 (ix3 0 i c)) (fun c k => x8 (ix3 0 c k)) (fun k => x9 (ix2 0 k))
        (fun i k => x10 (ix3 0 i k)) (fun i k => x11 (ix3 0 i k)) (fun k => x12 (ix2 0 k)) j := by
  unfold_out out0_13
  frame_out
  rw [mixed_eq, norm_eq]
  exact Cert.Kernel2Ideal.Post.whole x0 x1 x2 x3 x4 x5 x6 x7 x8 x9 x10 x11 x12 _ _ _ _ _ _ (low_inner x6) (low_inner x7) (low_rows x8) (high_inner x6)
    (high_inner x7) (high_rows x8) _ _ _ _ rfl rfl rfl rfl q j

end Cert.Kernel5Ideal.Post

end
-- ==== Proof.SampleRef.lean ====
/- The reference of a layer's second half for the sample batch, at an entry of a token. -/
module

public import proofs.«01_k».proof.Proof.Rows
public import proofs.«01_k».proof.Proof.Gen.Reference5Ideal.Run
public import Idealize.ShloMosaic.Lib.Pipeline.ValueKit

@[expose] public section

set_option maxRecDepth 16384

noncomputable section

namespace Cert.Reference5Ideal.Post

open Idealize.ShloMosaic Idealize.ShloMosaic.TcCoe Idealize.SL.Sem
open Cert.Reference5Ideal Cert.Reference5Ideal.Gen Cert.Reference5Ideal.Value Cert.Rows

variable (V0 : Valuation τ sig (Elt Ideal))

/-- The arguments at an index, as arrays of extended reals. -/
abbrev argO : Vec Ideal S1024x1024 .f32 := V0 (Proc.devRef .tc main_arg0)
abbrev argH : Vec Ideal S1024x1024 .f32 := V0 (Proc.devRef .tc main_arg1)
abbrev argP : Vec Ideal S2x128x8x256 .f32 := V0 (Proc.devRef .tc main_arg2)
abbrev argWo : Vec Ideal S1x1024x1024 .f32 := V0 (Proc.devRef .tc main_arg3)
abbrev argG1 : Vec Ideal S2x1024 .f32 := V0 (Proc.devRef .tc main_arg4)
abbrev argG2 : Vec Ideal S2x1024 .f32 := V0 (Proc.devRef .tc main_arg5)
abbrev argWg : Vec Ideal S2x1024x2816 .f32 := V0 (Proc.devRef .tc main_arg6)
abbrev argWu : Vec Ideal S2x1024x2816 .f32 := V0 (Proc.devRef .tc main_arg7)
abbrev argWd : Vec Ideal S2x2816x1024 .f32 := V0 (Proc.devRef .tc main_arg8)
abbrev argG3 : Vec Ideal S2x1024 .f32 := V0 (Proc.devRef .tc main_arg9)
abbrev argWp : Vec Ideal S2x256x1024 .f32 := V0 (Proc.devRef .tc main_arg10)
abbrev argWq : Vec Ideal S2x1024x1024 .f32 := V0 (Proc.devRef .tc main_arg11)
abbrev argG4 : Vec Ideal S2x1024 .f32 := V0 (Proc.devRef .tc main_arg12)

/-- The reference's array. -/
abbrev REF : Vec Ideal S1024x1024 .f32 := shapeCast _ (addf (res_main_v61 V0) (mulf (mulf (res_main_v76 V0) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (res_main_v76 V0) (res_main_v76 V0)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ (extractStridedSlice S1x1024 ![1, 0] (V0 (Proc.devRef .tc main_arg12)) slices_S2x1024_S1x1024_1_0) shapeCasts_S1x1024_S1024))))) shapeCasts_S128x8x1024_S1024x1024

/-- The residual after the mixer. -/
theorem mixed_at (b : Fin 128) (s : Fin 8) (j : Fin 1024) : (res_main_v19 (F := Ideal) V0 : Vec Ideal S128x8x1024 .f32) (ix3 b s j)
    = mixed (fun k => argO V0 (ix2 ⟨b * 8 + s, by omega⟩ k)) (fun k => argH V0 (ix2 ⟨b * 8 + s, by omega⟩ k)) (fun i k => argWo V0 (ix3 0 i k))
      (fun k => argG1 V0 (ix2 1 k)) j := by
  have h3 : ∀ k, (res_main_v3 (F := Ideal) V0 : Vec Ideal S128x8x1024 .f32) (ix3 b s k)
      = dot (fun k => argO V0 (ix2 ⟨b * 8 + s, by omega⟩ k)) (fun i k => argWo V0 (ix3 0 i k)) k := fun k => by
    pointwise [res_main_v3]
    rfl
  pointwise [res_main_v19]
  simp only [h3]
  rfl

/-- The residual after the mixer, normalised. -/
theorem norm_at (b : Fin 128) (s : Fin 8) (j : Fin 1024) : (res_main_v34 (F := Ideal) V0 : Vec Ideal S128x8x1024 .f32) (ix3 b s j)
    = norm (fun k => (res_main_v19 (F := Ideal) V0 : Vec Ideal S128x8x1024 .f32) (ix3 b s k)) (fun k => argG2 V0 (ix2 1 k)) j := by
  pointwise [res_main_v34]
  rfl

/-- The feed-forward part. -/
theorem forward_at (b : Fin 128) (s : Fin 8) (j : Fin 1024) : (res_main_v45 (F := Ideal) V0 : Vec Ideal S128x8x1024 .f32) (ix3 b s j)
    = forward (fun k => (res_main_v34 (F := Ideal) V0 : Vec Ideal S128x8x1024 .f32) (ix3 b s k)) (fun i c => argWg V0 (ix3 1 i c))
      (fun i c => argWu V0 (ix3 1 i c)) (fun c k => argWd V0 (ix3 1 c k)) j := by
  have h37 : ∀ c, (res_main_v37 (F := Ideal) V0 : Vec Ideal S128x8x2816 .f32) (ix3 b s c)
      = dot (fun k => (res_main_v34 (F := Ideal) V0 : Vec Ideal S128x8x1024 .f32) (ix3 b s k)) (fun i c => argWg V0 (ix3 1 i c)) c := fun c => by
    pointwise [res_main_v37]
    rfl
  pointwise [res_main_v45]
  simp only [h37]
  rfl

/-- The residual after the feed-forward part. -/
theorem fed_at (b : Fin 128) (s : Fin 8) (j : Fin 1024) : (res_main_v61 (F := Ideal) V0 : Vec Ideal S128x8x1024 .f32) (ix3 b s j)
    = fed (fun k => (res_main_v19 (F := Ideal) V0 : Vec Ideal S128x8x1024 .f32) (ix3 b s k)) (fun k => argG2 V0 (ix2 1 k))
      (fun i c => argWg V0 (ix3 1 i c)) (fun i c => argWu V0 (ix3 1 i c)) (fun c k => argWd V0 (ix3 1 c k)) (fun k => argG3 V0 (ix2 1 k)) j := by
  pointwise [res_main_v61]
  simp only [forward_at, norm_at]
  rfl

/-- The per-layer input under its gate. -/
theorem perLayer_at (b : Fin 128) (s : Fin 8) (j : Fin 1024) : (res_main_v76 (F := Ideal) V0 : Vec Ideal S128x8x1024 .f32) (ix3 b s j)
    = perLayer (fun k => argP V0 (ix4 1 b s k)) (fun k => (res_main_v61 (F := Ideal) V0 : Vec Ideal S128x8x1024 .f32) (ix3 b s k))
      (fun i k => argWp V0 (ix3 1 i k)) (fun i k => argWq V0 (ix3 1 i k)) j := by
  pointwise [res_main_v76]
  rfl

/-- The reference's result for a token. -/
theorem ref_at (b : Fin 128) (s : Fin 8) (j : Fin 1024) : REF V0 (ix2 ⟨b * 8 + s, by omega⟩ j)
    = finish (fun k => argO V0 (ix2 ⟨b * 8 + s, by omega⟩ k)) (fun k => argH V0 (ix2 ⟨b * 8 + s, by omega⟩ k)) (fun k => argP V0 (ix4 1 b s k))
      (fun i k => argWo V0 (ix3 0 i k)) (fun k => argG1 V0 (ix2 1 k)) (fun k => argG2 V0 (ix2 1 k)) (fun i c => argWg V0 (ix3 1 i c))
      (fun i c => argWu V0 (ix3 1 i c)) (fun c k => argWd V0 (ix3 1 c k)) (fun k => argG3 V0 (ix2 1 k)) (fun i k => argWp V0 (ix3 1 i k))
      (fun i k => argWq V0 (ix3 1 i k)) (fun k => argG4 V0 (ix2 1 k)) j := by
  pointwise [REF]
  simp only [perLayer_at, fed_at, mixed_at]
  rfl

end Cert.Reference5Ideal.Post

end
-- ==== Proof.SampleFinal.lean ====
/- The array that the kernel of a layer's second half leaves for the sample batch is the reference's. -/
module

public import proofs.«01_k».proof.Proof.SampleBlock
public import proofs.«01_k».proof.Proof.SampleRef

@[expose] public section

set_option maxRecDepth 16384

noncomputable section

namespace Cert.Kernel5Ideal.Post

open Idealize.ShloMosaic Idealize.ShloMosaic.TcCoe Idealize.ShloMosaic.StableHlo Idealize.SL.Sem
open Idealize.ShloMosaic.Pipeline (Dat)
open Cert.Kernel5Ideal Cert.Kernel5Ideal.Gen Cert.Rows
open Cert.Reference5Ideal.Post (argO argH argP argWo argG1 argG2 argWg argWu argWd argG3 argWp argWq argG4)

variable (m : (ℓ : Loc nD τ sig) → Buf (Elt Ideal) ℓ) (c : Dev nD)

/-- Where the blocks lie at a point of the grid. -/
theorem idx : ∀ t : Fin cfg0.N, win0_0.index t = ![t.val, 0] ∧ win0_1.index t = ![t.val, 0] ∧ win0_2.index t = ![1, t.val, 0]
    ∧ win0_3.index t = ![0, 0] ∧ win0_4.index t = ![0, 0] ∧ win0_5.index t = ![0, 0] ∧ win0_6.index t = ![1, 0, 0] ∧ win0_7.index t = ![1, 0, 0]
    ∧ win0_8.index t = ![1, 0, 0] ∧ win0_9.index t = ![0, 0] ∧ win0_10.index t = ![1, 0, 0] ∧ win0_11.index t = ![1, 0, 0]
    ∧ win0_12.index t = ![0, 0] ∧ win0_13.index t = ![t.val, 0] :=
  (by decide +kernel : ∀ t : Fin grid0.N, _)

theorem point_lt (t : Fin cfg0.N) : t.val < 2 := t.isLt

theorem emb0 (t : Fin cfg0.N) (q : Fin 512) (k : Fin 1024) :
    ((cfg0.win 0).blk t).view.emb (ix2 q k : S512x1024.Idx) = (ix2 ⟨512 * t.val + q, by have := point_lt t; omega⟩ k : S1024x1024.Idx) := by
  blk_ext [idx t]
theorem emb1 (t : Fin cfg0.N) (q : Fin 512) (k : Fin 1024) :
    ((cfg0.win 1).blk t).view.emb (ix2 q k : S512x1024.Idx) = (ix2 ⟨512 * t.val + q, by have := point_lt t; omega⟩ k : S1024x1024.Idx) := by
  blk_ext [idx t]
theorem emb2 (t : Fin cfg0.N) (q : Fin 512) (k : Fin 256) :
    ((cfg0.win 2).blk t).view.emb (ix3 0 q k : S1x512x256.Idx) = (ix3 1 ⟨512 * t.val + q, by have := point_lt t; omega⟩ k : S2x1024x256.Idx) := by
  blk_ext [idx t]
theorem emb3 (t : Fin cfg0.N) (i k : Fin 1024) :
    ((cfg0.win 3).blk t).view.emb (ix2 i k : S1024x1024.Idx) = (ix2 i k : S1024x1024.Idx) := by
  blk_ext [idx t]
theorem emb4 (t : Fin cfg0.N) (k : Fin 1024) :
    ((cfg0.win 4).blk t).view.emb (ix2 0 k : S1x1024.Idx) = (ix2 0 k : S1x1024.Idx) := by
  blk_ext [idx t]
theorem emb5 (t : Fin cfg0.N) (k : Fin 1024) :
    ((cfg0.win 5).blk t).view.emb (ix2 0 k : S1x1024.Idx) = (ix2 0 k : S1x1024.Idx) := by
  blk_ext [idx t]
theorem emb6 (t : Fin cfg0.N) (i : Fin 1024) (k : Fin 2816) :
    ((cfg0.win 6).blk t).view.emb (ix3 0 i k : S1x1024x2816.Idx) = (ix3 1 i k : S2x1024x2816.Idx) := by
  blk_ext [idx t]
theorem emb7 (t : Fin cfg0.N) (i : Fin 1024) (k : Fin 2816) :
    ((cfg0.win 7).blk t).view.emb (ix3 0 i k : S1x1024x2816.Idx) = (ix3 1 i k : S2x1024x2816.Idx) := by
  blk_ext [idx t]
theorem emb8 (t : Fin cfg0.N) (i : Fin 2816) (k : Fin 1024) :
    ((cfg0.win 8).blk t).view.emb (ix3 0 i k : S1x2816x1024.Idx) = (ix3 1 i k : S2x2816x1024.Idx) := by
  blk_ext [idx t]
theorem emb9 (t : Fin cfg0.N) (k : Fin 1024) :
    ((cfg0.win 9).blk t).view.emb (ix2 0 k : S1x1024.Idx) = (ix2 0 k : S1x1024.Idx) := by
  blk_ext [idx t]
theorem emb10 (t : Fin cfg0.N) (i : Fin 256) (k : Fin 1024) :
    ((cfg0.win 10).blk t).view.emb (ix3 0 i k : S1x256x1024.Idx) = (ix3 1 i k : S2x256x1024.Idx) := by
  blk_ext [idx t]
theorem emb11 (t : Fin cfg0.N) (i k : Fin 1024) :
    ((cfg0.win 11).blk t).view.emb (ix3 0 i k : S1x1024x1024.Idx) = (ix3 1 i k : S2x1024x1024.Idx) := by
  blk_ext [idx t]
theorem emb12 (t : Fin cfg0.N) (k : Fin 1024) :
    ((cfg0.win 12).blk t).view.emb (ix2 0 k : S1x1024.Idx) = (ix2 0 k : S1x1024.Idx) := by
  blk_ext [idx t]
theorem emb13 (t : Fin cfg0.N) (q : Fin 512) (k : Fin 1024) :
    ((cfg0.win 13).blk t).view.emb (ix2 q k : S512x1024.Idx) = (ix2 ⟨512 * t.val + q, by have := point_lt t; omega⟩ k : S1024x1024.Idx) := by
  blk_ext [idx t]
/-- The mixer's outputs of a block. -/
theorem o_at (t : Fin cfg0.N) (q : Fin 512) (k : Fin 1024) : (iblk m c 0 t : Vec Ideal S512x1024 .f32) (ix2 q k) = (m ((c : Thread nD τ).loc main_arg0) : Vec Ideal S1024x1024 .f32) (ix2 ⟨512 * t.val + q, by have := point_lt t; omega⟩ k) := by
  refine (congrArg (V m c main_arg0 : Vec Ideal S1024x1024 .f32) (emb0 t q k)).trans ?_
  entry_read
  pointwise
/-- The residual of a block. -/
theorem h_at (t : Fin cfg0.N) (q : Fin 512) (k : Fin 1024) : (iblk m c 1 t : Vec Ideal S512x1024 .f32) (ix2 q k) = (m ((c : Thread nD τ).loc main_arg1) : Vec Ideal S1024x1024 .f32) (ix2 ⟨512 * t.val + q, by have := point_lt t; omega⟩ k) := by
  refine (congrArg (V m c main_arg1 : Vec Ideal S1024x1024 .f32) (emb1 t q k)).trans ?_
  entry_read
  pointwise
/-- The per-layer inputs of a block. -/
theorem p_at (t : Fin cfg0.N) (q : Fin 512) (k : Fin 256) : (iblk m c 2 t : Vec Ideal S1x512x256 .f32) (ix3 0 q k) = (m ((c : Thread nD τ).loc main_arg2) : Vec Ideal S2x128x8x256 .f32) (ix4 1 ⟨(512 * t.val + q) / 8, by have := point_lt t; omega⟩ ⟨(512 * t.val + q) % 8, by omega⟩ k) := by
  refine (congrArg (V m c main_v5 : Vec Ideal S2x1024x256 .f32) (emb2 t q k)).trans ?_
  entry_read
  pointwise
/-- The mixer's projection. -/
theorem wo_at (t : Fin cfg0.N) (i k : Fin 1024) : (iblk m c 3 t : Vec Ideal S1024x1024 .bf16) (ix2 i k) = (m ((c : Thread nD τ).loc main_arg3) : Vec Ideal S1x1024x1024 .f32) (ix3 0 i k) := by
  refine (congrArg (V m c main_v7 : Vec Ideal S1024x1024 .bf16) (emb3 t i k)).trans ?_
  entry_read
  pointwise
/-- The gain after the mixer. -/
theorem g1_at (t : Fin cfg0.N) (k : Fin 1024) : (iblk m c 4 t : Vec Ideal S1x1024 .f32) (ix2 0 k) = (m ((c : Thread nD τ).loc main_arg4) : Vec Ideal S2x1024 .f32) (ix2 1 k) := by
  refine (congrArg (V m c main_v10 : Vec Ideal S1x1024 .f32) (emb4 t k)).trans ?_
  entry_read
  pointwise
/-- The gain before the feed-forward part. -/
theorem g2_at (t : Fin cfg0.N) (k : Fin 1024) : (iblk m c 5 t : Vec Ideal S1x1024 .f32) (ix2 0 k) = (m ((c : Thread nD τ).loc main_arg5) : Vec Ideal S2x1024 .f32) (ix2 1 k) := by
  refine (congrArg (V m c main_v13 : Vec Ideal S1x1024 .f32) (emb5 t k)).trans ?_
  entry_read
  pointwise
/-- The gate of the feed-forward part. -/
theorem wg_at (t : Fin cfg0.N) (i : Fin 1024) (k : Fin 2816) : (iblk m c 6 t : Vec Ideal S1x1024x2816 .bf16) (ix3 0 i k) = (m ((c : Thread nD τ).loc main_arg6) : Vec Ideal S2x1024x2816 .f32) (ix3 1 i k) := by
  refine (congrArg (V m c main_v0 : Vec Ideal S2x1024x2816 .bf16) (emb6 t i k)).trans ?_
  entry_read
  pointwise
/-- The other inner product's weights. -/
theorem wu_at (t : Fin cfg0.N) (i : Fin 1024) (k : Fin 2816) : (iblk m c 7 t : Vec Ideal S1x1024x2816 .bf16) (ix3 0 i k) = (m ((c : Thread nD τ).loc main_arg7) : Vec Ideal S2x1024x2816 .f32) (ix3 1 i k) := by
  refine (congrArg (V m c main_v1 : Vec Ideal S2x1024x2816 .bf16) (emb7 t i k)).trans ?_
  entry_read
  pointwise
/-- The weights back to the model's width. -/
theorem wd_at (t : Fin cfg0.N) (i : Fin 2816) (k : Fin 1024) : (iblk m c 8 t : Vec Ideal S1x2816x1024 .bf16) (ix3 0 i k) = (m ((c : Thread nD τ).loc main_arg8) : Vec Ideal S2x2816x1024 .f32) (ix3 1 i k) := by
  refine (congrArg (V m c main_v2 : Vec Ideal S2x2816x1024 .bf16) (emb8 t i k)).trans ?_
  entry_read
  pointwise
/-- The gain after the feed-forward part. -/
theorem g3_at (t : Fin cfg0.N) (k : Fin 1024) : (iblk m c 9 t : Vec Ideal S1x1024 .f32) (ix2 0 k) = (m ((c : Thread nD τ).loc main_arg9) : Vec Ideal S2x1024 .f32) (ix2 1 k) := by
  refine (congrArg (V m c main_v16 : Vec Ideal S1x1024 .f32) (emb9 t k)).trans ?_
  entry_read
  pointwise
/-- The per-layer input's projection. -/
theorem wp_at (t : Fin cfg0.N) (i : Fin 256) (k : Fin 1024) : (iblk m c 10 t : Vec Ideal S1x256x1024 .bf16) (ix3 0 i k) = (m ((c : Thread nD τ).loc main_arg10) : Vec Ideal S2x256x1024 .f32) (ix3 1 i k) := by
  refine (congrArg (V m c main_v3 : Vec Ideal S2x256x1024 .bf16) (emb10 t i k)).trans ?_
  entry_read
  pointwise
/-- The per-layer input's gate. -/
theorem wq_at (t : Fin cfg0.N) (i k : Fin 1024) : (iblk m c 11 t : Vec Ideal S1x1024x1024 .bf16) (ix3 0 i k) = (m ((c : Thread nD τ).loc main_arg11) : Vec Ideal S2x1024x1024 .f32) (ix3 1 i k) := by
  refine (congrArg (V m c main_v4 : Vec Ideal S2x1024x1024 .bf16) (emb11 t i k)).trans ?_
  entry_read
  pointwise
/-- The gain after the per-layer input. -/
theorem g4_at (t : Fin cfg0.N) (k : Fin 1024) : (iblk m c 12 t : Vec Ideal S1x1024 .f32) (ix2 0 k) = (m ((c : Thread nD τ).loc main_arg12) : Vec Ideal S2x1024 .f32) (ix2 1 k) := by
  refine (congrArg (V m c main_v19 : Vec Ideal S1x1024 .f32) (emb12 t k)).trans ?_
  entry_read
  pointwise

/-- The kernel's result is the reference's, where the arguments are the same. -/
theorem final (m' : (ℓ : Loc Cert.Reference5Ideal.nD Cert.Reference5Ideal.τ Cert.Reference5Ideal.sig) → Buf (Elt Ideal) ℓ)
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1))
    (h2 : m' ((c.tc : Thread Cert.Reference5Ideal.nD Cert.Reference5Ideal.τ).loc Cert.Reference5Ideal.main_arg2) = m ((c.tc : Thread nD τ).loc main_arg2))
    (h3 : m' ((c.tc : Thread Cert.Reference5Ideal.nD Cert.Reference5Ideal.τ).loc Cert.Reference5Ideal.main_arg3) = m ((c.tc : Thread nD τ).loc main_arg3))
    (h4 : m' ((c.tc : Thread Cert.Reference5Ideal.nD Cert.Reference5Ideal.τ).loc Cert.Reference5Ideal.main_arg4) = m ((c.tc : Thread nD τ).loc main_arg4))
    (h5 : m' ((c.tc : Thread Cert.Reference5Ideal.nD Cert.Reference5Ideal.τ).loc Cert.Reference5Ideal.main_arg5) = m ((c.tc : Thread nD τ).loc main_arg5))
    (h6 : m' ((c.tc : Thread Cert.Reference5Ideal.nD Cert.Reference5Ideal.τ).loc Cert.Reference5Ideal.main_arg6) = m ((c.tc : Thread nD τ).loc main_arg6))
    (h7 : m' ((c.tc : Thread Cert.Reference5Ideal.nD Cert.Reference5Ideal.τ).loc Cert.Reference5Ideal.main_arg7) = m ((c.tc : Thread nD τ).loc main_arg7))
    (h8 : m' ((c.tc : Thread Cert.Reference5Ideal.nD Cert.Reference5Ideal.τ).loc Cert.Reference5Ideal.main_arg8) = m ((c.tc : Thread nD τ).loc main_arg8))
    (h9 : m' ((c.tc : Thread Cert.Reference5Ideal.nD Cert.Reference5Ideal.τ).loc Cert.Reference5Ideal.main_arg9) = m ((c.tc : Thread nD τ).loc main_arg9))
    (h10 : m' ((c.tc : Thread Cert.Reference5Ideal.nD Cert.Reference5Ideal.τ).loc Cert.Reference5Ideal.main_arg10) = m ((c.tc : Thread nD τ).loc main_arg10))
    (h11 : m' ((c.tc : Thread Cert.Reference5Ideal.nD Cert.Reference5Ideal.τ).loc Cert.Reference5Ideal.main_arg11) = m ((c.tc : Thread nD τ).loc main_arg11))
    (h12 : m' ((c.tc : Thread Cert.Reference5Ideal.nD Cert.Reference5Ideal.τ).loc Cert.Reference5Ideal.main_arg12) = m ((c.tc : Thread nD τ).loc main_arg12)) :
    (dats m 0 c).arrAt 13 cfg0.N = Cert.Reference5Ideal.Post.REF (launchContents m' c) := by
  refine (dats m 0 c).arrAt_eq_of_covers 13 _ (by decide +kernel) fun t _ y => ?_
  obtain ⟨q, j, rfl⟩ : ∃ (q : Fin 512) (j : Fin 1024), y = (ix2 q j : S512x1024.Idx) := ⟨y 0, y 1, eq_ix2 (n0 := 512) (n1 := 1024) y⟩
  have ht := point_lt t
  have hy : ((cfg0.win 13).blk t).view.emb (ix2 q j : S512x1024.Idx)
      = (ix2 ⟨(512 * t.val + q) / 8 * 8 + (512 * t.val + q) % 8, by omega⟩ j : S1024x1024.Idx) :=
    (emb13 t q j).trans (congrArg (ix2 · j) (Fin.ext (by simp only; omega)))
  refine Eq.trans ?_ (congrArg (Cert.Reference5Ideal.Post.REF (launchContents m' c)) hy).symm
  refine Eq.trans ?_ (Cert.Reference5Ideal.Post.ref_at (launchContents m' c) ⟨(512 * t.val + q) / 8, by omega⟩ ⟨(512 * t.val + q) % 8, by omega⟩ j).symm
  blk_simp
  rw [after0_13]
  refine (out_at _ _ _ _ _ _ _ _ _ _ _ _ _ q j).trans ?_
  have hq : (⟨512 * t.val + q, by omega⟩ : Fin 1024) = ⟨(512 * t.val + q) / 8 * 8 + (512 * t.val + q) % 8, by omega⟩ := Fin.ext (by simp only; omega)
  simp only [o_at, h_at, p_at, wo_at, g1_at, g2_at, wg_at, wu_at, wd_at, g3_at, wp_at, wq_at, g4_at, hq]
  rw [show argO (launchContents m' c) = _ from h0, show argH (launchContents m' c) = _ from h1, show argP (launchContents m' c) = _ from h2,
    show argWo (launchContents m' c) = _ from h3, show argG1 (launchContents m' c) = _ from h4, show argG2 (launchContents m' c) = _ from h5,
    show argWg (launchContents m' c) = _ from h6, show argWu (launchContents m' c) = _ from h7, show argWd (launchContents m' c) = _ from h8,
    show argG3 (launchContents m' c) = _ from h9, show argWp (launchContents m' c) = _ from h10, show argWq (launchContents m' c) = _ from h11,
    show argG4 (launchContents m' c) = _ from h12]

end Cert.Kernel5Ideal.Post

end
-- ==== Proof.LatRows.lean ====
/- What the latent projections of the sample batch give for one token, written over the extended reals. -/
module

public import proofs.«01_k».proof.Proof.PreRows

@[expose] public section

noncomputable section

namespace Cert.Rows

open Idealize.ShloMosaic

/-- A head's query in the latent space: the head's 64 entries taken through the matrix to the keys, scaled. -/
def latentQuery (c : Fin 512 → EReal) (w : Fin 512 → Fin 1536 → EReal) (v : Fin 256 → Fin 16 → Fin 64 → EReal) (h : Fin 16) (j : Fin 256) : EReal :=
  dot (fun n : Fin 64 => dot c w ⟨h * 96 + n, by omega⟩) (fun n k => v k h n) j * Ideal.ofBits FTy.f32 0x3E16C740#32

/-- A head's rotary query, scaled. -/
def rotaryQuery (p : ℕ) (c : Fin 512 → EReal) (w : Fin 512 → Fin 1536 → EReal) (h : Fin 16) (j : Fin 32) : EReal :=
  turned p (fun k => dot c w ⟨h * 96 + (64 + k), by omega⟩) j * Ideal.ofBits FTy.f32 0x3E16C740#32

/-- The entry that turns with an entry: 16 on in the first half, 16 back in the second. -/
def other (j : Fin 32) : Fin 32 := if _ : j.val < 16 then ⟨16 + j, by omega⟩ else ⟨j - 16, by omega⟩

/-- The frequencies, once for each half. -/
def pairFreq (j : Fin 32) : EReal := if h : j.val < 16 then freq ⟨j, h⟩ else freq ⟨j - 16, by omega⟩

/-- The sign with which an entry takes its partner: the first half minus, the second plus. -/
def pairSign (j : Fin 32) : EReal := if j.val < 16 then -1 else 1

/-- The cosines of a position on 32 entries. -/
def pairCos (p : ℕ) (j : Fin 32) : EReal := Ideal.cos ((FloatOps.sitofp (F := Ideal) FTy.f32 (BitVec.ofNat 32 p) : EReal) * pairFreq j)

/-- The signed sines of a position on 32 entries. -/
def pairSin (p : ℕ) (j : Fin 32) : EReal := Ideal.sin ((FloatOps.sitofp (F := Ideal) FTy.f32 (BitVec.ofNat 32 p) : EReal) * pairFreq j) * pairSign j

/-- The rotation, by entries and their partners. -/
theorem turned_pair (p : ℕ) (x : Fin 32 → EReal) (j : Fin 32) : x j * pairCos p j + x (other j) * pairSin p j = turned p x j := by
  unfold pairCos pairSin pairFreq pairSign other turned angle
  by_cases h : j.val < 16
  · simp only [dif_pos h, if_pos h, mul_neg, mul_one, sub_eq_add_neg]
  · simp only [dif_neg h, if_neg h, mul_one]

end Cert.Rows

end
-- ==== Proof.LatBlock.lean ====
/- What the kernel of the sample batch's latent projections leaves in a block of tokens. -/
module

public import proofs.«01_k».proof.Proof.LatRows
public import proofs.«01_k».proof.Proof.Gen.Kernel6Ideal.Value
public import Idealize.ShloMosaic.Lib.Pipeline.ValueKit

@[expose] public section

set_option maxRecDepth 16384

noncomputable section

namespace Cert.Kernel6Ideal.Lat

open Idealize.ShloMosaic Idealize.ShloMosaic.TcCoe Idealize.SL.Sem
open Cert.Kernel6Ideal Cert.Kernel6Ideal.Gen Cert.Rows

/-- A token's row, normalised. -/
theorem norm_at (x : Vec Ideal S512x1024 .f32) (g : Vec Ideal S1x1024 .f32) (q : Fin 512) (j : Fin 1024) :
    k0_pay5 (F := Ideal) x g (ix2 q j) = norm (fun k => x (ix2 q k)) (fun k => g (ix2 0 k)) j := by
  pointwise [k0_pay5]
  rfl

/-- The latents of the queries before their normalisation. -/
theorem down_at (x : Vec Ideal S512x1024 .f32) (g : Vec Ideal S1x1024 .f32) (w : Vec Ideal S1024x512 .bf16) (q : Fin 512) (j : Fin 512) :
    k0_pay6 (F := Ideal) x g w (ix2 q j) = dot (fun k => k0_pay5 (F := Ideal) x g (ix2 q k)) (fun i k => w (ix2 i k)) j := by
  pointwise [k0_pay6]
  rfl

/-- The latents of the queries. -/
theorem latent_at (x : Vec Ideal S512x1024 .f32) (g : Vec Ideal S1x1024 .f32) (w : Vec Ideal S1024x512 .bf16) (n : Vec Ideal S1x512 .f32) (q : Fin 512) (j : Fin 512) :
    k0_pay9 (F := Ideal) (k0_pay6 x g w) (k0_pay7 n) (k0_pay8 x g w) (ix2 q j)
      = rms (Ideal.ofBits FTy.f32 0x44000000#32) (fun k => k0_pay6 (F := Ideal) x g w (ix2 q k)) (fun k => n (ix2 0 k)) j := by
  pointwise [k0_pay9, k0_pay7, k0_pay8]
  rfl

/-- The latents of keys and values. -/
theorem keyLatent_at (u : FVec Ideal S512x1024 .bf16) (w : Vec Ideal S1024x256 .bf16) (g : Vec Ideal S1x256 .f32) (q : Fin 512) (j : Fin 256) :
    k0_pay10 (F := Ideal) u w g (ix2 q j)
      = rms (Ideal.ofBits FTy.f32 0x43800000#32) (dot (fun k => u (ix2 q k)) (fun i k => w (ix2 i k))) (fun k => g (ix2 0 k)) j := by
  pointwise [k0_pay10]
  rfl

/-- The position of a block's token in its sequence. -/
theorem position (q : ℕ) (hq : q < 512) : IntOp.addi 16384#32 (IntOp.andi (BitVec.ofNat 32 q) 7#32) = BitVec.ofNat 32 (16384 + q % 8) := by
  have e : q % 2 ^ 3 = q % 8 := rfl
  apply BitVec.eq_of_toNat_eq
  rw [← e, ← Nat.and_two_pow_sub_one_eq_mod]
  simp [IntOp.andi, IntOp.addi, Nat.mod_eq_of_lt (hq.trans (by norm_num : 512 < 4294967296))]

theorem cos_at (v : Vec Ideal S1x32 .f32) (hv : ∀ j, v (ix2 0 j) = pairFreq j) (q : Fin 512) (j : Fin 32) :
    k0_pay3 (F := Ideal) v (ix2 q j) = pairCos (16384 + q % 8) j := by
  pointwise [k0_pay3, k0_pay2]
  rw [position _ q.isLt, hv]
  rfl

theorem sin_at (v s : Vec Ideal S1x32 .f32) (hv : ∀ j, v (ix2 0 j) = pairFreq j) (hs : ∀ j, s (ix2 0 j) = pairSign j) (q : Fin 512) (j : Fin 32) :
    k0_pay4 (F := Ideal) v s (ix2 q j) = pairSin (16384 + q % 8) j := by
  pointwise [k0_pay4, k0_pay2]
  rw [position _ q.isLt, hv, hs]
  rfl

/-- The rotary key. -/
theorem rot_at (c s : FVec Ideal S512x32 .f32) (u : FVec Ideal S512x1024 .bf16) (w v : Vec Ideal S1024x32 .bf16) (q : Fin 512) (j : Fin 32) :
    k0_pay11 (F := Ideal) c s u w v (ix2 q j)
      = dot (fun k => u (ix2 q k)) (fun i k => w (ix2 i k)) j * c (ix2 q j) + dot (fun k => u (ix2 q k)) (fun i k => v (ix2 i k)) j * s (ix2 q j) := by
  pointwise [k0_pay11]
  rfl

/-- A head's query in the latent space. -/
theorem head_at (u : FVec Ideal S512x512 .bf16) (w : Vec Ideal S1x512x64 .bf16) (v : Vec Ideal S1x64x256 .bf16) (b : Fin 64) (p : Fin 8) (j : Fin 256) :
    k0_pay12 (F := Ideal) u w v (ix3 b p j)
      = dot (fun n : Fin 64 => dot (fun k => u (ix2 ⟨8 * b + p, by omega⟩ k)) (fun i k => w (ix3 0 i k)) n) (fun n k => v (ix3 0 n k)) j
        * Ideal.ofBits FTy.f32 0x3E16C740#32 := by
  pointwise [k0_pay12]
  simp only [Nat.mul_comm b.val 8]
  rfl

/-- A head's rotary query. -/
theorem turn_at (c s : FVec Ideal S512x32 .f32) (u : FVec Ideal S512x512 .bf16) (w v : Vec Ideal S1x512x32 .bf16) (b : Fin 64) (p : Fin 8) (j : Fin 32) :
    k0_pay13 (F := Ideal) c s u w v (ix3 b p j)
      = (dot (fun k => u (ix2 ⟨8 * b + p, by omega⟩ k)) (fun i k => w (ix3 0 i k)) j * c (ix2 ⟨8 * b + p, by omega⟩ j)
          + dot (fun k => u (ix2 ⟨8 * b + p, by omega⟩ k)) (fun i k => v (ix3 0 i k)) j * s (ix2 ⟨8 * b + p, by omega⟩ j))
        * Ideal.ofBits FTy.f32 0x3E16C740#32 := by
  pointwise [k0_pay13]
  simp only [Nat.mul_comm b.val 8]
  rfl

/-- The store of a head's queries in the latent space. -/
theorem head_piece (u : FVec Ideal S512x512 .bf16) (m : Vec Ideal S16x512x64 .bf16) (l : Vec Ideal S16x64x256 .bf16) (w : Vec Ideal S1x512x64 .bf16)
    (v : Vec Ideal S1x64x256 .bf16) (o : ℕ) (ho : o < 128 ∧ o % 8 = 0) (hw : ∀ i k, w (ix3 0 i k) = m (ix3 ⟨o / 8, by omega⟩ i k))
    (hv : ∀ i k, v (ix3 0 i k) = l (ix3 ⟨o / 8, by omega⟩ i k)) (x : S64x8x256.Idx) (b : Fin 64) (r : Fin 128) (j : Fin 256)
    (h0 : b.val = (x 0).val) (h1 : r.val = o + (x 1).val) (x1 : (x 1).val < 8) (h2 : j.val = (x 2).val) :
    k0_pay12 (F := Ideal) u w v x
      = dot (fun n : Fin 64 => dot (fun k => u (ix2 ⟨8 * b + r % 8, by omega⟩ k)) (fun i k => m (ix3 ⟨r / 8, by omega⟩ i k)) n)
          (fun n k => l (ix3 ⟨r / 8, by omega⟩ n k)) j * Ideal.ofBits FTy.f32 0x3E16C740#32 := by
  obtain ⟨b', p, j', rfl⟩ : ∃ (b : Fin 64) (p : Fin 8) (j : Fin 256), x = (ix3 b p j : S64x8x256.Idx) :=
    ⟨x 0, x 1, x 2, eq_ix3 (n0 := 64) (n1 := 8) (n2 := 256) x⟩
  obtain rfl : b = b' := Fin.ext h0
  obtain rfl : j = j' := Fin.ext h2
  have h1 : r.val = o + p.val := h1
  have e1 : r.val / 8 = o / 8 := by omega
  have e2 : r.val % 8 = p.val := by omega
  rw [head_at]
  simp only [hw, hv, e1, e2]

/-- The store of a head's rotary queries. -/
theorem turn_piece (c s : FVec Ideal S512x32 .f32) (u : FVec Ideal S512x512 .bf16) (m l : Vec Ideal S16x512x32 .bf16) (w v : Vec Ideal S1x512x32 .bf16)
    (o : ℕ) (ho : o < 128 ∧ o % 8 = 0) (hw : ∀ i k, w (ix3 0 i k) = m (ix3 ⟨o / 8, by omega⟩ i k))
    (hv : ∀ i k, v (ix3 0 i k) = l (ix3 ⟨o / 8, by omega⟩ i k)) (x : S64x8x32.Idx) (b : Fin 64) (r : Fin 128) (j : Fin 32)
    (h0 : b.val = (x 0).val) (h1 : r.val = o + (x 1).val) (x1 : (x 1).val < 8) (h2 : j.val = (x 2).val) :
    k0_pay13 (F := Ideal) c s u w v x
      = (dot (fun k => u (ix2 ⟨8 * b + r % 8, by omega⟩ k)) (fun i k => m (ix3 ⟨r / 8, by omega⟩ i k)) j * c (ix2 ⟨8 * b + r % 8, by omega⟩ j)
          + dot (fun k => u (ix2 ⟨8 * b + r % 8, by omega⟩ k)) (fun i k => l (ix3 ⟨r / 8, by omega⟩ i k)) j * s (ix2 ⟨8 * b + r % 8, by omega⟩ j))
        * Ideal.ofBits FTy.f32 0x3E16C740#32 := by
  obtain ⟨b', p, j', rfl⟩ : ∃ (b : Fin 64) (p : Fin 8) (j : Fin 32), x = (ix3 b p j : S64x8x32.Idx) :=
    ⟨x 0, x 1, x 2, eq_ix3 (n0 := 64) (n1 := 8) (n2 := 32) x⟩
  obtain rfl : b = b' := Fin.ext h0
  obtain rfl : j = j' := Fin.ext h2
  have h1 : r.val = o + p.val := h1
  have e1 : r.val / 8 = o / 8 := by omega
  have e2 : r.val % 8 = p.val := by omega
  rw [turn_at]
  simp only [hw, hv, e1, e2]

section Block

variable (x0 : Vec Ideal S512x1024 .f32) (x1 : Vec Ideal S1x1024 .f32) (x2 : Vec Ideal S1024x512 .bf16) (x3 : Vec Ideal S1x512 .f32)
  (x4 : Vec Ideal S16x512x64 .bf16) (x5 x6 : Vec Ideal S16x512x32 .bf16) (x7 : Vec Ideal S16x64x256 .bf16) (x8 : Vec Ideal S1024x256 .bf16) (x9 : Vec Ideal S1x256 .f32)
  (x10 x11 : Vec Ideal S1024x32 .bf16) (x12 x13 : Vec Ideal S1x32 .f32)

/-- A block's queries in the latent space. -/
theorem out14_at (b : Fin 64) (r : Fin 128) (j : Fin 256) : out0_14 (F := Ideal) x0 x1 x2 x3 x4 x5 x6 x7 x8 x9 x10 x11 x12 x13 (ix3 b r j)
    = dot (fun n : Fin 64 => dot (fun k => k0_pay56 (F := Ideal) x0 x1 x2 x3 x4 x5 x6 x7 x8 x9 x10 x11 x12 x13 (ix2 ⟨8 * b + r % 8, by omega⟩ k)) (fun i k => x4 (ix3 ⟨r / 8, by omega⟩ i k)) n)
        (fun n k => x7 (ix3 ⟨r / 8, by omega⟩ n k)) j * Ideal.ofBits FTy.f32 0x3E16C740#32 := by
  unfold out0_14
  canon_tiles x hx
  all_goals first
    | exact head_piece (k0_pay56 x0 x1 x2 x3 x4 x5 x6 x7 x8 x9 x10 x11 x12 x13) x4 x7 _ _ _ (by decide) (fun i k => by pointwise <;> rfl) (fun i k => by pointwise <;> rfl) x b r j hx0 hx1 x1_lt hx2
    | exact head_piece (k0_pay56 x0 x1 x2 x3 x4 x5 x6 x7 x8 x9 x10 x11 x12 x13) x4 x7 _ _ 0 (by decide) (fun i k => by pointwise <;> rfl) (fun i k => by pointwise <;> rfl) x b r j hx0 (hx1.trans (Nat.zero_add _).symm) x1_lt hx2

/-- A block's rotary queries. -/
theorem out15_at (b : Fin 64) (r : Fin 128) (j : Fin 32) : out0_15 (F := Ideal) x0 x1 x2 x3 x4 x5 x6 x7 x8 x9 x10 x11 x12 x13 (ix3 b r j)
    = (dot (fun k => k0_pay56 (F := Ideal) x0 x1 x2 x3 x4 x5 x6 x7 x8 x9 x10 x11 x12 x13 (ix2 ⟨8 * b + r % 8, by omega⟩ k)) (fun i k => x5 (ix3 ⟨r / 8, by omega⟩ i k)) j * k0_pay53 (F := Ideal) x0 x1 x2 x3 x4 x5 x6 x7 x8 x9 x10 x11 x12 x13 (ix2 ⟨8 * b + r % 8, by omega⟩ j)
        + dot (fun k => k0_pay56 (F := Ideal) x0 x1 x2 x3 x4 x5 x6 x7 x8 x9 x10 x11 x12 x13 (ix2 ⟨8 * b + r % 8, by omega⟩ k)) (fun i k => x6 (ix3 ⟨r / 8, by omega⟩ i k)) j * k0_pay54 (F := Ideal) x0 x1 x2 x3 x4 x5 x6 x7 x8 x9 x10 x11 x12 x13 (ix2 ⟨8 * b + r % 8, by omega⟩ j))
      * Ideal.ofBits FTy.f32 0x3E16C740#32 := by
  unfold out0_15
  canon_tiles x hx
  all_goals first
    | exact turn_piece (k0_pay53 x0 x1 x2 x3 x4 x5 x6 x7 x8 x9 x10 x11 x12 x13) (k0_pay54 x0 x1 x2 x3 x4 x5 x6 x7 x8 x9 x10 x11 x12 x13) (k0_pay56 x0 x1 x2 x3 x4 x5 x6 x7 x8 x9 x10 x11 x12 x13) x5 x6 _ _ _ (by decide) (fun i k => by pointwise <;> rfl) (fun i k => by pointwise <;> rfl) x b r j hx0 hx1 x1_lt hx2
    | exact turn_piece (k0_pay53 x0 x1 x2 x3 x4 x5 x6 x7 x8 x9 x10 x11 x12 x13) (k0_pay54 x0 x1 x2 x3 x4 x5 x6 x7 x8 x9 x10 x11 x12 x13) (k0_pay56 x0 x1 x2 x3 x4 x5 x6 x7 x8 x9 x10 x11 x12 x13) x5 x6 _ _ 0 (by decide) (fun i k => by pointwise <;> rfl) (fun i k => by pointwise <;> rfl) x b r j hx0 (hx1.trans (Nat.zero_add _).symm) x1_lt hx2

/-- A block's tokens, normalised. -/
theorem norms_at (q : Fin 512) (j : Fin 1024) : k0_pay55 (F := Ideal) x0 x1 x2 x3 x4 x5 x6 x7 x8 x9 x10 x11 x12 x13 (ix2 q j) = norm (fun k => x0 (ix2 q k)) (fun k => x1 (ix2 0 k)) j := by
  unfold k0_pay55
  frame_out
  exact norm_at ..

/-- The latents of a block's queries. -/
theorem latents_at (q : Fin 512) (j : Fin 512) : k0_pay56 (F := Ideal) x0 x1 x2 x3 x4 x5 x6 x7 x8 x9 x10 x11 x12 x13 (ix2 q j)
    = queryLatent (norm (fun k => x0 (ix2 q k)) (fun k => x1 (ix2 0 k))) (fun i k => x2 (ix2 i k)) (fun k => x3 (ix2 0 k)) j := by
  unfold k0_pay56
  frame_out
  rw [latent_at]
  simp only [down_at, norm_at]
  rfl

theorem coss_at (h12 : ∀ j, x12 (ix2 0 j) = pairFreq j) (q : Fin 512) (j : Fin 32) : k0_pay53 (F := Ideal) x0 x1 x2 x3 x4 x5 x6 x7 x8 x9 x10 x11 x12 x13 (ix2 q j) = pairCos (16384 + q % 8) j := by
  unfold k0_pay53
  frame_out
  exact cos_at x12 h12 q j

theorem sins_at (h12 : ∀ j, x12 (ix2 0 j) = pairFreq j) (h13 : ∀ j, x13 (ix2 0 j) = pairSign j) (q : Fin 512) (j : Fin 32) :
    k0_pay54 (F := Ideal) x0 x1 x2 x3 x4 x5 x6 x7 x8 x9 x10 x11 x12 x13 (ix2 q j) = pairSin (16384 + q % 8) j := by
  unfold k0_pay54
  frame_out
  exact sin_at x12 x13 h12 h13 q j

/-- The position of a token, from its number in a block. -/
theorem slot (b r : ℕ) : (8 * b + r % 8) % 8 = r % 8 := by omega

/-- A block's queries in the latent space, from the call's arguments. -/
theorem block14 (w4 : Fin 512 → Fin 1536 → EReal) (w7 : Fin 256 → Fin 16 → Fin 64 → EReal)
    (h4 : ∀ (h : Fin 16) i (n : Fin 64), x4 (ix3 h i n) = w4 i ⟨h * 96 + n, by omega⟩) (h7 : ∀ (h : Fin 16) (n : Fin 64) k, x7 (ix3 h n k) = w7 k h n)
    (b : Fin 64) (r : Fin 128) (j : Fin 256) :
    out0_14 (F := Ideal) x0 x1 x2 x3 x4 x5 x6 x7 x8 x9 x10 x11 x12 x13 (ix3 b r j)
      = latentQuery (queryLatent (norm (fun k => x0 (ix2 ⟨8 * b + r % 8, by omega⟩ k)) (fun k => x1 (ix2 0 k))) (fun i k => x2 (ix2 i k)) (fun k => x3 (ix2 0 k))) w4 w7 ⟨r / 8, by omega⟩ j := by
  rw [out14_at]
  simp only [latents_at, h4, h7]
  rfl

/-- A block's rotary queries, from the call's arguments. -/
theorem block15 (w4 : Fin 512 → Fin 1536 → EReal) (h5 : ∀ (h : Fin 16) i (k : Fin 32), x5 (ix3 h i k) = w4 i ⟨h * 96 + (64 + k), by omega⟩)
    (h6 : ∀ (h : Fin 16) i (k : Fin 32), x6 (ix3 h i k) = w4 i ⟨h * 96 + (64 + other k), by omega⟩)
    (h12 : ∀ j, x12 (ix2 0 j) = pairFreq j) (h13 : ∀ j, x13 (ix2 0 j) = pairSign j) (b : Fin 64) (r : Fin 128) (j : Fin 32) :
    out0_15 (F := Ideal) x0 x1 x2 x3 x4 x5 x6 x7 x8 x9 x10 x11 x12 x13 (ix3 b r j)
      = rotaryQuery (16384 + r % 8) (queryLatent (norm (fun k => x0 (ix2 ⟨8 * b + r % 8, by omega⟩ k)) (fun k => x1 (ix2 0 k))) (fun i k => x2 (ix2 i k)) (fun k => x3 (ix2 0 k))) w4 ⟨r / 8, by omega⟩ j := by
  rw [out15_at]
  unfold rotaryQuery
  rw [← turned_pair]
  simp only [latents_at, coss_at x0 x1 x2 x3 x4 x5 x6 x7 x8 x9 x10 x11 x12 x13 h12, sins_at x0 x1 x2 x3 x4 x5 x6 x7 x8 x9 x10 x11 x12 x13 h12 h13, slot, h5, h6, dot]

/-- The latents of a block's keys and values, from the call's arguments. -/
theorem block16 (w5 : Fin 1024 → Fin 288 → EReal) (h8 : ∀ i (k : Fin 256), x8 (ix2 i k) = w5 i ⟨k, by omega⟩) (q : Fin 512) (j : Fin 256) :
    out0_16 (F := Ideal) x0 x1 x2 x3 x4 x5 x6 x7 x8 x9 x10 x11 x12 x13 (ix2 q j) = keyLatent (norm (fun k => x0 (ix2 q k)) (fun k => x1 (ix2 0 k))) w5 (fun k => x9 (ix2 0 k)) j := by
  unfold out0_16
  frame_out
  rw [keyLatent_at]
  simp only [norms_at, dot, h8]
  rfl

/-- A block's rotary keys, from the call's arguments. -/
theorem block17 (w5 : Fin 1024 → Fin 288 → EReal) (h10 : ∀ i (k : Fin 32), x10 (ix2 i k) = w5 i ⟨256 + k, by omega⟩)
    (h11 : ∀ i (k : Fin 32), x11 (ix2 i k) = w5 i ⟨256 + other k, by omega⟩)
    (h12 : ∀ j, x12 (ix2 0 j) = pairFreq j) (h13 : ∀ j, x13 (ix2 0 j) = pairSign j) (q : Fin 512) (j : Fin 32) :
    out0_17 (F := Ideal) x0 x1 x2 x3 x4 x5 x6 x7 x8 x9 x10 x11 x12 x13 (ix2 q j) = turned (16384 + q % 8) (fun k => dot (norm (fun k => x0 (ix2 q k)) (fun k => x1 (ix2 0 k))) w5 ⟨256 + k, by omega⟩) j := by
  unfold out0_17
  frame_out
  rw [rot_at, ← turned_pair]
  simp only [norms_at, coss_at x0 x1 x2 x3 x4 x5 x6 x7 x8 x9 x10 x11 x12 x13 h12, sins_at x0 x1 x2 x3 x4 x5 x6 x7 x8 x9 x10 x11 x12 x13 h12 h13, h10, h11, dot]

end Block

end Cert.Kernel6Ideal.Lat

end
-- ==== Proof.LatHost.lean ====
/- What the kernel of the sample batch's latent projections reads, from the call's arguments. -/
module

public import proofs.«01_k».proof.Proof.LatBlock

@[expose] public section

set_option maxRecDepth 16384

noncomputable section

namespace Cert.Kernel6Ideal.Lat

open Idealize.ShloMosaic Idealize.ShloMosaic.TcCoe Idealize.ShloMosaic.StableHlo Idealize.SL.Sem
open Idealize.ShloMosaic.Pipeline (Dat)
open Cert.Kernel6Ideal Cert.Kernel6Ideal.Gen Cert.Rows

variable (m : (ℓ : Loc nD τ sig) → Buf (Elt Ideal) ℓ) (c : Dev nD)

/-- The residual. -/
abbrev argX : FVec Ideal S1024x1024 .f32 := m ((c : Thread nD τ).loc main_arg0)
/-- The gains of the layers' first norms. -/
abbrev argG : FVec Ideal S2x1024 .f32 := m ((c : Thread nD τ).loc main_arg1)
/-- The matrix to the queries' latents. -/
abbrev argDQ : FVec Ideal S1x1024x512 .f32 := m ((c : Thread nD τ).loc main_arg2)
/-- The gains of the queries' latents. -/
abbrev argQN : FVec Ideal S1x512 .f32 := m ((c : Thread nD τ).loc main_arg3)
/-- The matrix from the queries' latents. -/
abbrev argUQ : FVec Ideal S1x512x1536 .f32 := m ((c : Thread nD τ).loc main_arg4)
/-- The matrix to the latents of keys and values and the rotary key. -/
abbrev argDKV : FVec Ideal S1x1024x288 .f32 := m ((c : Thread nD τ).loc main_arg5)
/-- The gains of the latents of keys and values. -/
abbrev argKVN : FVec Ideal S1x256 .f32 := m ((c : Thread nD τ).loc main_arg6)
/-- The matrix to the keys. -/
abbrev argUK : FVec Ideal S1x256x16x64 .f32 := m ((c : Thread nD τ).loc main_arg7)

/-- Where the blocks lie at a point of the grid. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0, 0] ∧ win0_7.index t = ![0, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![t.val, 0, 0] ∧ win0_15.index t = ![t.val, 0, 0]
    ∧ win0_16.index t = ![t.val, 0] ∧ win0_17.index t = ![t.val, 0] :=
  (by decide +kernel : ∀ t : Fin grid0.N, _)

theorem point_lt (t : Fin cfg0.N) : t.val < 2 := t.isLt

theorem emb0 (t : Fin cfg0.N) (q : Fin 512) (k : Fin 1024) :
    ((cfg0.win 0).blk t).view.emb (ix2 q k : S512x1024.Idx) = (ix2 ⟨512 * t.val + q, by have := point_lt t; omega⟩ k : S1024x1024.Idx) := by
  blk_ext [idx t]
theorem emb1 (t : Fin cfg0.N) (k : Fin 1024) : ((cfg0.win 1).blk t).view.emb (ix2 0 k : S1x1024.Idx) = (ix2 0 k : S1x1024.Idx) := by
  blk_ext [idx t]
theorem emb2 (t : Fin cfg0.N) (i : Fin 1024) (k : Fin 512) : ((cfg0.win 2).blk t).view.emb (ix2 i k : S1024x512.Idx) = (ix2 i k : S1024x512.Idx) := by
  blk_ext [idx t]
theorem emb3 (t : Fin cfg0.N) (k : Fin 512) : ((cfg0.win 3).blk t).view.emb (ix2 0 k : S1x512.Idx) = (ix2 0 k : S1x512.Idx) := by
  blk_ext [idx t]
theorem emb4 (t : Fin cfg0.N) (h : Fin 16) (i : Fin 512) (k : Fin 64) : ((cfg0.win 4).blk t).view.emb (ix3 h i k : S16x512x64.Idx) = (ix3 h i k : S16x512x64.Idx) := by
  blk_ext [idx t]
theorem emb5 (t : Fin cfg0.N) (h : Fin 16) (i : Fin 512) (k : Fin 32) : ((cfg0.win 5).blk t).view.emb (ix3 h i k : S16x512x32.Idx) = (ix3 h i k : S16x512x32.Idx) := by
  blk_ext [idx t]
theorem emb6 (t : Fin cfg0.N) (h : Fin 16) (i : Fin 512) (k : Fin 32) : ((cfg0.win 6).blk t).view.emb (ix3 h i k : S16x512x32.Idx) = (ix3 h i k : S16x512x32.Idx) := by
  blk_ext [idx t]
theorem emb7 (t : Fin cfg0.N) (h : Fin 16) (i : Fin 64) (k : Fin 256) : ((cfg0.win 7).blk t).view.emb (ix3 h i k : S16x64x256.Idx) = (ix3 h i k : S16x64x256.Idx) := by
  blk_ext [idx t]
theorem emb8 (t : Fin cfg0.N) (i : Fin 1024) (k : Fin 256) : ((cfg0.win 8).blk t).view.emb (ix2 i k : S1024x256.Idx) = (ix2 i k : S1024x256.Idx) := by
  blk_ext [idx t]
theorem emb9 (t : Fin cfg0.N) (k : Fin 256) : ((cfg0.win 9).blk t).view.emb (ix2 0 k : S1x256.Idx) = (ix2 0 k : S1x256.Idx) := by
  blk_ext [idx t]
theorem emb10 (t : Fin cfg0.N) (i : Fin 1024) (k : Fin 32) : ((cfg0.win 10).blk t).view.emb (ix2 i k : S1024x32.Idx) = (ix2 i k : S1024x32.Idx) := by
  blk_ext [idx t]
theorem emb11 (t : Fin cfg0.N) (i : Fin 1024) (k : Fin 32) : ((cfg0.win 11).blk t).view.emb (ix2 i k : S1024x32.Idx) = (ix2 i k : S1024x32.Idx) := by
  blk_ext [idx t]
theorem emb12 (t : Fin cfg0.N) (k : Fin 32) : ((cfg0.win 12).blk t).view.emb (ix2 0 k : S1x32.Idx) = (ix2 0 k : S1x32.Idx) := by
  blk_ext [idx t]
theorem emb13 (t : Fin cfg0.N) (k : Fin 32) : ((cfg0.win 13).blk t).view.emb (ix2 0 k : S1x32.Idx) = (ix2 0 k : S1x32.Idx) := by
  blk_ext [idx t]
theorem emb14 (t : Fin cfg0.N) (b : Fin 64) (r : Fin 128) (k : Fin 256) : ((cfg0.win 14).blk t).view.emb (ix3 b r k : S64x128x256.Idx)
    = (ix3 ⟨64 * t.val + b, by have := point_lt t; omega⟩ r k : S128x128x256.Idx) := by
  blk_ext [idx t]
theorem emb15 (t : Fin cfg0.N) (b : Fin 64) (r : Fin 128) (k : Fin 32) : ((cfg0.win 15).blk t).view.emb (ix3 b r k : S64x128x32.Idx)
    = (ix3 ⟨64 * t.val + b, by have := point_lt t; omega⟩ r k : S128x128x32.Idx) := by
  blk_ext [idx t]
theorem emb16 (t : Fin cfg0.N) (q : Fin 512) (k : Fin 256) : ((cfg0.win 16).blk t).view.emb (ix2 q k : S512x256.Idx)
    = (ix2 ⟨512 * t.val + q, by have := point_lt t; omega⟩ k : S1024x256.Idx) := by
  blk_ext [idx t]
theorem emb17 (t : Fin cfg0.N) (q : Fin 512) (k : Fin 32) : ((cfg0.win 17).blk t).view.emb (ix2 q k : S512x32.Idx)
    = (ix2 ⟨512 * t.val + q, by have := point_lt t; omega⟩ k : S1024x32.Idx) := by
  blk_ext [idx t]

/-- The tokens of a block. -/
theorem x_at (t : Fin cfg0.N) (q : Fin 512) (k : Fin 1024) : (iblk m c 0 t : Vec Ideal S512x1024 .f32) (ix2 q k) = argX m c (ix2 ⟨512 * t.val + q, by have := point_lt t; omega⟩ k) := by
  refine (congrArg (V m c main_arg0 : Vec Ideal S1024x1024 .f32) (emb0 t q k)).trans ?_
  rw [V_main_arg0]
/-- The second layer's gain. -/
theorem g_at (t : Fin cfg0.N) (k : Fin 1024) : (iblk m c 1 t : Vec Ideal S1x1024 .f32) (ix2 0 k) = argG m c (ix2 1 k) := by
  refine (congrArg (V m c main_v45 : Vec Ideal S1x1024 .f32) (emb1 t k)).trans ?_
  simp only [V, hostOps0, hostOps0_1, hostOps0_2, hostOps0_3, hostOps0_4, List.flatten_cons, List.flatten_nil, List.append_nil, List.cons_append, List.nil_append]
  entry_read
  pointwise
/-- The matrix to the queries' latents. -/
theorem dq_at (t : Fin cfg0.N) (i : Fin 1024) (k : Fin 512) : (iblk m c 2 t : Vec Ideal S1024x512 .bf16) (ix2 i k) = argDQ m c (ix3 0 i k) := by
  refine (congrArg (V m c main_v47 : Vec Ideal S1024x512 .bf16) (emb2 t i k)).trans ?_
  simp only [V, hostOps0, hostOps0_1, hostOps0_2, hostOps0_3, hostOps0_4, List.flatten_cons, List.flatten_nil, List.append_nil, List.cons_append, List.nil_append]
  entry_read
  pointwise
/-- The gains of the queries' latents. -/
theorem qn_at (t : Fin cfg0.N) (k : Fin 512) : (iblk m c 3 t : Vec Ideal S1x512 .f32) (ix2 0 k) = argQN m c (ix2 0 k) := by
  refine (congrArg (V m c main_v49 : Vec Ideal S1x512 .f32) (emb3 t k)).trans ?_
  simp only [V, hostOps0, hostOps0_1, hostOps0_2, hostOps0_3, hostOps0_4, List.flatten_cons, List.flatten_nil, List.append_nil, List.cons_append, List.nil_append]
  entry_read
  pointwise
/-- The gains of the latents of keys and values. -/
theorem kvn_at (t : Fin cfg0.N) (k : Fin 256) : (iblk m c 9 t : Vec Ideal S1x256 .f32) (ix2 0 k) = argKVN m c (ix2 0 k) := by
  refine (congrArg (V m c main_v51 : Vec Ideal S1x256 .f32) (emb9 t k)).trans ?_
  simp only [V, hostOps0, hostOps0_1, hostOps0_2, hostOps0_3, hostOps0_4, List.flatten_cons, List.flatten_nil, List.append_nil, List.cons_append, List.nil_append]
  entry_read
  pointwise
/-- A head's first 64 columns of the matrix from the queries' latents. -/
theorem nope_at (t : Fin cfg0.N) (h : Fin 16) (i : Fin 512) (k : Fin 64) : (iblk m c 4 t : Vec Ideal S16x512x64 .bf16) (ix3 h i k) = argUQ m c (ix3 0 i ⟨h * 96 + k, by omega⟩) := by
  refine (congrArg (V m c main_v7 : Vec Ideal S16x512x64 .bf16) (emb4 t h i k)).trans ?_
  simp only [V, hostOps0, hostOps0_1, hostOps0_2, hostOps0_3, hostOps0_4, List.flatten_cons, List.flatten_nil, List.append_nil, List.cons_append, List.nil_append]
  entry_read
  pointwise
/-- A head's rotary columns. -/
theorem rope_at (t : Fin cfg0.N) (h : Fin 16) (i : Fin 512) (k : Fin 32) : (iblk m c 5 t : Vec Ideal S16x512x32 .bf16) (ix3 h i k) = argUQ m c (ix3 0 i ⟨h * 96 + (64 + k), by omega⟩) := by
  refine (congrArg (V m c main_v9 : Vec Ideal S16x512x32 .bf16) (emb5 t h i k)).trans ?_
  simp only [V, hostOps0, hostOps0_1, hostOps0_2, hostOps0_3, hostOps0_4, List.flatten_cons, List.flatten_nil, List.append_nil, List.cons_append, List.nil_append]
  entry_read
  pointwise
/-- A head's rotary columns, each in its partner's place. -/
theorem swap_at (t : Fin cfg0.N) (h : Fin 16) (i : Fin 512) (k : Fin 32) : (iblk m c 6 t : Vec Ideal S16x512x32 .bf16) (ix3 h i k) = argUQ m c (ix3 0 i ⟨h * 96 + (64 + other k), by omega⟩) := by
  refine (congrArg (V m c main_v14 : Vec Ideal S16x512x32 .bf16) (emb6 t h i k)).trans ?_
  simp only [V, hostOps0, hostOps0_1, hostOps0_2, hostOps0_3, hostOps0_4, List.flatten_cons, List.flatten_nil, List.append_nil, List.cons_append, List.nil_append]
  entry_read
  pointwise
  unfold other
  split <;> rfl
/-- The matrix to the keys, by heads. -/
theorem uk_at (t : Fin cfg0.N) (h : Fin 16) (i : Fin 64) (k : Fin 256) : (iblk m c 7 t : Vec Ideal S16x64x256 .bf16) (ix3 h i k) = argUK m c (ix4 0 k h i) := by
  refine (congrArg (V m c main_v16 : Vec Ideal S16x64x256 .bf16) (emb7 t h i k)).trans ?_
  simp only [V, hostOps0, hostOps0_1, hostOps0_2, hostOps0_3, hostOps0_4, List.flatten_cons, List.flatten_nil, List.append_nil, List.cons_append, List.nil_append]
  entry_read
  pointwise
/-- The columns of the latents of keys and values. -/
theorem ckv_at (t : Fin cfg0.N) (i : Fin 1024) (k : Fin 256) : (iblk m c 8 t : Vec Ideal S1024x256 .bf16) (ix2 i k) = argDKV m c (ix3 0 i ⟨k, by omega⟩) := by
  refine (congrArg (V m c main_v18 : Vec Ideal S1024x256 .bf16) (emb8 t i k)).trans ?_
  simp only [V, hostOps0, hostOps0_1, hostOps0_2, hostOps0_3, hostOps0_4, List.flatten_cons, List.flatten_nil, List.append_nil, List.cons_append, List.nil_append]
  entry_read
  pointwise
/-- The columns of the rotary key. -/
theorem kpe_at (t : Fin cfg0.N) (i : Fin 1024) (k : Fin 32) : (iblk m c 10 t : Vec Ideal S1024x32 .bf16) (ix2 i k) = argDKV m c (ix3 0 i ⟨256 + k, by omega⟩) := by
  refine (congrArg (V m c main_v20 : Vec Ideal S1024x32 .bf16) (emb10 t i k)).trans ?_
  simp only [V, hostOps0, hostOps0_1, hostOps0_2, hostOps0_3, hostOps0_4, List.flatten_cons, List.flatten_nil, List.append_nil, List.cons_append, List.nil_append]
  entry_read
  pointwise
/-- The columns of the rotary key, each in its partner's place. -/
theorem kswap_at (t : Fin cfg0.N) (i : Fin 1024) (k : Fin 32) : (iblk m c 11 t : Vec Ideal S1024x32 .bf16) (ix2 i k) = argDKV m c (ix3 0 i ⟨256 + other k, by omega⟩) := by
  refine (congrArg (V m c main_v25 : Vec Ideal S1024x32 .bf16) (emb11 t i k)).trans ?_
  simp only [V, hostOps0, hostOps0_1, hostOps0_2, hostOps0_3, hostOps0_4, List.flatten_cons, List.flatten_nil, List.append_nil, List.cons_append, List.nil_append]
  entry_read
  pointwise
  unfold other
  split <;> rfl
/-- The frequencies. -/
theorem freq_at (t : Fin cfg0.N) (k : Fin 32) : (iblk m c 12 t : Vec Ideal S1x32 .f32) (ix2 0 k) = pairFreq k := by
  refine (congrArg (V m c main_v35 : Vec Ideal S1x32 .f32) (emb12 t k)).trans ?_
  simp only [V, hostOps0, hostOps0_1, hostOps0_2, hostOps0_3, hostOps0_4, List.flatten_cons, List.flatten_nil, List.append_nil, List.cons_append, List.nil_append]
  entry_read
  pointwise
  rfl
/-- The signs. -/
theorem sign_at (t : Fin cfg0.N) (k : Fin 32) : (iblk m c 13 t : Vec Ideal S1x32 .f32) (ix2 0 k) = pairSign k := by
  refine (congrArg (V m c main_v40 : Vec Ideal S1x32 .f32) (emb13 t k)).trans ?_
  simp only [V, hostOps0, hostOps0_1, hostOps0_2, hostOps0_3, hostOps0_4, List.flatten_cons, List.flatten_nil, List.append_nil, List.cons_append, List.nil_append]
  entry_read
  pointwise
  rfl

end Cert.Kernel6Ideal.Lat

end
-- ==== Proof.LatStages.lean ====
/- The reference of the latent projections of the sample batch, its stages one by one. -/
module

public import proofs.«01_k».proof.Proof.Rows
public import proofs.«01_k».proof.Proof.Gen.Reference6Ideal.Run
public import Idealize.ShloMosaic.Lib.Pipeline.ValueKit

@[expose] public section

set_option maxRecDepth 16384

noncomputable section

namespace Cert.Reference6Ideal.Lat

open Idealize.ShloMosaic Idealize.ShloMosaic.TcCoe Idealize.SL.Sem
open Cert.Reference6Ideal Cert.Reference6Ideal.Gen Cert.Reference6Ideal.Value Cert.Rows

variable (x0 : FVec Ideal S1024x1024 .f32) (x1 : FVec Ideal S2x1024 .f32) (x2 : FVec Ideal S1x1024x512 .f32) (x3 : FVec Ideal S1x512 .f32) (x4 : FVec Ideal S1x512x1536 .f32) (x5 : FVec Ideal S1x1024x288 .f32) (x6 : FVec Ideal S1x256 .f32) (x7 : FVec Ideal S1x256x16x64 .f32)

/-- The layer's input, by sequence. -/
def X3 : FVec Ideal S128x8x1024 .f32 := shapeCast _ x0 shapeCasts_S1024x1024_S128x8x1024
/-- The layer's input, normalised. -/
def U : FVec Ideal S128x8x1024 .f32 := mulf (mulf (X3 x0) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (X3 x0) (X3 x0)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ (extractStridedSlice S1x1024 ![1, 0] x1 slices_S2x1024_S1x1024_1_0) shapeCasts_S1x1024_S1024)))
/-- The latents of the queries. -/
def DQ : FVec Ideal S128x8x512 .f32 := Host.dotGeneral dot_S128x8x1024_S1024x512_S128x8x512_2_0_01_1_n_n none (U x0 x1) (shapeCast _ x2 shapeCasts_S1x1024x512_S1024x512)
/-- The latents of the queries, normalised. -/
def CQ : FVec Ideal S128x8x512 .f32 := mulf (mulf (DQ x0 x1 x2) (broadcastInDim S128x8x512 ![0, 1, 2] bcast_S128x8x1_S128x8x512_0_1_2 (Host.rsqrt (addf (Host.divf (broadcastInDim S128x8x1 ![0, 1] bcast_S128x8_S128x8x1_0_1 (Host.reduceAdd (mulf (DQ x0 x1 x2) (DQ x0 x1 x2)) (constant S_ .f32 0x00000000#32) reducesTo_S128x8x512_S128x8_d2 h_S_)) (broadcastInDim S128x8x1 ![] bcast_S_S128x8x1 (constant S_ .f32 0x44000000#32))) (broadcastInDim S128x8x1 ![] bcast_S_S128x8x1 (constant S_ .f32 0x358637BD#32)))))) (broadcastInDim S128x8x512 ![0, 1, 2] bcast_S1x1x512_S128x8x512_0_1_2 (broadcastInDim S1x1x512 ![2] bcast_S512_S1x1x512_2 (shapeCast _ x3 shapeCasts_S1x512_S512)))
/-- The queries of every head. -/
def QH : FVec Ideal S128x8x16x96 .f32 := shapeCast _ (Host.dotGeneral dot_S128x8x512_S512x1536_S128x8x1536_2_0_01_1_n_n none (CQ x0 x1 x2 x3) (shapeCast _ x4 shapeCasts_S1x512x1536_S512x1536)) shapeCasts_S128x8x1536_S128x8x16x96
/-- The latents of keys and values and the rotary keys, side by side. -/
def KV : FVec Ideal S128x8x288 .f32 := Host.dotGeneral dot_S128x8x1024_S1024x288_S128x8x288_2_0_01_1_n_n none (U x0 x1) (shapeCast _ x5 shapeCasts_S1x1024x288_S1024x288)
/-- The latents of keys and values. -/
def KVL : FVec Ideal S128x8x256 .f32 := extractStridedSlice S128x8x256 ![0, 0, 0] (KV x0 x1 x5) slices_S128x8x288_S128x8x256_0_0_0
/-- The latents of keys and values, normalised. -/
def CKV : FVec Ideal S128x8x256 .f32 := mulf (mulf (KVL x0 x1 x5) (broadcastInDim S128x8x256 ![0, 1, 2] bcast_S128x8x1_S128x8x256_0_1_2 (Host.rsqrt (addf (Host.divf (broadcastInDim S128x8x1 ![0, 1] bcast_S128x8_S128x8x1_0_1 (Host.reduceAdd (mulf (KVL x0 x1 x5) (KVL x0 x1 x5)) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 (shapeCast _ x6 shapeCasts_S1x256_S256)))
/-- The frequencies of the rotation. -/
def INV : FVec Ideal S16 .f32 := Host.powf (broadcastInDim S16 ![] bcast_S_S16 (constant S_ .f32 0x461C4000#32)) (Host.divf (mulf (Host.negf (sitofp .f32 (iotaInDim S16 32 0))) (broadcastInDim S16 ![] bcast_S_S16 (constant S_ .f32 0x40000000#32))) (broadcastInDim S16 ![] bcast_S_S16 (constant S_ .f32 0x42000000#32)))
/-- The angle of a position and a frequency. -/
def ANG : FVec Ideal S8x1x16 .f32 := broadcastInDim S8x1x16 ![0, 2] bcast_S8x16_S8x1x16_0_2 (mulf (broadcastInDim S8x16 ![0, 1] bcast_S8x1_S8x16_0_1 (broadcastInDim S8x1 ![0] bcast_S8_S8x1_0 (sitofp .f32 (addi (broadcastInDim S8 ![] bcast_S_S8 (constantI S_ 32 16384#32)) (iotaInDim S8 32 0))))) (broadcastInDim S8x16 ![0, 1] bcast_S1x16_S8x16_0_1 (broadcastInDim S1x16 ![1] bcast_S16_S1x16_1 INV)))
/-- The angles' cosines. -/
def COS : FVec Ideal S1x8x1x16 .f32 := broadcastInDim S1x8x1x16 ![1, 2, 3] bcast_S8x1x16_S1x8x1x16_1_2_3 (Host.cos ANG)
/-- The angles' sines. -/
def SIN : FVec Ideal S1x8x1x16 .f32 := broadcastInDim S1x8x1x16 ![1, 2, 3] bcast_S8x1x16_S1x8x1x16_1_2_3 (Host.sin ANG)
/-- The rotary keys before the rotation. -/
def KR : FVec Ideal S128x8x1x32 .f32 := broadcastInDim S128x8x1x32 ![0, 1, 3] bcast_S128x8x32_S128x8x1x32_0_1_3 (extractStridedSlice S128x8x32 ![0, 0, 256] (KV x0 x1 x5) slices_S128x8x288_S128x8x32_0_0_256)
/-- The rotary part of the queries before the rotation. -/
def QR : FVec Ideal S128x8x16x32 .f32 := extractStridedSlice S128x8x16x32 ![0, 0, 0, 64] (QH x0 x1 x2 x3 x4) slices_S128x8x16x96_S128x8x16x32_0_0_0_64
/-- The rotary keys. -/
def KPE : FVec Ideal S128x8x1x32 .f32 := concatenate S128x8x1x32 3 [⟨S128x8x1x16, (subf (mulf (extractStridedSlice S128x8x1x16 ![0, 0, 0, 0] (KR x0 x1 x5) slices_S128x8x1x32_S128x8x1x16_0_0_0_0) (broadcastInDim S128x8x1x16 ![0, 1, 2, 3] bcast_S1x8x1x16_S128x8x1x16_0_1_2_3 COS)) (mulf (extractStridedSlice S128x8x1x16 ![0, 0, 0, 16] (KR x0 x1 x5) slices_S128x8x1x32_S128x8x1x16_0_0_0_16) (broadcastInDim S128x8x1x16 ![0, 1, 2, 3] bcast_S1x8x1x16_S128x8x1x16_0_1_2_3 SIN)))⟩, ⟨S128x8x1x16, (addf (mulf (extractStridedSlice S128x8x1x16 ![0, 0, 0, 16] (KR x0 x1 x5) slices_S128x8x1x32_S128x8x1x16_0_0_0_16) (broadcastInDim S128x8x1x16 ![0, 1, 2, 3] bcast_S1x8x1x16_S128x8x1x16_0_1_2_3 COS)) (mulf (extractStridedSlice S128x8x1x16 ![0, 0, 0, 0] (KR x0 x1 x5) slices_S128x8x1x32_S128x8x1x16_0_0_0_0) (broadcastInDim S128x8x1x16 ![0, 1, 2, 3] bcast_S1x8x1x16_S128x8x1x16_0_1_2_3 SIN)))⟩] concatenates_S128x8x1x16_S128x8x1x16_S128x8x1x32_d3
/-- The rotary part of the queries. -/
def QPE : FVec Ideal S128x8x16x32 .f32 := concatenate S128x8x16x32 3 [⟨S128x8x16x16, (subf (mulf (extractStridedSlice S128x8x16x16 ![0, 0, 0, 0] (QR x0 x1 x2 x3 x4) slices_S128x8x16x32_S128x8x16x16_0_0_0_0) (broadcastInDim S128x8x16x16 ![0, 1, 2, 3] bcast_S1x8x1x16_S128x8x16x16_0_1_2_3 COS)) (mulf (extractStridedSlice S128x8x16x16 ![0, 0, 0, 16] (QR x0 x1 x2 x3 x4) slices_S128x8x16x32_S128x8x16x16_0_0_0_16) (broadcastInDim S128x8x16x16 ![0, 1, 2, 3] bcast_S1x8x1x16_S128x8x16x16_0_1_2_3 SIN)))⟩, ⟨S128x8x16x16, (addf (mulf (extractStridedSlice S128x8x16x16 ![0, 0, 0, 16] (QR x0 x1 x2 x3 x4) slices_S128x8x16x32_S128x8x16x16_0_0_0_16) (broadcastInDim S128x8x16x16 ![0, 1, 2, 3] bcast_S1x8x1x16_S128x8x16x16_0_1_2_3 COS)) (mulf (extractStridedSlice S128x8x16x16 ![0, 0, 0, 0] (QR x0 x1 x2 x3 x4) slices_S128x8x16x32_S128x8x16x16_0_0_0_0) (broadcastInDim S128x8x16x16 ![0, 1, 2, 3] bcast_S1x8x1x16_S128x8x16x16_0_1_2_3 SIN)))⟩] concatenates_S128x8x16x16_S128x8x16x16_S128x8x16x32_d3
/-- The queries in the latent space. -/
def QLAT : FVec Ideal S128x8x16x256 .f32 := transpose S128x8x16x256 [2, 3, 0, 1] (Host.dotGeneral dot_S256x16x64_S128x8x16x64_S16x256x128x8_2_3_0_01_1_2 none (shapeCast _ x7 shapeCasts_S1x256x16x64_S256x16x64) (extractStridedSlice S128x8x16x64 ![0, 0, 0, 0] (QH x0 x1 x2 x3 x4) slices_S128x8x16x96_S128x8x16x64_0_0_0_0)) transposes_S16x256x128x8_S128x8x16x256_2_3_0_1
/-- The call's queries in the latent space: scaled, heads before positions. -/
def QL : FVec Ideal S128x128x256 .f32 := shapeCast _ (transpose S128x16x8x256 [0, 2, 1, 3] (mulf (QLAT x0 x1 x2 x3 x4 x7) (broadcastInDim S128x8x16x256 ![] bcast_S_S128x8x16x256 (constant S_ .f32 0x3E16C740#32))) transposes_S128x8x16x256_S128x16x8x256_0_2_1_3) shapeCasts_S128x16x8x256_S128x128x256
/-- The call's rotary queries: scaled, heads before positions. -/
def QP : FVec Ideal S128x128x32 .f32 := shapeCast _ (transpose S128x16x8x32 [0, 2, 1, 3] (mulf (QPE x0 x1 x2 x3 x4) (broadcastInDim S128x8x16x32 ![] bcast_S_S128x8x16x32 (constant S_ .f32 0x3E16C740#32))) transposes_S128x8x16x32_S128x16x8x32_0_2_1_3) shapeCasts_S128x16x8x32_S128x128x32
/-- The latents of keys and values by token, normalised. -/
def CKV2 : FVec Ideal S1024x256 .f32 := shapeCast _ (CKV x0 x1 x5 x6) shapeCasts_S128x8x256_S1024x256
/-- The rotary keys by token. -/
def KPE2 : FVec Ideal S1024x32 .f32 := shapeCast _ (KPE x0 x1 x5) shapeCasts_S128x8x1x32_S1024x32

section Results

variable (m : (ℓ : Loc nD τ sig) → Buf (Elt Ideal) ℓ) (c : Dev nD)

theorem out0 : res_out0 (F := Ideal) m c = QL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) := rfl
theorem out1 : res_out1 (F := Ideal) m c = QP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem out2 : res_out2 (F := Ideal) m c = CKV2 (m ((c.tc : Thread nD τ).loc main_arg0)) (m ((c.tc : Thread nD τ).loc main_arg1)) (m ((c.tc : Thread nD τ).loc main_arg5)) (m ((c.tc : Thread nD τ).loc main_arg6)) := rfl
theorem out3 : res_out3 (F := Ideal) m c = KPE2 (m ((c.tc : Thread nD τ).loc main_arg0)) (m ((c.tc : Thread nD τ).loc main_arg1)) (m ((c.tc : Thread nD τ).loc main_arg5)) := rfl

end Results

end Cert.Reference6Ideal.Lat

end
-- ==== Proof.LatRef.lean ====
/- The reference of the latent projections of the sample batch, at an entry of a token. -/
module

public import proofs.«01_k».proof.Proof.LatRows
public import proofs.«01_k».proof.Proof.LatStages
public import Idealize.ShloMosaic.Lib.Pipeline.ValueKit

@[expose] public section

set_option maxRecDepth 16384

noncomputable section

namespace Cert.Reference6Ideal.Lat

open Idealize.ShloMosaic Idealize.ShloMosaic.TcCoe Idealize.SL.Sem
open Cert.Reference6Ideal Cert.Reference6Ideal.Gen Cert.Reference6Ideal.Value Cert.Rows

variable (x0 : FVec Ideal S1024x1024 .f32) (x1 : FVec Ideal S2x1024 .f32) (x2 : FVec Ideal S1x1024x512 .f32) (x3 : FVec Ideal S1x512 .f32) (x4 : FVec Ideal S1x512x1536 .f32) (x5 : FVec Ideal S1x1024x288 .f32) (x6 : FVec Ideal S1x256 .f32) (x7 : FVec Ideal S1x256x16x64 .f32)

/-- A token's row, normalised. -/
theorem U_at (b : Fin 128) (p : Fin 8) (j : Fin 1024) : U x0 x1 (ix3 b p j)
    = norm (fun k => x0 (ix2 ⟨b * 8 + p, by omega⟩ k)) (fun k => x1 (ix2 1 k)) j := by
  pointwise [U, X3]
  rfl
theorem DQ_at (b : Fin 128) (p : Fin 8) (j : Fin 512) : DQ x0 x1 x2 (ix3 b p j)
    = dot (fun k => U x0 x1 (ix3 b p k)) (fun i k => x2 (ix3 0 i k)) j := by
  pointwise [DQ]
  rfl
theorem CQ_at (b : Fin 128) (p : Fin 8) (j : Fin 512) : CQ x0 x1 x2 x3 (ix3 b p j)
    = queryLatent (fun k => U x0 x1 (ix3 b p k)) (fun i k => x2 (ix3 0 i k)) (fun k => x3 (ix2 0 k)) j := by
  pointwise [CQ]
  simp only [DQ_at]
  rfl
theorem QH_at (b : Fin 128) (p : Fin 8) (h : Fin 16) (j : Fin 96) : QH x0 x1 x2 x3 x4 (ix4 b p h j)
    = dot (fun k => CQ x0 x1 x2 x3 (ix3 b p k)) (fun i k => x4 (ix3 0 i k)) ⟨h * 96 + j, by omega⟩ := by
  pointwise [QH]
  rfl
theorem KV_at (b : Fin 128) (p : Fin 8) (j : Fin 288) : KV x0 x1 x5 (ix3 b p j)
    = dot (fun k => U x0 x1 (ix3 b p k)) (fun i k => x5 (ix3 0 i k)) j := by
  pointwise [KV]
  rfl
theorem KVL_at (b : Fin 128) (p : Fin 8) (j : Fin 256) : KVL x0 x1 x5 (ix3 b p j) = KV x0 x1 x5 (ix3 b p ⟨j, by omega⟩) := by
  pointwise [KVL]
theorem CKV_at (b : Fin 128) (p : Fin 8) (j : Fin 256) : CKV x0 x1 x5 x6 (ix3 b p j)
    = keyLatent (fun k => U x0 x1 (ix3 b p k)) (fun i k => x5 (ix3 0 i k)) (fun k => x6 (ix2 0 k)) j := by
  pointwise [CKV]
  simp only [KVL_at, KV_at]
  rfl
theorem INV_at (i : Fin 16) : INV (ix1 i) = freq i := by
  pointwise [INV]
  rfl
theorem ANG_at (p : Fin 8) (i : Fin 16) : ANG (ix3 p 0 i) = angle (16384 + p) i := by
  pointwise [ANG]
  rw [INV_at]
  unfold angle
  rw [show IntOp.addi 16384#32 (BitVec.ofNat 32 p.val) = BitVec.ofNat 32 (16384 + p.val) from (BitVec.ofNat_add ..).symm]
theorem COS_at (p : Fin 8) (i : Fin 16) : COS (ix4 0 p 0 i) = Ideal.cos (angle (16384 + p) i) := by
  pointwise [COS]
  rw [ANG_at]
theorem SIN_at (p : Fin 8) (i : Fin 16) : SIN (ix4 0 p 0 i) = Ideal.sin (angle (16384 + p) i) := by
  pointwise [SIN]
  rw [ANG_at]
theorem KR_at (b : Fin 128) (p : Fin 8) (j : Fin 32) : KR x0 x1 x5 (ix4 b p 0 j) = KV x0 x1 x5 (ix3 b p ⟨256 + j, by omega⟩) := by
  pointwise [KR]
theorem QR_at (b : Fin 128) (p : Fin 8) (h : Fin 16) (j : Fin 32) : QR x0 x1 x2 x3 x4 (ix4 b p h j) = QH x0 x1 x2 x3 x4 (ix4 b p h ⟨64 + j, by omega⟩) := by
  pointwise [QR]
theorem KPE_at (b : Fin 128) (p : Fin 8) (j : Fin 32) : KPE x0 x1 x5 (ix4 b p 0 j)
    = turned (16384 + p) (fun k => dot (fun i => U x0 x1 (ix3 b p i)) (fun i k => x5 (ix3 0 i k)) ⟨256 + k, by omega⟩) j := by
  pointwise [KPE]
  simp only [KR_at, COS_at, SIN_at, KV_at]
  unfold turned
  split
  · rfl
  · simp only [show 16 + (j.val - 16) = j.val by omega]
theorem QPE_at (b : Fin 128) (p : Fin 8) (h : Fin 16) (j : Fin 32) : QPE x0 x1 x2 x3 x4 (ix4 b p h j)
    = turned (16384 + p) (fun k => dot (fun i => CQ x0 x1 x2 x3 (ix3 b p i)) (fun i k => x4 (ix3 0 i k)) ⟨h * 96 + (64 + k), by omega⟩) j := by
  pointwise [QPE]
  simp only [QR_at, COS_at, SIN_at, QH_at]
  unfold turned
  split
  · rfl
  · simp only [show 16 + (j.val - 16) = j.val by omega]
theorem QLAT_at (b : Fin 128) (p : Fin 8) (h : Fin 16) (j : Fin 256) : QLAT x0 x1 x2 x3 x4 x7 (ix4 b p h j)
    = dot (fun n : Fin 64 => QH x0 x1 x2 x3 x4 (ix4 b p h ⟨n, by omega⟩)) (fun n k => x7 (ix4 0 k h n)) j := by
  pointwise [QLAT]
  exact Finset.sum_congr rfl fun _ _ => mul_comm _ _
/-- The queries in the latent space, laid out by heads. -/
theorem QL_at (b : Fin 128) (r : Fin 128) (j : Fin 256) : QL x0 x1 x2 x3 x4 x7 (ix3 b r j)
    = latentQuery (fun k => CQ x0 x1 x2 x3 (ix3 b ⟨r % 8, by omega⟩ k)) (fun i k => x4 (ix3 0 i k)) (fun i h k => x7 (ix4 0 i h k)) ⟨r / 8, by omega⟩ j := by
  pointwise [QL]
  simp only [QLAT_at, QH_at]
  rfl
/-- The rotary queries, laid out by heads. -/
theorem QP_at (b : Fin 128) (r : Fin 128) (j : Fin 32) : QP x0 x1 x2 x3 x4 (ix3 b r j)
    = rotaryQuery (16384 + r % 8) (fun k => CQ x0 x1 x2 x3 (ix3 b ⟨r % 8, by omega⟩ k)) (fun i k => x4 (ix3 0 i k)) ⟨r / 8, by omega⟩ j := by
  pointwise [QP]
  simp only [QPE_at]
  rfl
theorem CKV2_at (r : Fin 1024) (j : Fin 256) : CKV2 x0 x1 x5 x6 (ix2 r j) = CKV x0 x1 x5 x6 (ix3 ⟨r / 8, by omega⟩ ⟨r % 8, by omega⟩ j) := by
  pointwise [CKV2]
theorem KPE2_at (r : Fin 1024) (j : Fin 32) : KPE2 x0 x1 x5 (ix2 r j) = KPE x0 x1 x5 (ix4 ⟨r / 8, by omega⟩ ⟨r % 8, by omega⟩ 0 j) := by
  pointwise [KPE2]

end Cert.Reference6Ideal.Lat

end
-- ==== Proof.LatFinal.lean ====
/- The arrays that the kernel of the sample batch's latent projections leaves are the reference's. -/
module

public import proofs.«01_k».proof.Proof.LatHost
public import proofs.«01_k».proof.Proof.LatRef

@[expose] public section

set_option maxRecDepth 16384

noncomputable section

namespace Cert.Kernel6Ideal.Lat

open Idealize.ShloMosaic Idealize.ShloMosaic.TcCoe Idealize.ShloMosaic.StableHlo Idealize.SL.Sem
open Idealize.ShloMosaic.Pipeline (Dat)
open Cert.Kernel6Ideal Cert.Kernel6Ideal.Gen Cert.Rows
open Cert.Reference6Ideal.Lat (U_at CQ_at CKV_at KPE_at QL QL_at QP QP_at CKV2 CKV2_at KPE2 KPE2_at)

variable (m : (ℓ : Loc nD τ sig) → Buf (Elt Ideal) ℓ) (c : Dev nD)

/-- A token's place among all tokens, from its sequence and its position. -/
theorem row_eq (t : Fin cfg0.N) (b : Fin 64) (r : Fin 128) : 512 * t.val + (8 * b.val + r.val % 8) = (64 * t.val + b.val) * 8 + r.val % 8 := by omega
theorem place_eq (t : Fin cfg0.N) (q : Fin 512) : (512 * t.val + q.val) / 8 * 8 + q.val % 8 = 512 * t.val + q.val := by omega
theorem position_eq (t : Fin cfg0.N) (q : Fin 512) : (512 * t.val + q.val) % 8 = q.val % 8 := by omega

/-- The queries in the latent space are the reference's. -/
theorem final14 : (dats m 0 c).arrAt 14 cfg0.N = QL (argX m c) (argG m c) (argDQ m c) (argQN m c) (argUQ m c) (argUK m c) := by
  refine (dats m 0 c).arrAt_eq_of_covers 14 _ (by decide +kernel) fun t _ y => ?_
  obtain ⟨b, r, j, rfl⟩ : ∃ (b : Fin 64) (r : Fin 128) (j : Fin 256), y = (ix3 b r j : S64x128x256.Idx) := ⟨y 0, y 1, y 2, eq_ix3 (n0 := 64) (n1 := 128) (n2 := 256) y⟩
  refine Eq.trans ?_ (congrArg (QL (argX m c) (argG m c) (argDQ m c) (argQN m c) (argUQ m c) (argUK m c)) (emb14 t b r j)).symm
  rw [QL_at]
  blk_simp
  rw [after0_14]
  refine (block14 _ _ _ _ _ _ _ _ _ _ _ _ _ _ (fun i k => argUQ m c (ix3 0 i k)) (fun i h k => argUK m c (ix4 0 i h k)) (nope_at m c t) (uk_at m c t) b r j).trans ?_
  simp only [CQ_at, CKV_at, KPE_at, U_at, row_eq, place_eq, position_eq, x_at, g_at, dq_at, qn_at, kvn_at]
/-- The rotary queries are the reference's. -/
theorem final15 : (dats m 0 c).arrAt 15 cfg0.N = QP (argX m c) (argG m c) (argDQ m c) (argQN m c) (argUQ m c) := by
  refine (dats m 0 c).arrAt_eq_of_covers 15 _ (by decide +kernel) fun t _ y => ?_
  obtain ⟨b, r, j, rfl⟩ : ∃ (b : Fin 64) (r : Fin 128) (j : Fin 32), y = (ix3 b r j : S64x128x32.Idx) := ⟨y 0, y 1, y 2, eq_ix3 (n0 := 64) (n1 := 128) (n2 := 32) y⟩
  refine Eq.trans ?_ (congrArg (QP (argX m c) (argG m c) (argDQ m c) (argQN m c) (argUQ m c)) (emb15 t b r j)).symm
  rw [QP_at]
  blk_simp
  rw [after0_15]
  refine (block15 _ _ _ _ _ _ _ _ _ _ _ _ _ _ (fun i k => argUQ m c (ix3 0 i k)) (rope_at m c t) (swap_at m c t) (freq_at m c t) (sign_at m c t) b r j).trans ?_
  simp only [CQ_at, CKV_at, KPE_at, U_at, row_eq, place_eq, position_eq, x_at, g_at, dq_at, qn_at, kvn_at]
/-- The latents of keys and values are the reference's. -/
theorem final16 : (dats m 0 c).arrAt 16 cfg0.N = CKV2 (argX m c) (argG m c) (argDKV m c) (argKVN m c) := by
  refine (dats m 0 c).arrAt_eq_of_covers 16 _ (by decide +kernel) fun t _ y => ?_
  obtain ⟨q, j, rfl⟩ : ∃ (q : Fin 512) (j : Fin 256), y = (ix2 q j : S512x256.Idx) := ⟨y 0, y 1, eq_ix2 (n0 := 512) (n1 := 256) y⟩
  refine Eq.trans ?_ (congrArg (CKV2 (argX m c) (argG m c) (argDKV m c) (argKVN m c)) (emb16 t q j)).symm
  rw [CKV2_at]
  blk_simp
  rw [after0_16]
  refine (block16 _ _ _ _ _ _ _ _ _ _ _ _ _ _ (fun i k => argDKV m c (ix3 0 i k)) (ckv_at m c t) q j).trans ?_
  simp only [CQ_at, CKV_at, KPE_at, U_at, row_eq, place_eq, position_eq, x_at, g_at, dq_at, qn_at, kvn_at]
/-- The rotary keys are the reference's. -/
theorem final17 : (dats m 0 c).arrAt 17 cfg0.N = KPE2 (argX m c) (argG m c) (argDKV m c) := by
  refine (dats m 0 c).arrAt_eq_of_covers 17 _ (by decide +kernel) fun t _ y => ?_
  obtain ⟨q, j, rfl⟩ : ∃ (q : Fin 512) (j : Fin 32), y = (ix2 q j : S512x32.Idx) := ⟨y 0, y 1, eq_ix2 (n0 := 512) (n1 := 32) y⟩
  refine Eq.trans ?_ (congrArg (KPE2 (argX m c) (argG m c) (argDKV m c)) (emb17 t q j)).symm
  rw [KPE2_at]
  blk_simp
  rw [after0_17]
  refine (block17 _ _ _ _ _ _ _ _ _ _ _ _ _ _ (fun i k => argDKV m c (ix3 0 i k)) (kpe_at m c t) (kswap_at m c t) (freq_at m c t) (sign_at m c t) q j).trans ?_
  simp only [CQ_at, CKV_at, KPE_at, U_at, row_eq, place_eq, position_eq, x_at, g_at, dq_at, qn_at, kvn_at]

end Cert.Kernel6Ideal.Lat

end
-- ==== Proof.SampleInRef.lean ====
/- The reference of the first layer's projections for the sample batch, at an entry of a token. -/
module

public import proofs.«01_k».proof.Proof.Rows
public import proofs.«01_k».proof.Proof.Gen.Reference7Ideal.Run
public import Idealize.ShloMosaic.Lib.Pipeline.ValueKit

@[expose] public section

set_option maxRecDepth 16384

noncomputable section

namespace Cert.Reference7Ideal.In

open Idealize.ShloMosaic Idealize.ShloMosaic.TcCoe Idealize.SL.Sem
open Cert.Reference7Ideal Cert.Reference7Ideal.Gen Cert.Reference7Ideal.Value Cert.Rows

variable (x : FVec Ideal S128x8x1024 .f32) (g : FVec Ideal S2x1024 .f32) (w : FVec Ideal S1x1024x2816 .f32)

/-- All the projections, side by side, by sequence. -/
def Z3 : FVec Ideal S128x8x2816 .f32 := Host.dotGeneral dot_S128x8x1024_S1024x2816_S128x8x2816_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ (extractStridedSlice S1x1024 ![0, 0] g slices_S2x1024_S1x1024_0_0) shapeCasts_S1x1024_S1024)))) (shapeCast _ w shapeCasts_S1x1024x2816_S1024x2816)
/-- All the projections of all tokens, side by side. -/
def Z : FVec Ideal S1024x2816 .f32 := shapeCast _ (Z3 x g w) shapeCasts_S128x8x2816_S1024x2816

/-- The window attention's queries, scaled. -/
def QA : FVec Ideal S1024x512 .f32 :=
  mulf (extractStridedSlice S1024x512 ![0, 0] (Z x g w) slices_S1024x2816_S1024x512_0_0) (broadcastInDim S1024x512 ![] bcast_S_S1024x512 (constant S_ .f32 0x3E000000#32))
/-- The window attention's keys. -/
def KA : FVec Ideal S1024x128 .f32 := extractStridedSlice S1024x128 ![0, 512] (Z x g w) slices_S1024x2816_S1024x128_0_512
/-- The window attention's values. -/
def VA : FVec Ideal S1024x128 .f32 := extractStridedSlice S1024x128 ![0, 640] (Z x g w) slices_S1024x2816_S1024x128_0_640
/-- The recurrence's inputs. -/
def HG : FVec Ideal S1024x2048 .f32 := extractStridedSlice S1024x2048 ![0, 768] (Z x g w) slices_S1024x2816_S1024x2048_0_768

/-- A token's projections: its row, normalised, times the matrix. -/
theorem Z_at (r : Fin 1024) (j : Fin 2816) : Z x g w (ix2 r j)
    = dot (norm (fun k => x (ix3 ⟨r / 8, by omega⟩ ⟨r % 8, by omega⟩ k)) (fun k => g (ix2 0 k))) (fun i k => w (ix3 0 i k)) j := by
  pointwise [Z, Z3]
  rfl
theorem QA_at (r : Fin 1024) (j : Fin 512) : QA x g w (ix2 r j) = Z x g w (ix2 r ⟨j, by omega⟩) * Ideal.ofBits FTy.f32 0x3E000000#32 := by
  pointwise [QA]
theorem KA_at (r : Fin 1024) (j : Fin 128) : KA x g w (ix2 r j) = Z x g w (ix2 r ⟨512 + j, by omega⟩) := by
  pointwise [KA]
theorem VA_at (r : Fin 1024) (j : Fin 128) : VA x g w (ix2 r j) = Z x g w (ix2 r ⟨640 + j, by omega⟩) := by
  pointwise [VA]
theorem HG_at (r : Fin 1024) (j : Fin 2048) : HG x g w (ix2 r j) = Z x g w (ix2 r ⟨768 + j, by omega⟩) := by
  pointwise [HG]

end Cert.Reference7Ideal.In

end
-- ==== Proof.SampleInFinal.lean ====
/- The arrays that the kernel of the first layer's projections leaves for the sample batch are the reference's. -/
module

public import proofs.«01_k».proof.Proof.InBlock
public import proofs.«01_k».proof.Proof.Gen.Kernel7Ideal.Value
public import proofs.«01_k».proof.Proof.SampleInRef

@[expose] public section

set_option maxRecDepth 16384

noncomputable section

namespace Cert.Kernel7Ideal.In

open Idealize.ShloMosaic Idealize.ShloMosaic.TcCoe Idealize.ShloMosaic.StableHlo Idealize.SL.Sem
open Idealize.ShloMosaic.Pipeline (Dat)
open Cert.Kernel7Ideal Cert.Kernel7Ideal.Gen Cert.Rows
open Cert.Kernel3Ideal.In (proj)
open Cert.Reference7Ideal.In (Z_at QA QA_at KA KA_at VA VA_at HG HG_at)

section Block

variable (x : Vec Ideal S512x1024 .f32) (g : Vec Ideal S1x1024 .f32) (w : Vec Ideal S1024x2816 .bf16) (q : Fin 512)

/-! A block of the sample batch is a block of the prompt: the stores are the same. -/

theorem block3 (j : Fin 512) : out0_3 (F := Ideal) x g w (ix2 q j) = proj x g w q ⟨j, by omega⟩ * Ideal.ofBits FTy.f32 0x3E000000#32 :=
  Cert.Kernel3Ideal.In.out3_at x g w q j
theorem block4 (j : Fin 128) : out0_4 (F := Ideal) x g w (ix2 q j) = proj x g w q ⟨512 + j, by omega⟩ :=
  Cert.Kernel3Ideal.In.out4_at x g w q j
theorem block5 (j : Fin 128) : out0_5 (F := Ideal) x g w (ix2 q j) = proj x g w q ⟨640 + j, by omega⟩ :=
  Cert.Kernel3Ideal.In.out5_at x g w q j
theorem block6 (j : Fin 2048) : out0_6 (F := Ideal) x g w (ix2 q j) = proj x g w q ⟨768 + j, by omega⟩ :=
  Cert.Kernel3Ideal.In.out6_at x g w q j

end Block

variable (m : (ℓ : Loc nD τ sig) → Buf (Elt Ideal) ℓ) (c : Dev nD)

/-- The problem's input. -/
abbrev argX : FVec Ideal S128x8x1024 .f32 := m ((c : Thread nD τ).loc main_arg0)
/-- The gains of the layers' first norms. -/
abbrev argG : FVec Ideal S2x1024 .f32 := m ((c : Thread nD τ).loc main_arg1)
/-- The matrix of all the projections. -/
abbrev argW : FVec Ideal S1x1024x2816 .f32 := m ((c : Thread nD τ).loc main_arg2)

/-- Where the blocks lie at a point of the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 2 := t.isLt

theorem emb0 (t : Fin cfg0.N) (q : Fin 512) (k : Fin 1024) :
    ((cfg0.win 0).blk t).view.emb (ix2 q k : S512x1024.Idx) = (ix2 ⟨512 * t.val + q, by have := point_lt t; omega⟩ k : S1024x1024.Idx) := by
  blk_ext [idx t]
theorem emb1 (t : Fin cfg0.N) (k : Fin 1024) :
    ((cfg0.win 1).blk t).view.emb (ix2 0 k : S1x1024.Idx) = (ix2 0 k : S1x1024.Idx) := by
  blk_ext [idx t]
theorem emb2 (t : Fin cfg0.N) (i : Fin 1024) (k : Fin 2816) :
    ((cfg0.win 2).blk t).view.emb (ix2 i k : S1024x2816.Idx) = (ix2 i k : S1024x2816.Idx) := by
  blk_ext [idx t]
theorem emb3 (t : Fin cfg0.N) (q : Fin 512) (k : Fin 512) :
    ((cfg0.win 3).blk t).view.emb (ix2 q k : S512x512.Idx) = (ix2 ⟨512 * t.val + q, by have := point_lt t; omega⟩ k : S1024x512.Idx) := by
  blk_ext [idx t]
theorem emb4 (t : Fin cfg0.N) (q : Fin 512) (k : Fin 128) :
    ((cfg0.win 4).blk t).view.emb (ix2 q k : S512x128.Idx) = (ix2 ⟨512 * t.val + q, by have := point_lt t; omega⟩ k : S1024x128.Idx) := by
  blk_ext [idx t]
theorem emb5 (t : Fin cfg0.N) (q : Fin 512) (k : Fin 128) :
    ((cfg0.win 5).blk t).view.emb (ix2 q k : S512x128.Idx) = (ix2 ⟨512 * t.val + q, by have := point_lt t; omega⟩ k : S1024x128.Idx) := by
  blk_ext [idx t]
theorem emb6 (t : Fin cfg0.N) (q : Fin 512) (k : Fin 2048) :
    ((cfg0.win 6).blk t).view.emb (ix2 q k : S512x2048.Idx) = (ix2 ⟨512 * t.val + q, by have := point_lt t; omega⟩ k : S1024x2048.Idx) := by
  blk_ext [idx t]

/-- The tokens of a block. -/
theorem x_at (t : Fin cfg0.N) (q : Fin 512) (k : Fin 1024) : (iblk m c 0 t : Vec Ideal S512x1024 .f32) (ix2 q k) = argX m c (ix3 ⟨(512 * t.val + q) / 8, by have := point_lt t; omega⟩ ⟨(512 * t.val + q) % 8, by omega⟩ k) := by
  refine (congrArg (V m c main_v0 : Vec Ideal S1024x1024 .f32) (emb0 t q k)).trans ?_
  entry_read
  pointwise
/-- The first layer's gain. -/
theorem g_at (t : Fin cfg0.N) (k : Fin 1024) : (iblk m c 1 t : Vec Ideal S1x1024 .f32) (ix2 0 k) = argG m c (ix2 0 k) := by
  refine (congrArg (V m c main_v3 : Vec Ideal S1x1024 .f32) (emb1 t k)).trans ?_
  entry_read
  pointwise
/-- The matrix. -/
theorem w_at (t : Fin cfg0.N) (i : Fin 1024) (k : Fin 2816) : (iblk m c 2 t : Vec Ideal S1024x2816 .bf16) (ix2 i k) = argW m c (ix3 0 i k) := by
  refine (congrArg (V m c main_v5 : Vec Ideal S1024x2816 .bf16) (emb2 t i k)).trans ?_
  entry_read
  pointwise

/-- The queries are the reference's. -/
theorem final3 : (dats m 0 c).arrAt 3 cfg0.N = QA (argX m c) (argG m c) (argW m c) := by
  refine (dats m 0 c).arrAt_eq_of_covers 3 _ (by decide +kernel) fun t _ y => ?_
  obtain ⟨q, j, rfl⟩ : ∃ (q : Fin 512) (j : Fin 512), y = (ix2 q j : S512x512.Idx) := ⟨y 0, y 1, eq_ix2 (n0 := 512) (n1 := 512) y⟩
  refine Eq.trans ?_ (congrArg (QA (argX m c) (argG m c) (argW m c)) (emb3 t q j)).symm
  rw [QA_at, Z_at]
  blk_simp
  rw [after0_3]
  refine (block3 _ _ _ q j).trans ?_
  simp only [proj, x_at, g_at, w_at]
/-- The keys are the reference's. -/
theorem final4 : (dats m 0 c).arrAt 4 cfg0.N = KA (argX m c) (argG m c) (argW m c) := by
  refine (dats m 0 c).arrAt_eq_of_covers 4 _ (by decide +kernel) fun t _ y => ?_
  obtain ⟨q, j, rfl⟩ : ∃ (q : Fin 512) (j : Fin 128), y = (ix2 q j : S512x128.Idx) := ⟨y 0, y 1, eq_ix2 (n0 := 512) (n1 := 128) y⟩
  refine Eq.trans ?_ (congrArg (KA (argX m c) (argG m c) (argW m c)) (emb4 t q j)).symm
  rw [KA_at, Z_at]
  blk_simp
  rw [after0_4]
  refine (block4 _ _ _ q j).trans ?_
  simp only [proj, x_at, g_at, w_at]
/-- The values are the reference's. -/
theorem final5 : (dats m 0 c).arrAt 5 cfg0.N = VA (argX m c) (argG m c) (argW m c) := by
  refine (dats m 0 c).arrAt_eq_of_covers 5 _ (by decide +kernel) fun t _ y => ?_
  obtain ⟨q, j, rfl⟩ : ∃ (q : Fin 512) (j : Fin 128), y = (ix2 q j : S512x128.Idx) := ⟨y 0, y 1, eq_ix2 (n0 := 512) (n1 := 128) y⟩
  refine Eq.trans ?_ (congrArg (VA (argX m c) (argG m c) (argW m c)) (emb5 t q j)).symm
  rw [VA_at, Z_at]
  blk_simp
  rw [after0_5]
  refine (block5 _ _ _ q j).trans ?_
  simp only [proj, x_at, g_at, w_at]
/-- The recurrence's inputs are the reference's. -/
theorem final6 : (dats m 0 c).arrAt 6 cfg0.N = HG (argX m c) (argG m c) (argW m c) := by
  refine (dats m 0 c).arrAt_eq_of_covers 6 _ (by decide +kernel) fun t _ y => ?_
  obtain ⟨q, j, rfl⟩ : ∃ (q : Fin 512) (j : Fin 2048), y = (ix2 q j : S512x2048.Idx) := ⟨y 0, y 1, eq_ix2 (n0 := 512) (n1 := 2048) y⟩
  refine Eq.trans ?_ (congrArg (HG (argX m c) (argG m c) (argW m c)) (emb6 t q j)).symm
  rw [HG_at, Z_at]
  blk_simp
  rw [after0_6]
  refine (block6 _ _ _ q j).trans ?_
  simp only [proj, x_at, g_at, w_at]

end Cert.Kernel7Ideal.In

end
-- ==== Proof.CacheBlock.lean ====
/- What the kernel of the sample's window attention leaves of the two caches in a block of sequences: the old entries moved up by eight
   positions and the new ones after them. -/
module

public import proofs.«01_k».proof.Proof.Gen.Kernel8Ideal.Value
public import Idealize.ShloMosaic.Lib.Pipeline.ValueKit

@[expose] public section

set_option maxRecDepth 16384

noncomputable section

namespace Cert.Kernel8Ideal.Cache

open Idealize.ShloMosaic Idealize.ShloMosaic.TcCoe Idealize.SL.Sem
open Cert.Kernel8Ideal Cert.Kernel8Ideal.Gen

/-- A sequence's entries after the step: those from position 8 on, and the eight new ones. -/
def moved (old : Fin 128 → EReal) (new : Fin 8 → EReal) (s : Fin 128) : EReal :=
  if h : s.val < 120 then old ⟨8 + s, by omega⟩ else new ⟨s - 120, by omega⟩

section
variable (old : Vec Ideal S16x128x128 .f32) (new : Vec Ideal S16x8x128 .f32)

/-- A load of a whole block of old entries. -/
theorem load_old (a : Memref sig .tc .vmem S16x128x128 .f32) (ha : a.IsWhole) (off : Fin 3 → ℕ) (hoff : off = ![0, 0, 0]) (inb) (y : S16x128x128.Idx) :
    View.readAt (Elt Ideal) a.view (Rect.unit (s := S16x128x128) off S16x128x128.size inb).toLoadRect (ha.unread old) y = old y := by
  rw [View.readAt_apply, ha.read_unread]
  refine congrArg old ?_
  subst hoff
  refine funext fun d => Fin.ext ?_
  refine (Rect.idx_unit_val _ _ _ _ d).trans ?_
  fin_cases d <;> simp

/-- A load of a whole block of new entries. -/
theorem load_new (a : Memref sig .tc .vmem S16x8x128 .f32) (ha : a.IsWhole) (off : Fin 3 → ℕ) (hoff : off = ![0, 0, 0]) (inb) (y : S16x8x128.Idx) :
    View.readAt (Elt Ideal) a.view (Rect.unit (s := S16x8x128) off S16x8x128.size inb).toLoadRect (ha.unread new) y = new y := by
  rw [View.readAt_apply, ha.read_unread]
  refine congrArg new ?_
  subst hoff
  refine funext fun d => Fin.ext ?_
  refine (Rect.idx_unit_val _ _ _ _ d).trans ?_
  fin_cases d <;> simp

/-- The stores of the entries that stay and of the new ones. -/
theorem allAt_moved (offo offn : Fin 3 → ℕ) (ho : offo = ![0, 0, 0]) (hn : offn = ![0, 120, 0]) (inbo inbn) (b : Fin 16) (s k : Fin 128)
    (v : Vec Ideal S16x120x128 .f32) (w : Vec Ideal S16x8x128 .f32)
    (hv : ∀ (b : Fin 16) (s : Fin 120) (k : Fin 128), v (ix3 b s k) = old (ix3 b ⟨8 + s, by omega⟩ k)) (hw : ∀ (b : Fin 16) (s : Fin 8) (k : Fin 128), w (ix3 b s k) = new (ix3 b s k)) :
    View.AllAt [(⟨Rect.unit (s := S16x128x128) offn S16x8x128.size inbn, w⟩ : View.Piece (Elt Ideal) S16x128x128 .f32),
        (⟨Rect.unit (s := S16x128x128) offo S16x120x128.size inbo, v⟩ : View.Piece (Elt Ideal) S16x128x128 .f32)]
      (ix3 b s k) (moved (fun s => old (ix3 b s k)) (fun s => new (ix3 b s k)) s) := by
  refine View.allAt_cons _ _ _ (fun x hx => ?_) (View.allAt_cons _ _ _ (fun x hx => ?_) (View.allAt_nil _ _))
  · obtain ⟨b', s', k', rfl⟩ : ∃ (b : Fin 16) (s : Fin 8) (k : Fin 128), x = (ix3 b s k : S16x8x128.Idx) :=
      ⟨x 0, x 1, x 2, eq_ix3 (n0 := 16) (n1 := 8) (n2 := 128) x⟩
    have e : (Rect.unit (s := S16x128x128) offn S16x8x128.size inbn).idx (ix3 b' s' k') = ix3 b' ⟨120 + s', by omega⟩ k' := by
      subst hn
      refine funext fun a => Fin.ext ?_
      refine (Rect.idx_unit_val _ _ _ _ a).trans ?_
      fin_cases a <;> simp
    obtain ⟨rfl, e1, rfl⟩ := (ix3_inj ..).1 (e.symm.trans hx)
    subst e1
    refine (hw b' s' k').trans ?_
    simp [moved]
  · obtain ⟨b', s', k', rfl⟩ : ∃ (b : Fin 16) (s : Fin 120) (k : Fin 128), x = (ix3 b s k : S16x120x128.Idx) :=
      ⟨x 0, x 1, x 2, eq_ix3 (n0 := 16) (n1 := 120) (n2 := 128) x⟩
    have e : (Rect.unit (s := S16x128x128) offo S16x120x128.size inbo).idx (ix3 b' s' k') = ix3 b' ⟨s', by omega⟩ k' := by
      subst ho
      refine funext fun a => Fin.ext ?_
      refine (Rect.idx_unit_val _ _ _ _ a).trans ?_
      fin_cases a <;> simp
    obtain ⟨rfl, e1, rfl⟩ := (ix3_inj ..).1 (e.symm.trans hx)
    subst e1
    refine (hv b' s' k').trans ?_
    simp [moved]

end

section
variable (c : Dev nD) (i : grid0.Coords)
  (arg1 : Memref sig .tc .smem S8 .f32) (harg1 : arg1.IsWhole) (arg2 : Memref sig .tc .vmem S128x512 .f32) (harg2 : arg2.IsWhole)
  (arg3 : Memref sig .tc .vmem S16x8x128 .f32) (harg3 : arg3.IsWhole) (arg4 : Memref sig .tc .vmem S16x8x128 .f32) (harg4 : arg4.IsWhole)
  (arg5 : Memref sig .tc .vmem S16x128x128 .f32) (harg5 : arg5.IsWhole) (arg6 : Memref sig .tc .vmem S16x128x128 .f32) (harg6 : arg6.IsWhole)
  (arg7 : Memref sig .tc .vmem S128x512 .f32) (harg7 : arg7.IsWhole) (arg8 : Memref sig .tc .vmem S16x128x128 .f32) (harg8 : arg8.IsWhole)
  (arg9 : Memref sig .tc .vmem S16x128x128 .f32) (harg9 : arg9.IsWhole)
  (x0 : Vec Ideal S8 .f32) (x1 : Vec Ideal S128x512 .f32) (x2 x3 : Vec Ideal S16x8x128 .f32) (x4 x5 : Vec Ideal S16x128x128 .f32)

/-- The keys' cache of a block. -/
theorem out7_at (b : Fin 16) (s k : Fin 128) :
    out0_A_7 (F := Ideal) c i arg1 harg1 arg2 harg2 arg3 harg3 arg4 harg4 arg5 harg5 arg6 harg6 arg7 harg7 arg8 harg8 arg9 harg9 x0 x1 x2 x3 x4 x5 (ix3 b s k)
      = moved (fun s => x4 (ix3 b s k)) (fun s => x2 (ix3 b s k)) s := by
  unfold out0_A_7
  rw [View.read_writes_junk_apply_eq_canon]
  refine View.canon_eq_of_allAt _ _ _ (cover0_A_7 c i arg1 harg1 arg2 harg2 arg3 harg3 arg4 harg4 arg5 harg5 arg6 harg6 arg7 harg7 arg8 harg8 arg9 harg9 x0 x1 x2 x3 x4 x5 _) ?_
  unfold kernelRun0_A
  dsimp only
  refine allAt_moved x4 x2 _ _ rfl rfl _ _ b s k _ _ (fun b s k => ?_) (fun b s k => ?_)
  · pointwise [k0_pay6, k0_pay2]
    exact load_old x4 arg5 harg5 _ rfl _ _
  · pointwise [k0_pay4]
    exact load_new x2 arg3 harg3 _ rfl _ _

/-- The values' cache of a block. -/
theorem out8_at (b : Fin 16) (s k : Fin 128) :
    out0_A_8 (F := Ideal) c i arg1 harg1 arg2 harg2 arg3 harg3 arg4 harg4 arg5 harg5 arg6 harg6 arg7 harg7 arg8 harg8 arg9 harg9 x0 x1 x2 x3 x4 x5 (ix3 b s k)
      = moved (fun s => x5 (ix3 b s k)) (fun s => x3 (ix3 b s k)) s := by
  unfold out0_A_8
  rw [View.read_writes_junk_apply_eq_canon]
  refine View.canon_eq_of_allAt _ _ _ (cover0_A_8 c i arg1 harg1 arg2 harg2 arg3 harg3 arg4 harg4 arg5 harg5 arg6 harg6 arg7 harg7 arg8 harg8 arg9 harg9 x0 x1 x2 x3 x4 x5 _) ?_
  unfold kernelRun0_A
  dsimp only
  refine allAt_moved x5 x3 _ _ rfl rfl _ _ b s k _ _ (fun b s k => ?_) (fun b s k => ?_)
  · pointwise [k0_pay7, k0_pay3]
    exact load_old x5 arg6 harg6 _ rfl _ _
  · pointwise [k0_pay5]
    exact load_new x3 arg4 harg4 _ rfl _ _

end

end Cert.Kernel8Ideal.Cache

end
-- ==== Proof.CacheFinal.lean ====
/- The caches that the kernel of the sample's window attention leaves are the reference's. -/
module

public import proofs.«01_k».proof.Proof.CacheBlock
public import proofs.«01_k».proof.Proof.Gen.Reference8Ideal.Run

@[expose] public section

set_option maxRecDepth 16384

noncomputable section

namespace Cert.Reference8Ideal.Cache

open Idealize.ShloMosaic Idealize.ShloMosaic.TcCoe Idealize.SL.Sem
open Cert.Reference8Ideal Cert.Reference8Ideal.Gen Cert.Reference8Ideal.Value
open Cert.Kernel8Ideal.Cache (moved)

/-- A cache after the step: the old and the new entries in a row, without the first eight. -/
def next (old : FVec Ideal S1x128x128x2x64 .f32) (new : FVec Ideal S1024x128 .f32) : FVec Ideal S128x128x128 .f32 :=
  shapeCast _ (extractStridedSlice S128x128x2x64 ![0, 8, 0, 0] (concatenate S128x136x2x64 1 [⟨S128x128x2x64, (shapeCast _ old shapeCasts_S1x128x128x2x64_S128x128x2x64)⟩, ⟨S128x8x2x64, (shapeCast _ new shapeCasts_S1024x128_S128x8x2x64)⟩] concatenates_S128x128x2x64_S128x8x2x64_S128x136x2x64_d1) slices_S128x136x2x64_S128x128x2x64_0_8_0_0) shapeCasts_S128x128x2x64_S128x128x128

/-- A cache after the step, at an entry. -/
theorem next_at (old : FVec Ideal S1x128x128x2x64 .f32) (new : FVec Ideal S1024x128 .f32) (b s k : Fin 128) :
    next old new (ix3 b s k) = moved (fun s => old (ix5 0 b s ⟨k / 64, by omega⟩ ⟨k % 64, by omega⟩)) (fun s => new (ix2 ⟨b * 8 + s, by omega⟩ k)) s := by
  unfold moved
  split <;> rename_i h
  · pointwise [next]
    exact dif_pos (by omega)
  · pointwise [next]
    exact (dif_neg (by omega)).trans (congrArg (fun r => new (ix2 r k)) (Fin.ext (by simp only; omega)))

end Cert.Reference8Ideal.Cache

namespace Cert.Kernel8Ideal.Cache

open Idealize.ShloMosaic Idealize.ShloMosaic.TcCoe Idealize.ShloMosaic.StableHlo Idealize.SL.Sem
open Idealize.ShloMosaic.Pipeline (Dat)
open Cert.Kernel8Ideal Cert.Kernel8Ideal.Gen
open Cert.Reference8Ideal.Cache (next next_at)

variable (m : (ℓ : Loc nD τ sig) → Buf (Elt Ideal) ℓ) (c : Dev nD)

/-- The new keys. -/
abbrev argKN : FVec Ideal S1024x128 .f32 := m ((c : Thread nD τ).loc main_arg2)
/-- The new values. -/
abbrev argVN : FVec Ideal S1024x128 .f32 := m ((c : Thread nD τ).loc main_arg3)
/-- The keys' cache. -/
abbrev argK : FVec Ideal S1x128x128x2x64 .f32 := m ((c : Thread nD τ).loc main_arg4)
/-- The values' cache. -/
abbrev argV : FVec Ideal S1x128x128x2x64 .f32 := m ((c : Thread nD τ).loc main_arg5)

/-- Where the blocks lie at a point of the grid. -/
theorem idx : ∀ t : Fin cfg0.N, win0_2.index t = ![t.val, 0, 0] ∧ win0_3.index t = ![t.val, 0, 0] ∧ win0_4.index t = ![t.val, 0, 0]
    ∧ win0_5.index t = ![t.val, 0, 0] ∧ win0_7.index t = ![t.val, 0, 0] ∧ win0_8.index t = ![t.val, 0, 0] :=
  (by decide +kernel : ∀ t : Fin grid0.N, _)

theorem point_lt (t : Fin cfg0.N) : t.val < 8 := t.isLt

theorem emb2 (t : Fin cfg0.N) (b : Fin 16) (s : Fin 8) (k : Fin 128) :
    ((cfg0.win 2).blk t).view.emb (ix3 b s k : S16x8x128.Idx) = (ix3 ⟨16 * t.val + b, by have := point_lt t; omega⟩ s k : S128x8x128.Idx) := by
  blk_ext [idx t]
theorem emb3 (t : Fin cfg0.N) (b : Fin 16) (s : Fin 8) (k : Fin 128) :
    ((cfg0.win 3).blk t).view.emb (ix3 b s k : S16x8x128.Idx) = (ix3 ⟨16 * t.val + b, by have := point_lt t; omega⟩ s k : S128x8x128.Idx) := by
  blk_ext [idx t]
theorem emb4 (t : Fin cfg0.N) (b : Fin 16) (s : Fin 128) (k : Fin 128) :
    ((cfg0.win 4).blk t).view.emb (ix3 b s k : S16x128x128.Idx) = (ix3 ⟨16 * t.val + b, by have := point_lt t; omega⟩ s k : S128x128x128.Idx) := by
  blk_ext [idx t]
theorem emb5 (t : Fin cfg0.N) (b : Fin 16) (s : Fin 128) (k : Fin 128) :
    ((cfg0.win 5).blk t).view.emb (ix3 b s k : S16x128x128.Idx) = (ix3 ⟨16 * t.val + b, by have := point_lt t; omega⟩ s k : S128x128x128.Idx) := by
  blk_ext [idx t]
theorem emb7 (t : Fin cfg0.N) (b : Fin 16) (s : Fin 128) (k : Fin 128) :
    ((cfg0.win 7).blk t).view.emb (ix3 b s k : S16x128x128.Idx) = (ix3 ⟨16 * t.val + b, by have := point_lt t; omega⟩ s k : S128x128x128.Idx) := by
  blk_ext [idx t]
theorem emb8 (t : Fin cfg0.N) (b : Fin 16) (s : Fin 128) (k : Fin 128) :
    ((cfg0.win 8).blk t).view.emb (ix3 b s k : S16x128x128.Idx) = (ix3 ⟨16 * t.val + b, by have := point_lt t; omega⟩ s k : S128x128x128.Idx) := by
  blk_ext [idx t]

/-- The new keys of a block. -/
theorem kn_at (t : Fin cfg0.N) (b : Fin 16) (s : Fin 8) (k : Fin 128) :
    (iblk m c 2 t : Vec Ideal S16x8x128 .f32) (ix3 b s k) = argKN m c (ix2 ⟨(16 * t.val + b) * 8 + s, by have := point_lt t; omega⟩ k) := by
  refine (congrArg (V m c main_v1 : Vec Ideal S128x8x128 .f32) (emb2 t b s k)).trans ?_
  entry_read
  pointwise
/-- The new values of a block. -/
theorem vn_at (t : Fin cfg0.N) (b : Fin 16) (s : Fin 8) (k : Fin 128) :
    (iblk m c 3 t : Vec Ideal S16x8x128 .f32) (ix3 b s k) = argVN m c (ix2 ⟨(16 * t.val + b) * 8 + s, by have := point_lt t; omega⟩ k) := by
  refine (congrArg (V m c main_v2 : Vec Ideal S128x8x128 .f32) (emb3 t b s k)).trans ?_
  entry_read
  pointwise
/-- The old keys of a block. -/
theorem ko_at (t : Fin cfg0.N) (b : Fin 16) (s k : Fin 128) :
    (iblk m c 4 t : Vec Ideal S16x128x128 .f32) (ix3 b s k)
      = argK m c (ix5 0 ⟨16 * t.val + b, by have := point_lt t; omega⟩ s ⟨k / 64, by omega⟩ ⟨k % 64, by omega⟩) := by
  refine (congrArg (V m c main_v4 : Vec Ideal S128x128x128 .f32) (emb4 t b s k)).trans ?_
  entry_read
  pointwise
/-- The old values of a block. -/
theorem vo_at (t : Fin cfg0.N) (b : Fin 16) (s k : Fin 128) :
    (iblk m c 5 t : Vec Ideal S16x128x128 .f32) (ix3 b s k)
      = argV m c (ix5 0 ⟨16 * t.val + b, by have := point_lt t; omega⟩ s ⟨k / 64, by omega⟩ ⟨k % 64, by omega⟩) := by
  refine (congrArg (V m c main_v6 : Vec Ideal S128x128x128 .f32) (emb5 t b s k)).trans ?_
  entry_read
  pointwise

/-- The keys' cache that a block's step leaves. -/
theorem step7 (t : Fin cfg0.N) (b : Fin 16) (s k : Fin 128) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) (ix3 b s k)
      = next (argK m c) (argKN m c) (ix3 ⟨16 * t.val + b, by have := point_lt t; omega⟩ s k) := by
  rw [next_at]
  refine (out7_at c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) b s k).trans ?_
  simp only [ko_at, kn_at]
/-- The keys' cache is the reference's. -/
theorem final7 : (dats m 0 c).arrAt 7 cfg0.N = next (argK m c) (argKN m c) := by
  refine (dats m 0 c).arrAt_eq_of_covers 7 _ (by decide +kernel) fun t _ y => ?_
  obtain ⟨b, s, k, rfl⟩ : ∃ (b : Fin 16) (s k : Fin 128), y = (ix3 b s k : S16x128x128.Idx) := ⟨y 0, y 1, y 2, eq_ix3 (n0 := 16) (n1 := 128) (n2 := 128) y⟩
  refine Eq.trans ?_ (congrArg (next (argK m c) (argKN m c)) (emb7 t b s k)).symm
  refine Eq.trans ?_ (step7 m c t b s k)
  blk_simp
  rw [after0_7]
  unfold outsAt0
  dsimp only
/-- The values' cache that a block's step leaves. -/
theorem step8 (t : Fin cfg0.N) (b : Fin 16) (s k : Fin 128) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) (ix3 b s k)
      = next (argV m c) (argVN m c) (ix3 ⟨16 * t.val + b, by have := point_lt t; omega⟩ s k) := by
  rw [next_at]
  refine (out8_at c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) b s k).trans ?_
  simp only [vo_at, vn_at]
/-- The values' cache is the reference's. -/
theorem final8 : (dats m 0 c).arrAt 8 cfg0.N = next (argV m c) (argVN m c) := by
  refine (dats m 0 c).arrAt_eq_of_covers 8 _ (by decide +kernel) fun t _ y => ?_
  obtain ⟨b, s, k, rfl⟩ : ∃ (b : Fin 16) (s k : Fin 128), y = (ix3 b s k : S16x128x128.Idx) := ⟨y 0, y 1, y 2, eq_ix3 (n0 := 16) (n1 := 128) (n2 := 128) y⟩
  refine Eq.trans ?_ (congrArg (next (argV m c) (argVN m c)) (emb8 t b s k)).symm
  refine Eq.trans ?_ (step8 m c t b s k)
  blk_simp
  rw [after0_8]
  unfold outsAt0
  dsimp only

end Cert.Kernel8Ideal.Cache

end
-- ==== Proof.WindowRows.lean ====
/-
  One query's attention over a window of old keys and a run of new ones, with a logit that no value goes with, as sums over rows of
  numbers; and what is left of such sums when the keys of several sequences lie in one row and those of the other sequences are masked.
-/
module

public import Idealize.ShloMosaic.Lib.Pipeline.ValueKit
public import Idealize.ShloMosaic.Lib.Pointwise
public import proofs.«01_k».proof.Proof.Softmax

@[expose] public section

noncomputable section

namespace Cert.Window

open Idealize.ShloMosaic

/-- The largest of a row's numbers. -/
def top {n : ℕ} (s : Fin n → EReal) : EReal := Finset.univ.sup s

/-- The largest of two rows' numbers and of the extra logit. -/
def peak {n k : ℕ} (z : EReal) (s : Fin n → EReal) (s' : Fin k → EReal) : EReal := max (max z (top s)) (top s')

/-- The weights' sum, the extra logit's weight with them. -/
def mass {n k : ℕ} (z : EReal) (s : Fin n → EReal) (s' : Fin k → EReal) : EReal :=
  Ideal.exp (z - peak z s s') + (∑ i, Ideal.exp (s i - peak z s s')) + ∑ i, Ideal.exp (s' i - peak z s s')

/-- The values, weighted. -/
def mixed {n k : ℕ} (z : EReal) (s v : Fin n → EReal) (s' v' : Fin k → EReal) : EReal :=
  (∑ i, Ideal.exp (s i - peak z s s') * v i) + ∑ i, Ideal.exp (s' i - peak z s s') * v' i

/-- One entry of a query's result. -/
def attend {n k : ℕ} (z : EReal) (s v : Fin n → EReal) (s' v' : Fin k → EReal) : EReal :=
  Ideal.div (mixed z s v s' v') (mass z s s')

/-- The score of the old key at place `s` of the window for the query at place `t` of the run: their product less the slope times their distance, where the window reaches that far back. -/
def oldScore (q k : Fin 64 → EReal) (l : EReal) (t : Fin 8) (s : Fin 128) : EReal :=
  if t.val ≤ s.val then (∑ d, q d * k d) - l * (((128 + (t.val : ℤ) - (s.val : ℤ) : ℤ) : ℝ) : EReal) else ⊥

/-- The score of the run's key at place `s`, which a query sees when it is not after it. -/
def newScore (q k : Fin 64 → EReal) (l : EReal) (t s : Fin 8) : EReal :=
  if s.val ≤ t.val then (∑ d, q d * k d) - l * ((((t.val : ℤ) - (s.val : ℤ) : ℤ) : ℝ) : EReal) else ⊥

/-- A head's slope: a half to the power of its number counted from one. -/
def decay (h : Fin 8) : EReal := (((2⁻¹ : ℝ) ^ (h.val + 1) : ℝ) : EReal)

/-- A masked key has no weight. -/
theorem weight_bot (m : EReal) : Ideal.exp (⊥ - m) = 0 := by
  rw [EReal.bot_sub]; rfl

/-- A row of which only one block is not nought has that block's sum. -/
theorem sum_block {n w N : ℕ} (hN : n * w = N) (b : Fin n) (f : Fin N → EReal) (g : Fin w → EReal) (hb : ∀ s : Fin w, w * b + s < N)
    (hf : ∀ k : Fin N, k.val / w ≠ b → f k = 0) (hg : ∀ s : Fin w, f ⟨w * b + s, hb s⟩ = g s) : ∑ k, f k = ∑ s, g s := by
  symm
  refine Finset.sum_of_injOn (fun s : Fin w => (⟨w * b + s, hb s⟩ : Fin N)) ?_ (fun _ _ => Finset.mem_coe.mpr (Finset.mem_univ _)) ?_ (fun s _ => (hg s).symm)
  · intro s _ s' _ h
    have h := congrArg Fin.val h
    exact Fin.ext (by simp only at h; omega)
  · intro k _ hk
    refine hf k fun h => hk ?_
    have hw : 0 < w := by
      rcases Nat.eq_zero_or_pos w with h0 | h0
      · subst h0; have := k.isLt; simp at hN; omega
      · exact h0
    refine ⟨⟨k.val % w, Nat.mod_lt _ hw⟩, Finset.mem_coe.mpr (Finset.mem_univ _), Fin.ext ?_⟩
    show w * b.val + k.val % w = k.val
    rw [← h]; exact Nat.div_add_mod _ _

/-- A row of which only one block is not the least has that block's largest number. -/
theorem top_block {n w N : ℕ} (hN : n * w = N) (b : Fin n) (f : Fin N → EReal) (g : Fin w → EReal) (hb : ∀ s : Fin w, w * b + s < N)
    (hf : ∀ k : Fin N, k.val / w ≠ b → f k = ⊥) (hg : ∀ s : Fin w, f ⟨w * b + s, hb s⟩ = g s) : top f = top g := by
  refine le_antisymm (Finset.sup_le fun k _ => ?_) (Finset.sup_le fun s _ => ?_)
  · by_cases h : k.val / w = b
    · have hw : 0 < w := by
        rcases Nat.eq_zero_or_pos w with h0 | h0
        · subst h0; have := k.isLt; simp at hN; omega
        · exact h0
      have hk : k = ⟨w * b + (⟨k.val % w, Nat.mod_lt _ hw⟩ : Fin w), hb _⟩ := Fin.ext (by
        show k.val = w * b.val + k.val % w
        rw [← h]; exact (Nat.div_add_mod _ _).symm)
      rw [hk, hg]
      exact Finset.le_sup (f := g) (Finset.mem_univ _)
    · rw [hf k h]; exact bot_le
  · rw [← hg s]; exact Finset.le_sup (f := f) (Finset.mem_univ _)

/-- Rows of the same numbers have the same result. -/
theorem attend_congr {n k : ℕ} (z : EReal) {s v s₂ v₂ : Fin n → EReal} {s' v' s₂' v₂' : Fin k → EReal} (hs : ∀ i, s i = s₂ i) (hv : ∀ i, v i = v₂ i)
    (hs' : ∀ i, s' i = s₂' i) (hv' : ∀ i, v' i = v₂' i) : attend z s v s' v' = attend z s₂ v₂ s₂' v₂' := by
  rw [funext hs, funext hv, funext hs', funext hv']

/-- Masked keys of other sequences change nothing. -/
theorem attend_block {n w N n' w' N' : ℕ} (hN : n * w = N) (hN' : n' * w' = N') (b : Fin n) (b' : Fin n') (z : EReal)
    (f u : Fin N → EReal) (f' u' : Fin N' → EReal) (s v : Fin w → EReal) (s' v' : Fin w' → EReal)
    (hb : ∀ i : Fin w, w * b + i < N) (hb' : ∀ i : Fin w', w' * b' + i < N')
    (hf : ∀ k : Fin N, k.val / w ≠ b → f k = ⊥) (hf' : ∀ k : Fin N', k.val / w' ≠ b' → f' k = ⊥)
    (hs : ∀ i : Fin w, f ⟨w * b + i, hb i⟩ = s i) (hs' : ∀ i : Fin w', f' ⟨w' * b' + i, hb' i⟩ = s' i)
    (hv : ∀ i : Fin w, u ⟨w * b + i, hb i⟩ = v i) (hv' : ∀ i : Fin w', u' ⟨w' * b' + i, hb' i⟩ = v' i) :
    attend z f u f' u' = attend z s v s' v' := by
  have ep : peak z f f' = peak z s s' := by
    unfold peak
    rw [top_block hN b f s hb hf hs, top_block hN' b' f' s' hb' hf' hs']
  unfold attend mixed mass
  rw [ep]
  refine congrArg₂ Ideal.div (congrArg₂ (· + ·) ?_ ?_) (congrArg₂ (· + ·) (congrArg₂ (· + ·) rfl ?_) ?_)
  · exact sum_block hN b _ _ hb (fun k h => by rw [hf k h, weight_bot, zero_mul]) (fun i => by rw [hs, hv])
  · exact sum_block hN' b' _ _ hb' (fun k h => by rw [hf' k h, weight_bot, zero_mul]) (fun i => by rw [hs', hv'])
  · exact sum_block hN b _ _ hb (fun k h => by rw [hf k h, weight_bot]) (fun i => by rw [hs])
  · exact sum_block hN' b' _ _ hb' (fun k h => by rw [hf' k h, weight_bot]) (fun i => by rw [hs'])

/-- The old and the new keys in one row, the extra logit taken last. -/
theorem attend_one {n k : ℕ} (z : EReal) (s v : Fin (n + k) → EReal) :
    Ideal.div (∑ i, Ideal.exp (s i - max (top s) z) * v i) ((∑ i, Ideal.exp (s i - max (top s) z)) + Ideal.exp (z - max (top s) z))
      = attend z (fun i => s (Fin.castAdd k i)) (fun i => v (Fin.castAdd k i)) (fun i => s (Fin.natAdd n i)) (fun i => v (Fin.natAdd n i)) := by
  have ep : max (top s) z = peak z (fun i => s (Fin.castAdd k i)) (fun i => s (Fin.natAdd n i)) := by
    have ht : top s = max (top fun i => s (Fin.castAdd k i)) (top fun i => s (Fin.natAdd n i)) := by
      refine le_antisymm (Finset.sup_le fun i _ => ?_) (max_le (Finset.sup_le fun i _ => ?_) (Finset.sup_le fun i _ => ?_))
      · refine Fin.addCases (fun i => ?_) (fun i => ?_) i
        · exact le_max_of_le_left (Finset.le_sup (f := fun i => s (Fin.castAdd k i)) (Finset.mem_univ i))
        · exact le_max_of_le_right (Finset.le_sup (f := fun i => s (Fin.natAdd n i)) (Finset.mem_univ i))
      · exact Finset.le_sup (f := s) (Finset.mem_univ _)
      · exact Finset.le_sup (f := s) (Finset.mem_univ _)
    unfold peak
    rw [ht, max_comm, max_assoc]
  unfold attend mixed mass
  rw [← ep, Fin.sum_univ_add, Fin.sum_univ_add]
  refine congrArg (Ideal.div _) ?_
  rw [add_comm, add_assoc]

end Cert.Window

end
-- ==== Proof.WindowBlock.lean ====
/- A head's attention as the kernel of the sample's window attention computes it in a block of sixteen sequences. -/
module

public import proofs.«01_k».proof.Proof.WindowRows
public import proofs.«01_k».proof.Proof.CacheBlock

@[expose] public section

set_option maxRecDepth 16384

noncomputable section

namespace Cert.Kernel8Ideal.Window

open Idealize.ShloMosaic Idealize.ShloMosaic.TcCoe Idealize.SL.Sem
open Cert.Kernel8Ideal Cert.Kernel8Ideal.Gen Cert.Window

section
variable (q : FVec Ideal S128x64 .bf16) (kb vb : FVec Ideal S2048x64 .bf16) (kn vn : FVec Ideal S128x64 .bf16)
  (db : FVec Ideal S128x2048 .f32) (mb : IVec S128x2048 1) (dn : FVec Ideal S128x128 .f32) (mn : IVec S128x128 1) (l : Ideal .f32) (z : Ideal .f32)

/-- The scores of the old keys, less the slope times the distance, the mask where they are not seen. -/
def oldScores : FVec Ideal S128x2048 .f32 :=
  select mb (subf (matmul dot_S128x64_S2048x64_S128x2048_1_1_0_0_n_n none q kb (constant S128x2048 .f32 0x00000000#32)) (mulf (broadcast S128x2048 l) db))
    (broadcast S128x2048 (Named.named κ "mask" 0xF149F2CA#32))

/-- The scores of the new keys. -/
def newScores : FVec Ideal S128x128 .f32 :=
  select mn (subf (matmul dot_S128x64_S128x64_S128x128_1_1_0_0_n_n none q kn (constant S128x128 .f32 0x00000000#32)) (mulf (broadcast S128x128 l) dn))
    (broadcast S128x128 (Named.named κ "mask" 0xF149F2CA#32))

/-- The largest of a query's scores and the sink. -/
def most (s : FVec Ideal S128x2048 .f32) (t : FVec Ideal S128x128 .f32) : FVec Ideal S128x1 .f32 :=
  maximumf (maximumf (broadcast S128x1 z)
      (shapeCast S128x1 (multiReduction .maximumf [1] S128 s 0xFF800000#32 reduces_S128x2048_S128 (.inl rfl) rfl : FVec Ideal S128 .f32) shapeCasts_S128_S128x1 : FVec Ideal S128x1 .f32))
    (shapeCast S128x1 (multiReduction .maximumf [1] S128 t 0xFF800000#32 reduces_S128x128_S128 (.inl rfl) rfl : FVec Ideal S128 .f32) shapeCasts_S128_S128x1)

/-- The weights of the old keys. -/
def oldWeights (s : FVec Ideal S128x2048 .f32) (m : FVec Ideal S128x1 .f32) : FVec Ideal S128x2048 .f32 :=
  exp (subf s (broadcastTo S128x2048 m broadcasts_S128x1_S128x2048))

/-- The weights of the new keys. -/
def newWeights (t : FVec Ideal S128x128 .f32) (m : FVec Ideal S128x1 .f32) : FVec Ideal S128x128 .f32 :=
  exp (subf t (broadcastTo S128x128 m broadcasts_S128x1_S128x128))

/-- The sum of a query's weights, the sink's with them. -/
def total (s : FVec Ideal S128x2048 .f32) (t : FVec Ideal S128x128 .f32) (m : FVec Ideal S128x1 .f32) : FVec Ideal S128x1 .f32 :=
  addf (addf (exp (subf (broadcast S128x1 z) m))
      (shapeCast S128x1 (multiReduction .add [1] S128 (oldWeights s m) 0x00000000#32 reduces_S128x2048_S128 (.inl rfl) rfl : FVec Ideal S128 .f32) shapeCasts_S128_S128x1 : FVec Ideal S128x1 .f32))
    (shapeCast S128x1 (multiReduction .add [1] S128 (newWeights t m) 0x00000000#32 reduces_S128x128_S128 (.inl rfl) rfl : FVec Ideal S128 .f32) shapeCasts_S128_S128x1)

/-- A head's result, from its scores. -/
def result (s : FVec Ideal S128x2048 .f32) (t : FVec Ideal S128x128 .f32) : FVec Ideal S128x64 .f32 :=
  divf (addf (matmul dot_S128x2048_S2048x64_S128x64_1_0_0_1_n_n none (truncf .bf16 (oldWeights s (most z s t)) bitsLt_bf16_f32) vb (constant S128x64 .f32 0x00000000#32))
      (matmul dot_S128x128_S128x64_S128x64_1_0_0_1_n_n none (truncf .bf16 (newWeights t (most z s t)) bitsLt_bf16_f32) vn (constant S128x64 .f32 0x00000000#32)))
    (broadcastTo S128x64 (total z s t (most z s t)) broadcasts_S128x1_S128x64)

theorem named_mask : (Named.named κ "mask" 0xF149F2CA#32 : Ideal .f32) = (⊥ : EReal) := rfl

theorem oldScores_at (r : Fin 128) (k : Fin 2048) : oldScores q kb db mb l (ix2 r k)
    = (Scalar.select (mb (ix2 r k)) ((∑ d : Fin 64, (q (ix2 r d) : EReal) * kb (ix2 k d)) - l * db (ix2 r k)) (⊥ : EReal) : EReal) := by
  pointwise [oldScores, named_mask]

theorem newScores_at (r : Fin 128) (k : Fin 128) : newScores q kn dn mn l (ix2 r k)
    = (Scalar.select (mn (ix2 r k)) ((∑ d : Fin 64, (q (ix2 r d) : EReal) * kn (ix2 k d)) - l * dn (ix2 r k)) (⊥ : EReal) : EReal) := by
  pointwise [newScores, named_mask]

theorem most_at (s : FVec Ideal S128x2048 .f32) (t : FVec Ideal S128x128 .f32) (r : Fin 128) :
    most z s t (ix2 r 0) = peak z (fun k : Fin 2048 => s (ix2 r k)) (fun k : Fin 128 => t (ix2 r k)) := by
  pointwise [most]
  rw [show (Ideal.ofBits FTy.f32 0xFF800000#32 : EReal) = ⊥ from by simp [Ideal.ofBits, Ideal.ieee]]
  rfl

theorem total_at (s : FVec Ideal S128x2048 .f32) (t : FVec Ideal S128x128 .f32) (m : FVec Ideal S128x1 .f32) (r : Fin 128) :
    total z s t m (ix2 r 0) = Ideal.exp (z - m (ix2 r 0)) + (∑ k : Fin 2048, Ideal.exp (s (ix2 r k) - m (ix2 r 0))) + ∑ k : Fin 128, Ideal.exp (t (ix2 r k) - m (ix2 r 0)) := by
  pointwise [total, oldWeights, newWeights]

theorem result_at (s : FVec Ideal S128x2048 .f32) (t : FVec Ideal S128x128 .f32) (r : Fin 128) (d : Fin 64) : result vb vn z s t (ix2 r d)
    = attend z (fun k : Fin 2048 => s (ix2 r k)) (fun k => vb (ix2 k d)) (fun k : Fin 128 => t (ix2 r k)) (fun k => vn (ix2 k d)) := by
  pointwise [result, oldWeights, newWeights]
  simp only [total_at, most_at]
  rfl

end

/-! ### Which keys a query of a block sees, and how far away they are. -/

theorem and_7 : ∀ r : Fin 128, IntOp.andi (BitVec.ofNat 32 r.val) 7#32 = BitVec.ofNat 32 (r.val % 8) := by decide +kernel
theorem and_127 : ∀ k : Fin 2048, IntOp.andi (BitVec.ofNat 32 k.val) 127#32 = BitVec.ofNat 32 (k.val % 128) := by decide +kernel
theorem shift_3 : ∀ r : Fin 128, IntOp.shrsi .vector (BitVec.ofNat 32 r.val) 3#32 = BitVec.ofNat 32 (r.val / 8) := by decide +kernel
theorem shift_7 : ∀ k : Fin 2048, IntOp.shrsi .vector (BitVec.ofNat 32 k.val) 7#32 = BitVec.ofNat 32 (k.val / 128) := by decide +kernel
theorem same_sequence : ∀ a b : Fin 16, IntOp.cmpi CmpIPredicate.eq (BitVec.ofNat 32 a.val) (BitVec.ofNat 32 b.val) = if a.val = b.val then 1#1 else 0#1 := by decide +kernel
theorem in_reach : ∀ (s : Fin 128) (t : Fin 8), IntOp.cmpi CmpIPredicate.sge (BitVec.ofNat 32 s.val) (BitVec.ofNat 32 t.val) = if t.val ≤ s.val then 1#1 else 0#1 := by decide +kernel
theorem not_after : ∀ k r : Fin 128, IntOp.cmpi CmpIPredicate.sle (BitVec.ofNat 32 k.val) (BitVec.ofNat 32 r.val) = if k.val ≤ r.val then 1#1 else 0#1 := by decide +kernel
theorem old_distance : ∀ (t : Fin 8) (s : Fin 128),
    (IntOp.addi (IntOp.subi (BitVec.ofNat 32 t.val) (BitVec.ofNat 32 s.val)) 128#32).toInt = 128 + (t.val : ℤ) - (s.val : ℤ) := by decide +kernel
theorem new_distance : ∀ t s : Fin 8, (IntOp.subi (BitVec.ofNat 32 t.val) (BitVec.ofNat 32 s.val)).toInt = (t.val : ℤ) - (s.val : ℤ) := by decide +kernel

/-- Which of a block's old keys a query sees. -/
abbrev seen : IVec S128x2048 1 := k0_pay16 kernelRun0_A.sl.v22 kernelRun0_A.sl.v23 k0_pay12 k0_pay13

theorem seen_at (r : Fin 128) (k : Fin 2048) : seen (ix2 r k) = if r.val / 8 = k.val / 128 ∧ r.val % 8 ≤ k.val % 128 then 1#1 else 0#1 := by
  unfold seen kernelRun0_A.sl.v22 kernelRun0_A.sl.v23
  pointwise [k0_pay16, k0_pay12, k0_pay13]
  have h1 := same_sequence ⟨r.val / 8, by omega⟩ ⟨k.val / 128, by omega⟩
  have h2 := in_reach ⟨k.val % 128, by omega⟩ ⟨r.val % 8, by omega⟩
  dsimp only at h1 h2
  rw [and_7, and_127, shift_3, shift_7, h1, h2]
  by_cases ha : r.val / 8 = k.val / 128 <;> by_cases hb : r.val % 8 ≤ k.val % 128 <;> simp only [ha, hb, if_true, if_false, and_true, and_false, true_and, false_and] <;> rfl

theorem seenNew_at (r k : Fin 128) : k0_pay18 (ix2 r k) = if r.val / 8 = k.val / 8 ∧ k.val ≤ r.val then 1#1 else 0#1 := by
  pointwise [k0_pay18]
  have h1 := same_sequence ⟨r.val / 8, by omega⟩ ⟨k.val / 8, by omega⟩
  dsimp only at h1
  rw [shift_3, shift_3, h1, not_after]
  by_cases ha : r.val / 8 = k.val / 8 <;> by_cases hb : k.val ≤ r.val <;> simp only [ha, hb, if_true, if_false, and_true, and_false, true_and, false_and] <;> rfl

theorem far_at (r : Fin 128) (k : Fin 2048) : (k0_pay15 (F := Ideal) k0_pay14) (ix2 r k) = (((128 + ((r.val % 8 : ℕ) : ℤ) - ((k.val % 128 : ℕ) : ℤ) : ℤ) : ℝ) : EReal) := by
  pointwise [k0_pay15, k0_pay14, k0_pay12, k0_pay13]
  rw [and_7, and_127]
  exact congrArg (fun n : ℤ => ((n : ℝ) : EReal)) (old_distance ⟨r.val % 8, by omega⟩ ⟨k.val % 128, by omega⟩)

theorem farNew_at (r k : Fin 128) : k0_pay17 (F := Ideal) (ix2 r k) = (((((r.val % 8 : ℕ) : ℤ) - ((k.val % 8 : ℕ) : ℤ) : ℤ) : ℝ) : EReal) := by
  pointwise [k0_pay17]
  rw [and_7, and_7]
  exact congrArg (fun n : ℤ => ((n : ℝ) : EReal)) (new_distance ⟨r.val % 8, by omega⟩ ⟨k.val % 8, by omega⟩)

section
variable (a e : ℕ) (ha : S128x512.Slices ![0, a] S128x64) (hb : S2048x128.Slices ![0, e] S2048x64) (hn : S128x128.Slices ![0, e] S128x64)
  (l : BitVec 32) (z : Ideal .f32) (Q : Vec Ideal S128x512 .f32) (K V : Vec Ideal S16x128x128 .f32) (Kn Vn : Vec Ideal S16x8x128 .f32)

/-- A head's result in a block: its queries begin at column `a`, its keys and values at column `e`. -/
def headOf : FVec Ideal S128x64 .f32 :=
  result (extractStridedSlice S2048x64 ![0, e] (k0_pay9 V) hb) (extractStridedSlice S128x64 ![0, e] (k0_pay11 Vn) hn) z
    (oldScores (extractStridedSlice S128x64 ![0, a] (k0_pay19 Q) ha) (extractStridedSlice S2048x64 ![0, e] (k0_pay8 K) hb) (k0_pay15 k0_pay14) seen (Scalar.ofBits .f32 l))
    (newScores (extractStridedSlice S128x64 ![0, a] (k0_pay19 Q) ha) (extractStridedSlice S128x64 ![0, e] (k0_pay10 Kn) hn) k0_pay17 k0_pay18 (Scalar.ofBits .f32 l))

theorem query_at (a' : a + 64 ≤ 512) (r : Fin 128) (d : Fin 64) :
    (extractStridedSlice S128x64 ![0, a] (k0_pay19 Q) ha (ix2 r d) : EReal) = Q (ix2 r ⟨a + d, by omega⟩) := by
  pointwise [k0_pay19]

theorem key_at (e' : e + 64 ≤ 128) (k : Fin 2048) (d : Fin 64) :
    (extractStridedSlice S2048x64 ![0, e] (k0_pay8 K) hb (ix2 k d) : EReal) = K (ix3 ⟨k / 128, by omega⟩ ⟨k % 128, by omega⟩ ⟨e + d, by omega⟩) := by
  pointwise [k0_pay8, k0_pay2]

theorem value_at (e' : e + 64 ≤ 128) (k : Fin 2048) (d : Fin 64) :
    (extractStridedSlice S2048x64 ![0, e] (k0_pay9 V) hb (ix2 k d) : EReal) = V (ix3 ⟨k / 128, by omega⟩ ⟨k % 128, by omega⟩ ⟨e + d, by omega⟩) := by
  pointwise [k0_pay9, k0_pay3]

theorem newKey_at (e' : e + 64 ≤ 128) (k : Fin 128) (d : Fin 64) :
    (extractStridedSlice S128x64 ![0, e] (k0_pay10 Kn) hn (ix2 k d) : EReal) = Kn (ix3 ⟨k / 8, by omega⟩ ⟨k % 8, by omega⟩ ⟨e + d, by omega⟩) := by
  pointwise [k0_pay10, k0_pay4]

theorem newValue_at (e' : e + 64 ≤ 128) (k : Fin 128) (d : Fin 64) :
    (extractStridedSlice S128x64 ![0, e] (k0_pay11 Vn) hn (ix2 k d) : EReal) = Vn (ix3 ⟨k / 8, by omega⟩ ⟨k % 8, by omega⟩ ⟨e + d, by omega⟩) := by
  pointwise [k0_pay11, k0_pay5]

/-- A head's result at an entry: the query attends to its own sequence's keys alone. -/
theorem headOf_at (a' : a + 64 ≤ 512) (e' : e + 64 ≤ 128) (r : Fin 128) (d : Fin 64) : headOf a e ha hb hn l z Q K V Kn Vn (ix2 r d)
    = attend z (fun s : Fin 128 => oldScore (fun d => Q (ix2 r ⟨a + d, by omega⟩)) (fun d => K (ix3 ⟨r / 8, by omega⟩ s ⟨e + d, by omega⟩)) (Ideal.ofBits FTy.f32 l) ⟨r % 8, by omega⟩ s)
        (fun s => V (ix3 ⟨r / 8, by omega⟩ s ⟨e + d, by omega⟩))
        (fun s : Fin 8 => newScore (fun d => Q (ix2 r ⟨a + d, by omega⟩)) (fun d => Kn (ix3 ⟨r / 8, by omega⟩ s ⟨e + d, by omega⟩)) (Ideal.ofBits FTy.f32 l) ⟨r % 8, by omega⟩ s)
        (fun s => Vn (ix3 ⟨r / 8, by omega⟩ s ⟨e + d, by omega⟩)) := by
  unfold headOf
  rw [result_at]
  refine attend_block (n := 16) (w := 128) (n' := 16) (w' := 8) rfl rfl ⟨r / 8, by omega⟩ ⟨r / 8, by omega⟩ z _ _ _ _ _ _ _ _ (fun i => by simp only; omega) (fun i => by simp only; omega)
    (fun k h => ?_) (fun k h => ?_) (fun s => ?_) (fun s => ?_) (fun s => ?_) (fun s => ?_)
  · rw [oldScores_at, seen_at, if_neg (fun h' => h h'.1.symm)]; rfl
  · rw [newScores_at, seenNew_at, if_neg (fun h' => h h'.1.symm)]; rfl
  · have e1 : (128 * (r.val / 8) + s.val) / 128 = r.val / 8 := by omega
    have e2 : (128 * (r.val / 8) + s.val) % 128 = s.val := by omega
    rw [oldScores_at, seen_at, far_at]
    simp only [query_at a ha Q a', key_at e hb K e', e1, e2, true_and, Fin.eta]
    unfold oldScore
    by_cases h : r.val % 8 ≤ s.val
    · rw [if_pos h, if_pos h]; rfl
    · rw [if_neg h, if_neg h]; rfl
  · have e1 : (8 * (r.val / 8) + s.val) / 8 = r.val / 8 := by omega
    have e2 : (8 * (r.val / 8) + s.val) % 8 = s.val := by omega
    have e3 : 8 * (r.val / 8) + s.val ≤ r.val ↔ s.val ≤ r.val % 8 := by omega
    rw [newScores_at, seenNew_at, farNew_at]
    simp only [query_at a ha Q a', newKey_at e hn Kn e', e1, e2, e3, true_and, Fin.eta]
    unfold newScore
    by_cases h : s.val ≤ r.val % 8
    · rw [if_pos h, if_pos h]; rfl
    · rw [if_neg h, if_neg h]; rfl
  · have e1 : (128 * (r.val / 8) + s.val) / 128 = r.val / 8 := by omega
    have e2 : (128 * (r.val / 8) + s.val) % 128 = s.val := by omega
    simp only [value_at e hb V e', e1, e2, Fin.eta]
  · have e1 : (8 * (r.val / 8) + s.val) / 8 = r.val / 8 := by omega
    have e2 : (8 * (r.val / 8) + s.val) % 8 = s.val := by omega
    simp only [newValue_at e hn Vn e', e1, e2, Fin.eta]

end

section
variable (c : Dev nD) (i : grid0.Coords)
  (arg1 : Memref sig .tc .smem S8 .f32) (harg1 : arg1.IsWhole) (arg2 : Memref sig .tc .vmem S128x512 .f32) (harg2 : arg2.IsWhole)
  (arg3 : Memref sig .tc .vmem S16x8x128 .f32) (harg3 : arg3.IsWhole) (arg4 : Memref sig .tc .vmem S16x8x128 .f32) (harg4 : arg4.IsWhole)
  (arg5 : Memref sig .tc .vmem S16x128x128 .f32) (harg5 : arg5.IsWhole) (arg6 : Memref sig .tc .vmem S16x128x128 .f32) (harg6 : arg6.IsWhole)
  (arg7 : Memref sig .tc .vmem S128x512 .f32) (harg7 : arg7.IsWhole) (arg8 : Memref sig .tc .vmem S16x128x128 .f32) (harg8 : arg8.IsWhole)
  (arg9 : Memref sig .tc .vmem S16x128x128 .f32) (harg9 : arg9.IsWhole)
  (x0 : Vec Ideal S8 .f32) (x1 : Vec Ideal S128x512 .f32) (x2 x3 : Vec Ideal S16x8x128 .f32) (x4 x5 : Vec Ideal S16x128x128 .f32)

/-- A block's result at an entry: the head is that of the column. -/
def blockOut (r : Fin 128) (j : Fin 512) : EReal :=
  attend (x0 (ix1 ⟨j / 64, by omega⟩))
    (fun s : Fin 128 => oldScore (fun d => x1 (ix2 r ⟨64 * (j / 64) + d, by omega⟩)) (fun d => x4 (ix3 ⟨r / 8, by omega⟩ s ⟨64 * (j / 256) + d, by omega⟩)) (decay ⟨j / 64, by omega⟩) ⟨r % 8, by omega⟩ s)
    (fun s => x5 (ix3 ⟨r / 8, by omega⟩ s ⟨64 * (j / 256) + j % 64, by omega⟩))
    (fun s : Fin 8 => newScore (fun d => x1 (ix2 r ⟨64 * (j / 64) + d, by omega⟩)) (fun d => x2 (ix3 ⟨r / 8, by omega⟩ s ⟨64 * (j / 256) + d, by omega⟩)) (decay ⟨j / 64, by omega⟩) ⟨r % 8, by omega⟩ s)
    (fun s => x3 (ix3 ⟨r / 8, by omega⟩ s ⟨64 * (j / 256) + j % 64, by omega⟩))

/-- A load of a whole block of queries. -/
theorem load_query (off : Fin 2 → ℕ) (hoff : off = ![0, 0]) (inb) :
    View.readAt (Elt Ideal) arg2.view (Rect.unit (s := S128x512) off S128x512.size inb).toLoadRect (harg2.unread x1) = x1 := by
  funext y
  rw [View.readAt_apply, harg2.read_unread]
  refine congrArg x1 ?_
  subst hoff
  refine funext fun d => Fin.ext ?_
  refine (Rect.idx_unit_val _ _ _ _ d).trans ?_
  fin_cases d <;> simp

/-- A load of a head's sink. -/
theorem load_sink (h : Fin 8) (off : Fin 1 → ℕ) (hoff : off = ![h.val]) (inb) (p) :
    View.readAt (Elt Ideal) arg1.view (Rect.unit (s := S8) off S1.size inb).toLoadRect (harg1.unread x0) (Shape.Idx.first p) = x0 (ix1 h) := by
  rw [View.readAt_apply, harg1.read_unread]
  refine congrArg x0 ?_
  subst hoff
  refine funext fun d => Fin.ext ?_
  refine (Rect.idx_unit_val _ _ _ _ d).trans ?_
  fin_cases d
  simp

/-- The store of a head's result. -/
theorem head_piece (h : Fin 8) (l : BitVec 32) (hl : (Ideal.ofBits FTy.f32 l : EReal) = decay h) (ha : S128x512.Slices ![0, 64 * h.val] S128x64)
    (hb : S2048x128.Slices ![0, 64 * (h.val / 4)] S2048x64) (hn : S128x128.Slices ![0, 64 * (h.val / 4)] S128x64)
    (z : Ideal .f32) (Q : Vec Ideal S128x512 .f32) (K V : Vec Ideal S16x128x128 .f32) (Kn Vn : Vec Ideal S16x8x128 .f32)
    (hz : z = x0 (ix1 h)) (hQ : Q = x1) (hK : K = x4) (hV : V = x5) (hKn : Kn = x2) (hVn : Vn = x3)
    (off : Fin 2 → ℕ) (hoff : off = ![0, 64 * h.val]) (inb) (w : FVec Ideal S128x64 .f32)
    (hw : w = headOf (64 * h.val) (64 * (h.val / 4)) ha hb hn l z Q K V Kn Vn) (r : Fin 128) (j : Fin 512) (x : S128x64.Idx)
    (hx : (Rect.unit (s := S128x512) off S128x64.size inb).idx x = ix2 r j) : w x = blockOut x0 x1 x2 x3 x4 x5 r j := by
  obtain ⟨r', d, rfl⟩ : ∃ (r : Fin 128) (d : Fin 64), x = (ix2 r d : S128x64.Idx) := ⟨x 0, x 1, eq_ix2 (n0 := 128) (n1 := 64) x⟩
  have e : (Rect.unit (s := S128x512) off S128x64.size inb).idx (ix2 r' d) = ix2 r' ⟨64 * h.val + d, by omega⟩ := by
    subst hoff
    refine funext fun a => Fin.ext ?_
    refine (Rect.idx_unit_val _ _ _ _ a).trans ?_
    fin_cases a <;> simp
  obtain ⟨rfl, rfl⟩ := (ix2_inj ..).1 (e.symm.trans hx)
  subst hz hQ hK hV hKn hVn hw
  rw [headOf_at _ _ _ _ _ _ _ _ _ _ _ _ (by omega) (by omega), hl]
  unfold blockOut
  have e1 : (64 * h.val + d.val) / 64 = h.val := by omega
  have e2 : (64 * h.val + d.val) / 256 = h.val / 4 := by omega
  have e3 : (64 * h.val + d.val) % 64 = d.val := by omega
  simp only [e1, e2, e3, Fin.eta]

/-- The slopes as the kernel writes them. -/
theorem bits_decay : ∀ h : Fin 8, (Ideal.ofBits FTy.f32 (![0x3F000000#32, 0x3E800000#32, 0x3E000000#32, 0x3D800000#32, 0x3D000000#32, 0x3C800000#32, 0x3C000000#32, 0x3B800000#32] h) : EReal) = decay h := by
  intro h
  fin_cases h <;> simp [Ideal.ofBits, Ideal.ieee] <;> rw [← EReal.coe_mul] <;> refine congrArg Real.toEReal ?_ <;> norm_num

/-- The attention's output of a block. -/
theorem out6_at (r : Fin 128) (j : Fin 512) :
    out0_A_6 (F := Ideal) c i arg1 harg1 arg2 harg2 arg3 harg3 arg4 harg4 arg5 harg5 arg6 harg6 arg7 harg7 arg8 harg8 arg9 harg9 x0 x1 x2 x3 x4 x5 (ix2 r j)
      = blockOut x0 x1 x2 x3 x4 x5 r j := by
  unfold out0_A_6
  rw [View.read_writes_junk_apply_eq_canon]
  refine View.canon_eq_of_allAt _ _ _ (cover0_A_6 c i arg1 harg1 arg2 harg2 arg3 harg3 arg4 harg4 arg5 harg5 arg6 harg6 arg7 harg7 arg8 harg8 arg9 harg9 x0 x1 x2 x3 x4 x5 _) ?_
  unfold kernelRun0_A
  dsimp only
  have hQ := load_query arg2 harg2 x1 _ rfl inb_S128x512_S128x512_0_0
  have hK := funext (Cache.load_old x4 arg5 harg5 _ rfl inb_S16x128x128_S16x128x128_0_0_0)
  have hV := funext (Cache.load_old x5 arg6 harg6 _ rfl inb_S16x128x128_S16x128x128_0_0_0)
  have hKn := funext (Cache.load_new x2 arg3 harg3 _ rfl inb_S16x8x128_S16x8x128_0_0_0)
  have hVn := funext (Cache.load_new x3 arg4 harg4 _ rfl inb_S16x8x128_S16x8x128_0_0_0)
  refine View.allAt_cons _ _ _ (fun x hx => ?_) (View.allAt_cons _ _ _ (fun x hx => ?_) (View.allAt_cons _ _ _ (fun x hx => ?_) (View.allAt_cons _ _ _ (fun x hx => ?_)
    (View.allAt_cons _ _ _ (fun x hx => ?_) (View.allAt_cons _ _ _ (fun x hx => ?_) (View.allAt_cons _ _ _ (fun x hx => ?_) (View.allAt_cons _ _ _ (fun x hx => ?_) (View.allAt_nil _ _))))))))
  · exact head_piece x0 x1 x2 x3 x4 x5 7 _ (bits_decay 7) slices_S128x512_o0_448_S128x64 slices_S2048x128_o0_64_S2048x64 slices_S128x128_o0_64_S128x64 _ _ _ _ _ _ (load_sink arg1 harg1 x0 7 _ rfl inb_S8_S1_7 _) hQ hK hV hKn hVn _ rfl _ _ rfl r j x hx
  · exact head_piece x0 x1 x2 x3 x4 x5 6 _ (bits_decay 6) slices_S128x512_o0_384_S128x64 slices_S2048x128_o0_64_S2048x64 slices_S128x128_o0_64_S128x64 _ _ _ _ _ _ (load_sink arg1 harg1 x0 6 _ rfl inb_S8_S1_6 _) hQ hK hV hKn hVn _ rfl _ _ rfl r j x hx
  · exact head_piece x0 x1 x2 x3 x4 x5 5 _ (bits_decay 5) slices_S128x512_o0_320_S128x64 slices_S2048x128_o0_64_S2048x64 slices_S128x128_o0_64_S128x64 _ _ _ _ _ _ (load_sink arg1 harg1 x0 5 _ rfl inb_S8_S1_5 _) hQ hK hV hKn hVn _ rfl _ _ rfl r j x hx
  · exact head_piece x0 x1 x2 x3 x4 x5 4 _ (bits_decay 4) slices_S128x512_o0_256_S128x64 slices_S2048x128_o0_64_S2048x64 slices_S128x128_o0_64_S128x64 _ _ _ _ _ _ (load_sink arg1 harg1 x0 4 _ rfl inb_S8_S1_4 _) hQ hK hV hKn hVn _ rfl _ _ rfl r j x hx
  · exact head_piece x0 x1 x2 x3 x4 x5 3 _ (bits_decay 3) slices_S128x512_o0_192_S128x64 slices_S2048x128_o0_0_S2048x64 slices_S128x128_o0_0_S128x64 _ _ _ _ _ _ (load_sink arg1 harg1 x0 3 _ rfl inb_S8_S1_3 _) hQ hK hV hKn hVn _ rfl _ _ rfl r j x hx
  · exact head_piece x0 x1 x2 x3 x4 x5 2 _ (bits_decay 2) slices_S128x512_o0_128_S128x64 slices_S2048x128_o0_0_S2048x64 slices_S128x128_o0_0_S128x64 _ _ _ _ _ _ (load_sink arg1 harg1 x0 2 _ rfl inb_S8_S1_2 _) hQ hK hV hKn hVn _ rfl _ _ rfl r j x hx
  · exact head_piece x0 x1 x2 x3 x4 x5 1 _ (bits_decay 1) slices_S128x512_o0_64_S128x64 slices_S2048x128_o0_0_S2048x64 slices_S128x128_o0_0_S128x64 _ _ _ _ _ _ (load_sink arg1 harg1 x0 1 _ rfl inb_S8_S1_1 _) hQ hK hV hKn hVn _ rfl _ _ rfl r j x hx
  · exact head_piece x0 x1 x2 x3 x4 x5 0 _ (bits_decay 0) slices_S128x512_o0_0_S128x64 slices_S2048x128_o0_0_S2048x64 slices_S128x128_o0_0_S128x64 _ _ _ _ _ _ (load_sink arg1 harg1 x0 0 _ rfl inb_S8_S1_0 _) hQ hK hV hKn hVn _ rfl _ _ rfl r j x hx

end

end Cert.Kernel8Ideal.Window

end
-- ==== Proof.WindowRef.lean ====
/- The reference of the sample's window attention, at an entry of a query's head. -/
module

public import proofs.«01_k».proof.Proof.WindowRows
public import proofs.«01_k».proof.Proof.Gen.Reference8Ideal.Run
public import Idealize.ShloMosaic.Lib.Pipeline.ValueKit

@[expose] public section

set_option maxRecDepth 16384

noncomputable section

namespace Cert.Reference8Ideal.Window

open Idealize.ShloMosaic Idealize.ShloMosaic.TcCoe Idealize.SL.Sem
open Cert.Reference8Ideal Cert.Reference8Ideal.Gen Cert.Reference8Ideal.Value Cert.Window

/-- A query's position less a key's. -/
def GAP : IVec S8x136 32 := subi (broadcastInDim S8x136 ![0, 1] bcast_S8x1_S8x136_0_1 (broadcastInDim S8x1 ![0] bcast_S8_S8x1_0 (addi (broadcastInDim S8 ![] bcast_S_S8 (constantI S_ 32 16384#32)) (iotaInDim S8 32 0)))) (broadcastInDim S8x136 ![0, 1] bcast_S1x136_S8x136_0_1 (broadcastInDim S1x136 ![1] bcast_S136_S1x136_1 (addi (broadcastInDim S136 ![] bcast_S_S136 (constantI S_ 32 16256#32)) (iotaInDim S136 32 0))))

/-- Which keys a query sees. -/
def SEEN : IVec S8x136 1 := andi (cmpi .sge GAP (broadcastInDim S8x136 ![] bcast_S_S8x136 (constantI S_ 32 0#32))) (cmpi .sle GAP (broadcastInDim S8x136 ![] bcast_S_S8x136 (constantI S_ 32 128#32)))

/-- The heads' slopes. -/
def SLOPES : FVec Ideal S8 .f32 := Host.powf (broadcastInDim S8 ![] bcast_S_S8 (constant S_ .f32 0x40000000#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32)))

section
variable (sinks : FVec Ideal S1x8 .f32) (q : FVec Ideal S1024x512 .f32) (new newV : FVec Ideal S1024x128 .f32) (old oldV : FVec Ideal S1x128x128x2x64 .f32)

/-- The old entries and the new ones after them. -/
def BOTH : FVec Ideal S128x136x2x64 .f32 := concatenate S128x136x2x64 1 [⟨S128x128x2x64, (shapeCast _ old shapeCasts_S1x128x128x2x64_S128x128x2x64)⟩, ⟨S128x8x2x64, (shapeCast _ new shapeCasts_S1024x128_S128x8x2x64)⟩] concatenates_S128x128x2x64_S128x8x2x64_S128x136x2x64_d1

/-- The scores. -/
def SC : FVec Ideal S128x2x4x8x136 .f32 := select (broadcastInDim S128x2x4x8x136 ![3, 4] bcast_S8x136_S128x2x4x8x136_3_4 SEEN) (subf (transpose S128x2x4x8x136 [0, 1, 4, 3, 2] (Host.dotGeneral dot_S128x136x2x64_S128x8x2x4x64_S128x2x136x8x4_3_4_1_13_02_02 none (BOTH new old) (shapeCast _ q shapeCasts_S1024x512_S128x8x2x4x64)) transposes_S128x2x136x8x4_S128x2x4x8x136_0_1_4_3_2) (broadcastInDim S128x2x4x8x136 ![0, 1, 2, 3, 4] bcast_S1x2x4x8x136_S128x2x4x8x136_0_1_2_3_4 (broadcastInDim S1x2x4x8x136 ![1, 2, 3, 4] bcast_S2x4x8x136_S1x2x4x8x136_1_2_3_4 (mulf (broadcastInDim S2x4x8x136 ![0, 1, 2, 3] bcast_S2x4x1x1_S2x4x8x136_0_1_2_3 (broadcastInDim S2x4x1x1 ![0, 1] bcast_S2x4_S2x4x1x1_0_1 (shapeCast _ SLOPES shapeCasts_S8_S2x4))) (broadcastInDim S2x4x8x136 ![0, 1, 2, 3] bcast_S1x1x8x136_S2x4x8x136_0_1_2_3 (broadcastInDim S1x1x8x136 ![2, 3] bcast_S8x136_S1x1x8x136_2_3 (sitofp .f32 GAP))))))) (broadcastInDim S128x2x4x8x136 ![] bcast_S_S128x2x4x8x136 (id (constant S_ .f32 0xFF800000#32)))

/-- The sinks, one to a head. -/
def SINK : FVec Ideal S128x2x4x8x1 .f32 := broadcastInDim S128x2x4x8x1 ![0, 1, 2, 3, 4] bcast_S1x2x4x1x1_S128x2x4x8x1_0_1_2_3_4 (broadcastInDim S1x2x4x1x1 ![1, 2, 3, 4] bcast_S2x4x1x1_S1x2x4x1x1_1_2_3_4 (broadcastInDim S2x4x1x1 ![0, 1] bcast_S2x4_S2x4x1x1_0_1 (shapeCast _ (shapeCast _ sinks shapeCasts_S1x8_S8) shapeCasts_S8_S2x4)))

/-- The largest of the scores and the sink. -/
def MOST : FVec Ideal S128x2x4x8x1 .f32 := maximumf (broadcastInDim S128x2x4x8x1 ![0, 1, 2, 3] bcast_S128x2x4x8_S128x2x4x8x1_0_1_2_3 (Host.reduce FloatOps.maximumf (SC q new old) (constant S_ .f32 0xFF800000#32) reducesTo_S128x2x4x8x136_S128x2x4x8_d4 h_S_)) (SINK sinks)

/-- The weights. -/
def WT : FVec Ideal S128x2x4x8x136 .f32 := Host.exp (subf (SC q new old) (broadcastInDim S128x2x4x8x136 ![0, 1, 2, 3, 4] bcast_S128x2x4x8x1_S128x2x4x8x136_0_1_2_3_4 (MOST sinks q new old)))

/-- The weights' sum. -/
def DEN : FVec Ideal S128x2x4x8x1 .f32 := addf (broadcastInDim S128x2x4x8x1 ![0, 1, 2, 3] bcast_S128x2x4x8_S128x2x4x8x1_0_1_2_3 (Host.reduceAdd (WT sinks q new old) (constant S_ .f32 0x00000000#32) reducesTo_S128x2x4x8x136_S128x2x4x8_d4 h_S_)) (Host.exp (subf (SINK sinks) (MOST sinks q new old)))

/-- The whole result. -/
def OUT : FVec Ideal S1024x512 .f32 := shapeCast _ (transpose S128x8x2x4x64 [0, 3, 1, 2, 4] (Host.divf (Host.dotGeneral dot_S128x2x4x8x136_S128x136x2x64_S128x2x4x8x64_4_1_23_3_01_02 none (WT sinks q new old) (BOTH newV oldV)) (broadcastInDim S128x2x4x8x64 ![0, 1, 2, 3, 4] bcast_S128x2x4x8x1_S128x2x4x8x64_0_1_2_3_4 (DEN sinks q new old))) transposes_S128x2x4x8x64_S128x8x2x4x64_0_3_1_2_4) shapeCasts_S128x8x2x4x64_S1024x512

theorem gap_at (t : Fin 8) (k : Fin 136) : GAP (ix2 t k) = IntOp.subi (IntOp.addi (16384#32) (BitVec.ofNat 32 t.val)) (IntOp.addi (16256#32) (BitVec.ofNat 32 k.val)) := by
  pointwise [GAP]

theorem gap_val : ∀ (t : Fin 8) (k : Fin 136),
    (IntOp.subi (IntOp.addi (16384#32) (BitVec.ofNat 32 t.val)) (IntOp.addi (16256#32) (BitVec.ofNat 32 k.val))).toInt = 128 + (t.val : ℤ) - (k.val : ℤ) := by decide +kernel

theorem gap_seen : ∀ (t : Fin 8) (k : Fin 136),
    IntOp.andi (IntOp.cmpi CmpIPredicate.sge (IntOp.subi (IntOp.addi (16384#32) (BitVec.ofNat 32 t.val)) (IntOp.addi (16256#32) (BitVec.ofNat 32 k.val))) 0#32)
        (IntOp.cmpi CmpIPredicate.sle (IntOp.subi (IntOp.addi (16384#32) (BitVec.ofNat 32 t.val)) (IntOp.addi (16256#32) (BitVec.ofNat 32 k.val))) 128#32)
      = if t.val ≤ k.val ∧ k.val ≤ 128 + t.val then 1#1 else 0#1 := by decide +kernel

/-- A query sees the keys from its own place on in the window, up to itself. -/
theorem seen_at (t : Fin 8) (k : Fin 136) : SEEN (ix2 t k) = if t.val ≤ k.val ∧ k.val ≤ 128 + t.val then 1#1 else 0#1 := by
  pointwise [SEEN]
  rw [gap_at]
  exact gap_seen t k

theorem number : ∀ h : Fin 8, (BitVec.ofNat 32 h.val).toInt = (h.val : ℤ) := by decide +kernel

theorem slopes_at (h : Fin 8) : SLOPES (ix1 h) = decay h := by
  pointwise [SLOPES]
  rw [show (Ideal.ofBits FTy.f32 0x40000000#32 : EReal) = ((2 : ℝ) : EReal) from by simp [Ideal.ofBits, Ideal.ieee]; rw [← EReal.coe_mul]; norm_num,
    show (Ideal.ofBits FTy.f32 0xC1000000#32 : EReal) = ((-8 : ℝ) : EReal) from by simp [Ideal.ofBits, Ideal.ieee]; rw [← EReal.coe_mul]; norm_num,
    show (Ideal.ofBits FTy.f32 0x41000000#32 : EReal) = ((8 : ℝ) : EReal) from by simp [Ideal.ofBits, Ideal.ieee]; rw [← EReal.coe_mul]; norm_num,
    show (FloatOps.sitofp (F := Ideal) FTy.f32 (BitVec.ofNat 32 h.val) : EReal) = ((h.val : ℝ) : EReal) from
      (congrArg (fun n : ℤ => ((n : ℝ) : EReal)) (number h)).trans (by simp),
    Ideal.div_coe (by norm_num), Cert.Softmax.pow_two]
  unfold decay
  have e : ((-8 : ℝ) : EReal) * (1 + ((h.val : ℝ) : EReal)) * ((1 / 8 : ℝ) : EReal) = ((-((h.val + 1 : ℕ) : ℝ) : ℝ) : EReal) := by
    rw [← EReal.coe_one, ← EReal.coe_add, ← EReal.coe_mul, ← EReal.coe_mul]
    refine congrArg Real.toEReal ?_
    push_cast
    ring
  rw [e, Ideal.exp2_coe]
  refine congrArg Real.toEReal ?_
  show (2 : ℝ) ^ (-((h.val + 1 : ℕ) : ℝ)) = _
  rw [Real.rpow_neg (by norm_num), Real.rpow_natCast, inv_pow]

theorem both_at (b : Fin 128) (k : Fin 136) (h : Fin 2) (d : Fin 64) : BOTH new old (ix4 b k h d)
    = if hk : k.val < 128 then (old (ix5 0 b ⟨k, hk⟩ h d) : EReal) else new (ix2 ⟨b * 8 + (k - 128), by omega⟩ ⟨h * 64 + d, by omega⟩) := by
  pointwise [BOTH]

theorem both_old (b s : Fin 128) (h : Fin 2) (d : Fin 64) : BOTH new old (ix4 b ⟨s, by omega⟩ h d) = old (ix5 0 b s h d) := by
  simp only [both_at, s.isLt, ↓reduceDIte, Fin.eta]

theorem both_new (b : Fin 128) (s : Fin 8) (h : Fin 2) (d : Fin 64) :
    BOTH new old (ix4 b ⟨128 + s, by omega⟩ h d) = new (ix2 ⟨b * 8 + s, by omega⟩ ⟨h * 64 + d, by omega⟩) := by
  have hn : ¬ 128 + s.val < 128 := by omega
  have hk : 128 + s.val - 128 = s.val := by omega
  simp only [both_at, hn, hk, ↓reduceDIte]

theorem low (i : S_.Idx) : (id (constant (F := Ideal) S_ .f32 0xFF800000#32) i : EReal) = ⊥ := by
  show (Ideal.ofBits FTy.f32 0xFF800000#32 : EReal) = ⊥
  simp [Ideal.ofBits, Ideal.ieee]

theorem sc_at (b : Fin 128) (h : Fin 2) (g : Fin 4) (t : Fin 8) (k : Fin 136) : SC q new old (ix5 b h g t k)
    = if t.val ≤ k.val ∧ k.val ≤ 128 + t.val then
        (∑ x : Fin 64, (q (ix2 ⟨b * 8 + t, by omega⟩ ⟨h * 256 + g * 64 + x, by omega⟩) : EReal) * BOTH new old (ix4 b k h x))
          - decay ⟨h * 4 + g, by omega⟩ * (((128 + (t.val : ℤ) - (k.val : ℤ) : ℤ) : ℝ) : EReal) else ⊥ := by
  pointwise [SC]
  rw [seen_at, slopes_at, gap_at, low,
    show (FloatOps.sitofp (F := Ideal) FTy.f32 (IntOp.subi (IntOp.addi (16384#32) (BitVec.ofNat 32 t.val)) (IntOp.addi (16256#32) (BitVec.ofNat 32 k.val))) : EReal)
      = (((128 + (t.val : ℤ) - (k.val : ℤ) : ℤ) : ℝ) : EReal) from congrArg (fun n : ℤ => ((n : ℝ) : EReal)) (gap_val t k)]
  by_cases hc : t.val ≤ k.val ∧ k.val ≤ 128 + t.val
  · rw [if_pos hc, if_pos hc]
    refine congrArg (· - _) (Finset.sum_congr rfl fun x _ => mul_comm _ _)
  · rw [if_neg hc, if_neg hc]; rfl

/-- The score of an old key. -/
theorem sc_old (b : Fin 128) (h : Fin 2) (g : Fin 4) (t : Fin 8) (s : Fin 128) : SC q new old (ix5 b h g t ⟨s, by omega⟩)
    = oldScore (fun d => q (ix2 ⟨b * 8 + t, by omega⟩ ⟨h * 256 + g * 64 + d, by omega⟩)) (fun d => old (ix5 0 b s h d)) (decay ⟨h * 4 + g, by omega⟩) t s := by
  rw [sc_at]
  unfold oldScore
  have hs : s.val ≤ 128 + t.val := by omega
  simp only [both_at, hs, and_true, s.isLt, ↓reduceDIte, Fin.eta]

/-- The score of a new key. -/
theorem sc_new (b : Fin 128) (h : Fin 2) (g : Fin 4) (t s : Fin 8) : SC q new old (ix5 b h g t ⟨128 + s, by omega⟩)
    = newScore (fun d => q (ix2 ⟨b * 8 + t, by omega⟩ ⟨h * 256 + g * 64 + d, by omega⟩)) (fun d => new (ix2 ⟨b * 8 + s, by omega⟩ ⟨h * 64 + d, by omega⟩)) (decay ⟨h * 4 + g, by omega⟩) t s := by
  rw [sc_at]
  unfold newScore
  have hs : (t.val ≤ 128 + s.val ∧ 128 + s.val ≤ 128 + t.val) ↔ s.val ≤ t.val := by omega
  have hn : ¬ 128 + s.val < 128 := by omega
  have hk : 128 + s.val - 128 = s.val := by omega
  have hd : (128 + (t.val : ℤ) - ((128 + s.val : ℕ) : ℤ)) = (t.val : ℤ) - (s.val : ℤ) := by omega
  simp only [both_at, hs, hn, hk, hd, ↓reduceDIte]

theorem most_at (b : Fin 128) (h : Fin 2) (g : Fin 4) (t : Fin 8) : MOST sinks q new old (ix5 b h g t 0)
    = max (top fun k : Fin 136 => SC q new old (ix5 b h g t k)) (sinks (ix2 0 ⟨h * 4 + g, by omega⟩)) := by
  pointwise [MOST, SINK]
  rw [show (Ideal.ofBits FTy.f32 0xFF800000#32 : EReal) = ⊥ from by simp [Ideal.ofBits, Ideal.ieee]]
  rfl

theorem wt_at (b : Fin 128) (h : Fin 2) (g : Fin 4) (t : Fin 8) (k : Fin 136) : WT sinks q new old (ix5 b h g t k)
    = Ideal.exp (SC q new old (ix5 b h g t k) - MOST sinks q new old (ix5 b h g t 0)) := by
  pointwise [WT]

theorem den_at (b : Fin 128) (h : Fin 2) (g : Fin 4) (t : Fin 8) : DEN sinks q new old (ix5 b h g t 0)
    = (∑ k : Fin 136, WT sinks q new old (ix5 b h g t k)) + Ideal.exp (sinks (ix2 0 ⟨h * 4 + g, by omega⟩) - MOST sinks q new old (ix5 b h g t 0)) := by
  pointwise [DEN, SINK]

/-- The result at an entry of a head, for the query at place `t` of a sequence's run. -/
theorem out_at (b : Fin 128) (h : Fin 2) (g : Fin 4) (t : Fin 8) (d : Fin 64) : OUT sinks q new newV old oldV (ix2 ⟨8 * b + t, by omega⟩ ⟨256 * h + 64 * g + d, by omega⟩)
    = attend (sinks (ix2 0 ⟨h * 4 + g, by omega⟩))
        (fun s : Fin 128 => oldScore (fun d => q (ix2 ⟨b * 8 + t, by omega⟩ ⟨h * 256 + g * 64 + d, by omega⟩)) (fun d => old (ix5 0 b s h d)) (decay ⟨h * 4 + g, by omega⟩) t s)
        (fun s => oldV (ix5 0 b s h d))
        (fun s : Fin 8 => newScore (fun d => q (ix2 ⟨b * 8 + t, by omega⟩ ⟨h * 256 + g * 64 + d, by omega⟩)) (fun d => new (ix2 ⟨b * 8 + s, by omega⟩ ⟨h * 64 + d, by omega⟩)) (decay ⟨h * 4 + g, by omega⟩) t s)
        (fun s => newV (ix2 ⟨b * 8 + s, by omega⟩ ⟨h * 64 + d, by omega⟩)) := by
  pointwise [OUT]
  rw [den_at]
  simp only [wt_at, most_at]
  refine (attend_one (n := 128) (k := 8) _ (fun k : Fin 136 => SC q new old (ix5 b h g t k)) (fun k : Fin 136 => BOTH newV oldV (ix4 b k h d))).trans ?_
  exact attend_congr _ (fun s => sc_old q new old b h g t s) (fun s => both_old newV oldV b s h d) (fun s => sc_new q new old b h g t s)
    (fun s => both_new newV oldV b s h d)

/-- The result at a row and a column. -/
theorem out_row (r : Fin 1024) (j : Fin 512) : OUT sinks q new newV old oldV (ix2 r j)
    = attend (sinks (ix2 0 ⟨j / 64, by omega⟩))
        (fun s : Fin 128 => oldScore (fun d => q (ix2 r ⟨64 * (j / 64) + d, by omega⟩)) (fun d => old (ix5 0 ⟨r / 8, by omega⟩ s ⟨j / 256, by omega⟩ d)) (decay ⟨j / 64, by omega⟩) ⟨r % 8, by omega⟩ s)
        (fun s => oldV (ix5 0 ⟨r / 8, by omega⟩ s ⟨j / 256, by omega⟩ ⟨j % 64, by omega⟩))
        (fun s : Fin 8 => newScore (fun d => q (ix2 r ⟨64 * (j / 64) + d, by omega⟩)) (fun d => new (ix2 ⟨r / 8 * 8 + s, by omega⟩ ⟨j / 256 * 64 + d, by omega⟩)) (decay ⟨j / 64, by omega⟩) ⟨r % 8, by omega⟩ s)
        (fun s => newV (ix2 ⟨r / 8 * 8 + s, by omega⟩ ⟨j / 256 * 64 + j % 64, by omega⟩)) := by
  have er : (⟨8 * (r.val / 8) + r.val % 8, by omega⟩ : Fin 1024) = r := Fin.ext (by simp only; omega)
  have ej : (⟨256 * (j.val / 256) + 64 * (j.val / 64 % 4) + j.val % 64, by omega⟩ : Fin 512) = j := Fin.ext (by simp only; omega)
  have h := out_at sinks q new newV old oldV ⟨r / 8, by omega⟩ ⟨j / 256, by omega⟩ ⟨j / 64 % 4, by omega⟩ ⟨r % 8, by omega⟩ ⟨j % 64, by omega⟩
  rw [er, ej] at h
  refine h.trans ?_
  have e1 : j.val / 256 * 4 + j.val / 64 % 4 = j.val / 64 := by omega
  have e2 : ∀ x : ℕ, j.val / 256 * 256 + j.val / 64 % 4 * 64 + x = 64 * (j.val / 64) + x := by omega
  have e3 : r.val / 8 * 8 + r.val % 8 = r.val := by omega
  simp only [e1, e2, e3, Fin.eta]

end

theorem out_eq (m : (ℓ : Loc nD τ sig) → Buf (Elt Ideal) ℓ) (c : Dev nD) : res_main_v67 (F := Ideal) m c
    = OUT (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := rfl

end Cert.Reference8Ideal.Window

end
-- ==== Proof.WindowFinal.lean ====
/- The output of the kernel of the sample's window attention is the reference's. -/
module

public import proofs.«01_k».proof.Proof.WindowBlock
public import proofs.«01_k».proof.Proof.WindowRef
public import proofs.«01_k».proof.Proof.CacheFinal

@[expose] public section

set_option maxRecDepth 16384

noncomputable section

namespace Cert.Kernel8Ideal.Window

open Idealize.ShloMosaic Idealize.ShloMosaic.TcCoe Idealize.ShloMosaic.StableHlo Idealize.SL.Sem
open Idealize.ShloMosaic.Pipeline (Dat)
open Cert.Kernel8Ideal Cert.Kernel8Ideal.Gen Cert.Kernel8Ideal.Cache Cert.Window
open Cert.Reference8Ideal.Window (OUT out_row)

variable (m : (ℓ : Loc nD τ sig) → Buf (Elt Ideal) ℓ) (c : Dev nD)

/-- The sinks. -/
abbrev argS : FVec Ideal S1x8 .f32 := m ((c : Thread nD τ).loc main_arg0)
/-- The queries. -/
abbrev argQ : FVec Ideal S1024x512 .f32 := m ((c : Thread nD τ).loc main_arg1)

/-- Where the blocks of sinks, queries and output lie at a point of the grid. -/
theorem rows : ∀ t : Fin cfg0.N, win0_0.index t = ![0] ∧ win0_1.index t = ![t.val, 0] ∧ win0_6.index t = ![t.val, 0] :=
  (by decide +kernel : ∀ t : Fin grid0.N, _)

theorem emb0 (t : Fin cfg0.N) (h : Fin 8) : ((cfg0.win 0).blk t).view.emb (ix1 h : S8.Idx) = (ix1 h : S8.Idx) := by
  blk_ext [rows t]
theorem emb1 (t : Fin cfg0.N) (r : Fin 128) (j : Fin 512) :
    ((cfg0.win 1).blk t).view.emb (ix2 r j : S128x512.Idx) = (ix2 ⟨128 * t.val + r, by have := point_lt t; omega⟩ j : S1024x512.Idx) := by
  blk_ext [rows t]
theorem emb6 (t : Fin cfg0.N) (r : Fin 128) (j : Fin 512) :
    ((cfg0.win 6).blk t).view.emb (ix2 r j : S128x512.Idx) = (ix2 ⟨128 * t.val + r, by have := point_lt t; omega⟩ j : S1024x512.Idx) := by
  blk_ext [rows t]

/-- The sinks, as a block reads them. -/
theorem sink_at (t : Fin cfg0.N) (h : Fin 8) : (iblk m c 0 t : Vec Ideal S8 .f32) (ix1 h) = argS m c (ix2 0 h) := by
  refine (congrArg (V m c main_v0 : Vec Ideal S8 .f32) (emb0 t h)).trans ?_
  entry_read
  pointwise
/-- The queries of a block. -/
theorem q_at (t : Fin cfg0.N) (r : Fin 128) (j : Fin 512) :
    (iblk m c 1 t : Vec Ideal S128x512 .f32) (ix2 r j) = argQ m c (ix2 ⟨128 * t.val + r, by have := point_lt t; omega⟩ j) := by
  refine (congrArg (V m c main_arg1 : Vec Ideal S1024x512 .f32) (emb1 t r j)).trans ?_
  entry_read
  rfl

/-- The output of a block's step. -/
theorem step6 (t : Fin cfg0.N) (r : Fin 128) (j : Fin 512) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) (ix2 r j)
      = OUT (argS m c) (argQ m c) (argKN m c) (argVN m c) (argK m c) (argV m c) (ix2 ⟨128 * t.val + r, by have := point_lt t; omega⟩ j) := by
  have ht := point_lt t
  rw [out_row]
  refine (out6_at c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t) (iblk m c 4 t) (iblk m c 5 t) r j).trans ?_
  unfold blockOut
  have e1 : (128 * t.val + r.val) / 8 = 16 * t.val + r.val / 8 := by omega
  have e2 : (128 * t.val + r.val) % 8 = r.val % 8 := by omega
  have e3 : ∀ d : Fin 64, (j.val / 256 * 64 + d.val) / 64 = j.val / 256 := by omega
  have e4 : ∀ d : Fin 64, (j.val / 256 * 64 + d.val) % 64 = d.val := by omega
  have e5 : (j.val / 256 * 64 + j.val % 64) / 64 = j.val / 256 := by omega
  have e6 : (j.val / 256 * 64 + j.val % 64) % 64 = j.val % 64 := by omega
  simp only [sink_at, q_at, ko_at, kn_at, vo_at, vn_at, e1, e2, e3, e4, e5, e6, Fin.eta, Nat.mul_comm 64 (j.val / 256)]

/-- The output is the reference's. -/
theorem final6 : (dats m 0 c).arrAt 6 cfg0.N = OUT (argS m c) (argQ m c) (argKN m c) (argVN m c) (argK m c) (argV m c) := by
  refine (dats m 0 c).arrAt_eq_of_covers 6 _ (by decide +kernel) fun t _ y => ?_
  obtain ⟨r, j, rfl⟩ : ∃ (r : Fin 128) (j : Fin 512), y = (ix2 r j : S128x512.Idx) := ⟨y 0, y 1, eq_ix2 (n0 := 128) (n1 := 512) y⟩
  refine Eq.trans ?_ (congrArg (OUT (argS m c) (argQ m c) (argKN m c) (argVN m c) (argK m c) (argV m c)) (emb6 t r j)).symm
  refine Eq.trans ?_ (step6 m c t r j)
  blk_simp
  rw [after0_6]
  unfold outsAt0
  dsimp only

end Cert.Kernel8Ideal.Window

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Final
public import proofs.«01_k».proof.Proof.PostFinal
public import proofs.«01_k».proof.Proof.InFinal
public import proofs.«01_k».proof.Proof.PreFinal
public import proofs.«01_k».proof.Proof.SampleFinal
public import proofs.«01_k».proof.Proof.LatFinal
public import proofs.«01_k».proof.Proof.SampleInFinal
public import proofs.«01_k».proof.Proof.CacheFinal
public import proofs.«01_k».proof.Proof.WindowFinal
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference ends with its arguments and every semaphore counter as they were. -/
theorem frameReference [hR : Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The two idealized programs leave the same result from the same arguments. -/
theorem values [hK : Cert.KernelIdeal.Facts] [hR : Cert.ReferenceIdeal.Facts] : Cert.algebraic_KernelIdeal_ReferenceIdeal := by
  pair_intro
  · run_from Cert.KernelIdeal.Value.run_blocks m g
  · run_from Cert.ReferenceIdeal.Value.run m' g'
    obtain ⟨h0, h1, h2⟩ := hagree c
    exact (Cert.KernelIdeal.Attn.final m c m' h0 h1 h2).symm

/-- The reference of a layer's second half ends with its arguments and every semaphore counter as they were. -/
theorem frameReference2 [hR : Cert.Reference2Ideal.Facts] : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The two programs of a layer's second half leave the same result from the same arguments. -/
theorem values2 [hK : Cert.Kernel2Ideal.Facts] [hR : Cert.Reference2Ideal.Facts] : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9, h10, h11, h12⟩ := hagree c
    rw [← h12]
    exact (Cert.Kernel2Ideal.Post.final m c m' h0 h1 h2 h3 h4 h5 h6 h7 h8 h9 h10 h11 h12).symm

/-- The reference of the first layer's projections ends with its arguments and every semaphore counter as they were. -/
theorem frameReference3 [hR : Cert.Reference3Ideal.Facts] : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The two programs of the first layer's projections leave the same results from the same arguments. -/
theorem values3 [hK : Cert.Kernel3Ideal.Facts] [hR : Cert.Reference3Ideal.Facts] : Cert.algebraic_Kernel3Ideal_Reference3Ideal := by
  pair_intro
  · run_from Cert.Kernel3Ideal.Value.run_blocks m g
  · run_from Cert.Reference3Ideal.Value.run m' g'
    exacts [(Cert.Kernel3Ideal.In.final3 m c).symm, (Cert.Kernel3Ideal.In.final4 m c).symm, (Cert.Kernel3Ideal.In.final5 m c).symm,
      (Cert.Kernel3Ideal.In.final6 m c).symm]

/-- The reference of the latent projections ends with its arguments and every semaphore counter as they were. -/
theorem frameReference4 [hR : Cert.Reference4Ideal.Facts] : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

open Cert.Reference4Ideal.Pre in
/-- What the reference of the latent projections leaves: its five results as the stages' functions of the arguments, and the arguments. -/
theorem run4 [hR : Cert.Reference4Ideal.Facts] (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      fun r => ∀ c : Dev Cert.Reference4Ideal.nD,
        r.2.mem ((c.tc : Thread Cert.Reference4Ideal.nD Cert.Reference4Ideal.τ).loc Cert.Reference4Ideal.main_v141) = Cert.Reference4Ideal.Pre.Q (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
        ∧ r.2.mem ((c.tc : Thread Cert.Reference4Ideal.nD Cert.Reference4Ideal.τ).loc Cert.Reference4Ideal.main_v144) = Cert.Reference4Ideal.Pre.K (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))
        ∧ r.2.mem ((c.tc : Thread Cert.Reference4Ideal.nD Cert.Reference4Ideal.τ).loc Cert.Reference4Ideal.main_v146) = Cert.Reference4Ideal.Pre.VT (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg8))
        ∧ r.2.mem ((c.tc : Thread Cert.Reference4Ideal.nD Cert.Reference4Ideal.τ).loc Cert.Reference4Ideal.main_v147) = Cert.Reference4Ideal.Pre.CKV2 (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))
        ∧ r.2.mem ((c.tc : Thread Cert.Reference4Ideal.nD Cert.Reference4Ideal.τ).loc Cert.Reference4Ideal.main_v148) = Cert.Reference4Ideal.Pre.KPE2 (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg5))
        ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8) :=
  (θ_run Cert.Reference4Ideal.defs _ _).mono (fun _ h c => ⟨(h c).1.trans (out0 m c), (h c).2.1.trans (out1 m c), (h c).2.2.1.trans (out2 m c),
    (h c).2.2.2.1.trans (out3 m c), (h c).2.2.2.2.1.trans (out4 m c), (h c).2.2.2.2.2⟩) (Cert.Reference4Ideal.Value.run m ρ)

/-- The two programs of the latent projections leave the same results from the same arguments. -/
theorem values4 [hK : Cert.Kernel4Ideal.Facts] [hR : Cert.Reference4Ideal.Facts] : Cert.algebraic_Kernel4Ideal_Reference4Ideal := by
  pair_intro
  · run_from Cert.Kernel4Ideal.Value.run_blocks m g
  · run_from run4 m' g'
    exacts [(Cert.Kernel4Ideal.Pre.final12 m c).symm, (Cert.Kernel4Ideal.Pre.final13 m c).symm, (Cert.Kernel4Ideal.Pre.final14 m c).symm,
      (Cert.Kernel4Ideal.Pre.final15 m c).symm, (Cert.Kernel4Ideal.Pre.final16 m c).symm]

/-- The reference of a layer's second half for the sample batch ends with its arguments and every semaphore counter as they were. -/
theorem frameReference5 [hR : Cert.Reference5Ideal.Facts] : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The two programs of a layer's second half for the sample batch leave the same result from the same arguments. -/
theorem values5 [hK : Cert.Kernel5Ideal.Facts] [hR : Cert.Reference5Ideal.Facts] : Cert.algebraic_Kernel5Ideal_Reference5Ideal := by
  pair_intro
  · run_from Cert.Kernel5Ideal.Value.run_blocks m g
  · run_from Cert.Reference5Ideal.Value.run m' g'
    obtain ⟨h0, h1, h2, h3, h4, h5, h6, h7, h8, h9, h10, h11, h12⟩ := hagree c
    rw [← h12]
    exact (Cert.Kernel5Ideal.Post.final m c m' h0 h1 h2 h3 h4 h5 h6 h7 h8 h9 h10 h11 h12).symm

/-- The reference of the sample's latent projections ends with its arguments and every semaphore counter as they were. -/
theorem frameReference6 [hR : Cert.Reference6Ideal.Facts] : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run m ρ)

open Cert.Reference6Ideal.Lat in
/-- What the reference of the sample's latent projections leaves: its four results as the stages' functions of the arguments, and the arguments. -/
theorem run6 [hR : Cert.Reference6Ideal.Facts] (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      fun r => ∀ c : Dev Cert.Reference6Ideal.nD,
        r.2.mem (((c.tc : Thread Cert.Reference6Ideal.nD Cert.Reference6Ideal.τ).loc Cert.Reference6Ideal.main_v136)) = Cert.Reference6Ideal.Lat.QL (m (((c.tc : Thread Cert.Reference6Ideal.nD Cert.Reference6Ideal.τ).loc Cert.Reference6Ideal.main_arg0))) (m (((c.tc : Thread Cert.Reference6Ideal.nD Cert.Reference6Ideal.τ).loc Cert.Reference6Ideal.main_arg1))) (m (((c.tc : Thread Cert.Reference6Ideal.nD Cert.Reference6Ideal.τ).loc Cert.Reference6Ideal.main_arg2))) (m (((c.tc : Thread Cert.Reference6Ideal.nD Cert.Reference6Ideal.τ).loc Cert.Reference6Ideal.main_arg3))) (m (((c.tc : Thread Cert.Reference6Ideal.nD Cert.Reference6Ideal.τ).loc Cert.Reference6Ideal.main_arg4))) (m (((c.tc : Thread Cert.Reference6Ideal.nD Cert.Reference6Ideal.τ).loc Cert.Reference6Ideal.main_arg7)))
        ∧ r.2.mem (((c.tc : Thread Cert.Reference6Ideal.nD Cert.Reference6Ideal.τ).loc Cert.Reference6Ideal.main_v140)) = Cert.Reference6Ideal.Lat.QP (m (((c.tc : Thread Cert.Reference6Ideal.nD Cert.Reference6Ideal.τ).loc Cert.Reference6Ideal.main_arg0))) (m (((c.tc : Thread Cert.Reference6Ideal.nD Cert.Reference6Ideal.τ).loc Cert.Reference6Ideal.main_arg1))) (m (((c.tc : Thread Cert.Reference6Ideal.nD Cert.Reference6Ideal.τ).loc Cert.Reference6Ideal.main_arg2))) (m (((c.tc : Thread Cert.Reference6Ideal.nD Cert.Reference6Ideal.τ).loc Cert.Reference6Ideal.main_arg3))) (m (((c.tc : Thread Cert.Reference6Ideal.nD Cert.Reference6Ideal.τ).loc Cert.Reference6Ideal.main_arg4)))
        ∧ r.2.mem (((c.tc : Thread Cert.Reference6Ideal.nD Cert.Reference6Ideal.τ).loc Cert.Reference6Ideal.main_v141)) = Cert.Reference6Ideal.Lat.CKV2 (m (((c.tc : Thread Cert.Reference6Ideal.nD Cert.Reference6Ideal.τ).loc Cert.Reference6Ideal.main_arg0))) (m (((c.tc : Thread Cert.Reference6Ideal.nD Cert.Reference6Ideal.τ).loc Cert.Reference6Ideal.main_arg1))) (m (((c.tc : Thread Cert.Reference6Ideal.nD Cert.Reference6Ideal.τ).loc Cert.Reference6Ideal.main_arg5))) (m (((c.tc : Thread Cert.Reference6Ideal.nD Cert.Reference6Ideal.τ).loc Cert.Reference6Ideal.main_arg6)))
        ∧ r.2.mem (((c.tc : Thread Cert.Reference6Ideal.nD Cert.Reference6Ideal.τ).loc Cert.Reference6Ideal.main_v142)) = Cert.Reference6Ideal.Lat.KPE2 (m (((c.tc : Thread Cert.Reference6Ideal.nD Cert.Reference6Ideal.τ).loc Cert.Reference6Ideal.main_arg0))) (m (((c.tc : Thread Cert.Reference6Ideal.nD Cert.Reference6Ideal.τ).loc Cert.Reference6Ideal.main_arg1))) (m (((c.tc : Thread Cert.Reference6Ideal.nD Cert.Reference6Ideal.τ).loc Cert.Reference6Ideal.main_arg5)))
        ∧ r.2.mem (((c.tc : Thread Cert.Reference6Ideal.nD Cert.Reference6Ideal.τ).loc Cert.Reference6Ideal.main_arg0)) = m (((c.tc : Thread Cert.Reference6Ideal.nD Cert.Reference6Ideal.τ).loc Cert.Reference6Ideal.main_arg0))
        ∧ r.2.mem (((c.tc : Thread Cert.Reference6Ideal.nD Cert.Reference6Ideal.τ).loc Cert.Reference6Ideal.main_arg1)) = m (((c.tc : Thread Cert.Reference6Ideal.nD Cert.Reference6Ideal.τ).loc Cert.Reference6Ideal.main_arg1))
        ∧ r.2.mem (((c.tc : Thread Cert.Reference6Ideal.nD Cert.Reference6Ideal.τ).loc Cert.Reference6Ideal.main_arg2)) = m (((c.tc : Thread Cert.Reference6Ideal.nD Cert.Reference6Ideal.τ).loc Cert.Reference6Ideal.main_arg2))
        ∧ r.2.mem (((c.tc : Thread Cert.Reference6Ideal.nD Cert.Reference6Ideal.τ).loc Cert.Reference6Ideal.main_arg3)) = m (((c.tc : Thread Cert.Reference6Ideal.nD Cert.Reference6Ideal.τ).loc Cert.Reference6Ideal.main_arg3))
        ∧ r.2.mem (((c.tc : Thread Cert.Reference6Ideal.nD Cert.Reference6Ideal.τ).loc Cert.Reference6Ideal.main_arg4)) = m (((c.tc : Thread Cert.Reference6Ideal.nD Cert.Reference6Ideal.τ).loc Cert.Reference6Ideal.main_arg4))
        ∧ r.2.mem (((c.tc : Thread Cert.Reference6Ideal.nD Cert.Reference6Ideal.τ).loc Cert.Reference6Ideal.main_arg5)) = m (((c.tc : Thread Cert.Reference6Ideal.nD Cert.Reference6Ideal.τ).loc Cert.Reference6Ideal.main_arg5))
        ∧ r.2.mem (((c.tc : Thread Cert.Reference6Ideal.nD Cert.Reference6Ideal.τ).loc Cert.Reference6Ideal.main_arg6)) = m (((c.tc : Thread Cert.Reference6Ideal.nD Cert.Reference6Ideal.τ).loc Cert.Reference6Ideal.main_arg6))
        ∧ r.2.mem (((c.tc : Thread Cert.Reference6Ideal.nD Cert.Reference6Ideal.τ).loc Cert.Reference6Ideal.main_arg7)) = m (((c.tc : Thread Cert.Reference6Ideal.nD Cert.Reference6Ideal.τ).loc Cert.Reference6Ideal.main_arg7)) :=
  (θ_run Cert.Reference6Ideal.defs _ _).mono (fun _ h c => ⟨(h c).1.trans (out0 m c), (h c).2.1.trans (out1 m c), (h c).2.2.1.trans (out2 m c),
    (h c).2.2.2.1.trans (out3 m c), (h c).2.2.2.2⟩) (Cert.Reference6Ideal.Value.run m ρ)

/-- The two programs of the sample's latent projections leave the same results from the same arguments. -/
theorem values6 [hK : Cert.Kernel6Ideal.Facts] [hR : Cert.Reference6Ideal.Facts] : Cert.algebraic_Kernel6Ideal_Reference6Ideal := by
  pair_intro
  · run_from Cert.Kernel6Ideal.Value.run_blocks m g
  · run_from run6 m' g'
    exacts [(Cert.Kernel6Ideal.Lat.final14 m c).symm, (Cert.Kernel6Ideal.Lat.final15 m c).symm, (Cert.Kernel6Ideal.Lat.final16 m c).symm,
      (Cert.Kernel6Ideal.Lat.final17 m c).symm]

/-- The reference of the sample's first projections ends with its arguments and every semaphore counter as they were. -/
theorem frameReference7 [hR : Cert.Reference7Ideal.Facts] : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run m ρ)

/-- The two programs of the sample's first projections leave the same results from the same arguments. -/
theorem values7 [hK : Cert.Kernel7Ideal.Facts] [hR : Cert.Reference7Ideal.Facts] : Cert.algebraic_Kernel7Ideal_Reference7Ideal := by
  pair_intro
  · run_from Cert.Kernel7Ideal.Value.run_blocks m g
  · run_from Cert.Reference7Ideal.Value.run m' g'
    exacts [(Cert.Kernel7Ideal.In.final3 m c).symm, (Cert.Kernel7Ideal.In.final4 m c).symm, (Cert.Kernel7Ideal.In.final5 m c).symm,
      (Cert.Kernel7Ideal.In.final6 m c).symm]

/-- The reference of the sample's window caches ends with its arguments and every semaphore counter as they were. -/
theorem frameReference8 [hR : Cert.Reference8Ideal.Facts] : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

open Cert.Reference8Ideal.Cache Cert.Reference8Ideal.Window in
/-- What the reference of the sample's window attention leaves: the output, the two caches after the step, and the arguments. -/
theorem run8 [hR : Cert.Reference8Ideal.Facts] (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩
      fun r => ∀ c : Dev Cert.Reference8Ideal.nD,
        r.2.mem ((c.tc : Thread Cert.Reference8Ideal.nD Cert.Reference8Ideal.τ).loc Cert.Reference8Ideal.main_v67) = OUT (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))
        ∧ r.2.mem ((c.tc : Thread Cert.Reference8Ideal.nD Cert.Reference8Ideal.τ).loc Cert.Reference8Ideal.main_v69) = next (m (((c.tc : Thread Cert.Reference8Ideal.nD Cert.Reference8Ideal.τ).loc Cert.Reference8Ideal.main_arg4))) (m (((c.tc : Thread Cert.Reference8Ideal.nD Cert.Reference8Ideal.τ).loc Cert.Reference8Ideal.main_arg2)))
        ∧ r.2.mem (((c.tc : Thread Cert.Reference8Ideal.nD Cert.Reference8Ideal.τ).loc Cert.Reference8Ideal.main_v71)) = next (m (((c.tc : Thread Cert.Reference8Ideal.nD Cert.Reference8Ideal.τ).loc Cert.Reference8Ideal.main_arg5))) (m (((c.tc : Thread Cert.Reference8Ideal.nD Cert.Reference8Ideal.τ).loc Cert.Reference8Ideal.main_arg3)))
        ∧ r.2.mem (((c.tc : Thread Cert.Reference8Ideal.nD Cert.Reference8Ideal.τ).loc Cert.Reference8Ideal.main_arg0)) = m (((c.tc : Thread Cert.Reference8Ideal.nD Cert.Reference8Ideal.τ).loc Cert.Reference8Ideal.main_arg0))
        ∧ r.2.mem (((c.tc : Thread Cert.Reference8Ideal.nD Cert.Reference8Ideal.τ).loc Cert.Reference8Ideal.main_arg1)) = m (((c.tc : Thread Cert.Reference8Ideal.nD Cert.Reference8Ideal.τ).loc Cert.Reference8Ideal.main_arg1))
        ∧ r.2.mem (((c.tc : Thread Cert.Reference8Ideal.nD Cert.Reference8Ideal.τ).loc Cert.Reference8Ideal.main_arg2)) = m (((c.tc : Thread Cert.Reference8Ideal.nD Cert.Reference8Ideal.τ).loc Cert.Reference8Ideal.main_arg2))
        ∧ r.2.mem (((c.tc : Thread Cert.Reference8Ideal.nD Cert.Reference8Ideal.τ).loc Cert.Reference8Ideal.main_arg3)) = m (((c.tc : Thread Cert.Reference8Ideal.nD Cert.Reference8Ideal.τ).loc Cert.Reference8Ideal.main_arg3))
        ∧ r.2.mem (((c.tc : Thread Cert.Reference8Ideal.nD Cert.Reference8Ideal.τ).loc Cert.Reference8Ideal.main_arg4)) = m (((c.tc : Thread Cert.Reference8Ideal.nD Cert.Reference8Ideal.τ).loc Cert.Reference8Ideal.main_arg4))
        ∧ r.2.mem (((c.tc : Thread Cert.Reference8Ideal.nD Cert.Reference8Ideal.τ).loc Cert.Reference8Ideal.main_arg5)) = m (((c.tc : Thread Cert.Reference8Ideal.nD Cert.Reference8Ideal.τ).loc Cert.Reference8Ideal.main_arg5)) :=
  (θ_run Cert.Reference8Ideal.defs _ _).mono (fun _ h c => ⟨(h c).1.trans (out_eq m c), (h c).2.1, (h c).2.2.1, (h c).2.2.2⟩) (Cert.Reference8Ideal.Value.run m ρ)

/-- The two programs of the sample's window attention leave the same results from the same arguments. -/
theorem values8 [hK : Cert.Kernel8Ideal.Facts] [hR : Cert.Reference8Ideal.Facts] : Cert.algebraic_Kernel8Ideal_Reference8Ideal := by
  pair_intro
  · run_from Cert.Kernel8Ideal.Value.run_blocks m g
  · run_from run8 m' g'
    exacts [(Cert.Kernel8Ideal.Window.final6 m c).symm, (Cert.Kernel8Ideal.Cache.final7 m c).symm, (Cert.Kernel8Ideal.Cache.final8 m c).symm]

/-- The programs of the eight calls and their references run to the end and keep their arguments, the named constants are the literal's
    reading, and over the extended reals each kernel's results are its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, frameReference,
  fun m ρ _ => Cert.Kernel2.Gen.frame m ρ, fun m ρ _ => Cert.Kernel2Ideal.Gen.frame m ρ, frameReference2,
  fun m ρ _ => Cert.Kernel3.Gen.frame m ρ, fun m ρ _ => Cert.Kernel3Ideal.Gen.frame m ρ, frameReference3,
  fun m ρ _ => Cert.Kernel4.Gen.frame m ρ, fun m ρ _ => Cert.Kernel4Ideal.Gen.frame m ρ, frameReference4,
  fun m ρ _ => Cert.Kernel5.Gen.frame m ρ, fun m ρ _ => Cert.Kernel5Ideal.Gen.frame m ρ, frameReference5,
  fun m ρ _ => Cert.Kernel6.Gen.frame m ρ, fun m ρ _ => Cert.Kernel6Ideal.Gen.frame m ρ, frameReference6,
  fun m ρ _ => Cert.Kernel7.Gen.frame m ρ, fun m ρ _ => Cert.Kernel7Ideal.Gen.frame m ρ, frameReference7,
  fun m ρ _ => Cert.Kernel8.Gen.frame m ρ, fun m ρ _ => Cert.Kernel8Ideal.Gen.frame m ρ, frameReference8,
  IdealRules.named_const.statement Cert.KernelIdeal.κ "mask" .f32 0xF149F2CA#32 ⊥ rfl, values, trivial, values2, trivial, values3,
  trivial, values4, trivial, values5, trivial, values6, trivial, values7,
  IdealRules.named_const.statement Cert.Kernel8Ideal.κ "mask" .f32 0xF149F2CA#32 ⊥ rfl, values8⟩

end Cert.Proof

end
